-- ==== Defs.lean ====
def Pre_Kernel [hPre_experts_fit : Cert.Pre_experts_fit.Facts] (m : (ℓ : Loc Cert.Kernel.nD Cert.Kernel.τ Cert.Kernel.sig) → Buf (Elt Bits) ℓ) : Prop :=
  ∀ c : Dev Cert.Kernel.nD,
    (Cert.Pre_experts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_Reference [hPre_experts_fit : Cert.Pre_experts_fit.Facts] (m : (ℓ : Loc Cert.Reference.nD Cert.Reference.τ Cert.Reference.sig) → Buf (Elt Bits) ℓ) : Prop :=
  ∀ c : Dev Cert.Reference.nD,
    (Cert.Pre_experts_fit.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6)) (m ((c.tc : Thread Cert.Reference.nD Cert.Reference.τ).loc Cert.Reference.main_arg7))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineReference (m : (ℓ : Loc Cert.CombineReference.nD Cert.CombineReference.τ Cert.CombineReference.sig) → Buf (Elt Bits) ℓ) : Prop :=
  True

def quiescent_Kernel [hKernel : Cert.Kernel.Facts] [hPre_experts_fit : Cert.Pre_experts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Reference [hReference : Cert.Reference.Facts] [hPre_experts_fit : Cert.Pre_experts_fit.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7))
      ∧ r.2.sem = fun _ => 0)

def quiescent_CombineReference [hCombineReference : Cert.CombineReference.Facts] : Prop :=
  ∀ (m : (ℓ : Loc Cert.CombineReference.nD Cert.CombineReference.τ Cert.CombineReference.sig) → Buf (Elt Bits) ℓ) (g : Dev Cert.CombineReference.nD → PrngReg), Pre_CombineReference m →
    θ_run (Cert.CombineReference.defs (F := Bits)) (onTc (τ := Cert.CombineReference.τ) (Cert.CombineReference.main (F := Bits))) ⟨m, fun _ => 0, g⟩ (fun r => (∀ c : Dev Cert.CombineReference.nD,
      r.2.mem ((c.tc : Thread Cert.CombineReference.nD Cert.CombineReference.τ).loc Cert.CombineReference.main_arg0) = m ((c.tc : Thread Cert.CombineReference.nD Cert.CombineReference.τ).loc Cert.CombineReference.main_arg0)
      ∧ r.2.mem ((c.tc : Thread Cert.CombineReference.nD Cert.CombineReference.τ).loc Cert.CombineReference.main_arg1) = m ((c.tc : Thread Cert.CombineReference.nD Cert.CombineReference.τ).loc Cert.CombineReference.main_arg1)
      ∧ r.2.mem ((c.tc : Thread Cert.CombineReference.nD Cert.CombineReference.τ).loc Cert.CombineReference.main_arg2) = m ((c.tc : Thread Cert.CombineReference.nD Cert.CombineReference.τ).loc Cert.CombineReference.main_arg2)
      ∧ r.2.mem ((c.tc : Thread Cert.CombineReference.nD Cert.CombineReference.τ).loc Cert.CombineReference.main_arg3) = m ((c.tc : Thread Cert.CombineReference.nD Cert.CombineReference.τ).loc Cert.CombineReference.main_arg3)
      ∧ r.2.mem ((c.tc : Thread Cert.CombineReference.nD Cert.CombineReference.τ).loc Cert.CombineReference.main_arg4) = m ((c.tc : Thread Cert.CombineReference.nD Cert.CombineReference.τ).loc Cert.CombineReference.main_arg4)
      ∧ r.2.mem ((c.tc : Thread Cert.CombineReference.nD Cert.CombineReference.τ).loc Cert.CombineReference.main_arg5) = m ((c.tc : Thread Cert.CombineReference.nD Cert.CombineReference.τ).loc Cert.CombineReference.main_arg5)
      ∧ r.2.mem ((c.tc : Thread Cert.CombineReference.nD Cert.CombineReference.τ).loc Cert.CombineReference.main_arg6) = m ((c.tc : Thread Cert.CombineReference.nD Cert.CombineReference.τ).loc Cert.CombineReference.main_arg6)
      ∧ r.2.mem ((c.tc : Thread Cert.CombineReference.nD Cert.CombineReference.τ).loc Cert.CombineReference.main_arg7) = m ((c.tc : Thread Cert.CombineReference.nD Cert.CombineReference.τ).loc Cert.CombineReference.main_arg7))
      ∧ r.2.sem = fun _ => 0)

def bitexact_Kernel_Reference [hKernel : Cert.Kernel.Facts] [hReference : Cert.Reference.Facts] [hPre_experts_fit : Cert.Pre_experts_fit.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v4) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def bitexact_Combine_CombineReference [hCombine : Cert.Combine.Facts] [hCombineReference : Cert.CombineReference.Facts] : Prop :=
  ∀ (m : (ℓ : Loc Cert.Combine.nD Cert.Combine.τ Cert.Combine.sig) → Buf (Elt Bits) ℓ) (g : Dev Cert.Combine.nD → PrngReg)
    (m' : (ℓ : Loc Cert.CombineReference.nD Cert.CombineReference.τ Cert.CombineReference.sig) → Buf (Elt Bits) ℓ) (g' : Dev Cert.CombineReference.nD → PrngReg), Pre_Combine m →
    (∀ c : Dev Cert.Combine.nD,
      m' ((c.tc : Thread Cert.CombineReference.nD Cert.CombineReference.τ).loc Cert.CombineReference.main_arg0) = m ((c.tc : Thread Cert.Combine.nD Cert.Combine.τ).loc Cert.Combine.main_arg0)
      ∧ m' ((c.tc : Thread Cert.CombineReference.nD Cert.CombineReference.τ).loc Cert.CombineReference.main_arg1) = m ((c.tc : Thread Cert.Combine.nD Cert.Combine.τ).loc Cert.Combine.main_arg1)
      ∧ m' ((c.tc : Thread Cert.CombineReference.nD Cert.CombineReference.τ).loc Cert.CombineReference.main_arg2) = m ((c.tc : Thread Cert.Combine.nD Cert.Combine.τ).loc Cert.Combine.main_arg2)
      ∧ m' ((c.tc : Thread Cert.CombineReference.nD Cert.CombineReference.τ).loc Cert.CombineReference.main_arg3) = m ((c.tc : Thread Cert.Combine.nD Cert.Combine.τ).loc Cert.Combine.main_arg3)
      ∧ m' ((c.tc : Thread Cert.CombineReference.nD Cert.CombineReference.τ).loc Cert.CombineReference.main_arg4) = m ((c.tc : Thread Cert.Combine.nD Cert.Combine.τ).loc Cert.Combine.main_arg4)
      ∧ m' ((c.tc : Thread Cert.CombineReference.nD Cert.CombineReference.τ).loc Cert.CombineReference.main_arg5) = m ((c.tc : Thread Cert.Combine.nD Cert.Combine.τ).loc Cert.Combine.main_arg5)
      ∧ m' ((c.tc : Thread Cert.CombineReference.nD Cert.CombineReference.τ).loc Cert.CombineReference.main_arg6) = m ((c.tc : Thread Cert.Combine.nD Cert.Combine.τ).loc Cert.Combine.main_arg6)
      ∧ m' ((c.tc : Thread Cert.CombineReference.nD Cert.CombineReference.τ).loc Cert.CombineReference.main_arg7) = m ((c.tc : Thread Cert.Combine.nD Cert.Combine.τ).loc Cert.Combine.main_arg7)) →
    ∃ (v0 : (c : Dev Cert.Combine.nD) → Buf (Elt Bits) ((c.tc : Thread Cert.Combine.nD Cert.Combine.τ).loc Cert.Combine.main_v7)),
      θ_run (Cert.Combine.defs (F := Bits)) (onTc (τ := Cert.Combine.τ) (Cert.Combine.main (F := Bits))) ⟨m, fun _ => 0, g⟩ (fun r => ∀ c : Dev Cert.Combine.nD,
          r.2.mem ((c.tc : Thread Cert.Combine.nD Cert.Combine.τ).loc Cert.Combine.main_v7) = v0 c
          ∧ r.2.mem ((c.tc : Thread Cert.Combine.nD Cert.Combine.τ).loc Cert.Combine.main_arg0) = m ((c.tc : Thread Cert.Combine.nD Cert.Combine.τ).loc Cert.Combine.main_arg0)
          ∧ r.2.mem ((c.tc : Thread Cert.Combine.nD Cert.Combine.τ).loc Cert.Combine.main_arg1) = m ((c.tc : Thread Cert.Combine.nD Cert.Combine.τ).loc Cert.Combine.main_arg1)
          ∧ r.2.mem ((c.tc : Thread Cert.Combine.nD Cert.Combine.τ).loc Cert.Combine.main_arg2) = m ((c.tc : Thread Cert.Combine.nD Cert.Combine.τ).loc Cert.Combine.main_arg2)
          ∧ r.2.mem ((c.tc : Thread Cert.Combine.nD Cert.Combine.τ).loc Cert.Combine.main_arg3) = m ((c.tc : Thread Cert.Combine.nD Cert.Combine.τ).loc Cert.Combine.main_arg3)
          ∧ r.2.mem ((c.tc : Thread Cert.Combine.nD Cert.Combine.τ).loc Cert.Combine.main_arg4) = m ((c.tc : Thread Cert.Combine.nD Cert.Combine.τ).loc Cert.Combine.main_arg4)
          ∧ r.2.mem ((c.tc : Thread Cert.Combine.nD Cert.Combine.τ).loc Cert.Combine.main_arg5) = m ((c.tc : Thread Cert.Combine.nD Cert.Combine.τ).loc Cert.Combine.main_arg5)
          ∧ r.2.mem ((c.tc : Thread Cert.Combine.nD Cert.Combine.τ).loc Cert.Combine.main_arg6) = m ((c.tc : Thread Cert.Combine.nD Cert.Combine.τ).loc Cert.Combine.main_arg6)
          ∧ r.2.mem ((c.tc : Thread Cert.Combine.nD Cert.Combine.τ).loc Cert.Combine.main_arg7) = m ((c.tc : Thread Cert.Combine.nD Cert.Combine.τ).loc Cert.Combine.main_arg7))
      ∧ θ_run (Cert.CombineReference.defs (F := Bits)) (onTc (τ := Cert.CombineReference.τ) (Cert.CombineReference.main (F := Bits))) ⟨m', fun _ => 0, g'⟩ (fun r => ∀ c : Dev Cert.CombineReference.nD,
          r.2.mem ((c.tc : Thread Cert.CombineReference.nD Cert.CombineReference.τ).loc Cert.CombineReference.main_v3) = v0 c
          ∧ r.2.mem ((c.tc : Thread Cert.CombineReference.nD Cert.CombineReference.τ).loc Cert.CombineReference.main_arg0) = m' ((c.tc : Thread Cert.CombineReference.nD Cert.CombineReference.τ).loc Cert.CombineReference.main_arg0)
          ∧ r.2.mem ((c.tc : Thread Cert.CombineReference.nD Cert.CombineReference.τ).loc Cert.CombineReference.main_arg1) = m' ((c.tc : Thread Cert.CombineReference.nD Cert.CombineReference.τ).loc Cert.CombineReference.main_arg1)
          ∧ r.2.mem ((c.tc : Thread Cert.CombineReference.nD Cert.CombineReference.τ).loc Cert.CombineReference.main_arg2) = m' ((c.tc : Thread Cert.CombineReference.nD Cert.CombineReference.τ).loc Cert.CombineReference.main_arg2)
          ∧ r.2.mem ((c.tc : Thread Cert.CombineReference.nD Cert.CombineReference.τ).loc Cert.CombineReference.main_arg3) = m' ((c.tc : Thread Cert.CombineReference.nD Cert.CombineReference.τ).loc Cert.CombineReference.main_arg3)
          ∧ r.2.mem ((c.tc : Thread Cert.CombineReference.nD Cert.CombineReference.τ).loc Cert.CombineReference.main_arg4) = m' ((c.tc : Thread Cert.CombineReference.nD Cert.CombineReference.τ).loc Cert.CombineReference.main_arg4)
          ∧ r.2.mem ((c.tc : Thread Cert.CombineReference.nD Cert.CombineReference.τ).loc Cert.CombineReference.main_arg5) = m' ((c.tc : Thread Cert.CombineReference.nD Cert.CombineReference.τ).loc Cert.CombineReference.main_arg5)
          ∧ r.2.mem ((c.tc : Thread Cert.CombineReference.nD Cert.CombineReference.τ).loc Cert.CombineReference.main_arg6) = m' ((c.tc : Thread Cert.CombineReference.nD Cert.CombineReference.τ).loc Cert.CombineReference.main_arg6)
          ∧ r.2.mem ((c.tc : Thread Cert.CombineReference.nD Cert.CombineReference.τ).loc Cert.CombineReference.main_arg7) = m' ((c.tc : Thread Cert.CombineReference.nD Cert.CombineReference.τ).loc Cert.CombineReference.main_arg7))

def Claim : Prop :=
  ∃ (hKernel : Cert.Kernel.Facts) (hReference : Cert.Reference.Facts) (hMod : Cert.Mod.Facts) (hModIdeal : Cert.ModIdeal.Facts) (hModReferenceIdeal : Cert.ModReferenceIdeal.Facts) (hCombine : Cert.Combine.Facts) (hCombineReference : Cert.CombineReference.Facts) (hPre_experts_fit : Cert.Pre_experts_fit.Facts),
    quiescent_Kernel (hKernel := hKernel) (hPre_experts_fit := hPre_experts_fit)
    ∧ quiescent_Reference (hReference := hReference) (hPre_experts_fit := hPre_experts_fit)
    ∧ quiescent_Mod (hMod := hMod)
    ∧ quiescent_ModIdeal (hModIdeal := hModIdeal)
    ∧ quiescent_ModReferenceIdeal (hModReferenceIdeal := hModReferenceIdeal)
    ∧ quiescent_Combine (hCombine := hCombine)
    ∧ quiescent_CombineReference (hCombineReference := hCombineReference)
    ∧ bitexact_Kernel_Reference (hKernel := hKernel) (hReference := hReference) (hPre_experts_fit := hPre_experts_fit)
    ∧ preserves_Mod_ModIdeal
    ∧ algebraic_ModIdeal_ModReferenceIdeal (hModIdeal := hModIdeal) (hModReferenceIdeal := hModReferenceIdeal)
    ∧ bitexact_Combine_CombineReference (hCombine := hCombine) (hCombineReference := hCombineReference)
-- ==== Pre_experts_fit.lean ====
abbrev S589824x128 : Shape := ⟨2, ![589824, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S589824x128 32) (main_arg1 : IVec S288 32) (main_arg2 : IVec S1 32) (main_arg3 : IVec S288 32) (main_arg4 : FVec F S32x1024x2048 .f32) (main_arg5 : FVec F S32x2048 .f32) (main_arg6 : FVec F S32x1024x1024 .f32) (main_arg7 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S589824x128 : Shape := ⟨2, ![589824, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S1024x2048 : Shape := ⟨2, ![1024, 2048]⟩
abbrev S1024x1024 : Shape := ⟨2, ![1024, 1024]⟩
abbrev S3x2048x128 : Shape := ⟨3, ![3, 2048, 128]⟩
abbrev S3 : Shape := ⟨1, ![3]⟩
abbrev S2x1x1024x2048 : Shape := ⟨4, ![2, 1, 1024, 2048]⟩
abbrev S2 : Shape := ⟨1, ![2]⟩
abbrev S2x1x1x2048 : Shape := ⟨4, ![2, 1, 1, 2048]⟩
abbrev S2x1x1024x1024 : Shape := ⟨4, ![2, 1, 1024, 1024]⟩
abbrev S2x1x1x1024 : Shape := ⟨4, ![2, 1, 1, 1024]⟩
abbrev S2x2048x128 : Shape := ⟨3, ![2, 2048, 128]⟩
abbrev S_ : Shape := ⟨0, ![]⟩
abbrev S1x2048x128 : Shape := ⟨3, ![1, 2048, 128]⟩
abbrev S2048x128 : Shape := ⟨2, ![2048, 128]⟩
abbrev S1x1x1024x2048 : Shape := ⟨4, ![1, 1, 1024, 2048]⟩
abbrev S1x1024x2048 : Shape := ⟨3, ![1, 1024, 2048]⟩
abbrev S1x1x1x2048 : Shape := ⟨4, ![1, 1, 1, 2048]⟩
abbrev S1x1x2048 : Shape := ⟨3, ![1, 1, 2048]⟩
abbrev S1x1x1024x1024 : Shape := ⟨4, ![1, 1, 1024, 1024]⟩
abbrev S1x1024x1024 : Shape := ⟨3, ![1, 1024, 1024]⟩
abbrev S1x1x1x1024 : Shape := ⟨4, ![1, 1, 1, 1024]⟩
abbrev S1x1x1024 : Shape := ⟨3, ![1, 1, 1024]⟩
abbrev S512x128 : Shape := ⟨2, ![512, 128]⟩
abbrev S512x512 : Shape := ⟨2, ![512, 512]⟩
abbrev S512x1024 : Shape := ⟨2, ![512, 1024]⟩
abbrev S1x2048 : Shape := ⟨2, ![1, 2048]⟩
abbrev S512x2048 : Shape := ⟨2, ![512, 2048]⟩
abbrev S1x1024 : Shape := ⟨2, ![1, 1024]⟩

abbrev nBuf : Space → Nat
  | .hbm => 11
  | .vmem => 8
  | .smem => 3
  | _ => 0

abbrev bufTy : (tb : Table) → Fin (tcTables nBuf tb) → BufTy
  | .hbm, ⟨0, _⟩ => ⟨S589824x128, .i32⟩
  | .hbm, ⟨1, _⟩ => ⟨S288, .i32⟩
  | .hbm, ⟨2, _⟩ => ⟨S1, .i32⟩
  | .hbm, ⟨3, _⟩ => ⟨S288, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S32x1x2048, .f32⟩
  | .hbm, ⟨9, _⟩ => ⟨S32x1x1024, .f32⟩
  | .hbm, ⟨10, _⟩ => ⟨S589824x128, .i32⟩
  | .local _ .vmem, ⟨0, _⟩ => ⟨S1024x2048, .bf16⟩
  | .local _ .vmem, ⟨1, _⟩ => ⟨S1024x1024, .bf16⟩
  | .local _ .vmem, ⟨2, _⟩ => ⟨S3x2048x128, .i32⟩
  | .local _ .vmem, ⟨3, _⟩ => ⟨S2x1x1024x2048, .f32⟩
  | .local _ .vmem, ⟨4, _⟩ => ⟨S2x1x1x2048, .f32⟩
  | .local _ .vmem, ⟨5, _⟩ => ⟨S2x1x1024x1024, .f32⟩
  | .local _ .vmem, ⟨6, _⟩ => ⟨S2x1x1x1024, .f32⟩
  | .local _ .vmem, ⟨7, _⟩ => ⟨S2x2048x128, .i32⟩
  | .local _ .smem, ⟨0, _⟩ => ⟨S288, .i32⟩
  | .local _ .smem, ⟨1, _⟩ => ⟨S1, .i32⟩
  | .local _ .smem, ⟨2, _⟩ => ⟨S288, .i32⟩
  | _, _ => ⟨S589824x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_scratch0 : Ref sig .tc := ⟨.vmem, 0, rfl⟩
abbrev cc0_scratch1 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_scoped6 : Ref sig .tc := ⟨.vmem, 5, rfl⟩
abbrev cc0_scoped8 : Ref sig .tc := ⟨.vmem, 6, rfl⟩
abbrev cc0_scoped10 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

def k0_off1 : Fin 1 → Nat :=
  let c0_i32_21_r0 : BitVec 32 := 0#32
  let c3_i32_r0 : BitVec 32 := 3#32
  let v24_r0 : BitVec 32 := Scalar.remui c0_i32_21_r0 c3_i32_r0
  ![v24_r0.toNat]
def k0_off2 : Fin 3 → Nat :=
  let c0_i32_21_r0 : BitVec 32 := 0#32
  let c3_i32_r0 : BitVec 32 := 3#32
  let v24_r0 : BitVec 32 := Scalar.remui c0_i32_21_r0 c3_i32_r0
  let c0_i32_24_r0 : BitVec 32 := 0#32
  let c0_i32_25_r0 : BitVec 32 := 0#32
  ![v24_r0.toNat, 0, 0]
def k0_off3 (v25_r0 : BitVec 32) : Fin 2 → Nat :=
  let c2048_i32_r0 : BitVec 32 := 2048#32
  let c0_i32_23_r0 : BitVec 32 := 0#32
  let c1_i32_22_r0 : BitVec 32 := 1#32
  let v26_r0 : BitVec 32 := Scalar.subi v25_r0 c1_i32_22_r0
  let v27_r0 : BitVec 32 := Scalar.minsi c0_i32_23_r0 v26_r0
  let v28_r0 : BitVec 32 := Scalar.muli c2048_i32_r0 v27_r0
  let c0_i32_26_r0 : BitVec 32 := 0#32
  ![v28_r0.toNat, 0]

def k0_chk1 (v25_r0 : BitVec 32) : Prop :=
  (∀ a, (k0_off3 v25_r0) a + S2048x128.size a ≤ S589824x128.size a)
theorem k0_off3_inb : ∀ (v25_r0 : BitVec 32) (k0_hw1 : k0_chk1 v25_r0), ∀ a, (k0_off3 v25_r0) a + S2048x128.size a ≤ S589824x128.size a := fun v25_r0 k0_hw1 => k0_hw1

def k0_off4 : Fin 1 → Nat :=
  let c0_i32_29_r0 : BitVec 32 := 0#32
  let c2_i32_r0 : BitVec 32 := 2#32
  let v35_r0 : BitVec 32 := Scalar.remui c0_i32_29_r0 c2_i32_r0
  ![v35_r0.toNat]
def k0_off5 : Fin 4 → Nat :=
  let c0_i32_29_r0 : BitVec 32 := 0#32
  let c2_i32_r0 : BitVec 32 := 2#32
  let v35_r0 : BitVec 32 := Scalar.remui c0_i32_29_r0 c2_i32_r0
  let c0_i32_32_r0 : BitVec 32 := 0#32
  let c0_i32_33_r0 : BitVec 32 := 0#32
  let c0_i32_34_r0 : BitVec 32 := 0#32
  ![v35_r0.toNat, 0, 0, 0]
def k0_off6 (v36_r0 : BitVec 32) : Fin 3 → Nat :=
  let c1_i32_31_r0 : BitVec 32 := 1#32
  let v37_r0 : BitVec 32 := Scalar.muli c1_i32_31_r0 v36_r0
  let c0_i32_35_r0 : BitVec 32 := 0#32
  let c0_i32_36_r0 : BitVec 32 := 0#32
  ![v37_r0.toNat, 0, 0]

def k0_chk2 (v36_r0 : BitVec 32) : Prop :=
  (∀ a, (k0_off6 v36_r0) a + S1x1024x2048.size a ≤ S32x1024x2048.size a)
theorem k0_off6_inb : ∀ (v36_r0 : BitVec 32) (k0_hw2 : k0_chk2 v36_r0), ∀ a, (k0_off6 v36_r0) a + S1x1024x2048.size a ≤ S32x1024x2048.size a := fun v36_r0 k0_hw2 => k0_hw2

def k0_off7 : Fin 1 → Nat :=
  let c0_i32_39_r0 : BitVec 32 := 0#32
  let c2_i32_40_r0 : BitVec 32 := 2#32
  let v44_r0 : BitVec 32 := Scalar.remui c0_i32_39_r0 c2_i32_40_r0
  ![v44_r0.toNat]
def k0_off8 : Fin 4 → Nat :=
  let c0_i32_39_r0 : BitVec 32 := 0#32
  let c2_i32_40_r0 : BitVec 32 := 2#32
  let v44_r0 : BitVec 32 := Scalar.remui c0_i32_39_r0 c2_i32_40_r0
  let c0_i32_43_r0 : BitVec 32 := 0#32
  let c0_i32_44_r0 : BitVec 32 := 0#32
  let c0_i32_45_r0 : BitVec 32 := 0#32
  ![v44_r0.toNat, 0, 0, 0]
def k0_off9 (v45_r0 : BitVec 32) : Fin 3 → Nat :=
  let c1_i32_42_r0 : BitVec 32 := 1#32
  let v46_r0 : BitVec 32 := Scalar.muli c1_i32_42_r0 v45_r0
  let c0_i32_46_r0 : BitVec 32 := 0#32
  let c0_i32_47_r0 : BitVec 32 := 0#32
  ![v46_r0.toNat, 0, 0]

def k0_chk3 (v45_r0 : BitVec 32) : Prop :=
  (∀ a, (k0_off9 v45_r0) a + S1x1x2048.size a ≤ S32x1x2048.size a)
theorem k0_off9_inb : ∀ (v45_r0 : BitVec 32) (k0_hw3 : k0_chk3 v45_r0), ∀ a, (k0_off9 v45_r0) a + S1x1x2048.size a ≤ S32x1x2048.size a := fun v45_r0 k0_hw3 => k0_hw3

def k0_off10 : Fin 1 → Nat :=
  let c0_i32_50_r0 : BitVec 32 := 0#32
  let c2_i32_51_r0 : BitVec 32 := 2#32
  let v53_r0 : BitVec 32 := Scalar.remui c0_i32_50_r0 c2_i32_51_r0
  ![v53_r0.toNat]
def k0_off11 : Fin 4 → Nat :=
  let c0_i32_50_r0 : BitVec 32 := 0#32
  let c2_i32_51_r0 : BitVec 32 := 2#32
  let v53_r0 : BitVec 32 := Scalar.remui c0_i32_50_r0 c2_i32_51_r0
  let c0_i32_54_r0 : BitVec 32 := 0#32
  let c0_i32_55_r0 : BitVec 32 := 0#32
  let c0_i32_56_r0 : BitVec 32 := 0#32
  ![v53_r0.toNat, 0, 0, 0]
def k0_off12 (v54_r0 : BitVec 32) : Fin 3 → Nat :=
  let c1_i32_53_r0 : BitVec 32 := 1#32
  let v55_r0 : BitVec 32 := Scalar.muli c1_i32_53_r0 v54_r0
  let c0_i32_57_r0 : BitVec 32 := 0#32
  let c0_i32_58_r0 : BitVec 32 := 0#32
  ![v55_r0.toNat, 0, 0]

def k0_chk4 (v54_r0 : BitVec 32) : Prop :=
  (∀ a, (k0_off12 v54_r0) a + S1x1024x1024.size a ≤ S32x1024x1024.size a)
theorem k0_off12_inb : ∀ (v54_r0 : BitVec 32) (k0_hw4 : k0_chk4 v54_r0), ∀ a, (k0_off12 v54_r0) a + S1x1024x1024.size a ≤ S32x1024x1024.size a := fun v54_r0 k0_hw4 => k0_hw4

def k0_off13 : Fin 1 → Nat :=
  let c0_i32_61_r0 : BitVec 32 := 0#32
  let c2_i32_62_r0 : BitVec 32 := 2#32
  let v62_r0 : BitVec 32 := Scalar.remui c0_i32_61_r0 c2_i32_62_r0
  ![v62_r0.toNat]
def k0_off14 : Fin 4 → Nat :=
  let c0_i32_61_r0 : BitVec 32 := 0#32
  let c2_i32_62_r0 : BitVec 32 := 2#32
  let v62_r0 : BitVec 32 := Scalar.remui c0_i32_61_r0 c2_i32_62_r0
  let c0_i32_65_r0 : BitVec 32 := 0#32
  let c0_i32_66_r0 : BitVec 32 := 0#32
  let c0_i32_67_r0 : BitVec 32 := 0#32
  ![v62_r0.toNat, 0, 0, 0]
def k0_off15 (v63_r0 : BitVec 32) : Fin 3 → Nat :=
  let c1_i32_64_r0 : BitVec 32 := 1#32
  let v64_r0 : BitVec 32 := Scalar.muli c1_i32_64_r0 v63_r0
  let c0_i32_68_r0 : BitVec 32 := 0#32
  let c0_i32_69_r0 : BitVec 32 := 0#32
  ![v64_r0.toNat, 0, 0]

def k0_chk5 (v63_r0 : BitVec 32) : Prop :=
  (∀ a, (k0_off15 v63_r0) a + S1x1x1024.size a ≤ S32x1x1024.size a)
theorem k0_off15_inb : ∀ (v63_r0 : BitVec 32) (k0_hw5 : k0_chk5 v63_r0), ∀ a, (k0_off15 v63_r0) a + S1x1x1024.size a ≤ S32x1x1024.size a := fun v63_r0 k0_hw5 => k0_hw5

def k0_off16 : Fin 1 → Nat :=
  let c0_i32_27_r0 : BitVec 32 := 0#32
  let c1_i32_28_r0 : BitVec 32 := 1#32
  let v34_r0 : BitVec 32 := Scalar.addi c0_i32_27_r0 c1_i32_28_r0
  let c3_i32_123_r0 : BitVec 32 := 3#32
  let v118_r0 : BitVec 32 := Scalar.remui v34_r0 c3_i32_123_r0
  ![v118_r0.toNat]
def k0_off17 : Fin 3 → Nat :=
  let c0_i32_27_r0 : BitVec 32 := 0#32
  let c1_i32_28_r0 : BitVec 32 := 1#32
  let v34_r0 : BitVec 32 := Scalar.addi c0_i32_27_r0 c1_i32_28_r0
  let c3_i32_123_r0 : BitVec 32 := 3#32
  let v118_r0 : BitVec 32 := Scalar.remui v34_r0 c3_i32_123_r0
  let c0_i32_127_r0 : BitVec 32 := 0#32
  let c0_i32_128_r0 : BitVec 32 := 0#32
  ![v118_r0.toNat, 0, 0]
def k0_off18 (v119_r0 : BitVec 32) : Fin 2 → Nat :=
  let c2048_i32_126_r0 : BitVec 32 := 2048#32
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c288_i32_r0 : BitVec 32 := 288#32
  let v11_r0 : BitVec 1 := Scalar.cmpi .eq v10_r0 c288_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c1_i32_125_r0 : BitVec 32 := 1#32
  let v120_r0 : BitVec 32 := Scalar.subi v119_r0 c1_i32_125_r0
  let v121_r0 : BitVec 32 := Scalar.minsi v13_r0 v120_r0
  let v122_r0 : BitVec 32 := Scalar.muli c2048_i32_126_r0 v121_r0
  let c0_i32_129_r0 : BitVec 32 := 0#32
  ![v122_r0.toNat, 0]
def k0_cond1 (v71_r0 : BitVec 32) (v74_r0 : BitVec 32) : BitVec 1 :=
  let true_77_r0 : BitVec 1 := 1#1
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c288_i32_r0 : BitVec 32 := 288#32
  let v11_r0 : BitVec 1 := Scalar.cmpi .eq v10_r0 c288_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c1_i32_73_r0 : BitVec 32 := 1#32
  let v72_r0 : BitVec 32 := Scalar.subi v71_r0 c1_i32_73_r0
  let v73_r0 : BitVec 32 := Scalar.minsi v13_r0 v72_r0
  let c0_i32_76_r0 : BitVec 32 := 0#32
  let c1_i32_75_r0 : BitVec 32 := 1#32
  let v75_r0 : BitVec 32 := Scalar.subi v74_r0 c1_i32_75_r0
  let v76_r0 : BitVec 32 := Scalar.minsi c0_i32_76_r0 v75_r0
  let v77_r0 : BitVec 1 := Scalar.cmpi .ne v73_r0 v76_r0
  let v78_r0 : BitVec 1 := Scalar.andi true_77_r0 v77_r0
  let true_78_r0 : BitVec 1 := 1#1
  let v79_r0 : BitVec 1 := Scalar.andi v78_r0 true_78_r0
  let v80_r0 : BitVec 32 := Scalar.extui v79_r0
  let c0_i32_79_r0 : BitVec 32 := 0#32
  let v81_r0 : BitVec 1 := Scalar.cmpi .ne v80_r0 c0_i32_79_r0
  v81_r0

def k0_chk6 (v71_r0 : BitVec 32) (v74_r0 : BitVec 32) (v119_r0 : BitVec 32) : Prop :=
  (∀ (k0_h1 : k0_cond1 v71_r0 v74_r0 = 1#1), ∀ a, (k0_off18 v119_r0) a + S2048x128.size a ≤ S589824x128.size a)
theorem k0_off18_inb : ∀ (v71_r0 : BitVec 32) (v74_r0 : BitVec 32) (v119_r0 : BitVec 32) (k0_hw6 : k0_chk6 v71_r0 v74_r0 v119_r0), ∀ (k0_h1 : k0_cond1 v71_r0 v74_r0 = 1#1), ∀ a, (k0_off18 v119_r0) a + S2048x128.size a ≤ S589824x128.size a := fun v71_r0 v74_r0 v119_r0 k0_hw6 k0_h1 => k0_hw6 k0_h1

@[reducible] def k0_t1_loop : Scf.Loop 32 :=
  let c0_i32_89_r0 : BitVec 32 := 0#32
  let c288_i32_90_r0 : BitVec 32 := 288#32
  let v84_r0 : BitVec 32 := Scalar.addi c0_i32_89_r0 c288_i32_90_r0
  let c1_i32_91_r0 : BitVec 32 := 1#32
  ⟨c0_i32_89_r0, v84_r0, c1_i32_91_r0⟩
def k0_off19 (arg12_r0 : BitVec 32) : Fin 1 → Nat :=
  let c3_i32_251_r0 : BitVec 32 := 3#32
  let v386_r0 : BitVec 32 := Scalar.remui arg12_r0 c3_i32_251_r0
  ![v386_r0.toNat]
def k0_cond2 (k0_t1 : Fin k0_t1_loop.trips) (arg24_r0 : BitVec 32) (v141_r0 : BitVec 32) (v144_r0 : BitVec 32) : BitVec 1 :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let c1_i32_147_r0 : BitVec 32 := 1#32
  let v142_r0 : BitVec 32 := Scalar.subi v141_r0 c1_i32_147_r0
  let v143_r0 : BitVec 32 := Scalar.minsi v130_r0 v142_r0
  let true_137_r0 : BitVec 1 := 1#1
  let c1_i32_136_r0 : BitVec 32 := 1#32
  let v131_r0 : BitVec 32 := Scalar.addi v129_r0 c1_i32_136_r0
  let v132_r0 : BitVec 32 := Scalar.select true_137_r0 v131_r0 v129_r0
  let c288_i32_138_r0 : BitVec 32 := 288#32
  let v133_r0 : BitVec 1 := Scalar.cmpi .eq v132_r0 c288_i32_138_r0
  let c0_i32_139_r0 : BitVec 32 := 0#32
  let v134_r0 : BitVec 32 := Scalar.select v133_r0 c0_i32_139_r0 v132_r0
  let c0_i32_140_r0 : BitVec 32 := 0#32
  let v135_r0 : BitVec 32 := Scalar.addi v134_r0 c0_i32_140_r0
  let c1_i32_149_r0 : BitVec 32 := 1#32
  let v145_r0 : BitVec 32 := Scalar.subi v144_r0 c1_i32_149_r0
  let v146_r0 : BitVec 32 := Scalar.minsi v135_r0 v145_r0
  let v147_r0 : BitVec 1 := Scalar.cmpi .ne v143_r0 v146_r0
  let c0_i32_89_r0 : BitVec 32 := 0#32
  let c1_i32_91_r0 : BitVec 32 := 1#32
  let arg11_r0 : BitVec 32 := Scf.iv c0_i32_89_r0 c1_i32_91_r0 k0_t1
  let c286_i32_r0 : BitVec 32 := 286#32
  let v148_r0 : BitVec 1 := Scalar.cmpi .sge arg11_r0 c286_i32_r0
  let true_150_r0 : BitVec 1 := 1#1
  let v149_r0 : BitVec 1 := Scalar.xori v148_r0 true_150_r0
  let v150_r0 : BitVec 1 := Scalar.andi v147_r0 v149_r0
  let true_151_r0 : BitVec 1 := 1#1
  let v151_r0 : BitVec 1 := Scalar.andi v150_r0 true_151_r0
  let v152_r0 : BitVec 32 := Scalar.extui v151_r0
  let c0_i32_152_r0 : BitVec 32 := 0#32
  let v153_r0 : BitVec 1 := Scalar.cmpi .ne v152_r0 c0_i32_152_r0
  v153_r0

def k0_off20 (arg12_r0 : BitVec 32) : Fin 3 → Nat :=
  let c3_i32_251_r0 : BitVec 32 := 3#32
  let v386_r0 : BitVec 32 := Scalar.remui arg12_r0 c3_i32_251_r0
  let c0_i32_255_r0 : BitVec 32 := 0#32
  let c0_i32_256_r0 : BitVec 32 := 0#32
  ![v386_r0.toNat, 0, 0]

def k0_chk7 (k0_t1 : Fin k0_t1_loop.trips) (arg12_r0 : BitVec 32) (arg24_r0 : BitVec 32) (v141_r0 : BitVec 32) (v144_r0 : BitVec 32) : Prop :=
  (∀ (k0_h2 : k0_cond2 k0_t1 arg24_r0 v141_r0 v144_r0 = 1#1), ∀ a, (k0_off19 arg12_r0) a + S1.size a ≤ S3.size a) ∧
  (∀ (k0_h2 : k0_cond2 k0_t1 arg24_r0 v141_r0 v144_r0 = 1#1), ∀ a, (k0_off20 arg12_r0) a + S1x2048x128.size a ≤ S3x2048x128.size a)
theorem k0_off19_inb : ∀ (k0_t1 : Fin k0_t1_loop.trips) (arg12_r0 : BitVec 32) (arg24_r0 : BitVec 32) (v141_r0 : BitVec 32) (v144_r0 : BitVec 32) (k0_hw7 : k0_chk7 k0_t1 arg12_r0 arg24_r0 v141_r0 v144_r0), ∀ (k0_h2 : k0_cond2 k0_t1 arg24_r0 v141_r0 v144_r0 = 1#1), ∀ a, (k0_off19 arg12_r0) a + S1.size a ≤ S3.size a := fun k0_t1 arg12_r0 arg24_r0 v141_r0 v144_r0 k0_hw7 k0_h2 => k0_hw7.1 k0_h2
theorem k0_off20_inb : ∀ (k0_t1 : Fin k0_t1_loop.trips) (arg12_r0 : BitVec 32) (arg24_r0 : BitVec 32) (v141_r0 : BitVec 32) (v144_r0 : BitVec 32) (k0_hw7 : k0_chk7 k0_t1 arg12_r0 arg24_r0 v141_r0 v144_r0), ∀ (k0_h2 : k0_cond2 k0_t1 arg24_r0 v141_r0 v144_r0 = 1#1), ∀ a, (k0_off20 arg12_r0) a + S1x2048x128.size a ≤ S3x2048x128.size a := fun k0_t1 arg12_r0 arg24_r0 v141_r0 v144_r0 k0_hw7 k0_h2 => k0_hw7.2 k0_h2

def k0_off21 (arg24_r0 : BitVec 32) (v387_r0 : BitVec 32) : Fin 2 → Nat :=
  let c2048_i32_254_r0 : BitVec 32 := 2048#32
  let true_137_r0 : BitVec 1 := 1#1
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c1_i32_136_r0 : BitVec 32 := 1#32
  let v131_r0 : BitVec 32 := Scalar.addi v129_r0 c1_i32_136_r0
  let v132_r0 : BitVec 32 := Scalar.select true_137_r0 v131_r0 v129_r0
  let c288_i32_138_r0 : BitVec 32 := 288#32
  let v133_r0 : BitVec 1 := Scalar.cmpi .eq v132_r0 c288_i32_138_r0
  let c0_i32_139_r0 : BitVec 32 := 0#32
  let v134_r0 : BitVec 32 := Scalar.select v133_r0 c0_i32_139_r0 v132_r0
  let c0_i32_140_r0 : BitVec 32 := 0#32
  let v135_r0 : BitVec 32 := Scalar.addi v134_r0 c0_i32_140_r0
  let c1_i32_253_r0 : BitVec 32 := 1#32
  let v388_r0 : BitVec 32 := Scalar.subi v387_r0 c1_i32_253_r0
  let v389_r0 : BitVec 32 := Scalar.minsi v135_r0 v388_r0
  let v390_r0 : BitVec 32 := Scalar.muli c2048_i32_254_r0 v389_r0
  let c0_i32_257_r0 : BitVec 32 := 0#32
  ![v390_r0.toNat, 0]

def k0_chk8 (k0_t1 : Fin k0_t1_loop.trips) (arg24_r0 : BitVec 32) (v141_r0 : BitVec 32) (v144_r0 : BitVec 32) (v387_r0 : BitVec 32) : Prop :=
  (∀ (k0_h2 : k0_cond2 k0_t1 arg24_r0 v141_r0 v144_r0 = 1#1), ∀ a, (k0_off21 arg24_r0 v387_r0) a + S2048x128.size a ≤ S589824x128.size a)
theorem k0_off21_inb : ∀ (k0_t1 : Fin k0_t1_loop.trips) (arg24_r0 : BitVec 32) (v141_r0 : BitVec 32) (v144_r0 : BitVec 32) (v387_r0 : BitVec 32) (k0_hw8 : k0_chk8 k0_t1 arg24_r0 v141_r0 v144_r0 v387_r0), ∀ (k0_h2 : k0_cond2 k0_t1 arg24_r0 v141_r0 v144_r0 = 1#1), ∀ a, (k0_off21 arg24_r0 v387_r0) a + S2048x128.size a ≤ S589824x128.size a := fun k0_t1 arg24_r0 v141_r0 v144_r0 v387_r0 k0_hw8 k0_h2 => k0_hw8 k0_h2

def k0_off22 (arg24_r0 : BitVec 32) : Fin 1 → Nat :=
  let c0_i32_125_r0 : BitVec 32 := 0#32
  let v120_r0 : BitVec 32 := Scalar.addi arg24_r0 c0_i32_125_r0
  let v157_r0 : Index := Scalar.indexCast v120_r0
  ![v157_r0.toNat]

def k0_off23 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v159_r0 : Index := Scalar.indexCast v130_r0
  ![v159_r0.toNat]
def k0_off24 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v387_r0 : Index := Scalar.indexCast v130_r0
  ![v387_r0.toNat]
def k0_cond3 (k0_t1 : Fin k0_t1_loop.trips) (v158_r0 : BitVec 32) (v160_r0 : BitVec 32) : BitVec 1 :=
  let v161_r0 : BitVec 1 := Scalar.cmpi .ne v158_r0 v160_r0
  let c0_i32_89_r0 : BitVec 32 := 0#32
  let c1_i32_91_r0 : BitVec 32 := 1#32
  let arg11_r0 : BitVec 32 := Scf.iv c0_i32_89_r0 c1_i32_91_r0 k0_t1
  let c287_i32_155_r0 : BitVec 32 := 287#32
  let v162_r0 : BitVec 1 := Scalar.cmpi .sge arg11_r0 c287_i32_155_r0
  let true_156_r0 : BitVec 1 := 1#1
  let v163_r0 : BitVec 1 := Scalar.xori v162_r0 true_156_r0
  let v164_r0 : BitVec 1 := Scalar.andi v161_r0 v163_r0
  let true_157_r0 : BitVec 1 := 1#1
  let v165_r0 : BitVec 1 := Scalar.andi v164_r0 true_157_r0
  let v166_r0 : BitVec 32 := Scalar.extui v165_r0
  let c0_i32_158_r0 : BitVec 32 := 0#32
  let v167_r0 : BitVec 1 := Scalar.cmpi .ne v166_r0 c0_i32_158_r0
  v167_r0

def k0_off25 (arg14_r0 : BitVec 32) : Fin 1 → Nat :=
  let c2_i32_251_r0 : BitVec 32 := 2#32
  let v386_r0 : BitVec 32 := Scalar.remui arg14_r0 c2_i32_251_r0
  ![v386_r0.toNat]
def k0_off26 (arg14_r0 : BitVec 32) : Fin 4 → Nat :=
  let c2_i32_251_r0 : BitVec 32 := 2#32
  let v386_r0 : BitVec 32 := Scalar.remui arg14_r0 c2_i32_251_r0
  let c0_i32_253_r0 : BitVec 32 := 0#32
  let c0_i32_254_r0 : BitVec 32 := 0#32
  let c0_i32_255_r0 : BitVec 32 := 0#32
  ![v386_r0.toNat, 0, 0, 0]

def k0_chk10 (k0_t1 : Fin k0_t1_loop.trips) (arg14_r0 : BitVec 32) (arg24_r0 : BitVec 32) (v158_r0 : BitVec 32) (v160_r0 : BitVec 32) : Prop :=
  (∀ (k0_h3 : k0_cond3 k0_t1 v158_r0 v160_r0 = 1#1), ∀ a, (k0_off24 arg24_r0) a + S1.size a ≤ S288.size a) ∧
  (∀ (k0_h3 : k0_cond3 k0_t1 v158_r0 v160_r0 = 1#1), ∀ a, (k0_off25 arg14_r0) a + S1.size a ≤ S2.size a) ∧
  (∀ (k0_h3 : k0_cond3 k0_t1 v158_r0 v160_r0 = 1#1), ∀ a, (k0_off26 arg14_r0) a + S1x1x1024x2048.size a ≤ S2x1x1024x2048.size a)
theorem k0_off24_inb : ∀ (k0_t1 : Fin k0_t1_loop.trips) (arg14_r0 : BitVec 32) (arg24_r0 : BitVec 32) (v158_r0 : BitVec 32) (v160_r0 : BitVec 32) (k0_hw10 : k0_chk10 k0_t1 arg14_r0 arg24_r0 v158_r0 v160_r0), ∀ (k0_h3 : k0_cond3 k0_t1 v158_r0 v160_r0 = 1#1), ∀ a, (k0_off24 arg24_r0) a + S1.size a ≤ S288.size a := fun k0_t1 arg14_r0 arg24_r0 v158_r0 v160_r0 k0_hw10 k0_h3 => k0_hw10.1 k0_h3
theorem k0_off25_inb : ∀ (k0_t1 : Fin k0_t1_loop.trips) (arg14_r0 : BitVec 32) (arg24_r0 : BitVec 32) (v158_r0 : BitVec 32) (v160_r0 : BitVec 32) (k0_hw10 : k0_chk10 k0_t1 arg14_r0 arg24_r0 v158_r0 v160_r0), ∀ (k0_h3 : k0_cond3 k0_t1 v158_r0 v160_r0 = 1#1), ∀ a, (k0_off25 arg14_r0) a + S1.size a ≤ S2.size a := fun k0_t1 arg14_r0 arg24_r0 v158_r0 v160_r0 k0_hw10 k0_h3 => k0_hw10.2.1 k0_h3
theorem k0_off26_inb : ∀ (k0_t1 : Fin k0_t1_loop.trips) (arg14_r0 : BitVec 32) (arg24_r0 : BitVec 32) (v158_r0 : BitVec 32) (v160_r0 : BitVec 32) (k0_hw10 : k0_chk10 k0_t1 arg14_r0 arg24_r0 v158_r0 v160_r0), ∀ (k0_h3 : k0_cond3 k0_t1 v158_r0 v160_r0 = 1#1), ∀ a, (k0_off26 arg14_r0) a + S1x1x1024x2048.size a ≤ S2x1x1024x2048.size a := fun k0_t1 arg14_r0 arg24_r0 v158_r0 v160_r0 k0_hw10 k0_h3 => k0_hw10.2.2 k0_h3

def k0_off27 (v388_r0 : BitVec 32) : Fin 3 → Nat :=
  let c1_i32_252_r0 : BitVec 32 := 1#32
  let v389_r0 : BitVec 32 := Scalar.muli c1_i32_252_r0 v388_r0
  let c0_i32_256_r0 : BitVec 32 := 0#32
  let c0_i32_257_r0 : BitVec 32 := 0#32
  ![v389_r0.toNat, 0, 0]

def k0_chk11 (k0_t1 : Fin k0_t1_loop.trips) (v158_r0 : BitVec 32) (v160_r0 : BitVec 32) (v388_r0 : BitVec 32) : Prop :=
  (∀ (k0_h3 : k0_cond3 k0_t1 v158_r0 v160_r0 = 1#1), ∀ a, (k0_off27 v388_r0) a + S1x1024x2048.size a ≤ S32x1024x2048.size a)
theorem k0_off27_inb : ∀ (k0_t1 : Fin k0_t1_loop.trips) (v158_r0 : BitVec 32) (v160_r0 : BitVec 32) (v388_r0 : BitVec 32) (k0_hw11 : k0_chk11 k0_t1 v158_r0 v160_r0 v388_r0), ∀ (k0_h3 : k0_cond3 k0_t1 v158_r0 v160_r0 = 1#1), ∀ a, (k0_off27 v388_r0) a + S1x1024x2048.size a ≤ S32x1024x2048.size a := fun k0_t1 v158_r0 v160_r0 v388_r0 k0_hw11 k0_h3 => k0_hw11 k0_h3

def k0_off28 (arg24_r0 : BitVec 32) : Fin 1 → Nat :=
  let c0_i32_125_r0 : BitVec 32 := 0#32
  let v120_r0 : BitVec 32 := Scalar.addi arg24_r0 c0_i32_125_r0
  let v171_r0 : Index := Scalar.indexCast v120_r0
  ![v171_r0.toNat]
def k0_off29 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v173_r0 : Index := Scalar.indexCast v130_r0
  ![v173_r0.toNat]
def k0_off30 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v387_r0 : Index := Scalar.indexCast v130_r0
  ![v387_r0.toNat]
def k0_cond4 (k0_t1 : Fin k0_t1_loop.trips) (v172_r0 : BitVec 32) (v174_r0 : BitVec 32) : BitVec 1 :=
  let v175_r0 : BitVec 1 := Scalar.cmpi .ne v172_r0 v174_r0
  let c0_i32_89_r0 : BitVec 32 := 0#32
  let c1_i32_91_r0 : BitVec 32 := 1#32
  let arg11_r0 : BitVec 32 := Scf.iv c0_i32_89_r0 c1_i32_91_r0 k0_t1
  let c287_i32_161_r0 : BitVec 32 := 287#32
  let v176_r0 : BitVec 1 := Scalar.cmpi .sge arg11_r0 c287_i32_161_r0
  let true_162_r0 : BitVec 1 := 1#1
  let v177_r0 : BitVec 1 := Scalar.xori v176_r0 true_162_r0
  let v178_r0 : BitVec 1 := Scalar.andi v175_r0 v177_r0
  let true_163_r0 : BitVec 1 := 1#1
  let v179_r0 : BitVec 1 := Scalar.andi v178_r0 true_163_r0
  let v180_r0 : BitVec 32 := Scalar.extui v179_r0
  let c0_i32_164_r0 : BitVec 32 := 0#32
  let v181_r0 : BitVec 1 := Scalar.cmpi .ne v180_r0 c0_i32_164_r0
  v181_r0

def k0_off31 (arg16_r0 : BitVec 32) : Fin 1 → Nat :=
  let c2_i32_251_r0 : BitVec 32 := 2#32
  let v386_r0 : BitVec 32 := Scalar.remui arg16_r0 c2_i32_251_r0
  ![v386_r0.toNat]
def k0_off32 (arg16_r0 : BitVec 32) : Fin 4 → Nat :=
  let c2_i32_251_r0 : BitVec 32 := 2#32
  let v386_r0 : BitVec 32 := Scalar.remui arg16_r0 c2_i32_251_r0
  let c0_i32_253_r0 : BitVec 32 := 0#32
  let c0_i32_254_r0 : BitVec 32 := 0#32
  let c0_i32_255_r0 : BitVec 32 := 0#32
  ![v386_r0.toNat, 0, 0, 0]

def k0_chk12 (k0_t1 : Fin k0_t1_loop.trips) (arg16_r0 : BitVec 32) (arg24_r0 : BitVec 32) (v172_r0 : BitVec 32) (v174_r0 : BitVec 32) : Prop :=
  (∀ (k0_h4 : k0_cond4 k0_t1 v172_r0 v174_r0 = 1#1), ∀ a, (k0_off30 arg24_r0) a + S1.size a ≤ S288.size a) ∧
  (∀ (k0_h4 : k0_cond4 k0_t1 v172_r0 v174_r0 = 1#1), ∀ a, (k0_off31 arg16_r0) a + S1.size a ≤ S2.size a) ∧
  (∀ (k0_h4 : k0_cond4 k0_t1 v172_r0 v174_r0 = 1#1), ∀ a, (k0_off32 arg16_r0) a + S1x1x1x2048.size a ≤ S2x1x1x2048.size a)
theorem k0_off30_inb : ∀ (k0_t1 : Fin k0_t1_loop.trips) (arg16_r0 : BitVec 32) (arg24_r0 : BitVec 32) (v172_r0 : BitVec 32) (v174_r0 : BitVec 32) (k0_hw12 : k0_chk12 k0_t1 arg16_r0 arg24_r0 v172_r0 v174_r0), ∀ (k0_h4 : k0_cond4 k0_t1 v172_r0 v174_r0 = 1#1), ∀ a, (k0_off30 arg24_r0) a + S1.size a ≤ S288.size a := fun k0_t1 arg16_r0 arg24_r0 v172_r0 v174_r0 k0_hw12 k0_h4 => k0_hw12.1 k0_h4
theorem k0_off31_inb : ∀ (k0_t1 : Fin k0_t1_loop.trips) (arg16_r0 : BitVec 32) (arg24_r0 : BitVec 32) (v172_r0 : BitVec 32) (v174_r0 : BitVec 32) (k0_hw12 : k0_chk12 k0_t1 arg16_r0 arg24_r0 v172_r0 v174_r0), ∀ (k0_h4 : k0_cond4 k0_t1 v172_r0 v174_r0 = 1#1), ∀ a, (k0_off31 arg16_r0) a + S1.size a ≤ S2.size a := fun k0_t1 arg16_r0 arg24_r0 v172_r0 v174_r0 k0_hw12 k0_h4 => k0_hw12.2.1 k0_h4
theorem k0_off32_inb : ∀ (k0_t1 : Fin k0_t1_loop.trips) (arg16_r0 : BitVec 32) (arg24_r0 : BitVec 32) (v172_r0 : BitVec 32) (v174_r0 : BitVec 32) (k0_hw12 : k0_chk12 k0_t1 arg16_r0 arg24_r0 v172_r0 v174_r0), ∀ (k0_h4 : k0_cond4 k0_t1 v172_r0 v174_r0 = 1#1), ∀ a, (k0_off32 arg16_r0) a + S1x1x1x2048.size a ≤ S2x1x1x2048.size a := fun k0_t1 arg16_r0 arg24_r0 v172_r0 v174_r0 k0_hw12 k0_h4 => k0_hw12.2.2 k0_h4

def k0_off33 (v388_r0 : BitVec 32) : Fin 3 → Nat :=
  let c1_i32_252_r0 : BitVec 32 := 1#32
  let v389_r0 : BitVec 32 := Scalar.muli c1_i32_252_r0 v388_r0
  let c0_i32_256_r0 : BitVec 32 := 0#32
  let c0_i32_257_r0 : BitVec 32 := 0#32
  ![v389_r0.toNat, 0, 0]

def k0_chk13 (k0_t1 : Fin k0_t1_loop.trips) (v172_r0 : BitVec 32) (v174_r0 : BitVec 32) (v388_r0 : BitVec 32) : Prop :=
  (∀ (k0_h4 : k0_cond4 k0_t1 v172_r0 v174_r0 = 1#1), ∀ a, (k0_off33 v388_r0) a + S1x1x2048.size a ≤ S32x1x2048.size a)
theorem k0_off33_inb : ∀ (k0_t1 : Fin k0_t1_loop.trips) (v172_r0 : BitVec 32) (v174_r0 : BitVec 32) (v388_r0 : BitVec 32) (k0_hw13 : k0_chk13 k0_t1 v172_r0 v174_r0 v388_r0), ∀ (k0_h4 : k0_cond4 k0_t1 v172_r0 v174_r0 = 1#1), ∀ a, (k0_off33 v388_r0) a + S1x1x2048.size a ≤ S32x1x2048.size a := fun k0_t1 v172_r0 v174_r0 v388_r0 k0_hw13 k0_h4 => k0_hw13 k0_h4

def k0_off34 (arg24_r0 : BitVec 32) : Fin 1 → Nat :=
  let c0_i32_125_r0 : BitVec 32 := 0#32
  let v120_r0 : BitVec 32 := Scalar.addi arg24_r0 c0_i32_125_r0
  let v185_r0 : Index := Scalar.indexCast v120_r0
  ![v185_r0.toNat]
def k0_off35 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v187_r0 : Index := Scalar.indexCast v130_r0
  ![v187_r0.toNat]
def k0_off36 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v387_r0 : Index := Scalar.indexCast v130_r0
  ![v387_r0.toNat]
def k0_cond5 (k0_t1 : Fin k0_t1_loop.trips) (v186_r0 : BitVec 32) (v188_r0 : BitVec 32) : BitVec 1 :=
  let v189_r0 : BitVec 1 := Scalar.cmpi .ne v186_r0 v188_r0
  let c0_i32_89_r0 : BitVec 32 := 0#32
  let c1_i32_91_r0 : BitVec 32 := 1#32
  let arg11_r0 : BitVec 32 := Scf.iv c0_i32_89_r0 c1_i32_91_r0 k0_t1
  let c287_i32_167_r0 : BitVec 32 := 287#32
  let v190_r0 : BitVec 1 := Scalar.cmpi .sge arg11_r0 c287_i32_167_r0
  let true_168_r0 : BitVec 1 := 1#1
  let v191_r0 : BitVec 1 := Scalar.xori v190_r0 true_168_r0
  let v192_r0 : BitVec 1 := Scalar.andi v189_r0 v191_r0
  let true_169_r0 : BitVec 1 := 1#1
  let v193_r0 : BitVec 1 := Scalar.andi v192_r0 true_169_r0
  let v194_r0 : BitVec 32 := Scalar.extui v193_r0
  let c0_i32_170_r0 : BitVec 32 := 0#32
  let v195_r0 : BitVec 1 := Scalar.cmpi .ne v194_r0 c0_i32_170_r0
  v195_r0

def k0_off37 (arg18_r0 : BitVec 32) : Fin 1 → Nat :=
  let c2_i32_251_r0 : BitVec 32 := 2#32
  let v386_r0 : BitVec 32 := Scalar.remui arg18_r0 c2_i32_251_r0
  ![v386_r0.toNat]
def k0_off38 (arg18_r0 : BitVec 32) : Fin 4 → Nat :=
  let c2_i32_251_r0 : BitVec 32 := 2#32
  let v386_r0 : BitVec 32 := Scalar.remui arg18_r0 c2_i32_251_r0
  let c0_i32_253_r0 : BitVec 32 := 0#32
  let c0_i32_254_r0 : BitVec 32 := 0#32
  let c0_i32_255_r0 : BitVec 32 := 0#32
  ![v386_r0.toNat, 0, 0, 0]

def k0_chk14 (k0_t1 : Fin k0_t1_loop.trips) (arg18_r0 : BitVec 32) (arg24_r0 : BitVec 32) (v186_r0 : BitVec 32) (v188_r0 : BitVec 32) : Prop :=
  (∀ (k0_h5 : k0_cond5 k0_t1 v186_r0 v188_r0 = 1#1), ∀ a, (k0_off36 arg24_r0) a + S1.size a ≤ S288.size a) ∧
  (∀ (k0_h5 : k0_cond5 k0_t1 v186_r0 v188_r0 = 1#1), ∀ a, (k0_off37 arg18_r0) a + S1.size a ≤ S2.size a) ∧
  (∀ (k0_h5 : k0_cond5 k0_t1 v186_r0 v188_r0 = 1#1), ∀ a, (k0_off38 arg18_r0) a + S1x1x1024x1024.size a ≤ S2x1x1024x1024.size a)
theorem k0_off36_inb : ∀ (k0_t1 : Fin k0_t1_loop.trips) (arg18_r0 : BitVec 32) (arg24_r0 : BitVec 32) (v186_r0 : BitVec 32) (v188_r0 : BitVec 32) (k0_hw14 : k0_chk14 k0_t1 arg18_r0 arg24_r0 v186_r0 v188_r0), ∀ (k0_h5 : k0_cond5 k0_t1 v186_r0 v188_r0 = 1#1), ∀ a, (k0_off36 arg24_r0) a + S1.size a ≤ S288.size a := fun k0_t1 arg18_r0 arg24_r0 v186_r0 v188_r0 k0_hw14 k0_h5 => k0_hw14.1 k0_h5
theorem k0_off37_inb : ∀ (k0_t1 : Fin k0_t1_loop.trips) (arg18_r0 : BitVec 32) (arg24_r0 : BitVec 32) (v186_r0 : BitVec 32) (v188_r0 : BitVec 32) (k0_hw14 : k0_chk14 k0_t1 arg18_r0 arg24_r0 v186_r0 v188_r0), ∀ (k0_h5 : k0_cond5 k0_t1 v186_r0 v188_r0 = 1#1), ∀ a, (k0_off37 arg18_r0) a + S1.size a ≤ S2.size a := fun k0_t1 arg18_r0 arg24_r0 v186_r0 v188_r0 k0_hw14 k0_h5 => k0_hw14.2.1 k0_h5
theorem k0_off38_inb : ∀ (k0_t1 : Fin k0_t1_loop.trips) (arg18_r0 : BitVec 32) (arg24_r0 : BitVec 32) (v186_r0 : BitVec 32) (v188_r0 : BitVec 32) (k0_hw14 : k0_chk14 k0_t1 arg18_r0 arg24_r0 v186_r0 v188_r0), ∀ (k0_h5 : k0_cond5 k0_t1 v186_r0 v188_r0 = 1#1), ∀ a, (k0_off38 arg18_r0) a + S1x1x1024x1024.size a ≤ S2x1x1024x1024.size a := fun k0_t1 arg18_r0 arg24_r0 v186_r0 v188_r0 k0_hw14 k0_h5 => k0_hw14.2.2 k0_h5

def k0_off39 (v388_r0 : BitVec 32) : Fin 3 → Nat :=
  let c1_i32_252_r0 : BitVec 32 := 1#32
  let v389_r0 : BitVec 32 := Scalar.muli c1_i32_252_r0 v388_r0
  let c0_i32_256_r0 : BitVec 32 := 0#32
  let c0_i32_257_r0 : BitVec 32 := 0#32
  ![v389_r0.toNat, 0, 0]

def k0_chk15 (k0_t1 : Fin k0_t1_loop.trips) (v186_r0 : BitVec 32) (v188_r0 : BitVec 32) (v388_r0 : BitVec 32) : Prop :=
  (∀ (k0_h5 : k0_cond5 k0_t1 v186_r0 v188_r0 = 1#1), ∀ a, (k0_off39 v388_r0) a + S1x1024x1024.size a ≤ S32x1024x1024.size a)
theorem k0_off39_inb : ∀ (k0_t1 : Fin k0_t1_loop.trips) (v186_r0 : BitVec 32) (v188_r0 : BitVec 32) (v388_r0 : BitVec 32) (k0_hw15 : k0_chk15 k0_t1 v186_r0 v188_r0 v388_r0), ∀ (k0_h5 : k0_cond5 k0_t1 v186_r0 v188_r0 = 1#1), ∀ a, (k0_off39 v388_r0) a + S1x1024x1024.size a ≤ S32x1024x1024.size a := fun k0_t1 v186_r0 v188_r0 v388_r0 k0_hw15 k0_h5 => k0_hw15 k0_h5

def k0_off40 (arg24_r0 : BitVec 32) : Fin 1 → Nat :=
  let c0_i32_125_r0 : BitVec 32 := 0#32
  let v120_r0 : BitVec 32 := Scalar.addi arg24_r0 c0_i32_125_r0
  let v199_r0 : Index := Scalar.indexCast v120_r0
  ![v199_r0.toNat]
def k0_off41 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v201_r0 : Index := Scalar.indexCast v130_r0
  ![v201_r0.toNat]
def k0_off42 (arg24_r0 : BitVec 32) : Fin 1 → Nat :=
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v387_r0 : Index := Scalar.indexCast v130_r0
  ![v387_r0.toNat]
def k0_cond6 (k0_t1 : Fin k0_t1_loop.trips) (v200_r0 : BitVec 32) (v202_r0 : BitVec 32) : BitVec 1 :=
  let v203_r0 : BitVec 1 := Scalar.cmpi .ne v200_r0 v202_r0
  let c0_i32_89_r0 : BitVec 32 := 0#32
  let c1_i32_91_r0 : BitVec 32 := 1#32
  let arg11_r0 : BitVec 32 := Scf.iv c0_i32_89_r0 c1_i32_91_r0 k0_t1
  let c287_i32_173_r0 : BitVec 32 := 287#32
  let v204_r0 : BitVec 1 := Scalar.cmpi .sge arg11_r0 c287_i32_173_r0
  let true_174_r0 : BitVec 1 := 1#1
  let v205_r0 : BitVec 1 := Scalar.xori v204_r0 true_174_r0
  let v206_r0 : BitVec 1 := Scalar.andi v203_r0 v205_r0
  let true_175_r0 : BitVec 1 := 1#1
  let v207_r0 : BitVec 1 := Scalar.andi v206_r0 true_175_r0
  let v208_r0 : BitVec 32 := Scalar.extui v207_r0
  let c0_i32_176_r0 : BitVec 32 := 0#32
  let v209_r0 : BitVec 1 := Scalar.cmpi .ne v208_r0 c0_i32_176_r0
  v209_r0

def k0_off43 (arg20_r0 : BitVec 32) : Fin 1 → Nat :=
  let c2_i32_251_r0 : BitVec 32 := 2#32
  let v386_r0 : BitVec 32 := Scalar.remui arg20_r0 c2_i32_251_r0
  ![v386_r0.toNat]
def k0_off44 (arg20_r0 : BitVec 32) : Fin 4 → Nat :=
  let c2_i32_251_r0 : BitVec 32 := 2#32
  let v386_r0 : BitVec 32 := Scalar.remui arg20_r0 c2_i32_251_r0
  let c0_i32_253_r0 : BitVec 32 := 0#32
  let c0_i32_254_r0 : BitVec 32 := 0#32
  let c0_i32_255_r0 : BitVec 32 := 0#32
  ![v386_r0.toNat, 0, 0, 0]

def k0_chk16 (k0_t1 : Fin k0_t1_loop.trips) (arg20_r0 : BitVec 32) (arg24_r0 : BitVec 32) (v200_r0 : BitVec 32) (v202_r0 : BitVec 32) : Prop :=
  (∀ (k0_h6 : k0_cond6 k0_t1 v200_r0 v202_r0 = 1#1), ∀ a, (k0_off42 arg24_r0) a + S1.size a ≤ S288.size a) ∧
  (∀ (k0_h6 : k0_cond6 k0_t1 v200_r0 v202_r0 = 1#1), ∀ a, (k0_off43 arg20_r0) a + S1.size a ≤ S2.size a) ∧
  (∀ (k0_h6 : k0_cond6 k0_t1 v200_r0 v202_r0 = 1#1), ∀ a, (k0_off44 arg20_r0) a + S1x1x1x1024.size a ≤ S2x1x1x1024.size a)
theorem k0_off42_inb : ∀ (k0_t1 : Fin k0_t1_loop.trips) (arg20_r0 : BitVec 32) (arg24_r0 : BitVec 32) (v200_r0 : BitVec 32) (v202_r0 : BitVec 32) (k0_hw16 : k0_chk16 k0_t1 arg20_r0 arg24_r0 v200_r0 v202_r0), ∀ (k0_h6 : k0_cond6 k0_t1 v200_r0 v202_r0 = 1#1), ∀ a, (k0_off42 arg24_r0) a + S1.size a ≤ S288.size a := fun k0_t1 arg20_r0 arg24_r0 v200_r0 v202_r0 k0_hw16 k0_h6 => k0_hw16.1 k0_h6
theorem k0_off43_inb : ∀ (k0_t1 : Fin k0_t1_loop.trips) (arg20_r0 : BitVec 32) (arg24_r0 : BitVec 32) (v200_r0 : BitVec 32) (v202_r0 : BitVec 32) (k0_hw16 : k0_chk16 k0_t1 arg20_r0 arg24_r0 v200_r0 v202_r0), ∀ (k0_h6 : k0_cond6 k0_t1 v200_r0 v202_r0 = 1#1), ∀ a, (k0_off43 arg20_r0) a + S1.size a ≤ S2.size a := fun k0_t1 arg20_r0 arg24_r0 v200_r0 v202_r0 k0_hw16 k0_h6 => k0_hw16.2.1 k0_h6
theorem k0_off44_inb : ∀ (k0_t1 : Fin k0_t1_loop.trips) (arg20_r0 : BitVec 32) (arg24_r0 : BitVec 32) (v200_r0 : BitVec 32) (v202_r0 : BitVec 32) (k0_hw16 : k0_chk16 k0_t1 arg20_r0 arg24_r0 v200_r0 v202_r0), ∀ (k0_h6 : k0_cond6 k0_t1 v200_r0 v202_r0 = 1#1), ∀ a, (k0_off44 arg20_r0) a + S1x1x1x1024.size a ≤ S2x1x1x1024.size a := fun k0_t1 arg20_r0 arg24_r0 v200_r0 v202_r0 k0_hw16 k0_h6 => k0_hw16.2.2 k0_h6

def k0_off45 (v388_r0 : BitVec 32) : Fin 3 → Nat :=
  let c1_i32_252_r0 : BitVec 32 := 1#32
  let v389_r0 : BitVec 32 := Scalar.muli c1_i32_252_r0 v388_r0
  let c0_i32_256_r0 : BitVec 32 := 0#32
  let c0_i32_257_r0 : BitVec 32 := 0#32
  ![v389_r0.toNat, 0, 0]

def k0_chk17 (k0_t1 : Fin k0_t1_loop.trips) (v200_r0 : BitVec 32) (v202_r0 : BitVec 32) (v388_r0 : BitVec 32) : Prop :=
  (∀ (k0_h6 : k0_cond6 k0_t1 v200_r0 v202_r0 = 1#1), ∀ a, (k0_off45 v388_r0) a + S1x1x1024.size a ≤ S32x1x1024.size a)
theorem k0_off45_inb : ∀ (k0_t1 : Fin k0_t1_loop.trips) (v200_r0 : BitVec 32) (v202_r0 : BitVec 32) (v388_r0 : BitVec 32) (k0_hw17 : k0_chk17 k0_t1 v200_r0 v202_r0 v388_r0), ∀ (k0_h6 : k0_cond6 k0_t1 v200_r0 v202_r0 = 1#1), ∀ a, (k0_off45 v388_r0) a + S1x1x1024.size a ≤ S32x1x1024.size a := fun k0_t1 v200_r0 v202_r0 v388_r0 k0_hw17 k0_h6 => k0_hw17 k0_h6

def k0_off46 (arg13_r0 : BitVec 32) : Fin 1 → Nat :=
  let c3_i32_254_r0 : BitVec 32 := 3#32
  let v390_r0 : BitVec 32 := Scalar.remui arg13_r0 c3_i32_254_r0
  ![v390_r0.toNat]
def k0_cond7 (k0_t1 : Fin k0_t1_loop.trips) (arg24_r0 : BitVec 32) (v217_r0 : BitVec 32) (v220_r0 : BitVec 32) : BitVec 1 :=
  let c0_i32_125_r0 : BitVec 32 := 0#32
  let v120_r0 : BitVec 32 := Scalar.addi arg24_r0 c0_i32_125_r0
  let c1_i32_182_r0 : BitVec 32 := 1#32
  let v218_r0 : BitVec 32 := Scalar.subi v217_r0 c1_i32_182_r0
  let v219_r0 : BitVec 32 := Scalar.minsi v120_r0 v218_r0
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let c1_i32_184_r0 : BitVec 32 := 1#32
  let v221_r0 : BitVec 32 := Scalar.subi v220_r0 c1_i32_184_r0
  let v222_r0 : BitVec 32 := Scalar.minsi v125_r0 v221_r0
  let v223_r0 : BitVec 1 := Scalar.cmpi .ne v219_r0 v222_r0
  let c0_i32_89_r0 : BitVec 32 := 0#32
  let c1_i32_91_r0 : BitVec 32 := 1#32
  let arg11_r0 : BitVec 32 := Scf.iv c0_i32_89_r0 c1_i32_91_r0 k0_t1
  let c0_i32_123_r0 : BitVec 32 := 0#32
  let v118_r0 : BitVec 1 := Scalar.cmpi .eq arg11_r0 c0_i32_123_r0
  let v224_r0 : BitVec 1 := Scalar.ori v223_r0 v118_r0
  let c0_i32_185_r0 : BitVec 32 := 0#32
  let v225_r0 : BitVec 1 := Scalar.cmpi .sge arg11_r0 c0_i32_185_r0
  let v226_r0 : BitVec 1 := Scalar.andi v224_r0 v225_r0
  let v227_r0 : BitVec 32 := Scalar.extui v226_r0
  let c0_i32_186_r0 : BitVec 32 := 0#32
  let v228_r0 : BitVec 1 := Scalar.cmpi .ne v227_r0 c0_i32_186_r0
  v228_r0

def k0_off47 (arg13_r0 : BitVec 32) : Fin 3 → Nat :=
  let c3_i32_254_r0 : BitVec 32 := 3#32
  let v390_r0 : BitVec 32 := Scalar.remui arg13_r0 c3_i32_254_r0
  let c0_i32_255_r0 : BitVec 32 := 0#32
  let c0_i32_256_r0 : BitVec 32 := 0#32
  ![v390_r0.toNat, 0, 0]

def k0_chk18 (k0_t1 : Fin k0_t1_loop.trips) (arg13_r0 : BitVec 32) (arg24_r0 : BitVec 32) (v217_r0 : BitVec 32) (v220_r0 : BitVec 32) : Prop :=
  (∀ (k0_h7 : k0_cond7 k0_t1 arg24_r0 v217_r0 v220_r0 = 1#1), ∀ a, (k0_off46 arg13_r0) a + S1.size a ≤ S3.size a) ∧
  (∀ (k0_h7 : k0_cond7 k0_t1 arg24_r0 v217_r0 v220_r0 = 1#1), ∀ a, (k0_off47 arg13_r0) a + S1x2048x128.size a ≤ S3x2048x128.size a)
theorem k0_off46_inb : ∀ (k0_t1 : Fin k0_t1_loop.trips) (arg13_r0 : BitVec 32) (arg24_r0 : BitVec 32) (v217_r0 : BitVec 32) (v220_r0 : BitVec 32) (k0_hw18 : k0_chk18 k0_t1 arg13_r0 arg24_r0 v217_r0 v220_r0), ∀ (k0_h7 : k0_cond7 k0_t1 arg24_r0 v217_r0 v220_r0 = 1#1), ∀ a, (k0_off46 arg13_r0) a + S1.size a ≤ S3.size a := fun k0_t1 arg13_r0 arg24_r0 v217_r0 v220_r0 k0_hw18 k0_h7 => k0_hw18.1 k0_h7
theorem k0_off47_inb : ∀ (k0_t1 : Fin k0_t1_loop.trips) (arg13_r0 : BitVec 32) (arg24_r0 : BitVec 32) (v217_r0 : BitVec 32) (v220_r0 : BitVec 32) (k0_hw18 : k0_chk18 k0_t1 arg13_r0 arg24_r0 v217_r0 v220_r0), ∀ (k0_h7 : k0_cond7 k0_t1 arg24_r0 v217_r0 v220_r0 = 1#1), ∀ a, (k0_off47 arg13_r0) a + S1x2048x128.size a ≤ S3x2048x128.size a := fun k0_t1 arg13_r0 arg24_r0 v217_r0 v220_r0 k0_hw18 k0_h7 => k0_hw18.2 k0_h7

def k0_off48 (arg24_r0 : BitVec 32) (v386_r0 : BitVec 32) : Fin 2 → Nat :=
  let c2048_i32_253_r0 : BitVec 32 := 2048#32
  let c0_i32_125_r0 : BitVec 32 := 0#32
  let v120_r0 : BitVec 32 := Scalar.addi arg24_r0 c0_i32_125_r0
  let c1_i32_252_r0 : BitVec 32 := 1#32
  let v387_r0 : BitVec 32 := Scalar.subi v386_r0 c1_i32_252_r0
  let v388_r0 : BitVec 32 := Scalar.minsi v120_r0 v387_r0
  let v389_r0 : BitVec 32 := Scalar.muli c2048_i32_253_r0 v388_r0
  let c0_i32_257_r0 : BitVec 32 := 0#32
  ![v389_r0.toNat, 0]

def k0_chk19 (k0_t1 : Fin k0_t1_loop.trips) (arg24_r0 : BitVec 32) (v217_r0 : BitVec 32) (v220_r0 : BitVec 32) (v386_r0 : BitVec 32) : Prop :=
  (∀ (k0_h7 : k0_cond7 k0_t1 arg24_r0 v217_r0 v220_r0 = 1#1), ∀ a, (k0_off48 arg24_r0 v386_r0) a + S2048x128.size a ≤ S589824x128.size a)
theorem k0_off48_inb : ∀ (k0_t1 : Fin k0_t1_loop.trips) (arg24_r0 : BitVec 32) (v217_r0 : BitVec 32) (v220_r0 : BitVec 32) (v386_r0 : BitVec 32) (k0_hw19 : k0_chk19 k0_t1 arg24_r0 v217_r0 v220_r0 v386_r0), ∀ (k0_h7 : k0_cond7 k0_t1 arg24_r0 v217_r0 v220_r0 = 1#1), ∀ a, (k0_off48 arg24_r0 v386_r0) a + S2048x128.size a ≤ S589824x128.size a := fun k0_t1 arg24_r0 v217_r0 v220_r0 v386_r0 k0_hw19 k0_h7 => k0_hw19 k0_h7

def k0_off49 (arg24_r0 : BitVec 32) : Fin 1 → Nat :=
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let v229_r0 : Index := Scalar.indexCast v125_r0
  ![v229_r0.toNat]
def k0_off50 (arg24_r0 : BitVec 32) : Fin 1 → Nat :=
  let c0_i32_125_r0 : BitVec 32 := 0#32
  let v120_r0 : BitVec 32 := Scalar.addi arg24_r0 c0_i32_125_r0
  let v386_r0 : Index := Scalar.indexCast v120_r0
  ![v386_r0.toNat]
def k0_cond8 (k0_t1 : Fin k0_t1_loop.trips) (v158_r0 : BitVec 32) (v230_r0 : BitVec 32) : BitVec 1 :=
  let v231_r0 : BitVec 1 := Scalar.cmpi .ne v158_r0 v230_r0
  let c0_i32_89_r0 : BitVec 32 := 0#32
  let c1_i32_91_r0 : BitVec 32 := 1#32
  let arg11_r0 : BitVec 32 := Scf.iv c0_i32_89_r0 c1_i32_91_r0 k0_t1
  let c0_i32_123_r0 : BitVec 32 := 0#32
  let v118_r0 : BitVec 1 := Scalar.cmpi .eq arg11_r0 c0_i32_123_r0
  let v232_r0 : BitVec 1 := Scalar.ori v231_r0 v118_r0
  let c0_i32_187_r0 : BitVec 32 := 0#32
  let v233_r0 : BitVec 1 := Scalar.cmpi .sge arg11_r0 c0_i32_187_r0
  let v234_r0 : BitVec 1 := Scalar.andi v232_r0 v233_r0
  let v235_r0 : BitVec 32 := Scalar.extui v234_r0
  let c0_i32_188_r0 : BitVec 32 := 0#32
  let v236_r0 : BitVec 1 := Scalar.cmpi .ne v235_r0 c0_i32_188_r0
  v236_r0

def k0_off51 (arg15_r0 : BitVec 32) : Fin 1 → Nat :=
  let c2_i32_252_r0 : BitVec 32 := 2#32
  let v389_r0 : BitVec 32 := Scalar.remui arg15_r0 c2_i32_252_r0
  ![v389_r0.toNat]
def k0_off52 (arg15_r0 : BitVec 32) : Fin 4 → Nat :=
  let c2_i32_252_r0 : BitVec 32 := 2#32
  let v389_r0 : BitVec 32 := Scalar.remui arg15_r0 c2_i32_252_r0
  let c0_i32_253_r0 : BitVec 32 := 0#32
  let c0_i32_254_r0 : BitVec 32 := 0#32
  let c0_i32_255_r0 : BitVec 32 := 0#32
  ![v389_r0.toNat, 0, 0, 0]

def k0_chk20 (k0_t1 : Fin k0_t1_loop.trips) (arg15_r0 : BitVec 32) (arg24_r0 : BitVec 32) (v158_r0 : BitVec 32) (v230_r0 : BitVec 32) : Prop :=
  (∀ (k0_h8 : k0_cond8 k0_t1 v158_r0 v230_r0 = 1#1), ∀ a, (k0_off50 arg24_r0) a + S1.size a ≤ S288.size a) ∧
  (∀ (k0_h8 : k0_cond8 k0_t1 v158_r0 v230_r0 = 1#1), ∀ a, (k0_off51 arg15_r0) a + S1.size a ≤ S2.size a) ∧
  (∀ (k0_h8 : k0_cond8 k0_t1 v158_r0 v230_r0 = 1#1), ∀ a, (k0_off52 arg15_r0) a + S1x1x1024x2048.size a ≤ S2x1x1024x2048.size a)
theorem k0_off50_inb : ∀ (k0_t1 : Fin k0_t1_loop.trips) (arg15_r0 : BitVec 32) (arg24_r0 : BitVec 32) (v158_r0 : BitVec 32) (v230_r0 : BitVec 32) (k0_hw20 : k0_chk20 k0_t1 arg15_r0 arg24_r0 v158_r0 v230_r0), ∀ (k0_h8 : k0_cond8 k0_t1 v158_r0 v230_r0 = 1#1), ∀ a, (k0_off50 arg24_r0) a + S1.size a ≤ S288.size a := fun k0_t1 arg15_r0 arg24_r0 v158_r0 v230_r0 k0_hw20 k0_h8 => k0_hw20.1 k0_h8
theorem k0_off51_inb : ∀ (k0_t1 : Fin k0_t1_loop.trips) (arg15_r0 : BitVec 32) (arg24_r0 : BitVec 32) (v158_r0 : BitVec 32) (v230_r0 : BitVec 32) (k0_hw20 : k0_chk20 k0_t1 arg15_r0 arg24_r0 v158_r0 v230_r0), ∀ (k0_h8 : k0_cond8 k0_t1 v158_r0 v230_r0 = 1#1), ∀ a, (k0_off51 arg15_r0) a + S1.size a ≤ S2.size a := fun k0_t1 arg15_r0 arg24_r0 v158_r0 v230_r0 k0_hw20 k0_h8 => k0_hw20.2.1 k0_h8
theorem k0_off52_inb : ∀ (k0_t1 : Fin k0_t1_loop.trips) (arg15_r0 : BitVec 32) (arg24_r0 : BitVec 32) (v158_r0 : BitVec 32) (v230_r0 : BitVec 32) (k0_hw20 : k0_chk20 k0_t1 arg15_r0 arg24_r0 v158_r0 v230_r0), ∀ (k0_h8 : k0_cond8 k0_t1 v158_r0 v230_r0 = 1#1), ∀ a, (k0_off52 arg15_r0) a + S1x1x1024x2048.size a ≤ S2x1x1024x2048.size a := fun k0_t1 arg15_r0 arg24_r0 v158_r0 v230_r0 k0_hw20 k0_h8 => k0_hw20.2.2 k0_h8

def k0_off53 (v387_r0 : BitVec 32) : Fin 3 → Nat :=
  let c1_i32_251_r0 : BitVec 32 := 1#32
  let v388_r0 : BitVec 32 := Scalar.muli c1_i32_251_r0 v387_r0
  let c0_i32_256_r0 : BitVec 32 := 0#32
  let c0_i32_257_r0 : BitVec 32 := 0#32
  ![v388_r0.toNat, 0, 0]

def k0_chk21 (k0_t1 : Fin k0_t1_loop.trips) (v158_r0 : BitVec 32) (v230_r0 : BitVec 32) (v387_r0 : BitVec 32) : Prop :=
  (∀ (k0_h8 : k0_cond8 k0_t1 v158_r0 v230_r0 = 1#1), ∀ a, (k0_off53 v387_r0) a + S1x1024x2048.size a ≤ S32x1024x2048.size a)
theorem k0_off53_inb : ∀ (k0_t1 : Fin k0_t1_loop.trips) (v158_r0 : BitVec 32) (v230_r0 : BitVec 32) (v387_r0 : BitVec 32) (k0_hw21 : k0_chk21 k0_t1 v158_r0 v230_r0 v387_r0), ∀ (k0_h8 : k0_cond8 k0_t1 v158_r0 v230_r0 = 1#1), ∀ a, (k0_off53 v387_r0) a + S1x1024x2048.size a ≤ S32x1024x2048.size a := fun k0_t1 v158_r0 v230_r0 v387_r0 k0_hw21 k0_h8 => k0_hw21 k0_h8

def k0_off54 (arg24_r0 : BitVec 32) : Fin 1 → Nat :=
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let v237_r0 : Index := Scalar.indexCast v125_r0
  ![v237_r0.toNat]
def k0_off55 (arg24_r0 : BitVec 32) : Fin 1 → Nat :=
  let c0_i32_125_r0 : BitVec 32 := 0#32
  let v120_r0 : BitVec 32 := Scalar.addi arg24_r0 c0_i32_125_r0
  let v386_r0 : Index := Scalar.indexCast v120_r0
  ![v386_r0.toNat]
def k0_cond9 (k0_t1 : Fin k0_t1_loop.trips) (v172_r0 : BitVec 32) (v238_r0 : BitVec 32) : BitVec 1 :=
  let v239_r0 : BitVec 1 := Scalar.cmpi .ne v172_r0 v238_r0
  let c0_i32_89_r0 : BitVec 32 := 0#32
  let c1_i32_91_r0 : BitVec 32 := 1#32
  let arg11_r0 : BitVec 32 := Scf.iv c0_i32_89_r0 c1_i32_91_r0 k0_t1
  let c0_i32_123_r0 : BitVec 32 := 0#32
  let v118_r0 : BitVec 1 := Scalar.cmpi .eq arg11_r0 c0_i32_123_r0
  let v240_r0 : BitVec 1 := Scalar.ori v239_r0 v118_r0
  let c0_i32_189_r0 : BitVec 32 := 0#32
  let v241_r0 : BitVec 1 := Scalar.cmpi .sge arg11_r0 c0_i32_189_r0
  let v242_r0 : BitVec 1 := Scalar.andi v240_r0 v241_r0
  let v243_r0 : BitVec 32 := Scalar.extui v242_r0
  let c0_i32_190_r0 : BitVec 32 := 0#32
  let v244_r0 : BitVec 1 := Scalar.cmpi .ne v243_r0 c0_i32_190_r0
  v244_r0

def k0_off56 (arg17_r0 : BitVec 32) : Fin 1 → Nat :=
  let c2_i32_252_r0 : BitVec 32 := 2#32
  let v389_r0 : BitVec 32 := Scalar.remui arg17_r0 c2_i32_252_r0
  ![v389_r0.toNat]
def k0_off57 (arg17_r0 : BitVec 32) : Fin 4 → Nat :=
  let c2_i32_252_r0 : BitVec 32 := 2#32
  let v389_r0 : BitVec 32 := Scalar.remui arg17_r0 c2_i32_252_r0
  let c0_i32_253_r0 : BitVec 32 := 0#32
  let c0_i32_254_r0 : BitVec 32 := 0#32
  let c0_i32_255_r0 : BitVec 32 := 0#32
  ![v389_r0.toNat, 0, 0, 0]

def k0_chk22 (k0_t1 : Fin k0_t1_loop.trips) (arg17_r0 : BitVec 32) (arg24_r0 : BitVec 32) (v172_r0 : BitVec 32) (v238_r0 : BitVec 32) : Prop :=
  (∀ (k0_h9 : k0_cond9 k0_t1 v172_r0 v238_r0 = 1#1), ∀ a, (k0_off55 arg24_r0) a + S1.size a ≤ S288.size a) ∧
  (∀ (k0_h9 : k0_cond9 k0_t1 v172_r0 v238_r0 = 1#1), ∀ a, (k0_off56 arg17_r0) a + S1.size a ≤ S2.size a) ∧
  (∀ (k0_h9 : k0_cond9 k0_t1 v172_r0 v238_r0 = 1#1), ∀ a, (k0_off57 arg17_r0) a + S1x1x1x2048.size a ≤ S2x1x1x2048.size a)
theorem k0_off55_inb : ∀ (k0_t1 : Fin k0_t1_loop.trips) (arg17_r0 : BitVec 32) (arg24_r0 : BitVec 32) (v172_r0 : BitVec 32) (v238_r0 : BitVec 32) (k0_hw22 : k0_chk22 k0_t1 arg17_r0 arg24_r0 v172_r0 v238_r0), ∀ (k0_h9 : k0_cond9 k0_t1 v172_r0 v238_r0 = 1#1), ∀ a, (k0_off55 arg24_r0) a + S1.size a ≤ S288.size a := fun k0_t1 arg17_r0 arg24_r0 v172_r0 v238_r0 k0_hw22 k0_h9 => k0_hw22.1 k0_h9
theorem k0_off56_inb : ∀ (k0_t1 : Fin k0_t1_loop.trips) (arg17_r0 : BitVec 32) (arg24_r0 : BitVec 32) (v172_r0 : BitVec 32) (v238_r0 : BitVec 32) (k0_hw22 : k0_chk22 k0_t1 arg17_r0 arg24_r0 v172_r0 v238_r0), ∀ (k0_h9 : k0_cond9 k0_t1 v172_r0 v238_r0 = 1#1), ∀ a, (k0_off56 arg17_r0) a + S1.size a ≤ S2.size a := fun k0_t1 arg17_r0 arg24_r0 v172_r0 v238_r0 k0_hw22 k0_h9 => k0_hw22.2.1 k0_h9
theorem k0_off57_inb : ∀ (k0_t1 : Fin k0_t1_loop.trips) (arg17_r0 : BitVec 32) (arg24_r0 : BitVec 32) (v172_r0 : BitVec 32) (v238_r0 : BitVec 32) (k0_hw22 : k0_chk22 k0_t1 arg17_r0 arg24_r0 v172_r0 v238_r0), ∀ (k0_h9 : k0_cond9 k0_t1 v172_r0 v238_r0 = 1#1), ∀ a, (k0_off57 arg17_r0) a + S1x1x1x2048.size a ≤ S2x1x1x2048.size a := fun k0_t1 arg17_r0 arg24_r0 v172_r0 v238_r0 k0_hw22 k0_h9 => k0_hw22.2.2 k0_h9

def k0_off58 (v387_r0 : BitVec 32) : Fin 3 → Nat :=
  let c1_i32_251_r0 : BitVec 32 := 1#32
  let v388_r0 : BitVec 32 := Scalar.muli c1_i32_251_r0 v387_r0
  let c0_i32_256_r0 : BitVec 32 := 0#32
  let c0_i32_257_r0 : BitVec 32 := 0#32
  ![v388_r0.toNat, 0, 0]

def k0_chk23 (k0_t1 : Fin k0_t1_loop.trips) (v172_r0 : BitVec 32) (v238_r0 : BitVec 32) (v387_r0 : BitVec 32) : Prop :=
  (∀ (k0_h9 : k0_cond9 k0_t1 v172_r0 v238_r0 = 1#1), ∀ a, (k0_off58 v387_r0) a + S1x1x2048.size a ≤ S32x1x2048.size a)
theorem k0_off58_inb : ∀ (k0_t1 : Fin k0_t1_loop.trips) (v172_r0 : BitVec 32) (v238_r0 : BitVec 32) (v387_r0 : BitVec 32) (k0_hw23 : k0_chk23 k0_t1 v172_r0 v238_r0 v387_r0), ∀ (k0_h9 : k0_cond9 k0_t1 v172_r0 v238_r0 = 1#1), ∀ a, (k0_off58 v387_r0) a + S1x1x2048.size a ≤ S32x1x2048.size a := fun k0_t1 v172_r0 v238_r0 v387_r0 k0_hw23 k0_h9 => k0_hw23 k0_h9

def k0_off59 (arg24_r0 : BitVec 32) : Fin 1 → Nat :=
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let v245_r0 : Index := Scalar.indexCast v125_r0
  ![v245_r0.toNat]
def k0_off60 (arg24_r0 : BitVec 32) : Fin 1 → Nat :=
  let c0_i32_125_r0 : BitVec 32 := 0#32
  let v120_r0 : BitVec 32 := Scalar.addi arg24_r0 c0_i32_125_r0
  let v386_r0 : Index := Scalar.indexCast v120_r0
  ![v386_r0.toNat]
def k0_cond10 (k0_t1 : Fin k0_t1_loop.trips) (v186_r0 : BitVec 32) (v246_r0 : BitVec 32) : BitVec 1 :=
  let v247_r0 : BitVec 1 := Scalar.cmpi .ne v186_r0 v246_r0
  let c0_i32_89_r0 : BitVec 32 := 0#32
  let c1_i32_91_r0 : BitVec 32 := 1#32
  let arg11_r0 : BitVec 32 := Scf.iv c0_i32_89_r0 c1_i32_91_r0 k0_t1
  let c0_i32_123_r0 : BitVec 32 := 0#32
  let v118_r0 : BitVec 1 := Scalar.cmpi .eq arg11_r0 c0_i32_123_r0
  let v248_r0 : BitVec 1 := Scalar.ori v247_r0 v118_r0
  let c0_i32_191_r0 : BitVec 32 := 0#32
  let v249_r0 : BitVec 1 := Scalar.cmpi .sge arg11_r0 c0_i32_191_r0
  let v250_r0 : BitVec 1 := Scalar.andi v248_r0 v249_r0
  let v251_r0 : BitVec 32 := Scalar.extui v250_r0
  let c0_i32_192_r0 : BitVec 32 := 0#32
  let v252_r0 : BitVec 1 := Scalar.cmpi .ne v251_r0 c0_i32_192_r0
  v252_r0

def k0_off61 (arg19_r0 : BitVec 32) : Fin 1 → Nat :=
  let c2_i32_252_r0 : BitVec 32 := 2#32
  let v389_r0 : BitVec 32 := Scalar.remui arg19_r0 c2_i32_252_r0
  ![v389_r0.toNat]
def k0_off62 (arg19_r0 : BitVec 32) : Fin 4 → Nat :=
  let c2_i32_252_r0 : BitVec 32 := 2#32
  let v389_r0 : BitVec 32 := Scalar.remui arg19_r0 c2_i32_252_r0
  let c0_i32_253_r0 : BitVec 32 := 0#32
  let c0_i32_254_r0 : BitVec 32 := 0#32
  let c0_i32_255_r0 : BitVec 32 := 0#32
  ![v389_r0.toNat, 0, 0, 0]

def k0_chk24 (k0_t1 : Fin k0_t1_loop.trips) (arg19_r0 : BitVec 32) (arg24_r0 : BitVec 32) (v186_r0 : BitVec 32) (v246_r0 : BitVec 32) : Prop :=
  (∀ (k0_h10 : k0_cond10 k0_t1 v186_r0 v246_r0 = 1#1), ∀ a, (k0_off60 arg24_r0) a + S1.size a ≤ S288.size a) ∧
  (∀ (k0_h10 : k0_cond10 k0_t1 v186_r0 v246_r0 = 1#1), ∀ a, (k0_off61 arg19_r0) a + S1.size a ≤ S2.size a) ∧
  (∀ (k0_h10 : k0_cond10 k0_t1 v186_r0 v246_r0 = 1#1), ∀ a, (k0_off62 arg19_r0) a + S1x1x1024x1024.size a ≤ S2x1x1024x1024.size a)
theorem k0_off60_inb : ∀ (k0_t1 : Fin k0_t1_loop.trips) (arg19_r0 : BitVec 32) (arg24_r0 : BitVec 32) (v186_r0 : BitVec 32) (v246_r0 : BitVec 32) (k0_hw24 : k0_chk24 k0_t1 arg19_r0 arg24_r0 v186_r0 v246_r0), ∀ (k0_h10 : k0_cond10 k0_t1 v186_r0 v246_r0 = 1#1), ∀ a, (k0_off60 arg24_r0) a + S1.size a ≤ S288.size a := fun k0_t1 arg19_r0 arg24_r0 v186_r0 v246_r0 k0_hw24 k0_h10 => k0_hw24.1 k0_h10
theorem k0_off61_inb : ∀ (k0_t1 : Fin k0_t1_loop.trips) (arg19_r0 : BitVec 32) (arg24_r0 : BitVec 32) (v186_r0 : BitVec 32) (v246_r0 : BitVec 32) (k0_hw24 : k0_chk24 k0_t1 arg19_r0 arg24_r0 v186_r0 v246_r0), ∀ (k0_h10 : k0_cond10 k0_t1 v186_r0 v246_r0 = 1#1), ∀ a, (k0_off61 arg19_r0) a + S1.size a ≤ S2.size a := fun k0_t1 arg19_r0 arg24_r0 v186_r0 v246_r0 k0_hw24 k0_h10 => k0_hw24.2.1 k0_h10
theorem k0_off62_inb : ∀ (k0_t1 : Fin k0_t1_loop.trips) (arg19_r0 : BitVec 32) (arg24_r0 : BitVec 32) (v186_r0 : BitVec 32) (v246_r0 : BitVec 32) (k0_hw24 : k0_chk24 k0_t1 arg19_r0 arg24_r0 v186_r0 v246_r0), ∀ (k0_h10 : k0_cond10 k0_t1 v186_r0 v246_r0 = 1#1), ∀ a, (k0_off62 arg19_r0) a + S1x1x1024x1024.size a ≤ S2x1x1024x1024.size a := fun k0_t1 arg19_r0 arg24_r0 v186_r0 v246_r0 k0_hw24 k0_h10 => k0_hw24.2.2 k0_h10

def k0_off63 (v387_r0 : BitVec 32) : Fin 3 → Nat :=
  let c1_i32_251_r0 : BitVec 32 := 1#32
  let v388_r0 : BitVec 32 := Scalar.muli c1_i32_251_r0 v387_r0
  let c0_i32_256_r0 : BitVec 32 := 0#32
  let c0_i32_257_r0 : BitVec 32 := 0#32
  ![v388_r0.toNat, 0, 0]

def k0_chk25 (k0_t1 : Fin k0_t1_loop.trips) (v186_r0 : BitVec 32) (v246_r0 : BitVec 32) (v387_r0 : BitVec 32) : Prop :=
  (∀ (k0_h10 : k0_cond10 k0_t1 v186_r0 v246_r0 = 1#1), ∀ a, (k0_off63 v387_r0) a + S1x1024x1024.size a ≤ S32x1024x1024.size a)
theorem k0_off63_inb : ∀ (k0_t1 : Fin k0_t1_loop.trips) (v186_r0 : BitVec 32) (v246_r0 : BitVec 32) (v387_r0 : BitVec 32) (k0_hw25 : k0_chk25 k0_t1 v186_r0 v246_r0 v387_r0), ∀ (k0_h10 : k0_cond10 k0_t1 v186_r0 v246_r0 = 1#1), ∀ a, (k0_off63 v387_r0) a + S1x1024x1024.size a ≤ S32x1024x1024.size a := fun k0_t1 v186_r0 v246_r0 v387_r0 k0_hw25 k0_h10 => k0_hw25 k0_h10

def k0_off64 (arg24_r0 : BitVec 32) : Fin 1 → Nat :=
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let v253_r0 : Index := Scalar.indexCast v125_r0
  ![v253_r0.toNat]
def k0_off65 (arg24_r0 : BitVec 32) : Fin 1 → Nat :=
  let c0_i32_125_r0 : BitVec 32 := 0#32
  let v120_r0 : BitVec 32 := Scalar.addi arg24_r0 c0_i32_125_r0
  let v386_r0 : Index := Scalar.indexCast v120_r0
  ![v386_r0.toNat]
def k0_cond11 (k0_t1 : Fin k0_t1_loop.trips) (v200_r0 : BitVec 32) (v254_r0 : BitVec 32) : BitVec 1 :=
  let v255_r0 : BitVec 1 := Scalar.cmpi .ne v200_r0 v254_r0
  let c0_i32_89_r0 : BitVec 32 := 0#32
  let c1_i32_91_r0 : BitVec 32 := 1#32
  let arg11_r0 : BitVec 32 := Scf.iv c0_i32_89_r0 c1_i32_91_r0 k0_t1
  let c0_i32_123_r0 : BitVec 32 := 0#32
  let v118_r0 : BitVec 1 := Scalar.cmpi .eq arg11_r0 c0_i32_123_r0
  let v256_r0 : BitVec 1 := Scalar.ori v255_r0 v118_r0
  let c0_i32_193_r0 : BitVec 32 := 0#32
  let v257_r0 : BitVec 1 := Scalar.cmpi .sge arg11_r0 c0_i32_193_r0
  let v258_r0 : BitVec 1 := Scalar.andi v256_r0 v257_r0
  let v259_r0 : BitVec 32 := Scalar.extui v258_r0
  let c0_i32_194_r0 : BitVec 32 := 0#32
  let v260_r0 : BitVec 1 := Scalar.cmpi .ne v259_r0 c0_i32_194_r0
  v260_r0

def k0_off66 (arg21_r0 : BitVec 32) : Fin 1 → Nat :=
  let c2_i32_252_r0 : BitVec 32 := 2#32
  let v389_r0 : BitVec 32 := Scalar.remui arg21_r0 c2_i32_252_r0
  ![v389_r0.toNat]
def k0_off67 (arg21_r0 : BitVec 32) : Fin 4 → Nat :=
  let c2_i32_252_r0 : BitVec 32 := 2#32
  let v389_r0 : BitVec 32 := Scalar.remui arg21_r0 c2_i32_252_r0
  let c0_i32_253_r0 : BitVec 32 := 0#32
  let c0_i32_254_r0 : BitVec 32 := 0#32
  let c0_i32_255_r0 : BitVec 32 := 0#32
  ![v389_r0.toNat, 0, 0, 0]

def k0_chk26 (k0_t1 : Fin k0_t1_loop.trips) (arg21_r0 : BitVec 32) (arg24_r0 : BitVec 32) (v200_r0 : BitVec 32) (v254_r0 : BitVec 32) : Prop :=
  (∀ (k0_h11 : k0_cond11 k0_t1 v200_r0 v254_r0 = 1#1), ∀ a, (k0_off65 arg24_r0) a + S1.size a ≤ S288.size a) ∧
  (∀ (k0_h11 : k0_cond11 k0_t1 v200_r0 v254_r0 = 1#1), ∀ a, (k0_off66 arg21_r0) a + S1.size a ≤ S2.size a) ∧
  (∀ (k0_h11 : k0_cond11 k0_t1 v200_r0 v254_r0 = 1#1), ∀ a, (k0_off67 arg21_r0) a + S1x1x1x1024.size a ≤ S2x1x1x1024.size a)
theorem k0_off65_inb : ∀ (k0_t1 : Fin k0_t1_loop.trips) (arg21_r0 : BitVec 32) (arg24_r0 : BitVec 32) (v200_r0 : BitVec 32) (v254_r0 : BitVec 32) (k0_hw26 : k0_chk26 k0_t1 arg21_r0 arg24_r0 v200_r0 v254_r0), ∀ (k0_h11 : k0_cond11 k0_t1 v200_r0 v254_r0 = 1#1), ∀ a, (k0_off65 arg24_r0) a + S1.size a ≤ S288.size a := fun k0_t1 arg21_r0 arg24_r0 v200_r0 v254_r0 k0_hw26 k0_h11 => k0_hw26.1 k0_h11
theorem k0_off66_inb : ∀ (k0_t1 : Fin k0_t1_loop.trips) (arg21_r0 : BitVec 32) (arg24_r0 : BitVec 32) (v200_r0 : BitVec 32) (v254_r0 : BitVec 32) (k0_hw26 : k0_chk26 k0_t1 arg21_r0 arg24_r0 v200_r0 v254_r0), ∀ (k0_h11 : k0_cond11 k0_t1 v200_r0 v254_r0 = 1#1), ∀ a, (k0_off66 arg21_r0) a + S1.size a ≤ S2.size a := fun k0_t1 arg21_r0 arg24_r0 v200_r0 v254_r0 k0_hw26 k0_h11 => k0_hw26.2.1 k0_h11
theorem k0_off67_inb : ∀ (k0_t1 : Fin k0_t1_loop.trips) (arg21_r0 : BitVec 32) (arg24_r0 : BitVec 32) (v200_r0 : BitVec 32) (v254_r0 : BitVec 32) (k0_hw26 : k0_chk26 k0_t1 arg21_r0 arg24_r0 v200_r0 v254_r0), ∀ (k0_h11 : k0_cond11 k0_t1 v200_r0 v254_r0 = 1#1), ∀ a, (k0_off67 arg21_r0) a + S1x1x1x1024.size a ≤ S2x1x1x1024.size a := fun k0_t1 arg21_r0 arg24_r0 v200_r0 v254_r0 k0_hw26 k0_h11 => k0_hw26.2.2 k0_h11

def k0_off68 (v387_r0 : BitVec 32) : Fin 3 → Nat :=
  let c1_i32_251_r0 : BitVec 32 := 1#32
  let v388_r0 : BitVec 32 := Scalar.muli c1_i32_251_r0 v387_r0
  let c0_i32_256_r0 : BitVec 32 := 0#32
  let c0_i32_257_r0 : BitVec 32 := 0#32
  ![v388_r0.toNat, 0, 0]

def k0_chk27 (k0_t1 : Fin k0_t1_loop.trips) (v200_r0 : BitVec 32) (v254_r0 : BitVec 32) (v387_r0 : BitVec 32) : Prop :=
  (∀ (k0_h11 : k0_cond11 k0_t1 v200_r0 v254_r0 = 1#1), ∀ a, (k0_off68 v387_r0) a + S1x1x1024.size a ≤ S32x1x1024.size a)
theorem k0_off68_inb : ∀ (k0_t1 : Fin k0_t1_loop.trips) (v200_r0 : BitVec 32) (v254_r0 : BitVec 32) (v387_r0 : BitVec 32) (k0_hw27 : k0_chk27 k0_t1 v200_r0 v254_r0 v387_r0), ∀ (k0_h11 : k0_cond11 k0_t1 v200_r0 v254_r0 = 1#1), ∀ a, (k0_off68 v387_r0) a + S1x1x1024.size a ≤ S32x1x1024.size a := fun k0_t1 v200_r0 v254_r0 v387_r0 k0_hw27 k0_h11 => k0_hw27 k0_h11

def k0_off69 (arg24_r0 : BitVec 32) : Fin 1 → Nat :=
  let c0_i32_125_r0 : BitVec 32 := 0#32
  let v120_r0 : BitVec 32 := Scalar.addi arg24_r0 c0_i32_125_r0
  let v274_r0 : Index := Scalar.indexCast v120_r0
  ![v274_r0.toNat]
def k0_off70 (arg24_r0 : BitVec 32) : Fin 1 → Nat :=
  let c0_i32_125_r0 : BitVec 32 := 0#32
  let v120_r0 : BitVec 32 := Scalar.addi arg24_r0 c0_i32_125_r0
  let c1_i32_204_r0 : BitVec 32 := 1#32
  let v276_r0 : BitVec 32 := Scalar.subi v120_r0 c1_i32_204_r0
  let c0_i32_205_r0 : BitVec 32 := 0#32
  let v277_r0 : BitVec 32 := Scalar.maxsi v276_r0 c0_i32_205_r0
  let v278_r0 : Index := Scalar.indexCast v277_r0
  ![v278_r0.toNat]
def k0_off71 (arg15_r0 : BitVec 32) : Fin 4 → Nat :=
  let c2_i32_198_r0 : BitVec 32 := 2#32
  let v268_r0 : BitVec 32 := Scalar.remui arg15_r0 c2_i32_198_r0
  let c0_i32_251_r0 : BitVec 32 := 0#32
  let c0_i32_252_r0 : BitVec 32 := 0#32
  let c0_i32_253_r0 : BitVec 32 := 0#32
  ![v268_r0.toNat, 0, 0, 0]
def k0_cond13 (arg24_r0 : BitVec 32) (v275_r0 : BitVec 32) (v279_r0 : BitVec 32) : BitVec 1 :=
  let c0_i32_125_r0 : BitVec 32 := 0#32
  let v120_r0 : BitVec 32 := Scalar.addi arg24_r0 c0_i32_125_r0
  let c0_i32_203_r0 : BitVec 32 := 0#32
  let v273_r0 : BitVec 1 := Scalar.cmpi .eq v120_r0 c0_i32_203_r0
  let v280_r0 : BitVec 1 := Scalar.cmpi .ne v275_r0 v279_r0
  let v281_r0 : BitVec 1 := Scalar.ori v273_r0 v280_r0
  let v282_r0 : BitVec 32 := Scalar.extui v281_r0
  let c0_i32_206_r0 : BitVec 32 := 0#32
  let v283_r0 : BitVec 1 := Scalar.cmpi .ne v282_r0 c0_i32_206_r0
  v283_r0

def k0_off72 (arg19_r0 : BitVec 32) : Fin 4 → Nat :=
  let c2_i32_200_r0 : BitVec 32 := 2#32
  let v270_r0 : BitVec 32 := Scalar.remui arg19_r0 c2_i32_200_r0
  let c0_i32_259_r0 : BitVec 32 := 0#32
  let c0_i32_260_r0 : BitVec 32 := 0#32
  let c0_i32_261_r0 : BitVec 32 := 0#32
  ![v270_r0.toNat, 0, 0, 0]

def k0_chk28 (arg15_r0 : BitVec 32) (arg19_r0 : BitVec 32) (arg24_r0 : BitVec 32) (v275_r0 : BitVec 32) (v279_r0 : BitVec 32) : Prop :=
  (∀ (k0_h13 : k0_cond13 arg24_r0 v275_r0 v279_r0 = 1#1), ∀ a, (k0_off71 arg15_r0) a + S1x1x1024x2048.size a ≤ S2x1x1024x2048.size a) ∧
  (∀ (k0_h13 : k0_cond13 arg24_r0 v275_r0 v279_r0 = 1#1), ∀ a, (k0_off72 arg19_r0) a + S1x1x1024x1024.size a ≤ S2x1x1024x1024.size a)
theorem k0_off71_inb : ∀ (arg15_r0 : BitVec 32) (arg19_r0 : BitVec 32) (arg24_r0 : BitVec 32) (v275_r0 : BitVec 32) (v279_r0 : BitVec 32) (k0_hw28 : k0_chk28 arg15_r0 arg19_r0 arg24_r0 v275_r0 v279_r0), ∀ (k0_h13 : k0_cond13 arg24_r0 v275_r0 v279_r0 = 1#1), ∀ a, (k0_off71 arg15_r0) a + S1x1x1024x2048.size a ≤ S2x1x1024x2048.size a := fun arg15_r0 arg19_r0 arg24_r0 v275_r0 v279_r0 k0_hw28 k0_h13 => k0_hw28.1 k0_h13
theorem k0_off72_inb : ∀ (arg15_r0 : BitVec 32) (arg19_r0 : BitVec 32) (arg24_r0 : BitVec 32) (v275_r0 : BitVec 32) (v279_r0 : BitVec 32) (k0_hw28 : k0_chk28 arg15_r0 arg19_r0 arg24_r0 v275_r0 v279_r0), ∀ (k0_h13 : k0_cond13 arg24_r0 v275_r0 v279_r0 = 1#1), ∀ a, (k0_off72 arg19_r0) a + S1x1x1024x1024.size a ≤ S2x1x1024x1024.size a := fun arg15_r0 arg19_r0 arg24_r0 v275_r0 v279_r0 k0_hw28 k0_h13 => k0_hw28.2 k0_h13

def k0_off73 (arg13_r0 : BitVec 32) : Fin 3 → Nat :=
  let c3_i32_197_r0 : BitVec 32 := 3#32
  let v267_r0 : BitVec 32 := Scalar.remui arg13_r0 c3_i32_197_r0
  let c0_i32_251_r0 : BitVec 32 := 0#32
  let c0_i32_252_r0 : BitVec 32 := 0#32
  ![v267_r0.toNat, 0, 0]
def k0_cond14 (arg24_r0 : BitVec 32) (v284_r0 : BitVec 32) : BitVec 1 :=
  let c0_i32_125_r0 : BitVec 32 := 0#32
  let v120_r0 : BitVec 32 := Scalar.addi arg24_r0 c0_i32_125_r0
  let v285_r0 : BitVec 1 := Scalar.cmpi .slt v120_r0 v284_r0
  let v286_r0 : BitVec 32 := Scalar.extui v285_r0
  let c0_i32_208_r0 : BitVec 32 := 0#32
  let v287_r0 : BitVec 1 := Scalar.cmpi .ne v286_r0 c0_i32_208_r0
  v287_r0

def k0_off74 (arg24_r0 : BitVec 32) : Fin 1 → Nat :=
  let c0_i32_125_r0 : BitVec 32 := 0#32
  let v120_r0 : BitVec 32 := Scalar.addi arg24_r0 c0_i32_125_r0
  let v400_r0 : Index := Scalar.indexCast v120_r0
  ![v400_r0.toNat]
def k0_off75 (arg17_r0 : BitVec 32) : Fin 4 → Nat :=
  let c2_i32_199_r0 : BitVec 32 := 2#32
  let v269_r0 : BitVec 32 := Scalar.remui arg17_r0 c2_i32_199_r0
  let c0_i32_265_r0 : BitVec 32 := 0#32
  let c0_i32_266_r0 : BitVec 32 := 0#32
  let c0_i32_267_r0 : BitVec 32 := 0#32
  ![v269_r0.toNat, 0, 0, 0]
def k0_off76 (arg21_r0 : BitVec 32) : Fin 4 → Nat :=
  let c2_i32_201_r0 : BitVec 32 := 2#32
  let v271_r0 : BitVec 32 := Scalar.remui arg21_r0 c2_i32_201_r0
  let c0_i32_278_r0 : BitVec 32 := 0#32
  let c0_i32_279_r0 : BitVec 32 := 0#32
  let c0_i32_280_r0 : BitVec 32 := 0#32
  ![v271_r0.toNat, 0, 0, 0]
def k0_off77 (arg22_r0 : BitVec 32) : Fin 3 → Nat :=
  let c2_i32_202_r0 : BitVec 32 := 2#32
  let v272_r0 : BitVec 32 := Scalar.remui arg22_r0 c2_i32_202_r0
  let c0_i32_289_r0 : BitVec 32 := 0#32
  let c0_i32_290_r0 : BitVec 32 := 0#32
  ![v272_r0.toNat, 0, 0]

def k0_chk29 (arg13_r0 : BitVec 32) (arg17_r0 : BitVec 32) (arg21_r0 : BitVec 32) (arg22_r0 : BitVec 32) (arg24_r0 : BitVec 32) (v284_r0 : BitVec 32) : Prop :=
  (∀ (k0_h14 : k0_cond14 arg24_r0 v284_r0 = 1#1), ∀ a, (k0_off73 arg13_r0) a + S1x2048x128.size a ≤ S3x2048x128.size a) ∧
  (∀ (k0_h14 : k0_cond14 arg24_r0 v284_r0 = 1#1), ∀ a, (k0_off74 arg24_r0) a + S1.size a ≤ S288.size a) ∧
  (∀ (k0_h14 : k0_cond14 arg24_r0 v284_r0 = 1#1), ∀ a, (k0_off75 arg17_r0) a + S1x1x1x2048.size a ≤ S2x1x1x2048.size a) ∧
  (∀ (k0_h14 : k0_cond14 arg24_r0 v284_r0 = 1#1), ∀ a, (k0_off76 arg21_r0) a + S1x1x1x1024.size a ≤ S2x1x1x1024.size a) ∧
  (∀ (k0_h14 : k0_cond14 arg24_r0 v284_r0 = 1#1), ∀ a, (k0_off77 arg22_r0) a + S1x2048x128.size a ≤ S2x2048x128.size a)
theorem k0_off73_inb : ∀ (arg13_r0 : BitVec 32) (arg17_r0 : BitVec 32) (arg21_r0 : BitVec 32) (arg22_r0 : BitVec 32) (arg24_r0 : BitVec 32) (v284_r0 : BitVec 32) (k0_hw29 : k0_chk29 arg13_r0 arg17_r0 arg21_r0 arg22_r0 arg24_r0 v284_r0), ∀ (k0_h14 : k0_cond14 arg24_r0 v284_r0 = 1#1), ∀ a, (k0_off73 arg13_r0) a + S1x2048x128.size a ≤ S3x2048x128.size a := fun arg13_r0 arg17_r0 arg21_r0 arg22_r0 arg24_r0 v284_r0 k0_hw29 k0_h14 => k0_hw29.1 k0_h14
theorem k0_off74_inb : ∀ (arg13_r0 : BitVec 32) (arg17_r0 : BitVec 32) (arg21_r0 : BitVec 32) (arg22_r0 : BitVec 32) (arg24_r0 : BitVec 32) (v284_r0 : BitVec 32) (k0_hw29 : k0_chk29 arg13_r0 arg17_r0 arg21_r0 arg22_r0 arg24_r0 v284_r0), ∀ (k0_h14 : k0_cond14 arg24_r0 v284_r0 = 1#1), ∀ a, (k0_off74 arg24_r0) a + S1.size a ≤ S288.size a := fun arg13_r0 arg17_r0 arg21_r0 arg22_r0 arg24_r0 v284_r0 k0_hw29 k0_h14 => k0_hw29.2.1 k0_h14
theorem k0_off75_inb : ∀ (arg13_r0 : BitVec 32) (arg17_r0 : BitVec 32) (arg21_r0 : BitVec 32) (arg22_r0 : BitVec 32) (arg24_r0 : BitVec 32) (v284_r0 : BitVec 32) (k0_hw29 : k0_chk29 arg13_r0 arg17_r0 arg21_r0 arg22_r0 arg24_r0 v284_r0), ∀ (k0_h14 : k0_cond14 arg24_r0 v284_r0 = 1#1), ∀ a, (k0_off75 arg17_r0) a + S1x1x1x2048.size a ≤ S2x1x1x2048.size a := fun arg13_r0 arg17_r0 arg21_r0 arg22_r0 arg24_r0 v284_r0 k0_hw29 k0_h14 => k0_hw29.2.2.1 k0_h14
theorem k0_off76_inb : ∀ (arg13_r0 : BitVec 32) (arg17_r0 : BitVec 32) (arg21_r0 : BitVec 32) (arg22_r0 : BitVec 32) (arg24_r0 : BitVec 32) (v284_r0 : BitVec 32) (k0_hw29 : k0_chk29 arg13_r0 arg17_r0 arg21_r0 arg22_r0 arg24_r0 v284_r0), ∀ (k0_h14 : k0_cond14 arg24_r0 v284_r0 = 1#1), ∀ a, (k0_off76 arg21_r0) a + S1x1x1x1024.size a ≤ S2x1x1x1024.size a := fun arg13_r0 arg17_r0 arg21_r0 arg22_r0 arg24_r0 v284_r0 k0_hw29 k0_h14 => k0_hw29.2.2.2.1 k0_h14
theorem k0_off77_inb : ∀ (arg13_r0 : BitVec 32) (arg17_r0 : BitVec 32) (arg21_r0 : BitVec 32) (arg22_r0 : BitVec 32) (arg24_r0 : BitVec 32) (v284_r0 : BitVec 32) (k0_hw29 : k0_chk29 arg13_r0 arg17_r0 arg21_r0 arg22_r0 arg24_r0 v284_r0), ∀ (k0_h14 : k0_cond14 arg24_r0 v284_r0 = 1#1), ∀ a, (k0_off77 arg22_r0) a + S1x2048x128.size a ≤ S2x2048x128.size a := fun arg13_r0 arg17_r0 arg21_r0 arg22_r0 arg24_r0 v284_r0 k0_hw29 k0_h14 => k0_hw29.2.2.2.2 k0_h14

def k0_off78 (arg22_r0 : BitVec 32) : Fin 3 → Nat :=
  let c2_i32_202_r0 : BitVec 32 := 2#32
  let v272_r0 : BitVec 32 := Scalar.remui arg22_r0 c2_i32_202_r0
  let v387_r0 : Index := Scalar.indexCast v272_r0
  let c0_252_r0 : Index := 0#32
  let c0_253_r0 : Index := 0#32
  ![v387_r0.toNat, 0, 0]
def k0_cond15 (arg24_r0 : BitVec 32) (v288_r0 : BitVec 32) : BitVec 1 :=
  let c0_i32_125_r0 : BitVec 32 := 0#32
  let v120_r0 : BitVec 32 := Scalar.addi arg24_r0 c0_i32_125_r0
  let v289_r0 : BitVec 1 := Scalar.cmpi .sge v120_r0 v288_r0
  let v290_r0 : BitVec 32 := Scalar.extui v289_r0
  let c0_i32_210_r0 : BitVec 32 := 0#32
  let v291_r0 : BitVec 1 := Scalar.cmpi .ne v290_r0 c0_i32_210_r0
  v291_r0

def k0_chk30 (arg22_r0 : BitVec 32) (arg24_r0 : BitVec 32) (v288_r0 : BitVec 32) : Prop :=
  (∀ (k0_h15 : k0_cond15 arg24_r0 v288_r0 = 1#1), ∀ a, (k0_off78 arg22_r0) a + S1x2048x128.size a ≤ S2x2048x128.size a)
theorem k0_off78_inb : ∀ (arg22_r0 : BitVec 32) (arg24_r0 : BitVec 32) (v288_r0 : BitVec 32) (k0_hw30 : k0_chk30 arg22_r0 arg24_r0 v288_r0), ∀ (k0_h15 : k0_cond15 arg24_r0 v288_r0 = 1#1), ∀ a, (k0_off78 arg22_r0) a + S1x2048x128.size a ≤ S2x2048x128.size a := fun arg22_r0 arg24_r0 v288_r0 k0_hw30 k0_h15 => k0_hw30 k0_h15

def k0_off79 (arg22_r0 : BitVec 32) : Fin 1 → Nat :=
  let c2_i32_251_r0 : BitVec 32 := 2#32
  let v386_r0 : BitVec 32 := Scalar.remui arg22_r0 c2_i32_251_r0
  ![v386_r0.toNat]
def k0_cond21 (k0_t1 : Fin k0_t1_loop.trips) (arg24_r0 : BitVec 32) : BitVec 1 :=
  let c0_i32_125_r0 : BitVec 32 := 0#32
  let v120_r0 : BitVec 32 := Scalar.addi arg24_r0 c0_i32_125_r0
  let true_132_r0 : BitVec 1 := 1#1
  let c1_i32_131_r0 : BitVec 32 := 1#32
  let v126_r0 : BitVec 32 := Scalar.addi arg24_r0 c1_i32_131_r0
  let v127_r0 : BitVec 32 := Scalar.select true_132_r0 v126_r0 arg24_r0
  let c288_i32_133_r0 : BitVec 32 := 288#32
  let v128_r0 : BitVec 1 := Scalar.cmpi .eq v127_r0 c288_i32_133_r0
  let c0_i32_134_r0 : BitVec 32 := 0#32
  let v129_r0 : BitVec 32 := Scalar.select v128_r0 c0_i32_134_r0 v127_r0
  let c0_i32_135_r0 : BitVec 32 := 0#32
  let v130_r0 : BitVec 32 := Scalar.addi v129_r0 c0_i32_135_r0
  let v317_r0 : BitVec 1 := Scalar.cmpi .ne v120_r0 v130_r0
  let c0_i32_89_r0 : BitVec 32 := 0#32
  let c1_i32_91_r0 : BitVec 32 := 1#32
  let arg11_r0 : BitVec 32 := Scf.iv c0_i32_89_r0 c1_i32_91_r0 k0_t1
  let c287_i32_124_r0 : BitVec 32 := 287#32
  let v119_r0 : BitVec 1 := Scalar.cmpi .eq arg11_r0 c287_i32_124_r0
  let v318_r0 : BitVec 1 := Scalar.ori v317_r0 v119_r0
  let v319_r0 : BitVec 32 := Scalar.extui v318_r0
  let c0_i32_220_r0 : BitVec 32 := 0#32
  let v320_r0 : BitVec 1 := Scalar.cmpi .ne v319_r0 c0_i32_220_r0
  v320_r0

def k0_off80 (arg24_r0 : BitVec 32) : Fin 2 → Nat :=
  let c2048_i32_252_r0 : BitVec 32 := 2048#32
  let c0_i32_125_r0 : BitVec 32 := 0#32
  let v120_r0 : BitVec 32 := Scalar.addi arg24_r0 c0_i32_125_r0
  let v387_r0 : BitVec 32 := Scalar.muli c2048_i32_252_r0 v120_r0
  let c0_i32_253_r0 : BitVec 32 := 0#32
  ![v387_r0.toNat, 0]
def k0_off81 (arg22_r0 : BitVec 32) : Fin 3 → Nat :=
  let c2_i32_251_r0 : BitVec 32 := 2#32
  let v386_r0 : BitVec 32 := Scalar.remui arg22_r0 c2_i32_251_r0
  let c0_i32_254_r0 : BitVec 32 := 0#32
  let c0_i32_255_r0 : BitVec 32 := 0#32
  ![v386_r0.toNat, 0, 0]
def k0_off82 (arg23_r0 : BitVec 32) : Fin 1 → Nat :=
  let c2_i32_251_r0 : BitVec 32 := 2#32
  let v386_r0 : BitVec 32 := Scalar.remui arg23_r0 c2_i32_251_r0
  ![v386_r0.toNat]
def k0_cond27 (k0_t1 : Fin k0_t1_loop.trips) (arg24_r0 : BitVec 32) : BitVec 1 :=
  let c0_i32_125_r0 : BitVec 32 := 0#32
  let v120_r0 : BitVec 32 := Scalar.addi arg24_r0 c0_i32_125_r0
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let v354_r0 : BitVec 1 := Scalar.cmpi .ne v120_r0 v125_r0
  let c0_i32_89_r0 : BitVec 32 := 0#32
  let c1_i32_91_r0 : BitVec 32 := 1#32
  let arg11_r0 : BitVec 32 := Scf.iv c0_i32_89_r0 c1_i32_91_r0 k0_t1
  let c0_i32_123_r0 : BitVec 32 := 0#32
  let v118_r0 : BitVec 1 := Scalar.cmpi .eq arg11_r0 c0_i32_123_r0
  let true_238_r0 : BitVec 1 := 1#1
  let v355_r0 : BitVec 1 := Scalar.xori v118_r0 true_238_r0
  let v356_r0 : BitVec 1 := Scalar.andi v354_r0 v355_r0
  let v357_r0 : BitVec 32 := Scalar.extui v356_r0
  let c0_i32_239_r0 : BitVec 32 := 0#32
  let v358_r0 : BitVec 1 := Scalar.cmpi .ne v357_r0 c0_i32_239_r0
  v358_r0

def k0_off83 (arg24_r0 : BitVec 32) : Fin 2 → Nat :=
  let c2048_i32_252_r0 : BitVec 32 := 2048#32
  let true_127_r0 : BitVec 1 := 1#1
  let c1_i32_126_r0 : BitVec 32 := 1#32
  let v121_r0 : BitVec 32 := Scalar.subi arg24_r0 c1_i32_126_r0
  let v122_r0 : BitVec 32 := Scalar.select true_127_r0 v121_r0 arg24_r0
  let c_m1_i32_128_r0 : BitVec 32 := 4294967295#32
  let v123_r0 : BitVec 1 := Scalar.cmpi .eq v122_r0 c_m1_i32_128_r0
  let c287_i32_129_r0 : BitVec 32 := 287#32
  let v124_r0 : BitVec 32 := Scalar.select v123_r0 c287_i32_129_r0 v122_r0
  let c0_i32_130_r0 : BitVec 32 := 0#32
  let v125_r0 : BitVec 32 := Scalar.addi v124_r0 c0_i32_130_r0
  let v387_r0 : BitVec 32 := Scalar.muli c2048_i32_252_r0 v125_r0
  let c0_i32_253_r0 : BitVec 32 := 0#32
  ![v387_r0.toNat, 0]
def k0_off84 (arg23_r0 : BitVec 32) : Fin 3 → Nat :=
  let c2_i32_251_r0 : BitVec 32 := 2#32
  let v386_r0 : BitVec 32 := Scalar.remui arg23_r0 c2_i32_251_r0
  let c0_i32_254_r0 : BitVec 32 := 0#32
  let c0_i32_255_r0 : BitVec 32 := 0#32
  ![v386_r0.toNat, 0, 0]

def k0_chk9 (k0_t1 : Fin k0_t1_loop.trips) (arg22_r0 : BitVec 32) (arg23_r0 : BitVec 32) (arg24_r0 : BitVec 32) : Prop :=
  (∀ a, (k0_off22 arg24_r0) a + S1.size a ≤ S288.size a) ∧
  (∀ a, (k0_off23 arg24_r0) a + S1.size a ≤ S288.size a) ∧
  (∀ a, (k0_off28 arg24_r0) a + S1.size a ≤ S288.size a) ∧
  (∀ a, (k0_off29 arg24_r0) a + S1.size a ≤ S288.size a) ∧
  (∀ a, (k0_off34 arg24_r0) a + S1.size a ≤ S288.size a) ∧
  (∀ a, (k0_off35 arg24_r0) a + S1.size a ≤ S288.size a) ∧
  (∀ a, (k0_off40 arg24_r0) a + S1.size a ≤ S288.size a) ∧
  (∀ a, (k0_off41 arg24_r0) a + S1.size a ≤ S288.size a) ∧
  (∀ a, (k0_off49 arg24_r0) a + S1.size a ≤ S288.size a) ∧
  (∀ a, (k0_off54 arg24_r0) a + S1.size a ≤ S288.size a) ∧
  (∀ a, (k0_off59 arg24_r0) a + S1.size a ≤ S288.size a) ∧
  (∀ a, (k0_off64 arg24_r0) a + S1.size a ≤ S288.size a) ∧
  (∀ a, (k0_off69 arg24_r0) a + S1.size a ≤ S288.size a) ∧
  (∀ a, (k0_off70 arg24_r0) a + S1.size a ≤ S288.size a) ∧
  (∀ (k0_h21 : k0_cond21 k0_t1 arg24_r0 = 1#1), ∀ a, (k0_off79 arg22_r0) a + S1.size a ≤ S2.size a) ∧
  (∀ (k0_h21 : k0_cond21 k0_t1 arg24_r0 = 1#1), ∀ a, (k0_off80 arg24_r0) a + S2048x128.size a ≤ S589824x128.size a) ∧
  (∀ (k0_h21 : k0_cond21 k0_t1 arg24_r0 = 1#1), ∀ a, (k0_off81 arg22_r0) a + S1x2048x128.size a ≤ S2x2048x128.size a) ∧
  (∀ (k0_h27 : k0_cond27 k0_t1 arg24_r0 = 1#1), ∀ a, (k0_off82 arg23_r0) a + S1.size a ≤ S2.size a) ∧
  (∀ (k0_h27 : k0_cond27 k0_t1 arg24_r0 = 1#1), ∀ a, (k0_off83 arg24_r0) a + S2048x128.size a ≤ S589824x128.size a) ∧
  (∀ (k0_h27 : k0_cond27 k0_t1 arg24_r0 = 1#1), ∀ a, (k0_off84 arg23_r0) a + S1x2048x128.size a ≤ S2x2048x128.size a)
theorem k0_off22_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off22 arg24_r0) a + S1.size a ≤ S288.size a := fun k0_t1 arg22_r0 arg23_r0 arg24_r0 k0_hw9 => k0_hw9.1
theorem k0_off23_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off23 arg24_r0) a + S1.size a ≤ S288.size a := fun k0_t1 arg22_r0 arg23_r0 arg24_r0 k0_hw9 => k0_hw9.2.1
theorem k0_off28_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off28 arg24_r0) a + S1.size a ≤ S288.size a := fun k0_t1 arg22_r0 arg23_r0 arg24_r0 k0_hw9 => k0_hw9.2.2.1
theorem k0_off29_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off29 arg24_r0) a + S1.size a ≤ S288.size a := fun k0_t1 arg22_r0 arg23_r0 arg24_r0 k0_hw9 => k0_hw9.2.2.2.1
theorem k0_off34_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off34 arg24_r0) a + S1.size a ≤ S288.size a := fun k0_t1 arg22_r0 arg23_r0 arg24_r0 k0_hw9 => k0_hw9.2.2.2.2.1
theorem k0_off35_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off35 arg24_r0) a + S1.size a ≤ S288.size a := fun k0_t1 arg22_r0 arg23_r0 arg24_r0 k0_hw9 => k0_hw9.2.2.2.2.2.1
theorem k0_off40_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off40 arg24_r0) a + S1.size a ≤ S288.size a := fun k0_t1 arg22_r0 arg23_r0 arg24_r0 k0_hw9 => k0_hw9.2.2.2.2.2.2.1
theorem k0_off41_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off41 arg24_r0) a + S1.size a ≤ S288.size a := fun k0_t1 arg22_r0 arg23_r0 arg24_r0 k0_hw9 => k0_hw9.2.2.2.2.2.2.2.1
theorem k0_off49_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off49 arg24_r0) a + S1.size a ≤ S288.size a := fun k0_t1 arg22_r0 arg23_r0 arg24_r0 k0_hw9 => k0_hw9.2.2.2.2.2.2.2.2.1
theorem k0_off54_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off54 arg24_r0) a + S1.size a ≤ S288.size a := fun k0_t1 arg22_r0 arg23_r0 arg24_r0 k0_hw9 => k0_hw9.2.2.2.2.2.2.2.2.2.1
theorem k0_off59_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off59 arg24_r0) a + S1.size a ≤ S288.size a := fun k0_t1 arg22_r0 arg23_r0 arg24_r0 k0_hw9 => k0_hw9.2.2.2.2.2.2.2.2.2.2.1
theorem k0_off64_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off64 arg24_r0) a + S1.size a ≤ S288.size a := fun k0_t1 arg22_r0 arg23_r0 arg24_r0 k0_hw9 => k0_hw9.2.2.2.2.2.2.2.2.2.2.2.1
theorem k0_off69_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off69 arg24_r0) a + S1.size a ≤ S288.size a := fun k0_t1 arg22_r0 arg23_r0 arg24_r0 k0_hw9 => k0_hw9.2.2.2.2.2.2.2.2.2.2.2.2.1
theorem k0_off70_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ a, (k0_off70 arg24_r0) a + S1.size a ≤ S288.size a := fun k0_t1 arg22_r0 arg23_r0 arg24_r0 k0_hw9 => k0_hw9.2.2.2.2.2.2.2.2.2.2.2.2.2.1
theorem k0_off79_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ (k0_h21 : k0_cond21 k0_t1 arg24_r0 = 1#1), ∀ a, (k0_off79 arg22_r0) a + S1.size a ≤ S2.size a := fun k0_t1 arg22_r0 arg23_r0 arg24_r0 k0_hw9 k0_h21 => k0_hw9.2.2.2.2.2.2.2.2.2.2.2.2.2.2.1 k0_h21
theorem k0_off80_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ (k0_h21 : k0_cond21 k0_t1 arg24_r0 = 1#1), ∀ a, (k0_off80 arg24_r0) a + S2048x128.size a ≤ S589824x128.size a := fun k0_t1 arg22_r0 arg23_r0 arg24_r0 k0_hw9 k0_h21 => k0_hw9.2.2.2.2.2.2.2.2.2.2.2.2.2.2.2.1 k0_h21
theorem k0_off81_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ (k0_h21 : k0_cond21 k0_t1 arg24_r0 = 1#1), ∀ a, (k0_off81 arg22_r0) a + S1x2048x128.size a ≤ S2x2048x128.size a := fun k0_t1 arg22_r0 arg23_r0 arg24_r0 k0_hw9 k0_h21 => k0_hw9.2.2.2.2.2.2.2.2.2.2.2.2.2.2.2.2.1 k0_h21
theorem k0_off82_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ (k0_h27 : k0_cond27 k0_t1 arg24_r0 = 1#1), ∀ a, (k0_off82 arg23_r0) a + S1.size a ≤ S2.size a := fun k0_t1 arg22_r0 arg23_r0 arg24_r0 k0_hw9 k0_h27 => k0_hw9.2.2.2.2.2.2.2.2.2.2.2.2.2.2.2.2.2.1 k0_h27
theorem k0_off83_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ (k0_h27 : k0_cond27 k0_t1 arg24_r0 = 1#1), ∀ a, (k0_off83 arg24_r0) a + S2048x128.size a ≤ S589824x128.size a := fun k0_t1 arg22_r0 arg23_r0 arg24_r0 k0_hw9 k0_h27 => k0_hw9.2.2.2.2.2.2.2.2.2.2.2.2.2.2.2.2.2.2.1 k0_h27
theorem k0_off84_inb : ∀ (k0_t1 : Fin k0_t1_loop.trips) (arg22_r0 : BitVec 32) (arg23_r0 : BitVec 32) (arg24_r0 : BitVec 32) (k0_hw9 : k0_chk9 k0_t1 arg22_r0 arg23_r0 arg24_r0), ∀ (k0_h27 : k0_cond27 k0_t1 arg24_r0 = 1#1), ∀ a, (k0_off84 arg23_r0) a + S1x2048x128.size a ≤ S2x2048x128.size a := fun k0_t1 arg22_r0 arg23_r0 arg24_r0 k0_hw9 k0_h27 => k0_hw9.2.2.2.2.2.2.2.2.2.2.2.2.2.2.2.2.2.2.2 k0_h27

def k0_off85 (v85_11_r0 : BitVec 32) : Fin 1 → Nat :=
  let c2_i32_118_r0 : BitVec 32 := 2#32
  let v111_r0 : BitVec 32 := Scalar.remui v85_11_r0 c2_i32_118_r0
  ![v111_r0.toNat]

def k0_off86 (v85_12_r0 : BitVec 32) : Fin 2 → Nat :=
  let c2048_i32_119_r0 : BitVec 32 := 2048#32
  let true_94_r0 : BitVec 1 := 1#1
  let c1_i32_93_r0 : BitVec 32 := 1#32
  let v86_r0 : BitVec 32 := Scalar.subi v85_12_r0 c1_i32_93_r0
  let v87_r0 : BitVec 32 := Scalar.select true_94_r0 v86_r0 v85_12_r0
  let c_m1_i32_95_r0 : BitVec 32 := 4294967295#32
  let v88_r0 : BitVec 1 := Scalar.cmpi .eq v87_r0 c_m1_i32_95_r0
  let c287_i32_96_r0 : BitVec 32 := 287#32
  let v89_r0 : BitVec 32 := Scalar.select v88_r0 c287_i32_96_r0 v87_r0
  let c0_i32_97_r0 : BitVec 32 := 0#32
  let v90_r0 : BitVec 32 := Scalar.addi v89_r0 c0_i32_97_r0
  let v112_r0 : BitVec 32 := Scalar.muli c2048_i32_119_r0 v90_r0
  let c0_i32_120_r0 : BitVec 32 := 0#32
  ![v112_r0.toNat, 0]

def k0_chk32 (v85_12_r0 : BitVec 32) : Prop :=
  (∀ a, (k0_off86 v85_12_r0) a + S2048x128.size a ≤ S589824x128.size a)
theorem k0_off86_inb : ∀ (v85_12_r0 : BitVec 32) (k0_hw32 : k0_chk32 v85_12_r0), ∀ a, (k0_off86 v85_12_r0) a + S2048x128.size a ≤ S589824x128.size a := fun v85_12_r0 k0_hw32 => k0_hw32

def k0_off87 (v85_11_r0 : BitVec 32) : Fin 3 → Nat :=
  let c2_i32_118_r0 : BitVec 32 := 2#32
  let v111_r0 : BitVec 32 := Scalar.remui v85_11_r0 c2_i32_118_r0
  let c0_i32_121_r0 : BitVec 32 := 0#32
  let c0_i32_122_r0 : BitVec 32 := 0#32
  ![v111_r0.toNat, 0, 0]

def k0_chk31 (v85_11_r0 : BitVec 32) : Prop :=
  (∀ a, (k0_off85 v85_11_r0) a + S1.size a ≤ S2.size a) ∧
  (∀ a, (k0_off87 v85_11_r0) a + S1x2048x128.size a ≤ S2x2048x128.size a)
theorem k0_off85_inb : ∀ (v85_11_r0 : BitVec 32) (k0_hw31 : k0_chk31 v85_11_r0), ∀ a, (k0_off85 v85_11_r0) a + S1.size a ≤ S2.size a := fun v85_11_r0 k0_hw31 => k0_hw31.1
theorem k0_off87_inb : ∀ (v85_11_r0 : BitVec 32) (k0_hw31 : k0_chk31 v85_11_r0), ∀ a, (k0_off87 v85_11_r0) a + S1x2048x128.size a ≤ S2x2048x128.size a := fun v85_11_r0 k0_hw31 => k0_hw31.2

abbrev stage0_0 : Fin 1 → Memref sig .tc .smem S288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference.lean ====
abbrev S589824x128 : Shape := ⟨2, ![589824, 128]⟩
abbrev S288 : Shape := ⟨1, ![288]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S147456x512 : Shape := ⟨2, ![147456, 512]⟩
abbrev S512x512 : Shape := ⟨2, ![512, 512]⟩
abbrev S512x1024 : Shape := ⟨2, ![512, 1024]⟩
abbrev S1x2048 : Shape := ⟨2, ![1, 2048]⟩
abbrev S1x1024x2048 : Shape := ⟨3, ![1, 1024, 2048]⟩
abbrev S1024x2048 : Shape := ⟨2, ![1024, 2048]⟩
abbrev S512x2048 : Shape := ⟨2, ![512, 2048]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 11
  | .vmem => 6
  | .smem => 3
  | _ => 0

abbrev bufTy : (tb : Table) → Fin (tcTables nBuf tb) → BufTy
  | .hbm, ⟨0, _⟩ => ⟨S589824x128, .i32⟩
  | .hbm, ⟨1, _⟩ => ⟨S288, .i32⟩
  | .hbm, ⟨2, _⟩ => ⟨S1, .i32⟩
  | .hbm, ⟨3, _⟩ => ⟨S288, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S147456x512, .i32⟩
  | .hbm, ⟨9, _⟩ => ⟨S147456x512, .i32⟩
  | .hbm, ⟨10, _⟩ => ⟨S589824x128, .i32⟩
  | .local _ .vmem, ⟨0, _⟩ => ⟨S147456x512, .i32⟩
  | .local _ .vmem, ⟨1, _⟩ => ⟨S32x1024x2048, .f32⟩
  | .local _ .vmem, ⟨2, _⟩ => ⟨S32x2048, .f32⟩
  | .local _ .vmem, ⟨3, _⟩ => ⟨S32x1024x1024, .f32⟩
  | .local _ .vmem, ⟨4, _⟩ => ⟨S32x1024, .f32⟩
  | .local _ .vmem, ⟨5, _⟩ => ⟨S147456x512, .i32⟩
  | .local _ .smem, ⟨0, _⟩ => ⟨S288, .i32⟩
  | .local _ .smem, ⟨1, _⟩ => ⟨S1, .i32⟩
  | .local _ .smem, ⟨2, _⟩ => ⟨S288, .i32⟩
  | _, _ => ⟨S589824x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c288_i32 : BitVec 32 := 288#32
  let v0 : BitVec 32 := Scalar.addi c0_i32 c288_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v1 : Index := Scalar.indexCast arg9
  ![v1.toNat]
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v3 : BitVec 32 := Scalar.muli arg9 c512_i32
  v3
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v3 : BitVec 32 := Scalar.muli arg9 c512_i32
  let v4 : BitVec 32 := v3
  let v5 : Index := Scalar.indexCast v4
  let c0 : Index := 0#32
  ![v5.toNat, 0]
def k0_off3 (v2 : BitVec 32) : Fin 2 → Nat :=
  let v24 : Index := Scalar.indexCast v2
  let c0_2 : Index := 0#32
  ![v24.toNat, 0]

def k0_off4 (v2 : BitVec 32) : Fin 3 → Nat :=
  let v26 : Index := Scalar.indexCast v2
  let c0_3 : Index := 0#32
  let c0_4 : Index := 0#32
  ![v26.toNat, 0, 0]
def k0_off5 (v2 : BitVec 32) : Fin 2 → Nat :=
  let v48 : Index := Scalar.indexCast v2
  let c0_10 : Index := 0#32
  ![v48.toNat, 0]
def k0_off6 (v2 : BitVec 32) : Fin 3 → Nat :=
  let v51 : Index := Scalar.indexCast v2
  let c0_11 : Index := 0#32
  let c0_12 : Index := 0#32
  ![v51.toNat, 0, 0]

def k0_chk1 (v2 : BitVec 32) : Prop :=
  (∀ a, (k0_off3 v2) a + S1x2048.size a ≤ S32x2048.size a) ∧
  (∀ a, (k0_off4 v2) a + S1x1024x2048.size a ≤ S32x1024x2048.size a) ∧
  (∀ a, (k0_off5 v2) a + S1x1024.size a ≤ S32x1024.size a) ∧
  (∀ a, (k0_off6 v2) a + S1x1024x1024.size a ≤ S32x1024x1024.size a)
theorem k0_off3_inb : ∀ (v2 : BitVec 32) (k0_hw1 : k0_chk1 v2), ∀ a, (k0_off3 v2) a + S1x2048.size a ≤ S32x2048.size a := fun v2 k0_hw1 => k0_hw1.1
theorem k0_off4_inb : ∀ (v2 : BitVec 32) (k0_hw1 : k0_chk1 v2), ∀ a, (k0_off4 v2) a + S1x1024x2048.size a ≤ S32x1024x2048.size a := fun v2 k0_hw1 => k0_hw1.2.1
theorem k0_off5_inb : ∀ (v2 : BitVec 32) (k0_hw1 : k0_chk1 v2), ∀ a, (k0_off5 v2) a + S1x1024.size a ≤ S32x1024.size a := fun v2 k0_hw1 => k0_hw1.2.2.1
theorem k0_off6_inb : ∀ (v2 : BitVec 32) (k0_hw1 : k0_chk1 v2), ∀ a, (k0_off6 v2) a + S1x1024x1024.size a ≤ S32x1024x1024.size a := fun v2 k0_hw1 => k0_hw1.2.2.2

def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v3 : BitVec 32 := Scalar.muli arg9 c512_i32
  let v4 : BitVec 32 := v3
  let v73 : Index := Scalar.indexCast v4
  let c0_18 : Index := 0#32
  ![v73.toNat, 0]
abbrev stage0_0 : Fin 1 → Memref sig .tc .smem S288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S147456x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S147456x512 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Mod.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Combine.lean ====
abbrev S131072x128 : Shape := ⟨2, ![131072, 128]⟩
abbrev S32768x1024 : Shape := ⟨2, ![32768, 1024]⟩
abbrev S32768x4 : Shape := ⟨2, ![32768, 4]⟩
abbrev S8x6x1024 : Shape := ⟨3, ![8, 6, 1024]⟩
abbrev S1024 : Shape := ⟨1, ![1024]⟩
abbrev S1x1024 : Shape := ⟨2, ![1, 1024]⟩
abbrev S2048x128 : Shape := ⟨2, ![2048, 128]⟩
abbrev S512x1024 : Shape := ⟨2, ![512, 1024]⟩
abbrev S512x4 : Shape := ⟨2, ![512, 4]⟩
abbrev S1x6x1024 : Shape := ⟨3, ![1, 6, 1024]⟩
abbrev S512x512 : Shape := ⟨2, ![512, 512]⟩
abbrev S512x128 : Shape := ⟨2, ![512, 128]⟩
abbrev S512x1 : Shape := ⟨2, ![512, 1]⟩
abbrev S1x1x1024 : Shape := ⟨3, ![1, 1, 1024]⟩
abbrev S512 : Shape := ⟨1, ![512]⟩

abbrev nBuf : Space → Nat
  | .hbm => 16
  | .vmem => 68
  | .smem => 0
  | _ => 0

abbrev bufTy : (tb : Table) → Fin (tcTables nBuf tb) → BufTy
  | .hbm, ⟨0, _⟩ => ⟨S131072x128, .i32⟩
  | .hbm, ⟨1, _⟩ => ⟨S131072x128, .i32⟩
  | .hbm, ⟨2, _⟩ => ⟨S131072x128, .i32⟩
  | .hbm, ⟨3, _⟩ => ⟨S131072x128, .i32⟩
  | .hbm, ⟨4, _⟩ => ⟨S32768x1024, .f32⟩
  | .hbm, ⟨5, _⟩ => ⟨S32768x4, .f32⟩
  | .hbm, ⟨6, _⟩ => ⟨S8x6x1024, .f32⟩
  | .hbm, ⟨7, _⟩ => ⟨S1024, .f32⟩
  | .hbm, ⟨8, _⟩ => ⟨S1x1024, .f32⟩
  | .hbm, ⟨9, _⟩ => ⟨S32768x1024, .f32⟩
  | .hbm, ⟨10, _⟩ => ⟨S1x1024, .f32⟩
  | .hbm, ⟨11, _⟩ => ⟨S32768x1024, .f32⟩
  | .hbm, ⟨12, _⟩ => ⟨S1x1024, .f32⟩
  | .hbm, ⟨13, _⟩ => ⟨S32768x1024, .f32⟩
  | .hbm, ⟨14, _⟩ => ⟨S1x1024, .f32⟩
  | .hbm, ⟨15, _⟩ => ⟨S32768x1024, .f32⟩
  | .local _ .vmem, ⟨0, _⟩ => ⟨S2048x128, .i32⟩
  | .local _ .vmem, ⟨1, _⟩ => ⟨S2048x128, .i32⟩
  | .local _ .vmem, ⟨2, _⟩ => ⟨S2048x128, .i32⟩
  | .local _ .vmem, ⟨3, _⟩ => ⟨S2048x128, .i32⟩
  | .local _ .vmem, ⟨4, _⟩ => ⟨S2048x128, .i32⟩
  | .local _ .vmem, ⟨5, _⟩ => ⟨S2048x128, .i32⟩
  | .local _ .vmem, ⟨6, _⟩ => ⟨S2048x128, .i32⟩
  | .local _ .vmem, ⟨7, _⟩ => ⟨S2048x128, .i32⟩
  | .local _ .vmem, ⟨8, _⟩ => ⟨S512x1024, .f32⟩
  | .local _ .vmem, ⟨9, _⟩ => ⟨S512x1024, .f32⟩
  | .local _ .vmem, ⟨10, _⟩ => ⟨S512x4, .f32⟩
  | .local _ .vmem, ⟨11, _⟩ => ⟨S512x4, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S2048x128, .i32⟩
  | .local _ .vmem, ⟨18, _⟩ => ⟨S2048x128, .i32⟩
  | .local _ .vmem, ⟨19, _⟩ => ⟨S2048x128, .i32⟩
  | .local _ .vmem, ⟨20, _⟩ => ⟨S2048x128, .i32⟩
  | .local _ .vmem, ⟨21, _⟩ => ⟨S2048x128, .i32⟩
  | .local _ .vmem, ⟨22, _⟩ => ⟨S2048x128, .i32⟩
  | .local _ .vmem, ⟨23, _⟩ => ⟨S2048x128, .i32⟩
  | .local _ .vmem, ⟨24, _⟩ => ⟨S2048x128, .i32⟩
  | .local _ .vmem, ⟨25, _⟩ => ⟨S512x1024, .f32⟩
  | .local _ .vmem, ⟨26, _⟩ => ⟨S512x1024, .f32⟩
  | .local _ .vmem, ⟨27, _⟩ => ⟨S512x4, .f32⟩
  | .local _ .vmem, ⟨28, _⟩ => ⟨S512x4, .f32⟩
  | .local _ .vmem, ⟨29, _⟩ => ⟨S1x6x1024, .f32⟩
  | .local _ .vmem, ⟨30, _⟩ => ⟨S1x6x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S2048x128, .i32⟩
  | .local _ .vmem, ⟨35, _⟩ => ⟨S2048x128, .i32⟩
  | .local _ .vmem, ⟨36, _⟩ => ⟨S2048x128, .i32⟩
  | .local _ .vmem, ⟨37, _⟩ => ⟨S2048x128, .i32⟩
  | .local _ .vmem, ⟨38, _⟩ => ⟨S2048x128, .i32⟩
  | .local _ .vmem, ⟨39, _⟩ => ⟨S2048x128, .i32⟩
  | .local _ .vmem, ⟨40, _⟩ => ⟨S2048x128, .i32⟩
  | .local _ .vmem, ⟨41, _⟩ => ⟨S2048x128, .i32⟩
  | .local _ .vmem, ⟨42, _⟩ => ⟨S512x1024, .f32⟩
  | .local _ .vmem, ⟨43, _⟩ => ⟨S512x1024, .f32⟩
  | .local _ .vmem, ⟨44, _⟩ => ⟨S512x4, .f32⟩
  | .local _ .vmem, ⟨45, _⟩ => ⟨S512x4, .f32⟩
  | .local _ .vmem, ⟨46, _⟩ => ⟨S1x6x1024, .f32⟩
  | .local _ .vmem, ⟨47, _⟩ => ⟨S1x6x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S2048x128, .i32⟩
  | .local _ .vmem, ⟨52, _⟩ => ⟨S2048x128, .i32⟩
  | .local _ .vmem, ⟨53, _⟩ => ⟨S2048x128, .i32⟩
  | .local _ .vmem, ⟨54, _⟩ => ⟨S2048x128, .i32⟩
  | .local _ .vmem, ⟨55, _⟩ => ⟨S2048x128, .i32⟩
  | .local _ .vmem, ⟨56, _⟩ => ⟨S2048x128, .i32⟩
  | .local _ .vmem, ⟨57, _⟩ => ⟨S2048x128, .i32⟩
  | .local _ .vmem, ⟨58, _⟩ => ⟨S2048x128, .i32⟩
  | .local _ .vmem, ⟨59, _⟩ => ⟨S512x1024, .f32⟩
  | .local _ .vmem, ⟨60, _⟩ => ⟨S512x1024, .f32⟩
  | .local _ .vmem, ⟨61, _⟩ => ⟨S512x4, .f32⟩
  | .local _ .vmem, ⟨62, _⟩ => ⟨S512x4, .f32⟩
  | .local _ .vmem, ⟨63, _⟩ => ⟨S1x6x1024, .f32⟩
  | .local _ .vmem, ⟨64, _⟩ => ⟨S1x6x1024, .f32⟩
  | .local _ .vmem, ⟨65, _⟩ => ⟨S1x1024, .f32⟩
  | .local _ .vmem, ⟨66, _⟩ => ⟨S512x1024, .f32⟩
  | .local _ .vmem, ⟨67, _⟩ => ⟨S512x1024, .f32⟩
  | _, _ => ⟨S131072x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg8_1 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg2_1 : Ref sig .tc := ⟨.vmem, 56, rfl⟩
abbrev cc3_stg3_0 : Ref sig .tc := ⟨.vmem, 57, rfl⟩
abbrev cc3_stg3_1 : Ref sig .tc := ⟨.vmem, 58, rfl⟩
abbrev cc3_stg4_0 : Ref sig .tc := ⟨.vmem, 59, rfl⟩
abbrev cc3_stg4_1 : Ref sig .tc := ⟨.vmem, 60, rfl⟩
abbrev cc3_stg5_0 : Ref sig .tc := ⟨.vmem, 61, rfl⟩
abbrev cc3_stg5_1 : Ref sig .tc := ⟨.vmem, 62, rfl⟩
abbrev cc3_stg6_0 : Ref sig .tc := ⟨.vmem, 63, rfl⟩
abbrev cc3_stg6_1 : Ref sig .tc := ⟨.vmem, 64, rfl⟩
abbrev cc3_stg7_0 : Ref sig .tc := ⟨.vmem, 65, rfl⟩
abbrev cc3_stg8_0 : Ref sig .tc := ⟨.vmem, 66, rfl⟩
abbrev cc3_stg8_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem8_0 : DmaSem sig := 32
abbrev cc1_sem8_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem5_1 : DmaSem sig := 45
abbrev cc2_sem6_0 : DmaSem sig := 46
abbrev cc2_sem6_1 : DmaSem sig := 47
abbrev cc2_sem7_0 : DmaSem sig := 48
abbrev cc2_sem8_0 : DmaSem sig := 49
abbrev cc2_sem8_1 : DmaSem sig := 50
abbrev cc3_sem0_0 : DmaSem sig := 51
abbrev cc3_sem0_1 : DmaSem sig := 52
abbrev cc3_sem1_0 : DmaSem sig := 53
abbrev cc3_sem1_1 : DmaSem sig := 54
abbrev cc3_sem2_0 : DmaSem sig := 55
abbrev cc3_sem2_1 : DmaSem sig := 56
abbrev cc3_sem3_0 : DmaSem sig := 57
abbrev cc3_sem3_1 : DmaSem sig := 58
abbrev cc3_sem4_0 : DmaSem sig := 59
abbrev cc3_sem4_1 : DmaSem sig := 60
abbrev cc3_sem5_0 : DmaSem sig := 61
abbrev cc3_sem5_1 : DmaSem sig := 62
abbrev cc3_sem6_0 : DmaSem sig := 63
abbrev cc3_sem6_1 : DmaSem sig := 64
abbrev cc3_sem7_0 : DmaSem sig := 65
abbrev cc3_sem8_0 : DmaSem sig := 66
abbrev cc3_sem8_1 : DmaSem sig := 67

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 32 := Scalar.divsi v0 c8_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32 c0_i32_2
  let v8 : BitVec 32 := Scalar.extui v7
  let c0_i32_3 : BitVec 32 := 0#32
  let v9 : BitVec 1 := Scalar.cmpi .slt c8_i32 c0_i32_3
  let v10 : BitVec 32 := Scalar.extui v9
  let v11 : BitVec 32 := Scalar.subi v8 v10
  let v12 : BitVec 1 := Scalar.cmpi .ne v6 v11
  let v13 : BitVec 32 := Scalar.remsi v0 c8_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_6 (i : grid1.Coords) : Fin 3 → Nat :=
  let arg0 : BitVec 32 := BitVec.ofNat 32 (i 0).val
  let c16_i32 : BitVec 32 := 16#32
  let v0 : BitVec 32 := Scalar.addi c16_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage1_0 : Fin 2 → Memref sig .tc .vmem S2048x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x6x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_5 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_6 (i : grid2.Coords) : Fin 3 → Nat :=
  let arg0 : BitVec 32 := BitVec.ofNat 32 (i 0).val
  let c32_i32 : BitVec 32 := 32#32
  let v0 : BitVec 32 := Scalar.addi c32_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage2_0 : Fin 2 → Memref sig .tc .vmem S2048x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x6x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_6 (i : grid3.Coords) : Fin 3 → Nat :=
  let arg0 : BitVec 32 := BitVec.ofNat 32 (i 0).val
  let c48_i32 : BitVec 32 := 48#32
  let v0 : BitVec 32 := Scalar.addi c48_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

abbrev stage3_0 : Fin 2 → Memref sig .tc .vmem S2048x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x4 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x6x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== CombineReference.lean ====
abbrev S131072x128 : Shape := ⟨2, ![131072, 128]⟩
abbrev S32768x1024 : Shape := ⟨2, ![32768, 1024]⟩
abbrev S32768x4 : Shape := ⟨2, ![32768, 4]⟩
abbrev S8x6x1024 : Shape := ⟨3, ![8, 6, 1024]⟩
abbrev S1024 : Shape := ⟨1, ![1024]⟩
abbrev S524288x128 : Shape := ⟨2, ![524288, 128]⟩
abbrev S131072x512 : Shape := ⟨2, ![131072, 512]⟩
abbrev S1x1024 : Shape := ⟨2, ![1, 1024]⟩
abbrev S512x4 : Shape := ⟨2, ![512, 4]⟩
abbrev S512x1024 : Shape := ⟨2, ![512, 1024]⟩
abbrev S512x512 : Shape := ⟨2, ![512, 512]⟩
abbrev S512x1 : Shape := ⟨2, ![512, 1]⟩
abbrev S1x1x1024 : Shape := ⟨3, ![1, 1, 1024]⟩
abbrev S512 : Shape := ⟨1, ![512]⟩

abbrev nBuf : Space → Nat
  | .hbm => 12
  | .vmem => 6
  | .smem => 0
  | _ => 0

abbrev bufTy : (tb : Table) → Fin (tcTables nBuf tb) → BufTy
  | .hbm, ⟨0, _⟩ => ⟨S131072x128, .i32⟩
  | .hbm, ⟨1, _⟩ => ⟨S131072x128, .i32⟩
  | .hbm, ⟨2, _⟩ => ⟨S131072x128, .i32⟩
  | .hbm, ⟨3, _⟩ => ⟨S131072x128, .i32⟩
  | .hbm, ⟨4, _⟩ => ⟨S32768x1024, .f32⟩
  | .hbm, ⟨5, _⟩ => ⟨S32768x4, .f32⟩
  | .hbm, ⟨6, _⟩ => ⟨S8x6x1024, .f32⟩
  | .hbm, ⟨7, _⟩ => ⟨S1024, .f32⟩
  | .hbm, ⟨8, _⟩ => ⟨S524288x128, .i32⟩
  | .hbm, ⟨9, _⟩ => ⟨S131072x512, .i32⟩
  | .hbm, ⟨10, _⟩ => ⟨S1x1024, .f32⟩
  | .hbm, ⟨11, _⟩ => ⟨S32768x1024, .f32⟩
  | .local _ .vmem, ⟨0, _⟩ => ⟨S131072x512, .i32⟩
  | .local _ .vmem, ⟨1, _⟩ => ⟨S32768x1024, .f32⟩
  | .local _ .vmem, ⟨2, _⟩ => ⟨S32768x4, .f32⟩
  | .local _ .vmem, ⟨3, _⟩ => ⟨S8x6x1024, .f32⟩
  | .local _ .vmem, ⟨4, _⟩ => ⟨S1x1024, .f32⟩
  | .local _ .vmem, ⟨5, _⟩ => ⟨S32768x1024, .f32⟩
  | _, _ => ⟨S131072x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v6 : BitVec 32 := Scalar.divsi arg6 c16_i32
  let c4_i32 : BitVec 32 := 4#32
  let v7 : BitVec 32 := Scalar.muli v6 c4_i32
  let c0_i32_1 : BitVec 32 := 0#32
  let v8 : BitVec 32 := Scalar.addi v7 c0_i32_1
  let c8192_i32 : BitVec 32 := 8192#32
  let v9 : BitVec 32 := Scalar.muli v8 c8192_i32
  let c16_i32_2 : BitVec 32 := 16#32
  let v10 : BitVec 32 := Scalar.remsi arg6 c16_i32_2
  let c512_i32_3 : BitVec 32 := 512#32
  let v11 : BitVec 32 := Scalar.muli v10 c512_i32_3
  let v12 : BitVec 32 := Scalar.addi v9 v11
  v12
def k0_off2 (k0_t1 : Fin k0_t1_loop.trips) (c0_i32_1 : BitVec 32) : Fin 2 → Nat :=
  let c0_i32 : BitVec 32 := 0#32
  let c1_i32 : BitVec 32 := 1#32
  let arg6 : BitVec 32 := Scf.iv c0_i32 c1_i32 k0_t1
  let c16_i32 : BitVec 32 := 16#32
  let v6 : BitVec 32 := Scalar.divsi arg6 c16_i32
  let c4_i32 : BitVec 32 := 4#32
  let v7 : BitVec 32 := Scalar.muli v6 c4_i32
  let v8 : BitVec 32 := Scalar.addi v7 c0_i32_1
  let c8192_i32 : BitVec 32 := 8192#32
  let v9 : BitVec 32 := Scalar.muli v8 c8192_i32
  let c16_i32_2 : BitVec 32 := 16#32
  let v10 : BitVec 32 := Scalar.remsi arg6 c16_i32_2
  let c512_i32_3 : BitVec 32 := 512#32
  let v11 : BitVec 32 := Scalar.muli v10 c512_i32_3
  let v12 : BitVec 32 := Scalar.addi v9 v11
  let v13 : BitVec 32 := v12
  let v14 : Index := Scalar.indexCast v13
  let c0_4 : Index := 0#32
  ![v14.toNat, 0]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_6 : BitVec 32 := 16#32
  let v28 : BitVec 32 := Scalar.divsi arg6 c16_i32_6
  let c4_i32_7 : BitVec 32 := 4#32
  let v29 : BitVec 32 := Scalar.muli v28 c4_i32_7
  let c1_i32_8 : BitVec 32 := 1#32
  let v30 : BitVec 32 := Scalar.addi v29 c1_i32_8
  let c8192_i32_9 : BitVec 32 := 8192#32
  let v31 : BitVec 32 := Scalar.muli v30 c8192_i32_9
  let c16_i32_10 : BitVec 32 := 16#32
  let v32 : BitVec 32 := Scalar.remsi arg6 c16_i32_10
  let c512_i32_11 : BitVec 32 := 512#32
  let v33 : BitVec 32 := Scalar.muli v32 c512_i32_11
  let v34 : BitVec 32 := Scalar.addi v31 v33
  v34
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_15 : BitVec 32 := 16#32
  let v50 : BitVec 32 := Scalar.divsi arg6 c16_i32_15
  let c4_i32_16 : BitVec 32 := 4#32
  let v51 : BitVec 32 := Scalar.muli v50 c4_i32_16
  let c2_i32 : BitVec 32 := 2#32
  let v52 : BitVec 32 := Scalar.addi v51 c2_i32
  let c8192_i32_17 : BitVec 32 := 8192#32
  let v53 : BitVec 32 := Scalar.muli v52 c8192_i32_17
  let c16_i32_18 : BitVec 32 := 16#32
  let v54 : BitVec 32 := Scalar.remsi arg6 c16_i32_18
  let c512_i32_19 : BitVec 32 := 512#32
  let v55 : BitVec 32 := Scalar.muli v54 c512_i32_19
  let v56 : BitVec 32 := Scalar.addi v53 v55
  v56
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_23 : BitVec 32 := 16#32
  let v72 : BitVec 32 := Scalar.divsi arg6 c16_i32_23
  let c4_i32_24 : BitVec 32 := 4#32
  let v73 : BitVec 32 := Scalar.muli v72 c4_i32_24
  let c3_i32 : BitVec 32 := 3#32
  let v74 : BitVec 32 := Scalar.addi v73 c3_i32
  let c8192_i32_25 : BitVec 32 := 8192#32
  let v75 : BitVec 32 := Scalar.muli v74 c8192_i32_25
  let c16_i32_26 : BitVec 32 := 16#32
  let v76 : BitVec 32 := Scalar.remsi arg6 c16_i32_26
  let c512_i32_27 : BitVec 32 := 512#32
  let v77 : BitVec 32 := Scalar.muli v76 c512_i32_27
  let v78 : BitVec 32 := Scalar.addi v75 v77
  v78
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let c8_i32 : BitVec 32 := 8#32
  let v94 : BitVec 32 := Scalar.divsi arg6 c8_i32
  let v95 : Index := Scalar.indexCast v94
  let c5 : Index := 5#32
  let c0_31 : Index := 0#32
  ![v95.toNat, 5, 0]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v98 : Index := Scalar.indexCast v2
  let c0_32 : Index := 0#32
  ![v98.toNat, 0]
abbrev stage0_0 : Fin 1 → Memref sig .tc .vmem S131072x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Experts.Base.lean ====
/-
  The steps the experts kernel takes, one lemma each: a word read from a scalar table, an assumption
  discharged, and the two halves of a fetch into a slot. A slot is free, in flight or holding a block,
  and it carries its semaphore and a share of its own of the array it fetches from, so that the slots of
  a window are independent of one another.
-/
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## The algebra -/

abbrev UU (nD : Nat) (τ : Topo) : Type := UR sig nD τ × Counters
local notation "𝕄" => MT nD τ sig Unit (Elt F) ℕ (UU nD τ) ℕ
abbrev 𝒱₀ : Variants := Variants.none

/-- The weakest precondition of a piece of the body on core `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpBind (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p (fun a => WP c (k a) Q) := wp_bind _ _ _ p k Q

theorem wpPure (c : Dev nD) {α : Type} (a : α) (Q : α → sProp 𝕄) :
    Q a ⊢ WP c (pure a : Prog (TpuEff nD τ sig (Elt F) Λ₀ .tc) α) Q := fupd_intro (PROP := sProp 𝕄)

theorem wpRet (c : Dev nD) {α : Type} (a : α) (Q : α → sProp 𝕄) :
    Q a ⊢ WP c (.ret a : Prog (TpuEff nD τ sig (Elt F) Λ₀ .tc) α) Q := fupd_intro (PROP := sProp 𝕄)
theorem wpRetNil (c : Dev nD) {α : Type} (a : α) (Q : α → sProp 𝕄) :
    Q a ⊢ wp frame (wpE' (defs₀ (F := F)) 𝒱₀ (c : Thread nD τ) none []) Set.univ (.ret a : Prog (TpuEff nD τ sig (Elt F) Λ₀ .tc) α) Q :=
  fupd_intro (PROP := sProp 𝕄)

theorem wpMono (c : Dev nD) {α : Type} {p : Prog (TpuEff nD τ sig (Elt F) Λ₀ .tc) α} {Q Q' : α → sProp 𝕄}
    (h : ∀ a, Q a ⊢ Q' a) : WP c p Q ⊢ WP c p Q' := wp_mono _ _ _ h

theorem wpWand (c : Dev nD) {α : Type} {p : Prog (TpuEff nD τ sig (Elt F) Λ₀ .tc) α} {Q Q' : α → sProp 𝕄} :
    iprop(WP c p Q ∗ (∀ a, Q a -∗ Q' a)) ⊢ WP c p Q' := wp_wand_r _ _ _

/-- An assumption that holds. -/
theorem wpAssume (c : Dev nD) {P : Prop} {d : Decidable P} (h : P) (Q : PLift P → sProp 𝕄) :
    Q ⟨h⟩ ⊢ WP c (Prog.lift (TpuEff.assume P d)) Q :=
  (fupd_intro (PROP := sProp 𝕄)).trans (wp_assume 𝒱₀ (c : Thread nD τ) none Set.univ (k := fun x => .ret x) (Q := Q) h)

/-- A region under a condition, at a known condition. -/
theorem wpIfPos (c : Dev nD) {α : Type} {C : Prop} [Decidable C] (h : C) (p : C → Prog (TpuEff nD τ sig (Elt F) Λ₀ .tc) α)
    (q : ¬C → Prog (TpuEff nD τ sig (Elt F) Λ₀ .tc) α) (Q : α → sProp 𝕄) :
    WP c (p h) Q ⊢ WP c (if h : C then p h else q h) Q := by rw [dif_pos h]
theorem wpIfNeg (c : Dev nD) {α : Type} {C : Prop} [Decidable C] (h : ¬C) (p : C → Prog (TpuEff nD τ sig (Elt F) Λ₀ .tc) α)
    (q : ¬C → Prog (TpuEff nD τ sig (Elt F) Λ₀ .tc) α) (Q : α → sProp 𝕄) :
    WP c (q h) Q ⊢ WP c (if h : C then p h else q h) Q := by rw [dif_neg h]

/-! ## Words of the scalar tables -/

/-- The table `m` of `n` words, at the words `B`. -/
def Tab (c : Dev nD) {n : ℕ} (m : Memref sig .tc .smem ⟨1, ![n]⟩ .i32) (B : ℕ → BitVec 32) : sProp 𝕄 :=
  iprop(∃ f, ⌜∀ x : Shape.Idx ⟨1, ![n]⟩, m.view.read (Elt F) f x = B (x 0).val⌝ ∗ (m.view.loc (c : Thread nD τ) ↦[m.view.set]{fullShare} f))

theorem tabLoad (c : Dev nD) {n : ℕ} {m : Memref sig .tc .smem ⟨1, ![n]⟩ .i32} {B : ℕ → BitVec 32}
    {off : Fin 1 → ℕ} {h : ∀ a, off a + S1.size a ≤ (⟨1, ![n]⟩ : Shape).size a} {h1 hp} {i : ℕ} (e : off = ![i])
    {Q : BitVec 32 → sProp 𝕄} :
    Tab (F := F) c m B ⊢ iprop((Tab (F := F) c m B -∗ Q (B i))
      -∗ WP c (smemLoad m (Rect.unit (s := ⟨1, ![n]⟩) off S1.size h) h1 hp) Q) := by
  subst e
  unfold Tab
  iintro ⟨%f, %hf, H⟩ HQ
  have hw := wp_smemLoadElt (defs := defs₀ (F := F)) (Val := Elt F) (Ix := Unit) (Name := ℕ) (U := UU nD τ) (Lvl := ℕ) 𝒱₀ (c : Thread nD τ) none (Γ := []) Set.univ (m := m)
    (r := Rect.unit (s := ⟨1, ![n]⟩) ![i] S1.size h) (hw := View.loads_smem_one hp h1) (x := Shape.Idx.first (h1.symm ▸ Nat.one_pos))
    (k := .ret) (Q := Q) (q := fullShare) (f := f) (View.set_slice_subset m.view _)
  iapply hw $$ H
  iintro H
  iapply (wpRetNil c _ Q)
  have e2 : (m.access (Rect.unit (s := ⟨1, ![n]⟩) ![i] S1.size h)).read (Elt F) f (Shape.Idx.first (h1.symm ▸ Nat.one_pos)) = B i := by
    refine (hf _).trans (congrArg B ?_)
    have h2 : ((Shape.Idx.first (s := S1) (h1.symm ▸ Nat.one_pos)) 0).val < 1 := ((Shape.Idx.first (s := S1) (h1.symm ▸ Nat.one_pos)) 0).isLt
    show i + 1 * ((Shape.Idx.first (s := S1) (h1.symm ▸ Nat.one_pos)) 0).val = i
    omega
  rw [e2]
  iapply HQ
  iexists f
  isplitr; · ipureintro; exact hf
  iexact H

/-! ## A slot of a window -/

section Slot

variable (c : Dev nD) {s : Shape} {e : EltTy} {S : Shape}

/-- The core's record of the waits it has made. -/
def Ow : sProp 𝕄 := iprop(∃ W, owes (c : Thread nD τ) 0 W)

/-- A slot whose contents are not known. -/
def Free (dst : Memref sig .tc .vmem s e) : sProp 𝕄 :=
  iprop(∃ f, dst.view.loc (c : Thread nD τ) ↦[dst.view.set]{fullShare} f)

variable (dst : Memref sig .tc .vmem s e) (sm : DmaSem sig) (ar : Memref sig .tc .hbm S e)
  (q : PosShare TreeShare) (A : Buf (Elt F) (ar.view.loc (c : Thread nD τ)))

/-- The slot is free, its semaphore at zero, its share of the array whole. -/
def SFree : sProp 𝕄 :=
  iprop(Free c dst ∗ semVal ((c : Thread nD τ), SemLoc.dma sm) 0 ∗ (ar.view.loc (c : Thread nD τ) ↦[ar.view.set]{q} A))

/-- The slot holds `X`. -/
def SHeld (X : s.Idx → Elt F e) : sProp 𝕄 :=
  iprop(owns (c : Thread nD τ) dst fullShare X ∗ semVal ((c : Thread nD τ), SemLoc.dma sm) 0 ∗ (ar.view.loc (c : Thread nD τ) ↦[ar.view.set]{q} A))

theorem held_free (X : s.Idx → Elt F e) : SHeld c dst sm ar q A X ⊢ SFree c dst sm ar q A := by
  unfold SHeld SFree Free owns
  iintro ⟨⟨%f, %hf, H⟩, Hs, HA⟩
  isplitl [H]; · iexists f; iexact H
  isplitl [Hs]; · iexact Hs
  iexact HA

end Slot

section Fetch

variable (c : Dev nD) {S : Shape} {e : EltTy} (r : Rect S) (hr : ∀ a, r.stride a = 1)
variable (dst : Memref sig .tc .vmem r.shape e) (sm : DmaSem sig) (ar : Memref sig .tc .hbm S e)
  (q : PosShare TreeShare) (A : Buf (Elt F) (ar.view.loc (c : Thread nD τ)))

/-- Block `r` of the array. -/
abbrev blk : r.shape.Idx → Elt F e := (ar.slice r hr).view.read (Elt F) A

/-- The block `r` of the array is on its way into the slot. -/
def SFly : sProp 𝕄 :=
  iprop(Transfers.Flight countersEmb (c : Thread nD τ) (SemLoc.dma sm) () dst.view.dmaCredit
      iprop(owns (c : Thread nD τ) dst fullShare (blk c r hr ar A) ∗ (ar.view.loc (c : Thread nD τ) ↦[(ar.slice r hr).view.set]{q} A))
    ∗ (ar.view.loc (c : Thread nD τ) ↦[ar.view.set \ (ar.slice r hr).view.set]{q} A))

variable {r hr dst sm ar q A}

theorem slice_sub : (ar.slice r hr).view.set ⊆ ar.view.set := View.set_slice_subset ar.view r

theorem slotIssue (hN : 0 < dst.view.dmaCredit) {hsrc hdst hsem} {Q : PUnit → sProp 𝕄} :
    SFree c dst sm ar q A ⊢ iprop((SFly c r hr dst sm ar q A -∗ Q ⟨⟩)
      -∗ WP c (Prog.lift (.enqueueDma (ar.slice r hr) (.here dst) (.dma sm) hsrc hdst hsem)) Q) := by
  unfold SFree SFly Free
  iintro ⟨⟨%f, H⟩, Hs, HA⟩ HQ
  have hsp := (pointsTo_split_subset (Val := Elt F) (Ix := Unit) (Name := ℕ) (U := UU nD τ) (Lvl := ℕ) (q := q) (f := A) (slice_sub (ar := ar) (r := r) (hr := hr))).1
  have hd := Transfers.wp_dmaLocal (defs := defs₀ (F := F)) (Val := Elt F) (Ix := Unit) (Name := ℕ) (U := UU nD τ) (Lvl := ℕ)
    countersEmb 𝒱₀ (c : Thread nD τ) none (src := ar.slice r hr) (via := .same) (dst := dst) (sm := SemLoc.dma sm)
    (hsrc := hsrc) (hdst := hdst) (hsem := hsem) (k := .ret) (Q := Q) (q := q) (fs := A) (fd := f) () dst.view.dmaCredit rfl hN (Finset.Subset.refl _)
  ihave HA2 := hsp $$ HA
  icases HA2 with ⟨HA1, HA2⟩
  iapply hd $$ [HA1 H Hs] [HQ HA2]
  · isplitl [HA1]; · iexact HA1
    isplitl [H]; · iexact H
    iexact Hs
  iintro HF
  iapply (wpRet c _ Q)
  iapply HQ
  isplitl [HF]
  · iapply (Transfers.Flight_mono countersEmb (c : Thread nD τ) ?_) $$ HF
    iintro ⟨H1, H2⟩
    isplitl [H1]
    · unfold owns
      iexists _
      isplitr
      swap; · iexact H1
      ipureintro
      exact View.read_write_univ _ _
    · iexact H2
  iexact HA2

theorem slotWait {sp : Space} {s' : Shape} {e' : EltTy} {srcw : Memref sig .tc sp s' e'} {hsrc hdst} {Q : PUnit → sProp 𝕄} :
    iprop(SFly c r hr dst sm ar q A ∗ Ow (F := F) c) ⊢ iprop((iprop(SHeld c dst sm ar q A (blk c r hr ar A) ∗ Ow (F := F) c) -∗ Q ⟨⟩)
      -∗ WP c (Prog.lift (.waitDma2 sm srcw dst hsrc hdst)) Q) := by
  unfold SHeld SFly Ow
  iintro ⟨⟨HF, HA⟩, ⟨%W, Ho⟩⟩ HQ
  have hsp := (pointsTo_split_subset (Val := Elt F) (Ix := Unit) (Name := ℕ) (U := UU nD τ) (Lvl := ℕ) (q := q) (f := A) (slice_sub (ar := ar) (r := r) (hr := hr))).2
  have hd := Transfers.wp_waitLocal (defs := defs₀ (F := F)) (Val := Elt F) (Ix := Unit) (Name := ℕ) (U := UU nD τ) (Lvl := ℕ)
    countersEmb 𝒱₀ (c : Thread nD τ) none (sem := sm) (srcw := srcw) (dstw := dst) (hsrc := hsrc) (hdst := hdst) (k := .ret) (Q := Q) () (N := dst.view.dmaCredit) rfl
    (D := iprop(owns (c : Thread nD τ) dst fullShare (blk c r hr ar A) ∗ (ar.view.loc (c : Thread nD τ) ↦[(ar.slice r hr).view.set]{q} A))) (W := W)
  iapply hd $$ [HF Ho] [HQ HA]
  · isplitl [HF]; · iexact HF
    iexact Ho
  iintro ⟨⟨H1, H2⟩, Hs, Ho⟩
  iapply (wpRet c _ Q)
  iapply HQ
  isplitr [Ho]
  · isplitl [H1]; · iexact H1
    isplitl [Hs]; · iexact Hs
    iapply hsp
    isplitl [H2]; · iexact H2
    iexact HA
  · iexists _; iexact Ho

end Fetch

end Cert.Proof.Experts

end
-- ==== Proof.Experts.Words.lean ====
/-
  The scalar words the kernel computes, in closed form: at step `k` its counters are small numbers, so a
  wrapped index, a slot, a row and a condition are read off natural numbers.
-/
module

public import proofs.«01_k».proof.Proof.Experts.Base

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The word of a number. -/
abbrev w (n : ℕ) : BitVec 32 := BitVec.ofNat 32 n

/-- The bit of a proposition. -/
def bw (p : Prop) [Decidable p] : BitVec 1 := if p then 1#1 else 0#1

theorem bw_eq_one {p : Prop} [Decidable p] : bw p = 1#1 ↔ p := by
  unfold bw; split <;> simp_all

theorem bw_congr {p q : Prop} [Decidable p] [Decidable q] (h : p ↔ q) : bw p = bw q := by
  unfold bw; simp [h]

theorem bw_and {p q : Prop} [Decidable p] [Decidable q] : Scalar.andi (bw p) (bw q) = bw (p ∧ q) := by
  unfold bw; by_cases p <;> by_cases q <;> simp_all <;> decide
theorem bw_or {p q : Prop} [Decidable p] [Decidable q] : Scalar.ori (bw p) (bw q) = bw (p ∨ q) := by
  unfold bw; by_cases p <;> by_cases q <;> simp_all <;> decide
theorem bw_not {p : Prop} [Decidable p] : Scalar.xori (bw p) 1#1 = bw (¬p) := by
  unfold bw; by_cases p <;> simp_all <;> decide
theorem andi_one (b : BitVec 1) : Scalar.andi b 1#1 = b := by revert b; decide
theorem one_andi (b : BitVec 1) : Scalar.andi 1#1 b = b := by revert b; decide
theorem ext_ne (b : BitVec 1) : Scalar.cmpi .ne (Scalar.extui b) 0#32 = b := by revert b; decide
theorem bw_true {p : Prop} [Decidable p] (h : p) : bw p = 1#1 := bw_eq_one.2 h
theorem sel_bw {p : Prop} [Decidable p] {α : Type} (a b : α) : Scalar.select (bw p) a b = if p then a else b := by
  unfold bw Scalar.select; by_cases p <;> simp_all

theorem cmp_ne (x y : BitVec 32) : Scalar.cmpi .ne x y = bw (x ≠ y) := by
  show BitVec.ofBool (x != y) = _
  by_cases h : x = y
  · subst h; simp [bw]
  · rw [show (x != y) = true by simpa using h]; simp [bw, h]
theorem cmp_eq (x y : BitVec 32) : Scalar.cmpi .eq x y = bw (x = y) := by
  show BitVec.ofBool (x == y) = _
  by_cases h : x = y
  · subst h; simp [bw]
  · rw [show (x == y) = false by simpa using h]; simp [bw, h]

theorem w_inj {a b : ℕ} (ha : a < 1000) (hb : b < 1000) : w a = w b ↔ a = b := by
  constructor
  · intro h
    have := congrArg BitVec.toNat h
    simp only [w, BitVec.toNat_ofNat] at this
    omega
  · rintro rfl; rfl

/-- The number of blocks used, as a word `u` that is at least one; `N` is the last block read. -/
structure NW (u : BitVec 32) (N : ℕ) : Prop where
  pos : 1 ≤ u.toInt
  eq : N = min (u.toInt - 1).toNat 287

theorem NW.lt {u N} (h : NW u N) : N < 288 := by have := h.eq; omega

theorem toInt_w {j : ℕ} (hj : j < 1000) : (w j).toInt = j := by
  rw [BitVec.toInt_eq_toNat_of_lt] <;> simp only [w, BitVec.toNat_ofNat] <;> omega

theorem NW.pred {u N} (h : NW u N) : (Scalar.subi u 1#32).toInt = u.toInt - 1 := by
  show (u - 1#32).toInt = _
  have h1 := h.pos
  have h2 := BitVec.toInt_lt (x := u)
  rw [BitVec.toInt_sub]
  have : (1#32).toInt = 1 := by decide
  rw [this, Int.bmod_def]
  split <;> omega

theorem NW.min {u N} (h : NW u N) {j : ℕ} (hj : j ≤ 287) : Scalar.minsi (w j) (Scalar.subi u 1#32) = w (min j N) := by
  show (if (w j).slt (Scalar.subi u 1#32) then w j else Scalar.subi u 1#32) = _
  have h1 := h.pos
  have h2 := h.eq
  have h3 := h.pred
  have h4 := toInt_w (j := j) (by omega)
  by_cases hs : (w j).slt (Scalar.subi u 1#32)
  · rw [if_pos hs]
    rw [BitVec.slt_iff_toInt_lt] at hs
    congr 1; omega
  · rw [if_neg hs]
    rw [BitVec.slt_iff_toInt_lt] at hs
    apply BitVec.eq_of_toInt_eq
    rw [toInt_w (by omega)]
    omega

theorem NW.slt {u N} (h : NW u N) {j : ℕ} (hj : j ≤ 287) : Scalar.cmpi .slt (w j) u = bw (j ≤ N) := by
  show BitVec.ofBool ((w j).slt u) = _
  have h1 := h.pos
  have h2 := h.eq
  have h4 := toInt_w (j := j) (by omega)
  by_cases hs : (w j).slt u
  · rw [hs]; rw [BitVec.slt_iff_toInt_lt] at hs
    rw [bw_true (by omega)]; rfl
  · have : (w j).slt u = false := by simpa using hs
    rw [this]; rw [BitVec.slt_iff_toInt_lt] at hs
    unfold bw; rw [if_neg (by omega)]; rfl

theorem NW.sge {u N} (h : NW u N) {j : ℕ} (hj : j ≤ 287) : Scalar.cmpi .sge (w j) u = bw (¬ j ≤ N) := by
  show BitVec.ofBool (u.sle (w j)) = _
  have h1 := h.pos
  have h2 := h.eq
  have h4 := toInt_w (j := j) (by omega)
  by_cases hs : u.sle (w j)
  · rw [hs]; rw [BitVec.sle_iff_toInt_le] at hs
    rw [bw_true (by omega)]; rfl
  · have : u.sle (w j) = false := by simpa using hs
    rw [this]; rw [BitVec.sle_iff_toInt_le] at hs
    unfold bw; rw [if_neg (by omega)]; rfl

/-! ## Indices -/

@[reducible] def nxt (a : BitVec 32) : BitVec 32 :=
  Scalar.select (Scalar.cmpi .eq (Scalar.select 1#1 (Scalar.addi a 1#32) a) 288#32) 0#32 (Scalar.select 1#1 (Scalar.addi a 1#32) a)
@[reducible] def prv (a : BitVec 32) : BitVec 32 :=
  Scalar.select (Scalar.cmpi .eq (Scalar.select 1#1 (Scalar.subi a 1#32) a) 4294967295#32) 287#32 (Scalar.select 1#1 (Scalar.subi a 1#32) a)

theorem add0 (a : BitVec 32) : Scalar.addi a 0#32 = a := BitVec.add_zero a

theorem nxt_w : ∀ k : Fin 288, nxt (w k) = w ((k + 1) % 288) := by decide +kernel
theorem nxt2_w : ∀ k : Fin 288, nxt (nxt (w k)) = w ((k + 2) % 288) := by decide +kernel
theorem prv_w : ∀ k : Fin 288, prv (w k) = w ((k + 287) % 288) := by decide +kernel

abbrev Trip := Fin k0_t1_loop.trips
theorem trips_eq : k0_t1_loop.trips = 288 := by decide +kernel
theorem Trip.lt (k : Trip) : k.val < 288 := trips_eq ▸ k.isLt
abbrev Trip.f (k : Trip) : Fin 288 := ⟨k.val, k.lt⟩

theorem iv_w (k : Trip) : Scf.iv 0#32 1#32 k = w k.val := by
  show 0#32 + BitVec.ofNat 32 k.val * 1#32 = _
  simp

theorem iv_sge286 (k : Trip) : Scalar.cmpi .sge (w k.val) 286#32 = bw (286 ≤ k.val) :=
  (show ∀ k : Fin 288, Scalar.cmpi .sge (w k.val) 286#32 = bw (286 ≤ k.val) by decide +kernel) k.f
theorem iv_sge287 (k : Trip) : Scalar.cmpi .sge (w k.val) 287#32 = bw (287 ≤ k.val) :=
  (show ∀ k : Fin 288, Scalar.cmpi .sge (w k.val) 287#32 = bw (287 ≤ k.val) by decide +kernel) k.f
theorem iv_sge0 (k : Trip) : Scalar.cmpi .sge (w k.val) 0#32 = 1#1 :=
  (show ∀ k : Fin 288, Scalar.cmpi .sge (w k.val) 0#32 = 1#1 by decide +kernel) k.f
theorem iv_eq0 (k : Trip) : Scalar.cmpi .eq (w k.val) 0#32 = bw (k.val = 0) :=
  (show ∀ k : Fin 288, Scalar.cmpi .eq (w k.val) 0#32 = bw (k.val = 0) by decide +kernel) k.f
theorem iv_eq287 (k : Trip) : Scalar.cmpi .eq (w k.val) 287#32 = bw (k.val = 287) :=
  (show ∀ k : Fin 288, Scalar.cmpi .eq (w k.val) 287#32 = bw (k.val = 287) by decide +kernel) k.f

/-! ## Conditions -/

section Cond
variable {u : BitVec 32} {N : ℕ} (hN : NW u N) (k : Trip)
include hN

theorem ne_next : Scalar.cmpi .ne (Scalar.minsi (w ((k.val + 1) % 288)) (Scalar.subi u 1#32)) (Scalar.minsi (w ((k.val + 2) % 288)) (Scalar.subi u 1#32))
    = bw (min ((k.val + 1) % 288) N ≠ min ((k.val + 2) % 288) N) := by
  have := hN.lt
  rw [hN.min (by omega), hN.min (by omega), cmp_ne]
  exact bw_congr (not_congr (w_inj (by omega) (by omega)))

theorem cond2 : k0_cond2 k (w k.val) u u = bw (k.val + 2 ≤ N) := by
  show Scalar.cmpi .ne (Scalar.extui (Scalar.andi (Scalar.andi (Scalar.cmpi .ne (Scalar.minsi (Scalar.addi (nxt (w k.val)) 0#32) (Scalar.subi u 1#32)) (Scalar.minsi (Scalar.addi (nxt (nxt (w k.val))) 0#32) (Scalar.subi u 1#32))) (Scalar.xori (Scalar.cmpi .sge (Scf.iv 0#32 1#32 k) 286#32) 1#1)) 1#1)) 0#32 = _
  have := hN.lt
  have := k.lt
  rw [ext_ne, andi_one, iv_w, iv_sge286, add0, add0, nxt2_w k.f, nxt_w k.f, ne_next hN k, bw_not, bw_and]
  exact bw_congr (by omega)

theorem cond7 : k0_cond7 k (w k.val) u u = bw (k.val ≤ N) := by
  show Scalar.cmpi .ne (Scalar.extui (Scalar.andi (Scalar.ori (Scalar.cmpi .ne (Scalar.minsi (Scalar.addi (w k.val) 0#32) (Scalar.subi u 1#32)) (Scalar.minsi (Scalar.addi (prv (w k.val)) 0#32) (Scalar.subi u 1#32))) (Scalar.cmpi .eq (Scf.iv 0#32 1#32 k) 0#32)) (Scalar.cmpi .sge (Scf.iv 0#32 1#32 k) 0#32))) 0#32 = _
  have := hN.lt
  have := k.lt
  rw [ext_ne, iv_w, iv_sge0, andi_one, iv_eq0, add0, add0, prv_w k.f, hN.min (by omega), hN.min (by omega), cmp_ne, bw_or]
  refine bw_congr ?_
  rw [Ne, w_inj (by omega) (by omega)]
  show (min k.val N ≠ min ((k.val + 287) % 288) N ∨ k.val = 0) ↔ _
  omega

theorem cond14 : k0_cond14 (w k.val) u = bw (k.val ≤ N) := by
  show Scalar.cmpi .ne (Scalar.extui (Scalar.cmpi .slt (Scalar.addi (w k.val) 0#32) u)) 0#32 = _
  have := k.lt
  rw [ext_ne, add0, hN.slt (by omega)]

theorem cond15 : k0_cond15 (w k.val) u = bw (¬ k.val ≤ N) := by
  show Scalar.cmpi .ne (Scalar.extui (Scalar.cmpi .sge (Scalar.addi (w k.val) 0#32) u)) 0#32 = _
  have := k.lt
  rw [ext_ne, add0, hN.sge (by omega)]

theorem cond1 : k0_cond1 u u = bw (1 ≤ N) := by
  show Scalar.cmpi .ne (Scalar.extui (Scalar.andi (Scalar.andi 1#1 (Scalar.cmpi .ne (Scalar.minsi (w 1) (Scalar.subi u 1#32)) (Scalar.minsi (w 0) (Scalar.subi u 1#32)))) 1#1)) 0#32 = _
  rw [ext_ne, andi_one, one_andi, hN.min (by omega), hN.min (by omega), cmp_ne]
  have := hN.lt
  refine bw_congr ?_
  rw [Ne, w_inj (by omega) (by omega)]
  omega

end Cond

section Cond'
variable (k : Trip) (x y : BitVec 32)

theorem cond3 : k0_cond3 k x y = bw (x ≠ y ∧ k.val < 287) := by
  show Scalar.cmpi .ne (Scalar.extui (Scalar.andi (Scalar.andi (Scalar.cmpi .ne x y) (Scalar.xori (Scalar.cmpi .sge (Scf.iv 0#32 1#32 k) 287#32) 1#1)) 1#1)) 0#32 = _
  rw [ext_ne, andi_one, iv_w, iv_sge287, cmp_ne, bw_not, bw_and]
  exact bw_congr (and_congr Iff.rfl (by omega))

theorem cond4 : k0_cond4 k x y = bw (x ≠ y ∧ k.val < 287) := by
  show Scalar.cmpi .ne (Scalar.extui (Scalar.andi (Scalar.andi (Scalar.cmpi .ne x y) (Scalar.xori (Scalar.cmpi .sge (Scf.iv 0#32 1#32 k) 287#32) 1#1)) 1#1)) 0#32 = _
  rw [ext_ne, andi_one, iv_w, iv_sge287, cmp_ne, bw_not, bw_and]
  exact bw_congr (and_congr Iff.rfl (by omega))

theorem cond5 : k0_cond5 k x y = bw (x ≠ y ∧ k.val < 287) := by
  show Scalar.cmpi .ne (Scalar.extui (Scalar.andi (Scalar.andi (Scalar.cmpi .ne x y) (Scalar.xori (Scalar.cmpi .sge (Scf.iv 0#32 1#32 k) 287#32) 1#1)) 1#1)) 0#32 = _
  rw [ext_ne, andi_one, iv_w, iv_sge287, cmp_ne, bw_not, bw_and]
  exact bw_congr (and_congr Iff.rfl (by omega))

theorem cond6 : k0_cond6 k x y = bw (x ≠ y ∧ k.val < 287) := by
  show Scalar.cmpi .ne (Scalar.extui (Scalar.andi (Scalar.andi (Scalar.cmpi .ne x y) (Scalar.xori (Scalar.cmpi .sge (Scf.iv 0#32 1#32 k) 287#32) 1#1)) 1#1)) 0#32 = _
  rw [ext_ne, andi_one, iv_w, iv_sge287, cmp_ne, bw_not, bw_and]
  exact bw_congr (and_congr Iff.rfl (by omega))

theorem cond8 : k0_cond8 k x y = bw (x ≠ y ∨ k.val = 0) := by
  show Scalar.cmpi .ne (Scalar.extui (Scalar.andi (Scalar.ori (Scalar.cmpi .ne x y) (Scalar.cmpi .eq (Scf.iv 0#32 1#32 k) 0#32)) (Scalar.cmpi .sge (Scf.iv 0#32 1#32 k) 0#32))) 0#32 = _
  rw [ext_ne, iv_w, iv_sge0, andi_one, iv_eq0, cmp_ne, bw_or]

theorem cond9 : k0_cond9 k x y = bw (x ≠ y ∨ k.val = 0) := by
  show Scalar.cmpi .ne (Scalar.extui (Scalar.andi (Scalar.ori (Scalar.cmpi .ne x y) (Scalar.cmpi .eq (Scf.iv 0#32 1#32 k) 0#32)) (Scalar.cmpi .sge (Scf.iv 0#32 1#32 k) 0#32))) 0#32 = _
  rw [ext_ne, iv_w, iv_sge0, andi_one, iv_eq0, cmp_ne, bw_or]

theorem cond10 : k0_cond10 k x y = bw (x ≠ y ∨ k.val = 0) := by
  show Scalar.cmpi .ne (Scalar.extui (Scalar.andi (Scalar.ori (Scalar.cmpi .ne x y) (Scalar.cmpi .eq (Scf.iv 0#32 1#32 k) 0#32)) (Scalar.cmpi .sge (Scf.iv 0#32 1#32 k) 0#32))) 0#32 = _
  rw [ext_ne, iv_w, iv_sge0, andi_one, iv_eq0, cmp_ne, bw_or]

theorem cond11 : k0_cond11 k x y = bw (x ≠ y ∨ k.val = 0) := by
  show Scalar.cmpi .ne (Scalar.extui (Scalar.andi (Scalar.ori (Scalar.cmpi .ne x y) (Scalar.cmpi .eq (Scf.iv 0#32 1#32 k) 0#32)) (Scalar.cmpi .sge (Scf.iv 0#32 1#32 k) 0#32))) 0#32 = _
  rw [ext_ne, iv_w, iv_sge0, andi_one, iv_eq0, cmp_ne, bw_or]

theorem cond13 : k0_cond13 (w k.val) x y = bw (k.val = 0 ∨ x ≠ y) := by
  show Scalar.cmpi .ne (Scalar.extui (Scalar.ori (Scalar.cmpi .eq (Scalar.addi (w k.val) 0#32) 0#32) (Scalar.cmpi .ne x y))) 0#32 = _
  rw [ext_ne, add0, iv_eq0, cmp_ne, bw_or]

theorem cond21 : k0_cond21 k (w k.val) = 1#1 := by
  show Scalar.cmpi .ne (Scalar.extui (Scalar.ori (Scalar.cmpi .ne (Scalar.addi (w k.val) 0#32) (Scalar.addi (nxt (w k.val)) 0#32)) (Scalar.cmpi .eq (Scf.iv 0#32 1#32 k) 287#32))) 0#32 = _
  have := k.lt
  rw [ext_ne, add0, add0, iv_w, nxt_w k.f, iv_eq287, cmp_ne, bw_or]
  refine bw_true (Or.inl ?_)
  rw [Ne, w_inj (by omega) (by omega)]
  show ¬ k.val = (k.val + 1) % 288
  omega

theorem cond27 : k0_cond27 k (w k.val) = bw (k.val ≠ 0) := by
  show Scalar.cmpi .ne (Scalar.extui (Scalar.andi (Scalar.cmpi .ne (Scalar.addi (w k.val) 0#32) (Scalar.addi (prv (w k.val)) 0#32)) (Scalar.xori (Scalar.cmpi .eq (Scf.iv 0#32 1#32 k) 0#32) 1#1))) 0#32 = _
  have := k.lt
  rw [ext_ne, add0, add0, iv_w, prv_w k.f, iv_eq0, cmp_ne, bw_not, bw_and]
  refine bw_congr ?_
  rw [Ne, w_inj (by omega) (by omega)]
  show (¬ k.val = (k.val + 287) % 288 ∧ ¬ k.val = 0) ↔ _
  omega

end Cond'

/-! ## Offsets -/

theorem rem3 {j : ℕ} (h : j < 1000) : (Scalar.remui (w j) 3#32).toNat = j % 3 := by
  unfold Scalar.remui IntOp.remui
  rw [if_neg (by decide), BitVec.toNat_umod]
  simp only [w, BitVec.toNat_ofNat]
  show j % 4294967296 % 3 = j % 3
  omega
theorem rem2 {j : ℕ} (h : j < 1000) : (Scalar.remui (w j) 2#32).toNat = j % 2 := by
  unfold Scalar.remui IntOp.remui
  rw [if_neg (by decide), BitVec.toNat_umod]
  simp only [w, BitVec.toNat_ofNat]
  show j % 4294967296 % 2 = j % 2
  omega
theorem rows {b : ℕ} (h : b < 288) : (Scalar.muli 2048#32 (w b)).toNat = 2048 * b := by
  show (2048#32 * w b).toNat = _
  rw [BitVec.toNat_mul]
  simp only [w, BitVec.toNat_ofNat]
  omega
theorem one_mul_w (e : BitVec 32) : (Scalar.muli 1#32 e).toNat = e.toNat := by
  show (1#32 * e).toNat = _
  rw [BitVec.one_mul]
theorem toNat_w {k : ℕ} (h : k < 1000) : (w k).toNat = k := by
  simp only [w, BitVec.toNat_ofNat]; omega

theorem off19 {j : ℕ} (h : j < 1000) : k0_off19 (w j) = ![j % 3] := by
  show ![(Scalar.remui (w j) 3#32).toNat] = _
  rw [rem3 h]
theorem off46 {j : ℕ} (h : j < 1000) : k0_off46 (w j) = ![j % 3] := by
  show ![(Scalar.remui (w j) 3#32).toNat] = _
  rw [rem3 h]
theorem off20 {j : ℕ} (h : j < 1000) : k0_off20 (w j) = ![j % 3, 0, 0] := by
  show ![(Scalar.remui (w j) 3#32).toNat, 0, 0] = _
  rw [rem3 h]
theorem off47 {j : ℕ} (h : j < 1000) : k0_off47 (w j) = ![j % 3, 0, 0] := by
  show ![(Scalar.remui (w j) 3#32).toNat, 0, 0] = _
  rw [rem3 h]
theorem off73 {j : ℕ} (h : j < 1000) : k0_off73 (w j) = ![j % 3, 0, 0] := by
  show ![(Scalar.remui (w j) 3#32).toNat, 0, 0] = _
  rw [rem3 h]
theorem off25 {j : ℕ} (h : j < 1000) : k0_off25 (w j) = ![j % 2] := by
  show ![(Scalar.remui (w j) 2#32).toNat] = _
  rw [rem2 h]
theorem off31 {j : ℕ} (h : j < 1000) : k0_off31 (w j) = ![j % 2] := by
  show ![(Scalar.remui (w j) 2#32).toNat] = _
  rw [rem2 h]
theorem off37 {j : ℕ} (h : j < 1000) : k0_off37 (w j) = ![j % 2] := by
  show ![(Scalar.remui (w j) 2#32).toNat] = _
  rw [rem2 h]
theorem off43 {j : ℕ} (h : j < 1000) : k0_off43 (w j) = ![j % 2] := by
  show ![(Scalar.remui (w j) 2#32).toNat] = _
  rw [rem2 h]
theorem off51 {j : ℕ} (h : j < 1000) : k0_off51 (w j) = ![j % 2] := by
  show ![(Scalar.remui (w j) 2#32).toNat] = _
  rw [rem2 h]
theorem off56 {j : ℕ} (h : j < 1000) : k0_off56 (w j) = ![j % 2] := by
  show ![(Scalar.remui (w j) 2#32).toNat] = _
  rw [rem2 h]
theorem off61 {j : ℕ} (h : j < 1000) : k0_off61 (w j) = ![j % 2] := by
  show ![(Scalar.remui (w j) 2#32).toNat] = _
  rw [rem2 h]
theorem off66 {j : ℕ} (h : j < 1000) : k0_off66 (w j) = ![j % 2] := by
  show ![(Scalar.remui (w j) 2#32).toNat] = _
  rw [rem2 h]
theorem off79 {j : ℕ} (h : j < 1000) : k0_off79 (w j) = ![j % 2] := by
  show ![(Scalar.remui (w j) 2#32).toNat] = _
  rw [rem2 h]
theorem off82 {j : ℕ} (h : j < 1000) : k0_off82 (w j) = ![j % 2] := by
  show ![(Scalar.remui (w j) 2#32).toNat] = _
  rw [rem2 h]
theorem off85 {j : ℕ} (h : j < 1000) : k0_off85 (w j) = ![j % 2] := by
  show ![(Scalar.remui (w j) 2#32).toNat] = _
  rw [rem2 h]
theorem off26 {j : ℕ} (h : j < 1000) : k0_off26 (w j) = ![j % 2, 0, 0, 0] := by
  show ![(Scalar.remui (w j) 2#32).toNat, 0, 0, 0] = _
  rw [rem2 h]
theorem off32 {j : ℕ} (h : j < 1000) : k0_off32 (w j) = ![j % 2, 0, 0, 0] := by
  show ![(Scalar.remui (w j) 2#32).toNat, 0, 0, 0] = _
  rw [rem2 h]
theorem off38 {j : ℕ} (h : j < 1000) : k0_off38 (w j) = ![j % 2, 0, 0, 0] := by
  show ![(Scalar.remui (w j) 2#32).toNat, 0, 0, 0] = _
  rw [rem2 h]
theorem off44 {j : ℕ} (h : j < 1000) : k0_off44 (w j) = ![j % 2, 0, 0, 0] := by
  show ![(Scalar.remui (w j) 2#32).toNat, 0, 0, 0] = _
  rw [rem2 h]
theorem off52 {j : ℕ} (h : j < 1000) : k0_off52 (w j) = ![j % 2, 0, 0, 0] := by
  show ![(Scalar.remui (w j) 2#32).toNat, 0, 0, 0] = _
  rw [rem2 h]
theorem off57 {j : ℕ} (h : j < 1000) : k0_off57 (w j) = ![j % 2, 0, 0, 0] := by
  show ![(Scalar.remui (w j) 2#32).toNat, 0, 0, 0] = _
  rw [rem2 h]
theorem off62 {j : ℕ} (h : j < 1000) : k0_off62 (w j) = ![j % 2, 0, 0, 0] := by
  show ![(Scalar.remui (w j) 2#32).toNat, 0, 0, 0] = _
  rw [rem2 h]
theorem off67 {j : ℕ} (h : j < 1000) : k0_off67 (w j) = ![j % 2, 0, 0, 0] := by
  show ![(Scalar.remui (w j) 2#32).toNat, 0, 0, 0] = _
  rw [rem2 h]
theorem off71 {j : ℕ} (h : j < 1000) : k0_off71 (w j) = ![j % 2, 0, 0, 0] := by
  show ![(Scalar.remui (w j) 2#32).toNat, 0, 0, 0] = _
  rw [rem2 h]
theorem off72 {j : ℕ} (h : j < 1000) : k0_off72 (w j) = ![j % 2, 0, 0, 0] := by
  show ![(Scalar.remui (w j) 2#32).toNat, 0, 0, 0] = _
  rw [rem2 h]
theorem off75 {j : ℕ} (h : j < 1000) : k0_off75 (w j) = ![j % 2, 0, 0, 0] := by
  show ![(Scalar.remui (w j) 2#32).toNat, 0, 0, 0] = _
  rw [rem2 h]
theorem off76 {j : ℕ} (h : j < 1000) : k0_off76 (w j) = ![j % 2, 0, 0, 0] := by
  show ![(Scalar.remui (w j) 2#32).toNat, 0, 0, 0] = _
  rw [rem2 h]
theorem off77 {j : ℕ} (h : j < 1000) : k0_off77 (w j) = ![j % 2, 0, 0] := by
  show ![(Scalar.remui (w j) 2#32).toNat, 0, 0] = _
  rw [rem2 h]
theorem off78 {j : ℕ} (h : j < 1000) : k0_off78 (w j) = ![j % 2, 0, 0] := by
  show ![(Scalar.remui (w j) 2#32).toNat, 0, 0] = _
  rw [rem2 h]
theorem off81 {j : ℕ} (h : j < 1000) : k0_off81 (w j) = ![j % 2, 0, 0] := by
  show ![(Scalar.remui (w j) 2#32).toNat, 0, 0] = _
  rw [rem2 h]
theorem off84 {j : ℕ} (h : j < 1000) : k0_off84 (w j) = ![j % 2, 0, 0] := by
  show ![(Scalar.remui (w j) 2#32).toNat, 0, 0] = _
  rw [rem2 h]
theorem off87 {j : ℕ} (h : j < 1000) : k0_off87 (w j) = ![j % 2, 0, 0] := by
  show ![(Scalar.remui (w j) 2#32).toNat, 0, 0] = _
  rw [rem2 h]
theorem off6 (e : BitVec 32) : k0_off6 e = ![e.toNat, 0, 0] := by
  show ![(Scalar.muli 1#32 e).toNat, 0, 0] = _
  rw [one_mul_w]
theorem off9 (e : BitVec 32) : k0_off9 e = ![e.toNat, 0, 0] := by
  show ![(Scalar.muli 1#32 e).toNat, 0, 0] = _
  rw [one_mul_w]
theorem off12 (e : BitVec 32) : k0_off12 e = ![e.toNat, 0, 0] := by
  show ![(Scalar.muli 1#32 e).toNat, 0, 0] = _
  rw [one_mul_w]
theorem off15 (e : BitVec 32) : k0_off15 e = ![e.toNat, 0, 0] := by
  show ![(Scalar.muli 1#32 e).toNat, 0, 0] = _
  rw [one_mul_w]
theorem off27 (e : BitVec 32) : k0_off27 e = ![e.toNat, 0, 0] := by
  show ![(Scalar.muli 1#32 e).toNat, 0, 0] = _
  rw [one_mul_w]
theorem off33 (e : BitVec 32) : k0_off33 e = ![e.toNat, 0, 0] := by
  show ![(Scalar.muli 1#32 e).toNat, 0, 0] = _
  rw [one_mul_w]
theorem off39 (e : BitVec 32) : k0_off39 e = ![e.toNat, 0, 0] := by
  show ![(Scalar.muli 1#32 e).toNat, 0, 0] = _
  rw [one_mul_w]
theorem off45 (e : BitVec 32) : k0_off45 e = ![e.toNat, 0, 0] := by
  show ![(Scalar.muli 1#32 e).toNat, 0, 0] = _
  rw [one_mul_w]
theorem off53 (e : BitVec 32) : k0_off53 e = ![e.toNat, 0, 0] := by
  show ![(Scalar.muli 1#32 e).toNat, 0, 0] = _
  rw [one_mul_w]
theorem off58 (e : BitVec 32) : k0_off58 e = ![e.toNat, 0, 0] := by
  show ![(Scalar.muli 1#32 e).toNat, 0, 0] = _
  rw [one_mul_w]
theorem off63 (e : BitVec 32) : k0_off63 e = ![e.toNat, 0, 0] := by
  show ![(Scalar.muli 1#32 e).toNat, 0, 0] = _
  rw [one_mul_w]
theorem off68 (e : BitVec 32) : k0_off68 e = ![e.toNat, 0, 0] := by
  show ![(Scalar.muli 1#32 e).toNat, 0, 0] = _
  rw [one_mul_w]

theorem off3 {u : BitVec 32} {N : ℕ} (hN : NW u N) : k0_off3 u = ![2048 * min 0 N, 0] := by
  show ![(Scalar.muli 2048#32 (Scalar.minsi (w 0) (Scalar.subi u 1#32))).toNat, 0] = _
  have := hN.lt
  rw [hN.min (by omega), rows (by omega)]
theorem off18 {u : BitVec 32} {N : ℕ} (hN : NW u N) : k0_off18 u = ![2048 * min 1 N, 0] := by
  show ![(Scalar.muli 2048#32 (Scalar.minsi (w 1) (Scalar.subi u 1#32))).toNat, 0] = _
  have := hN.lt
  rw [hN.min (by omega), rows (by omega)]
theorem off21 {u : BitVec 32} {N : ℕ} (hN : NW u N) (k : Trip) : k0_off21 (w k.val) u = ![2048 * min ((k.val + 2) % 288) N, 0] := by
  show ![(Scalar.muli 2048#32 (Scalar.minsi (Scalar.addi (nxt (nxt (w k.val))) 0#32) (Scalar.subi u 1#32))).toNat, 0] = _
  have := hN.lt
  rw [add0, nxt2_w k.f, hN.min (by omega), rows (by omega)]
theorem off48 {u : BitVec 32} {N : ℕ} (hN : NW u N) (k : Trip) : k0_off48 (w k.val) u = ![2048 * min k.val N, 0] := by
  show ![(Scalar.muli 2048#32 (Scalar.minsi (Scalar.addi (w k.val) 0#32) (Scalar.subi u 1#32))).toNat, 0] = _
  have := hN.lt
  have := k.lt
  rw [add0, hN.min (by omega), rows (by omega)]
theorem off80 (k : Trip) : k0_off80 (w k.val) = ![2048 * k.val, 0] := by
  show ![(Scalar.muli 2048#32 (Scalar.addi (w k.val) 0#32)).toNat, 0] = _
  rw [add0, rows k.lt]
theorem off83 (k : Trip) : k0_off83 (w k.val) = ![2048 * ((k.val + 287) % 288), 0] := by
  show ![(Scalar.muli 2048#32 (Scalar.addi (prv (w k.val)) 0#32)).toNat, 0] = _
  rw [add0, prv_w k.f, rows (by omega)]
theorem off86 : k0_off86 (w 0) = ![2048 * 287, 0] := by decide +kernel
theorem off22 (k : Trip) : k0_off22 (w k.val) = ![k.val] := by
  show ![(Scalar.addi (w k.val) 0#32).toNat] = _
  have := k.lt
  rw [add0, toNat_w (by omega)]
theorem off28 (k : Trip) : k0_off28 (w k.val) = ![k.val] := by
  show ![(Scalar.addi (w k.val) 0#32).toNat] = _
  have := k.lt
  rw [add0, toNat_w (by omega)]
theorem off34 (k : Trip) : k0_off34 (w k.val) = ![k.val] := by
  show ![(Scalar.addi (w k.val) 0#32).toNat] = _
  have := k.lt
  rw [add0, toNat_w (by omega)]
theorem off40 (k : Trip) : k0_off40 (w k.val) = ![k.val] := by
  show ![(Scalar.addi (w k.val) 0#32).toNat] = _
  have := k.lt
  rw [add0, toNat_w (by omega)]
theorem off50 (k : Trip) : k0_off50 (w k.val) = ![k.val] := by
  show ![(Scalar.addi (w k.val) 0#32).toNat] = _
  have := k.lt
  rw [add0, toNat_w (by omega)]
theorem off55 (k : Trip) : k0_off55 (w k.val) = ![k.val] := by
  show ![(Scalar.addi (w k.val) 0#32).toNat] = _
  have := k.lt
  rw [add0, toNat_w (by omega)]
theorem off60 (k : Trip) : k0_off60 (w k.val) = ![k.val] := by
  show ![(Scalar.addi (w k.val) 0#32).toNat] = _
  have := k.lt
  rw [add0, toNat_w (by omega)]
theorem off65 (k : Trip) : k0_off65 (w k.val) = ![k.val] := by
  show ![(Scalar.addi (w k.val) 0#32).toNat] = _
  have := k.lt
  rw [add0, toNat_w (by omega)]
theorem off69 (k : Trip) : k0_off69 (w k.val) = ![k.val] := by
  show ![(Scalar.addi (w k.val) 0#32).toNat] = _
  have := k.lt
  rw [add0, toNat_w (by omega)]
theorem off74 (k : Trip) : k0_off74 (w k.val) = ![k.val] := by
  show ![(Scalar.addi (w k.val) 0#32).toNat] = _
  have := k.lt
  rw [add0, toNat_w (by omega)]
theorem off23 (k : Trip) : k0_off23 (w k.val) = ![(k.val + 1) % 288] := by
  show ![(Scalar.addi (nxt (w k.val)) 0#32).toNat] = _
  have := k.lt
  rw [add0, nxt_w k.f, toNat_w (by omega)]
theorem off24 (k : Trip) : k0_off24 (w k.val) = ![(k.val + 1) % 288] := by
  show ![(Scalar.addi (nxt (w k.val)) 0#32).toNat] = _
  have := k.lt
  rw [add0, nxt_w k.f, toNat_w (by omega)]
theorem off29 (k : Trip) : k0_off29 (w k.val) = ![(k.val + 1) % 288] := by
  show ![(Scalar.addi (nxt (w k.val)) 0#32).toNat] = _
  have := k.lt
  rw [add0, nxt_w k.f, toNat_w (by omega)]
theorem off30 (k : Trip) : k0_off30 (w k.val) = ![(k.val + 1) % 288] := by
  show ![(Scalar.addi (nxt (w k.val)) 0#32).toNat] = _
  have := k.lt
  rw [add0, nxt_w k.f, toNat_w (by omega)]
theorem off35 (k : Trip) : k0_off35 (w k.val) = ![(k.val + 1) % 288] := by
  show ![(Scalar.addi (nxt (w k.val)) 0#32).toNat] = _
  have := k.lt
  rw [add0, nxt_w k.f, toNat_w (by omega)]
theorem off36 (k : Trip) : k0_off36 (w k.val) = ![(k.val + 1) % 288] := by
  show ![(Scalar.addi (nxt (w k.val)) 0#32).toNat] = _
  have := k.lt
  rw [add0, nxt_w k.f, toNat_w (by omega)]
theorem off41 (k : Trip) : k0_off41 (w k.val) = ![(k.val + 1) % 288] := by
  show ![(Scalar.addi (nxt (w k.val)) 0#32).toNat] = _
  have := k.lt
  rw [add0, nxt_w k.f, toNat_w (by omega)]
theorem off42 (k : Trip) : k0_off42 (w k.val) = ![(k.val + 1) % 288] := by
  show ![(Scalar.addi (nxt (w k.val)) 0#32).toNat] = _
  have := k.lt
  rw [add0, nxt_w k.f, toNat_w (by omega)]
theorem off49 (k : Trip) : k0_off49 (w k.val) = ![(k.val + 287) % 288] := by
  show ![(Scalar.addi (prv (w k.val)) 0#32).toNat] = _
  have := k.lt
  rw [add0, prv_w k.f, toNat_w (by omega)]
theorem off54 (k : Trip) : k0_off54 (w k.val) = ![(k.val + 287) % 288] := by
  show ![(Scalar.addi (prv (w k.val)) 0#32).toNat] = _
  have := k.lt
  rw [add0, prv_w k.f, toNat_w (by omega)]
theorem off59 (k : Trip) : k0_off59 (w k.val) = ![(k.val + 287) % 288] := by
  show ![(Scalar.addi (prv (w k.val)) 0#32).toNat] = _
  have := k.lt
  rw [add0, prv_w k.f, toNat_w (by omega)]
theorem off64 (k : Trip) : k0_off64 (w k.val) = ![(k.val + 287) % 288] := by
  show ![(Scalar.addi (prv (w k.val)) 0#32).toNat] = _
  have := k.lt
  rw [add0, prv_w k.f, toNat_w (by omega)]
theorem off70 (k : Trip) : k0_off70 (w k.val) = ![k.val - 1] :=
  (show ∀ k : Fin 288, k0_off70 (w k.val) = ![k.val - 1] by decide +kernel) k.f

/-! ## Bounds -/

theorem inb1 {off : Fin 1 → ℕ} {s T : Fin 1 → ℕ} {a : ℕ} (e : off = ![a]) (h : a + s 0 ≤ T 0) : ∀ i, off i + s i ≤ T i := by
  subst e; intro i; fin_cases i; exact h
theorem inb2 {off : Fin 2 → ℕ} {s T : Fin 2 → ℕ} {a : ℕ} (e : off = ![a, 0]) (h : a + s 0 ≤ T 0) (h1 : s 1 ≤ T 1) : ∀ i, off i + s i ≤ T i := by
  subst e; intro i; fin_cases i
  · exact h
  · show 0 + s 1 ≤ T 1; omega
theorem inb3 {off : Fin 3 → ℕ} {s T : Fin 3 → ℕ} {a : ℕ} (e : off = ![a, 0, 0]) (h : a + s 0 ≤ T 0) (h1 : s 1 ≤ T 1) (h2 : s 2 ≤ T 2) :
    ∀ i, off i + s i ≤ T i := by
  subst e; intro i; fin_cases i
  · exact h
  · show 0 + s 1 ≤ T 1; omega
  · show 0 + s 2 ≤ T 2; omega
theorem inb4 {off : Fin 4 → ℕ} {s T : Fin 4 → ℕ} {a : ℕ} (e : off = ![a, 0, 0, 0]) (h : a + s 0 ≤ T 0) (h1 : s 1 ≤ T 1) (h2 : s 2 ≤ T 2)
    (h3 : s 3 ≤ T 3) : ∀ i, off i + s i ≤ T i := by
  subst e; intro i; fin_cases i
  · exact h
  · show 0 + s 1 ≤ T 1; omega
  · show 0 + s 2 ≤ T 2; omega
  · show 0 + s 3 ≤ T 3; omega

end Cert.Proof.Experts

end
-- ==== Proof.Experts.Windows.lean ====
/-
  The windows of the experts kernel: the slots each of its six staged arrays has, by a running number,
  the block a slot is fetched from or returned to, and the two halves of each transfer at the slots'
  names in the kernel.
-/
module

public import proofs.«01_k».proof.Proof.Experts.Words

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

/-- Slots are counted modulo their number. -/
theorem modCongr {α : Sort*} {n : ℕ} (f : (m : ℕ) → m + 1 ≤ n → α) {j i : ℕ} (h : j % n = i % n) (p q) : f (j % n) p = f (i % n) q := by
  have : ∀ (a b : ℕ) (e : a = b) p q, f a p = f b q := by rintro a _ rfl p q; rfl
  exact this _ _ h p q

/-! ## The window `xs` -/

/-- Slot `m`, and by a running number `j`. -/
def xsD' (al : Memref sig .tc .vmem S3x2048x128 .i32) (m : ℕ) (hm : m + 1 ≤ 3) : Memref sig .tc .vmem S2048x128 .i32 :=
  (al.slice (Rect.unit (s := S3x2048x128) ![m, 0, 0] S1x2048x128.size (inb3 (a := m) rfl hm (by decide) (by decide))) (fun _ => rfl)).squeeze S2048x128 Facts₀.squeezes_S1x2048x128_S2048x128
def xsD (al : Memref sig .tc .vmem S3x2048x128 .i32) (j : ℕ) : Memref sig .tc .vmem S2048x128 .i32 := xsD' al (j % 3) (Nat.mod_lt _ (by decide))
/-- Its semaphore. -/
def xsS' (sm : DmaSems sig S3) (m : ℕ) (hm : m + 1 ≤ 3) : DmaSem sig :=
  ((sm.slice (Rect.unit (s := S3) ![m] S1.size (inb1 (a := m) rfl hm))).squeeze S_ Facts₀.squeezes_S1_S_).sem
def xsS (sm : DmaSems sig S3) (j : ℕ) : DmaSem sig := xsS' sm (j % 3) (Nat.mod_lt _ (by decide))
/-- Block `b` of the array. -/
abbrev xsR (b : ℕ) : Rect S589824x128 :=
  Rect.unit (s := S589824x128) ![2048 * (b % 288), 0] S2048x128.size (inb2 (a := 2048 * (b % 288)) rfl (by show 2048 * (b % 288) + 2048 ≤ 589824; omega) (by decide))
/-- The share of the array slot `j` fetches from. -/
def xsQ (j : ℕ) : PosShare TreeShare := Transfers.shareTokN fullShare (j % 3)

section
variable (c : Dev nD) (al : Memref sig .tc .vmem S3x2048x128 .i32) (sm : DmaSems sig S3) (ar : Memref sig .tc .hbm S589824x128 .i32)
  (A : Buf (Elt F) (ar.view.loc (c : Thread nD τ)))

def xsBlk (b : ℕ) : S2048x128.Idx → Elt F .i32 := blk c (xsR b) (fun _ => rfl) ar A
def xsFree (j : ℕ) : sProp 𝕄 := SFree c (xsD al j) (xsS sm j) ar (xsQ j) A
def xsHeld (j b : ℕ) : sProp 𝕄 := SHeld c (xsD al j) (xsS sm j) ar (xsQ j) A (xsBlk c ar A b)
def xsFly (j b : ℕ) : sProp 𝕄 := SFly c (xsR b) (fun _ => rfl) (xsD al j) (xsS sm j) ar (xsQ j) A

theorem xsHeldFree (j b : ℕ) : xsHeld c al sm ar A j b ⊢ xsFree c al sm ar A j := held_free c _ _ _ _ _ _

theorem xsSlot {j i : ℕ} (h : j % 3 = i % 3) : xsFree c al sm ar A j = xsFree c al sm ar A i := by
  exact modCongr (fun m p => SFree c (xsD' al m p) (xsS' sm m p) ar (Transfers.shareTokN fullShare m) A) h _ _

variable {c al sm ar A}

theorem xsIssue {j b : ℕ} (hb : b < 288) {o1 o2 o3 h1 h2 h2' h3 h3' hs hd ht} (e1 : o1 = ![j % 3]) (e2 : o2 = ![j % 3, 0, 0])
    (e3 : o3 = ![2048 * b, 0]) {Q : PUnit → sProp 𝕄} :
    xsFree c al sm ar A j ⊢ iprop((xsFly c al sm ar A j b -∗ Q ⟨⟩)
      -∗ WP c (Prog.lift (.enqueueDma (ar.slice (Rect.unit (s := S589824x128) o3 S2048x128.size h3) h3')
          (.here ((al.slice (Rect.unit (s := S3x2048x128) o2 S1x2048x128.size h2) h2').squeeze S2048x128 Facts₀.squeezes_S1x2048x128_S2048x128))
          (.dma ((sm.slice (Rect.unit (s := S3) o1 S1.size h1)).squeeze S_ Facts₀.squeezes_S1_S_).sem) hs hd ht)) Q) := by
  have e3' : o3 = ![2048 * (b % 288), 0] := by rw [e3, Nat.mod_eq_of_lt hb]
  subst e1 e2 e3'
  exact slotIssue c (r := xsR b) (hr := fun _ => rfl) (dst := xsD al j) (sm := xsS sm j) (ar := ar) (q := xsQ j) (A := A) (View.dmaCredit_pos _ (show 0 < S2048x128.numel by decide))

theorem xsWait {j b : ℕ} {o1 o2 h1 h2 h2' sp s' e'} {srcw : Memref sig .tc sp s' e'} {hs hd} (e1 : o1 = ![j % 3]) (e2 : o2 = ![j % 3, 0, 0])
    {Q : PUnit → sProp 𝕄} :
    iprop(xsFly c al sm ar A j b ∗ Ow (F := F) c) ⊢ iprop((iprop(xsHeld c al sm ar A j b ∗ Ow (F := F) c) -∗ Q ⟨⟩)
      -∗ WP c (Prog.lift (.waitDma2 ((sm.slice (Rect.unit (s := S3) o1 S1.size h1)).squeeze S_ Facts₀.squeezes_S1_S_).sem srcw
          ((al.slice (Rect.unit (s := S3x2048x128) o2 S1x2048x128.size h2) h2').squeeze S2048x128 Facts₀.squeezes_S1x2048x128_S2048x128) hs hd)) Q) := by
  subst e1 e2
  exact slotWait c (r := xsR b) (hr := fun _ => rfl) (dst := xsD al j) (sm := xsS sm j) (ar := ar) (q := xsQ j) (A := A)
end

/-! ## The window `gu` -/

/-- Slot `m`, and by a running number `j`. -/
def guD' (al : Memref sig .tc .vmem S2x1x1024x2048 .f32) (m : ℕ) (hm : m + 1 ≤ 2) : Memref sig .tc .vmem S1x1024x2048 .f32 :=
  (al.slice (Rect.unit (s := S2x1x1024x2048) ![m, 0, 0, 0] S1x1x1024x2048.size (inb4 (a := m) rfl hm (by decide) (by decide) (by decide))) (fun _ => rfl)).squeeze S1x1024x2048 Facts₀.squeezes_S1x1x1024x2048_S1x1024x2048
def guD (al : Memref sig .tc .vmem S2x1x1024x2048 .f32) (j : ℕ) : Memref sig .tc .vmem S1x1024x2048 .f32 := guD' al (j % 2) (Nat.mod_lt _ (by decide))
/-- Its semaphore. -/
def guS' (sm : DmaSems sig S2) (m : ℕ) (hm : m + 1 ≤ 2) : DmaSem sig :=
  ((sm.slice (Rect.unit (s := S2) ![m] S1.size (inb1 (a := m) rfl hm))).squeeze S_ Facts₀.squeezes_S1_S_).sem
def guS (sm : DmaSems sig S2) (j : ℕ) : DmaSem sig := guS' sm (j % 2) (Nat.mod_lt _ (by decide))
/-- Block `b` of the array. -/
abbrev guR (b : ℕ) : Rect S32x1024x2048 :=
  Rect.unit (s := S32x1024x2048) ![b % 32, 0, 0] S1x1024x2048.size (inb3 (a := b % 32) rfl (by show b % 32 + 1 ≤ 32; omega) (by decide) (by decide))
/-- The share of the array slot `j` fetches from. -/
def guQ (j : ℕ) : PosShare TreeShare := Transfers.shareTokN fullShare (j % 2)

section
variable (c : Dev nD) (al : Memref sig .tc .vmem S2x1x1024x2048 .f32) (sm : DmaSems sig S2) (ar : Memref sig .tc .hbm S32x1024x2048 .f32)
  (A : Buf (Elt F) (ar.view.loc (c : Thread nD τ)))

def guBlk (b : ℕ) : S1x1024x2048.Idx → Elt F .f32 := blk c (guR b) (fun _ => rfl) ar A
def guFree (j : ℕ) : sProp 𝕄 := SFree c (guD al j) (guS sm j) ar (guQ j) A
def guHeld (j b : ℕ) : sProp 𝕄 := SHeld c (guD al j) (guS sm j) ar (guQ j) A (guBlk c ar A b)
def guFly (j b : ℕ) : sProp 𝕄 := SFly c (guR b) (fun _ => rfl) (guD al j) (guS sm j) ar (guQ j) A

theorem guHeldFree (j b : ℕ) : guHeld c al sm ar A j b ⊢ guFree c al sm ar A j := held_free c _ _ _ _ _ _

theorem guSlot {j i : ℕ} (h : j % 2 = i % 2) : guFree c al sm ar A j = guFree c al sm ar A i := by
  exact modCongr (fun m p => SFree c (guD' al m p) (guS' sm m p) ar (Transfers.shareTokN fullShare m) A) h _ _

variable {c al sm ar A}

theorem guIssue {j b : ℕ} (hb : b < 32) {o1 o2 o3 h1 h2 h2' h3 h3' hs hd ht} (e1 : o1 = ![j % 2]) (e2 : o2 = ![j % 2, 0, 0, 0])
    (e3 : o3 = ![b, 0, 0]) {Q : PUnit → sProp 𝕄} :
    guFree c al sm ar A j ⊢ iprop((guFly c al sm ar A j b -∗ Q ⟨⟩)
      -∗ WP c (Prog.lift (.enqueueDma (ar.slice (Rect.unit (s := S32x1024x2048) o3 S1x1024x2048.size h3) h3')
          (.here ((al.slice (Rect.unit (s := S2x1x1024x2048) o2 S1x1x1024x2048.size h2) h2').squeeze S1x1024x2048 Facts₀.squeezes_S1x1x1024x2048_S1x1024x2048))
          (.dma ((sm.slice (Rect.unit (s := S2) o1 S1.size h1)).squeeze S_ Facts₀.squeezes_S1_S_).sem) hs hd ht)) Q) := by
  have e3' : o3 = ![b % 32, 0, 0] := by rw [e3, Nat.mod_eq_of_lt hb]
  subst e1 e2 e3'
  exact slotIssue c (r := guR b) (hr := fun _ => rfl) (dst := guD al j) (sm := guS sm j) (ar := ar) (q := guQ j) (A := A) (View.dmaCredit_pos _ (show 0 < S1x1024x2048.numel by decide))

theorem guWait {j b : ℕ} {o1 o2 h1 h2 h2' sp s' e'} {srcw : Memref sig .tc sp s' e'} {hs hd} (e1 : o1 = ![j % 2]) (e2 : o2 = ![j % 2, 0, 0, 0])
    {Q : PUnit → sProp 𝕄} :
    iprop(guFly c al sm ar A j b ∗ Ow (F := F) c) ⊢ iprop((iprop(guHeld c al sm ar A j b ∗ Ow (F := F) c) -∗ Q ⟨⟩)
      -∗ WP c (Prog.lift (.waitDma2 ((sm.slice (Rect.unit (s := S2) o1 S1.size h1)).squeeze S_ Facts₀.squeezes_S1_S_).sem srcw
          ((al.slice (Rect.unit (s := S2x1x1024x2048) o2 S1x1x1024x2048.size h2) h2').squeeze S1x1024x2048 Facts₀.squeezes_S1x1x1024x2048_S1x1024x2048) hs hd)) Q) := by
  subst e1 e2
  exact slotWait c (r := guR b) (hr := fun _ => rfl) (dst := guD al j) (sm := guS sm j) (ar := ar) (q := guQ j) (A := A)
end

/-! ## The window `bg` -/

/-- Slot `m`, and by a running number `j`. -/
def bgD' (al : Memref sig .tc .vmem S2x1x1x2048 .f32) (m : ℕ) (hm : m + 1 ≤ 2) : Memref sig .tc .vmem S1x1x2048 .f32 :=
  (al.slice (Rect.unit (s := S2x1x1x2048) ![m, 0, 0, 0] S1x1x1x2048.size (inb4 (a := m) rfl hm (by decide) (by decide) (by decide))) (fun _ => rfl)).squeeze S1x1x2048 Facts₀.squeezes_S1x1x1x2048_S1x1x2048
def bgD (al : Memref sig .tc .vmem S2x1x1x2048 .f32) (j : ℕ) : Memref sig .tc .vmem S1x1x2048 .f32 := bgD' al (j % 2) (Nat.mod_lt _ (by decide))
/-- Its semaphore. -/
def bgS' (sm : DmaSems sig S2) (m : ℕ) (hm : m + 1 ≤ 2) : DmaSem sig :=
  ((sm.slice (Rect.unit (s := S2) ![m] S1.size (inb1 (a := m) rfl hm))).squeeze S_ Facts₀.squeezes_S1_S_).sem
def bgS (sm : DmaSems sig S2) (j : ℕ) : DmaSem sig := bgS' sm (j % 2) (Nat.mod_lt _ (by decide))
/-- Block `b` of the array. -/
abbrev bgR (b : ℕ) : Rect S32x1x2048 :=
  Rect.unit (s := S32x1x2048) ![b % 32, 0, 0] S1x1x2048.size (inb3 (a := b % 32) rfl (by show b % 32 + 1 ≤ 32; omega) (by decide) (by decide))
/-- The share of the array slot `j` fetches from. -/
def bgQ (j : ℕ) : PosShare TreeShare := Transfers.shareTokN fullShare (j % 2)

section
variable (c : Dev nD) (al : Memref sig .tc .vmem S2x1x1x2048 .f32) (sm : DmaSems sig S2) (ar : Memref sig .tc .hbm S32x1x2048 .f32)
  (A : Buf (Elt F) (ar.view.loc (c : Thread nD τ)))

def bgBlk (b : ℕ) : S1x1x2048.Idx → Elt F .f32 := blk c (bgR b) (fun _ => rfl) ar A
def bgFree (j : ℕ) : sProp 𝕄 := SFree c (bgD al j) (bgS sm j) ar (bgQ j) A
def bgHeld (j b : ℕ) : sProp 𝕄 := SHeld c (bgD al j) (bgS sm j) ar (bgQ j) A (bgBlk c ar A b)
def bgFly (j b : ℕ) : sProp 𝕄 := SFly c (bgR b) (fun _ => rfl) (bgD al j) (bgS sm j) ar (bgQ j) A

theorem bgHeldFree (j b : ℕ) : bgHeld c al sm ar A j b ⊢ bgFree c al sm ar A j := held_free c _ _ _ _ _ _

theorem bgSlot {j i : ℕ} (h : j % 2 = i % 2) : bgFree c al sm ar A j = bgFree c al sm ar A i := by
  exact modCongr (fun m p => SFree c (bgD' al m p) (bgS' sm m p) ar (Transfers.shareTokN fullShare m) A) h _ _

variable {c al sm ar A}

theorem bgIssue {j b : ℕ} (hb : b < 32) {o1 o2 o3 h1 h2 h2' h3 h3' hs hd ht} (e1 : o1 = ![j % 2]) (e2 : o2 = ![j % 2, 0, 0, 0])
    (e3 : o3 = ![b, 0, 0]) {Q : PUnit → sProp 𝕄} :
    bgFree c al sm ar A j ⊢ iprop((bgFly c al sm ar A j b -∗ Q ⟨⟩)
      -∗ WP c (Prog.lift (.enqueueDma (ar.slice (Rect.unit (s := S32x1x2048) o3 S1x1x2048.size h3) h3')
          (.here ((al.slice (Rect.unit (s := S2x1x1x2048) o2 S1x1x1x2048.size h2) h2').squeeze S1x1x2048 Facts₀.squeezes_S1x1x1x2048_S1x1x2048))
          (.dma ((sm.slice (Rect.unit (s := S2) o1 S1.size h1)).squeeze S_ Facts₀.squeezes_S1_S_).sem) hs hd ht)) Q) := by
  have e3' : o3 = ![b % 32, 0, 0] := by rw [e3, Nat.mod_eq_of_lt hb]
  subst e1 e2 e3'
  exact slotIssue c (r := bgR b) (hr := fun _ => rfl) (dst := bgD al j) (sm := bgS sm j) (ar := ar) (q := bgQ j) (A := A) (View.dmaCredit_pos _ (show 0 < S1x1x2048.numel by decide))

theorem bgWait {j b : ℕ} {o1 o2 h1 h2 h2' sp s' e'} {srcw : Memref sig .tc sp s' e'} {hs hd} (e1 : o1 = ![j % 2]) (e2 : o2 = ![j % 2, 0, 0, 0])
    {Q : PUnit → sProp 𝕄} :
    iprop(bgFly c al sm ar A j b ∗ Ow (F := F) c) ⊢ iprop((iprop(bgHeld c al sm ar A j b ∗ Ow (F := F) c) -∗ Q ⟨⟩)
      -∗ WP c (Prog.lift (.waitDma2 ((sm.slice (Rect.unit (s := S2) o1 S1.size h1)).squeeze S_ Facts₀.squeezes_S1_S_).sem srcw
          ((al.slice (Rect.unit (s := S2x1x1x2048) o2 S1x1x1x2048.size h2) h2').squeeze S1x1x2048 Facts₀.squeezes_S1x1x1x2048_S1x1x2048) hs hd)) Q) := by
  subst e1 e2
  exact slotWait c (r := bgR b) (hr := fun _ => rfl) (dst := bgD al j) (sm := bgS sm j) (ar := ar) (q := bgQ j) (A := A)
end

/-! ## The window `wd` -/

/-- Slot `m`, and by a running number `j`. -/
def wdD' (al : Memref sig .tc .vmem S2x1x1024x1024 .f32) (m : ℕ) (hm : m + 1 ≤ 2) : Memref sig .tc .vmem S1x1024x1024 .f32 :=
  (al.slice (Rect.unit (s := S2x1x1024x1024) ![m, 0, 0, 0] S1x1x1024x1024.size (inb4 (a := m) rfl hm (by decide) (by decide) (by decide))) (fun _ => rfl)).squeeze S1x1024x1024 Facts₀.squeezes_S1x1x1024x1024_S1x1024x1024
def wdD (al : Memref sig .tc .vmem S2x1x1024x1024 .f32) (j : ℕ) : Memref sig .tc .vmem S1x1024x1024 .f32 := wdD' al (j % 2) (Nat.mod_lt _ (by decide))
/-- Its semaphore. -/
def wdS' (sm : DmaSems sig S2) (m : ℕ) (hm : m + 1 ≤ 2) : DmaSem sig :=
  ((sm.slice (Rect.unit (s := S2) ![m] S1.size (inb1 (a := m) rfl hm))).squeeze S_ Facts₀.squeezes_S1_S_).sem
def wdS (sm : DmaSems sig S2) (j : ℕ) : DmaSem sig := wdS' sm (j % 2) (Nat.mod_lt _ (by decide))
/-- Block `b` of the array. -/
abbrev wdR (b : ℕ) : Rect S32x1024x1024 :=
  Rect.unit (s := S32x1024x1024) ![b % 32, 0, 0] S1x1024x1024.size (inb3 (a := b % 32) rfl (by show b % 32 + 1 ≤ 32; omega) (by decide) (by decide))
/-- The share of the array slot `j` fetches from. -/
def wdQ (j : ℕ) : PosShare TreeShare := Transfers.shareTokN fullShare (j % 2)

section
variable (c : Dev nD) (al : Memref sig .tc .vmem S2x1x1024x1024 .f32) (sm : DmaSems sig S2) (ar : Memref sig .tc .hbm S32x1024x1024 .f32)
  (A : Buf (Elt F) (ar.view.loc (c : Thread nD τ)))

def wdBlk (b : ℕ) : S1x1024x1024.Idx → Elt F .f32 := blk c (wdR b) (fun _ => rfl) ar A
def wdFree (j : ℕ) : sProp 𝕄 := SFree c (wdD al j) (wdS sm j) ar (wdQ j) A
def wdHeld (j b : ℕ) : sProp 𝕄 := SHeld c (wdD al j) (wdS sm j) ar (wdQ j) A (wdBlk c ar A b)
def wdFly (j b : ℕ) : sProp 𝕄 := SFly c (wdR b) (fun _ => rfl) (wdD al j) (wdS sm j) ar (wdQ j) A

theorem wdHeldFree (j b : ℕ) : wdHeld c al sm ar A j b ⊢ wdFree c al sm ar A j := held_free c _ _ _ _ _ _

theorem wdSlot {j i : ℕ} (h : j % 2 = i % 2) : wdFree c al sm ar A j = wdFree c al sm ar A i := by
  exact modCongr (fun m p => SFree c (wdD' al m p) (wdS' sm m p) ar (Transfers.shareTokN fullShare m) A) h _ _

variable {c al sm ar A}

theorem wdIssue {j b : ℕ} (hb : b < 32) {o1 o2 o3 h1 h2 h2' h3 h3' hs hd ht} (e1 : o1 = ![j % 2]) (e2 : o2 = ![j % 2, 0, 0, 0])
    (e3 : o3 = ![b, 0, 0]) {Q : PUnit → sProp 𝕄} :
    wdFree c al sm ar A j ⊢ iprop((wdFly c al sm ar A j b -∗ Q ⟨⟩)
      -∗ WP c (Prog.lift (.enqueueDma (ar.slice (Rect.unit (s := S32x1024x1024) o3 S1x1024x1024.size h3) h3')
          (.here ((al.slice (Rect.unit (s := S2x1x1024x1024) o2 S1x1x1024x1024.size h2) h2').squeeze S1x1024x1024 Facts₀.squeezes_S1x1x1024x1024_S1x1024x1024))
          (.dma ((sm.slice (Rect.unit (s := S2) o1 S1.size h1)).squeeze S_ Facts₀.squeezes_S1_S_).sem) hs hd ht)) Q) := by
  have e3' : o3 = ![b % 32, 0, 0] := by rw [e3, Nat.mod_eq_of_lt hb]
  subst e1 e2 e3'
  exact slotIssue c (r := wdR b) (hr := fun _ => rfl) (dst := wdD al j) (sm := wdS sm j) (ar := ar) (q := wdQ j) (A := A) (View.dmaCredit_pos _ (show 0 < S1x1024x1024.numel by decide))

theorem wdWait {j b : ℕ} {o1 o2 h1 h2 h2' sp s' e'} {srcw : Memref sig .tc sp s' e'} {hs hd} (e1 : o1 = ![j % 2]) (e2 : o2 = ![j % 2, 0, 0, 0])
    {Q : PUnit → sProp 𝕄} :
    iprop(wdFly c al sm ar A j b ∗ Ow (F := F) c) ⊢ iprop((iprop(wdHeld c al sm ar A j b ∗ Ow (F := F) c) -∗ Q ⟨⟩)
      -∗ WP c (Prog.lift (.waitDma2 ((sm.slice (Rect.unit (s := S2) o1 S1.size h1)).squeeze S_ Facts₀.squeezes_S1_S_).sem srcw
          ((al.slice (Rect.unit (s := S2x1x1024x1024) o2 S1x1x1024x1024.size h2) h2').squeeze S1x1024x1024 Facts₀.squeezes_S1x1x1024x1024_S1x1024x1024) hs hd)) Q) := by
  subst e1 e2
  exact slotWait c (r := wdR b) (hr := fun _ => rfl) (dst := wdD al j) (sm := wdS sm j) (ar := ar) (q := wdQ j) (A := A)
end

/-! ## The window `bd` -/

/-- Slot `m`, and by a running number `j`. -/
def bdD' (al : Memref sig .tc .vmem S2x1x1x1024 .f32) (m : ℕ) (hm : m + 1 ≤ 2) : Memref sig .tc .vmem S1x1x1024 .f32 :=
  (al.slice (Rect.unit (s := S2x1x1x1024) ![m, 0, 0, 0] S1x1x1x1024.size (inb4 (a := m) rfl hm (by decide) (by decide) (by decide))) (fun _ => rfl)).squeeze S1x1x1024 Facts₀.squeezes_S1x1x1x1024_S1x1x1024
def bdD (al : Memref sig .tc .vmem S2x1x1x1024 .f32) (j : ℕ) : Memref sig .tc .vmem S1x1x1024 .f32 := bdD' al (j % 2) (Nat.mod_lt _ (by decide))
/-- Its semaphore. -/
def bdS' (sm : DmaSems sig S2) (m : ℕ) (hm : m + 1 ≤ 2) : DmaSem sig :=
  ((sm.slice (Rect.unit (s := S2) ![m] S1.size (inb1 (a := m) rfl hm))).squeeze S_ Facts₀.squeezes_S1_S_).sem
def bdS (sm : DmaSems sig S2) (j : ℕ) : DmaSem sig := bdS' sm (j % 2) (Nat.mod_lt _ (by decide))
/-- Block `b` of the array. -/
abbrev bdR (b : ℕ) : Rect S32x1x1024 :=
  Rect.unit (s := S32x1x1024) ![b % 32, 0, 0] S1x1x1024.size (inb3 (a := b % 32) rfl (by show b % 32 + 1 ≤ 32; omega) (by decide) (by decide))
/-- The share of the array slot `j` fetches from. -/
def bdQ (j : ℕ) : PosShare TreeShare := Transfers.shareTokN fullShare (j % 2)

section
variable (c : Dev nD) (al : Memref sig .tc .vmem S2x1x1x1024 .f32) (sm : DmaSems sig S2) (ar : Memref sig .tc .hbm S32x1x1024 .f32)
  (A : Buf (Elt F) (ar.view.loc (c : Thread nD τ)))

def bdBlk (b : ℕ) : S1x1x1024.Idx → Elt F .f32 := blk c (bdR b) (fun _ => rfl) ar A
def bdFree (j : ℕ) : sProp 𝕄 := SFree c (bdD al j) (bdS sm j) ar (bdQ j) A
def bdHeld (j b : ℕ) : sProp 𝕄 := SHeld c (bdD al j) (bdS sm j) ar (bdQ j) A (bdBlk c ar A b)
def bdFly (j b : ℕ) : sProp 𝕄 := SFly c (bdR b) (fun _ => rfl) (bdD al j) (bdS sm j) ar (bdQ j) A

theorem bdHeldFree (j b : ℕ) : bdHeld c al sm ar A j b ⊢ bdFree c al sm ar A j := held_free c _ _ _ _ _ _

theorem bdSlot {j i : ℕ} (h : j % 2 = i % 2) : bdFree c al sm ar A j = bdFree c al sm ar A i := by
  exact modCongr (fun m p => SFree c (bdD' al m p) (bdS' sm m p) ar (Transfers.shareTokN fullShare m) A) h _ _

variable {c al sm ar A}

theorem bdIssue {j b : ℕ} (hb : b < 32) {o1 o2 o3 h1 h2 h2' h3 h3' hs hd ht} (e1 : o1 = ![j % 2]) (e2 : o2 = ![j % 2, 0, 0, 0])
    (e3 : o3 = ![b, 0, 0]) {Q : PUnit → sProp 𝕄} :
    bdFree c al sm ar A j ⊢ iprop((bdFly c al sm ar A j b -∗ Q ⟨⟩)
      -∗ WP c (Prog.lift (.enqueueDma (ar.slice (Rect.unit (s := S32x1x1024) o3 S1x1x1024.size h3) h3')
          (.here ((al.slice (Rect.unit (s := S2x1x1x1024) o2 S1x1x1x1024.size h2) h2').squeeze S1x1x1024 Facts₀.squeezes_S1x1x1x1024_S1x1x1024))
          (.dma ((sm.slice (Rect.unit (s := S2) o1 S1.size h1)).squeeze S_ Facts₀.squeezes_S1_S_).sem) hs hd ht)) Q) := by
  have e3' : o3 = ![b % 32, 0, 0] := by rw [e3, Nat.mod_eq_of_lt hb]
  subst e1 e2 e3'
  exact slotIssue c (r := bdR b) (hr := fun _ => rfl) (dst := bdD al j) (sm := bdS sm j) (ar := ar) (q := bdQ j) (A := A) (View.dmaCredit_pos _ (show 0 < S1x1x1024.numel by decide))

theorem bdWait {j b : ℕ} {o1 o2 h1 h2 h2' sp s' e'} {srcw : Memref sig .tc sp s' e'} {hs hd} (e1 : o1 = ![j % 2]) (e2 : o2 = ![j % 2, 0, 0, 0])
    {Q : PUnit → sProp 𝕄} :
    iprop(bdFly c al sm ar A j b ∗ Ow (F := F) c) ⊢ iprop((iprop(bdHeld c al sm ar A j b ∗ Ow (F := F) c) -∗ Q ⟨⟩)
      -∗ WP c (Prog.lift (.waitDma2 ((sm.slice (Rect.unit (s := S2) o1 S1.size h1)).squeeze S_ Facts₀.squeezes_S1_S_).sem srcw
          ((al.slice (Rect.unit (s := S2x1x1x1024) o2 S1x1x1x1024.size h2) h2').squeeze S1x1x1024 Facts₀.squeezes_S1x1x1x1024_S1x1x1024) hs hd)) Q) := by
  subst e1 e2
  exact slotWait c (r := bdR b) (hr := fun _ => rfl) (dst := bdD al j) (sm := bdS sm j) (ar := ar) (q := bdQ j) (A := A)
end

/-! ## The window of the result -/

def ouD' (al : Memref sig .tc .vmem S2x2048x128 .i32) (m : ℕ) (hm : m + 1 ≤ 2) : Memref sig .tc .vmem S2048x128 .i32 :=
  (al.slice (Rect.unit (s := S2x2048x128) ![m, 0, 0] S1x2048x128.size (inb3 (a := m) rfl hm (by decide) (by decide))) (fun _ => rfl)).squeeze S2048x128 Facts₀.squeezes_S1x2048x128_S2048x128
def ouD (al : Memref sig .tc .vmem S2x2048x128 .i32) (j : ℕ) : Memref sig .tc .vmem S2048x128 .i32 := ouD' al (j % 2) (Nat.mod_lt _ (by decide))
def ouS' (sm : DmaSems sig S2) (m : ℕ) (hm : m + 1 ≤ 2) : DmaSem sig :=
  ((sm.slice (Rect.unit (s := S2) ![m] S1.size (inb1 (a := m) rfl hm))).squeeze S_ Facts₀.squeezes_S1_S_).sem
def ouS (sm : DmaSems sig S2) (j : ℕ) : DmaSem sig := ouS' sm (j % 2) (Nat.mod_lt _ (by decide))
def ouB (ar : Memref sig .tc .hbm S589824x128 .i32) (b : ℕ) : Memref sig .tc .hbm S2048x128 .i32 := ar.slice (xsR b) (fun _ => rfl)

section
variable (c : Dev nD) (al : Memref sig .tc .vmem S2x2048x128 .i32) (sm : DmaSems sig S2) (ar : Memref sig .tc .hbm S589824x128 .i32)

/-- A block of the result not yet written. -/
def ouRaw (b : ℕ) : sProp 𝕄 := iprop(∃ f, (ouB ar b).view.loc (c : Thread nD τ) ↦[(ouB ar b).view.set]{fullShare} f)
/-- A block of the result written. -/
def ouDone (b : ℕ) (Y : S2048x128.Idx → Elt F .i32) : sProp 𝕄 := owns (c : Thread nD τ) (ouB ar b) fullShare Y
def ouFree (j : ℕ) : sProp 𝕄 := iprop(Free (F := F) c (ouD al j) ∗ semVal ((c : Thread nD τ), SemLoc.dma (ouS sm j)) 0)
def ouFull (j : ℕ) (Y : S2048x128.Idx → Elt F .i32) : sProp 𝕄 :=
  iprop(owns (c : Thread nD τ) (ouD al j) fullShare Y ∗ semVal ((c : Thread nD τ), SemLoc.dma (ouS sm j)) 0)
def ouFly (j b : ℕ) (Y : S2048x128.Idx → Elt F .i32) : sProp 𝕄 :=
  Transfers.Flight countersEmb (c : Thread nD τ) (SemLoc.dma (ouS sm j)) () (ouB ar b).view.dmaCredit
    iprop(ouDone c ar b Y ∗ Free (F := F) c (ouD al j))

theorem ouSlot {j i : ℕ} (h : j % 2 = i % 2) : ouFree (F := F) c al sm j = ouFree c al sm i := by
  exact modCongr (fun m p => iprop(Free (F := F) c (ouD' al m p) ∗ semVal ((c : Thread nD τ), SemLoc.dma (ouS' sm m p)) 0)) h _ _

variable {c al sm ar}

theorem ouIssue {j b : ℕ} (hb : b < 288) {Y : S2048x128.Idx → Elt F .i32} {o1 o2 o3 h1 h2 h2' h3 h3' hs hd ht} (e1 : o1 = ![j % 2]) (e2 : o2 = ![j % 2, 0, 0])
    (e3 : o3 = ![2048 * b, 0]) {Q : PUnit → sProp 𝕄} :
    iprop(ouFull c al sm j Y ∗ ouRaw c ar b) ⊢ iprop((ouFly c al sm ar j b Y -∗ Q ⟨⟩)
      -∗ WP c (Prog.lift (.enqueueDma ((al.slice (Rect.unit (s := S2x2048x128) o2 S1x2048x128.size h2) h2').squeeze S2048x128 Facts₀.squeezes_S1x2048x128_S2048x128)
          (.here (ar.slice (Rect.unit (s := S589824x128) o3 S2048x128.size h3) h3'))
          (.dma ((sm.slice (Rect.unit (s := S2) o1 S1.size h1)).squeeze S_ Facts₀.squeezes_S1_S_).sem) hs hd ht)) Q) := by
  have e3' : o3 = ![2048 * (b % 288), 0] := by rw [e3, Nat.mod_eq_of_lt hb]
  subst e1 e2 e3'
  unfold ouFull ouRaw ouFly owns
  iintro ⟨⟨⟨%f, %hf, H⟩, Hs⟩, ⟨%g, HA⟩⟩ HQ
  have hd := Transfers.wp_dmaLocal (defs := defs₀ (F := F)) (Val := Elt F) (Ix := Unit) (Name := ℕ) (U := UU nD τ) (Lvl := ℕ)
    countersEmb 𝒱₀ (c : Thread nD τ) none (src := ouD al j) (via := .same) (dst := ouB ar b) (sm := SemLoc.dma (ouS sm j))
    (hsrc := hs) (hdst := hd) (hsem := ht) (k := .ret) (Q := Q) (q := fullShare) (fs := f) (fd := g) () (ouB ar b).view.dmaCredit rfl (View.dmaCredit_pos _ (show 0 < S2048x128.numel by decide)) (Finset.Subset.refl _)
  iapply hd $$ [H HA Hs] [HQ]
  · isplitl [H]; · iexact H
    isplitl [HA]; · iexact HA
    iexact Hs
  iintro HF
  iapply (wpRet c _ Q)
  iapply HQ
  iapply (Transfers.Flight_mono countersEmb (c : Thread nD τ) ?_) $$ HF
  iintro ⟨H1, H2⟩
  isplitl [H1]
  · unfold ouDone owns
    iexists _
    isplitr
    swap; · iexact H1
    ipureintro
    rw [← hf]
    exact View.read_write_univ _ _
  · unfold Free
    iexists _; iexact H2

theorem ouWait {j b : ℕ} (hb : b < 288) {Y : S2048x128.Idx → Elt F .i32} {o1 o3 h1 h3 h3' sp s' e'} {srcw : Memref sig .tc sp s' e'} {hs hd} (e1 : o1 = ![j % 2])
    (e3 : o3 = ![2048 * b, 0]) {Q : PUnit → sProp 𝕄} :
    iprop(ouFly c al sm ar j b Y ∗ Ow (F := F) c) ⊢ iprop((iprop(ouDone c ar b Y ∗ ouFree c al sm j ∗ Ow (F := F) c) -∗ Q ⟨⟩)
      -∗ WP c (Prog.lift (.waitDma2 ((sm.slice (Rect.unit (s := S2) o1 S1.size h1)).squeeze S_ Facts₀.squeezes_S1_S_).sem srcw
          (ar.slice (Rect.unit (s := S589824x128) o3 S2048x128.size h3) h3') hs hd)) Q) := by
  have e3' : o3 = ![2048 * (b % 288), 0] := by rw [e3, Nat.mod_eq_of_lt hb]
  subst e1 e3'
  unfold ouFly ouFree Ow
  iintro ⟨HF, ⟨%W, Ho⟩⟩ HQ
  have hd := Transfers.wp_waitLocal (defs := defs₀ (F := F)) (Val := Elt F) (Ix := Unit) (Name := ℕ) (U := UU nD τ) (Lvl := ℕ)
    countersEmb 𝒱₀ (c : Thread nD τ) none (sem := ouS sm j) (srcw := srcw) (dstw := ouB ar b) (hsrc := hs) (hdst := hd) (k := .ret) (Q := Q) () (N := (ouB ar b).view.dmaCredit) rfl
    (D := iprop(ouDone c ar b Y ∗ Free (F := F) c (ouD al j))) (W := W)
  iapply hd $$ [HF Ho] [HQ]
  · isplitl [HF]; · iexact HF
    iexact Ho
  iintro ⟨⟨H1, H2⟩, Hs, Ho⟩
  iapply (wpRet c _ Q)
  iapply HQ
  isplitl [H1]; · iexact H1
  isplitl [H2 Hs]
  · isplitl [H2]; · iexact H2
    iexact Hs
  · iexists _; iexact Ho
end

end Cert.Proof.Experts

end
-- ==== Proof.Experts.Slots.lean ====
/-
  Loads and stores of a slot, at what the slot reads; and the block of results the kernel's step leaves,
  written as one array from the array of words the step computes.
-/
module

public import proofs.«01_k».proof.Proof.Experts.Windows

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

theorem read_overlay {s : Shape} {e : EltTy} (m : Memref sig .tc .vmem s e) (r : Rect s) (f : m.view.ty.Contents (Elt F)) (v : r.shape.Idx → Elt F e) :
    m.view.read (Elt F) ((m.access r).write (Elt F) f v Finset.univ) = r.overlay (m.view.read (Elt F) f) v := by
  funext x
  by_cases hx : x ∈ r.set
  · obtain ⟨i, rfl⟩ := r.exists_idx_of_mem hx
    have h1 : r.overlay (m.view.read (Elt F) f) v (r.idx i) = v i := Rect.overlay_emb r _ _ i
    rw [h1]
    exact View.read_write_of_mem (v := m.access r) f v (Finset.mem_univ i)
  · rw [Rect.overlay_of_not_mem _ _ _ hx]
    unfold View.read
    rw [View.write_of_not_mem]
    intro h
    obtain ⟨i, -, hi⟩ := Finset.mem_map.mp h
    have : r.emb i = x := m.view.emb.injective hi
    exact hx (this ▸ r.idx_mem i)

section
variable (c : Dev nD) {s : Shape} {e : EltTy} {m : Memref sig .tc .vmem s e}

theorem ldOwns {X : s.Idx → Elt F e} {r : LoadRect s} {hl} {Q : (r.shape.Idx → Elt F e) → sProp 𝕄} :
    owns (c : Thread nD τ) m fullShare X ⊢ iprop((owns (c : Thread nD τ) m fullShare X -∗ Q (fun j => X (r.idx j)))
      -∗ WP c (Prog.lift (.load m r hl)) Q) := by
  unfold owns
  iintro ⟨%f, %hf, H⟩ HQ
  have hw := wp_load (defs := defs₀ (F := F)) (Val := Elt F) (Ix := Unit) (Name := ℕ) (U := UU nD τ) (Lvl := ℕ) 𝒱₀ (c : Thread nD τ) none (Γ := []) Set.univ (m := m)
    (r := r) (hl := hl) (k := .ret) (Q := Q) (q := fullShare) (f := f) (S := m.view.set) (Finset.map_subset_map.2 (Finset.subset_univ _))
  iapply hw $$ H
  iintro H
  iapply (wpRetNil c _ Q)
  rw [show m.view.readAt (Elt F) r f = fun j => X (r.idx j) by subst hf; rfl]
  iapply HQ
  iexists f
  isplitr; · ipureintro; exact hf
  iexact H

theorem stOwns {X : s.Idx → Elt F e} {r : Rect s} {v : r.shape.Idx → Elt F e} {hx hm} {Q : PUnit → sProp 𝕄} :
    owns (c : Thread nD τ) m fullShare X ⊢ iprop((owns (c : Thread nD τ) m fullShare (r.overlay X v) -∗ Q ⟨⟩)
      -∗ WP c (Prog.lift (.store m r v Finset.univ hx hm)) Q) := by
  unfold owns
  iintro ⟨%f, %hf, H⟩ HQ
  have hw := wp_store (defs := defs₀ (F := F)) (Val := Elt F) (Ix := Unit) (Name := ℕ) (U := UU nD τ) (Lvl := ℕ) 𝒱₀ (c : Thread nD τ) none (Γ := []) Set.univ (m := m)
    (r := r) (w := v) (Mk := Finset.univ) (hx := hx) (hm := hm) (k := .ret) (Q := Q) (f := f) (S := m.view.set) (View.set_slice_subset m.view r)
  iapply hw $$ H
  iintro H
  iapply (wpRetNil c _ Q)
  iapply HQ
  iexists _
  isplitr
  swap; · iexact H
  ipureintro
  rw [← hf]; exact read_overlay m r f v

theorem free_owns : Free (F := F) c m ⊢ iprop(∃ X, owns (c : Thread nD τ) m fullShare X) := by
  unfold Free owns
  iintro ⟨%f, H⟩
  iexists (m.view.read (Elt F) f)
  iexists f
  isplitr; · ipureintro; rfl
  iexact H

theorem owns_free {X : s.Idx → Elt F e} : owns (c : Thread nD τ) m fullShare X ⊢ Free (F := F) c m := by
  unfold Free owns
  iintro ⟨%f, %hf, H⟩
  iexists f; iexact H
end

theorem ouDset (al : Memref sig .tc .vmem S2x2048x128 .i32) (j : ℕ) {h} :
    (al.access (Rect.unit (s := S2x2048x128) ![j % 2, 0, 0] S1x2048x128.size h)).set = (ouD al j).view.set :=
  (View.set_reshape _ _).symm

/-- A slot of the result zeroed through the whole array of slots. -/
theorem stZero (c : Dev nD) (al : Memref sig .tc .vmem S2x2048x128 .i32) (j : ℕ) {o h} (e1 : o = ![j % 2, 0, 0]) {z : Elt F .i32} {hx hm} {Q : PUnit → sProp 𝕄} :
    Free (F := F) c (ouD al j) ⊢ iprop((owns (c : Thread nD τ) (ouD al j) fullShare (fun _ => z) -∗ Q ⟨⟩)
      -∗ WP c (Prog.lift (.store al (Rect.unit (s := S2x2048x128) o S1x2048x128.size h) (fun _ => z) Finset.univ hx hm)) Q) := by
  subst e1
  unfold Free owns
  iintro ⟨%f, H⟩ HQ
  have hw := wp_store (defs := defs₀ (F := F)) (Val := Elt F) (Ix := Unit) (Name := ℕ) (U := UU nD τ) (Lvl := ℕ) 𝒱₀ (c : Thread nD τ) none (Γ := []) Set.univ (m := al)
    (r := Rect.unit (s := S2x2048x128) ![j % 2, 0, 0] S1x2048x128.size h) (w := fun _ => z) (Mk := Finset.univ) (hx := hx) (hm := hm) (k := .ret) (Q := Q) (f := f) (S := (ouD al j).view.set)
    (by rw [← ouDset al j (h := h)]; exact Finset.Subset.refl _)
  have he : ((ouD al j).view.loc (c : Thread nD τ) ↦[(ouD al j).view.set]{fullShare} f : sProp 𝕄) ⊢ ((al.access (Rect.unit (s := S2x2048x128) ![j % 2, 0, 0] S1x2048x128.size h)).loc (c : Thread nD τ) ↦[(ouD al j).view.set]{fullShare} f) := BIBase.Entails.rfl
  ihave H := he $$ H
  iapply hw $$ H
  iintro H
  iapply (wpRetNil c _ Q)
  iapply HQ
  iexists _
  isplitr
  swap; · iexact H
  ipureintro
  funext x
  exact View.read_write_of_mem (v := al.access (Rect.unit (s := S2x2048x128) ![j % 2, 0, 0] S1x2048x128.size h)) f (fun _ => z) (x := Shape.reshapeEquiv _ x) (Finset.mem_univ _)

/-- A load of a slot of the result through the whole array of slots. -/
theorem ldSlot (c : Dev nD) (al : Memref sig .tc .vmem S2x2048x128 .i32) (j : ℕ) {o h} (e1 : o = ![j % 2, 0, 0]) {hl}
    {Q : (S1x2048x128.Idx → Elt F .i32) → sProp 𝕄} :
    Free (F := F) c (ouD al j) ⊢ iprop((∀ v, Free (F := F) c (ouD al j) -∗ Q v)
      -∗ WP c (Prog.lift (.load al (Rect.unit (s := S2x2048x128) o S1x2048x128.size h).toLoadRect hl)) Q) := by
  subst e1
  unfold Free
  iintro ⟨%f, H⟩ HQ
  have hw := wp_load_rect (defs := defs₀ (F := F)) (Val := Elt F) (Ix := Unit) (Name := ℕ) (U := UU nD τ) (Lvl := ℕ) 𝒱₀ (c : Thread nD τ) none (Γ := []) Set.univ (m := al)
    (r := Rect.unit (s := S2x2048x128) ![j % 2, 0, 0] S1x2048x128.size h) (hl := hl) (k := .ret) (Q := Q) (q := fullShare) (f := f) (S := (ouD al j).view.set)
    (by rw [← ouDset al j (h := h)])
  have he : ((ouD al j).view.loc (c : Thread nD τ) ↦[(ouD al j).view.set]{fullShare} f : sProp 𝕄) ⊢ ((al.access (Rect.unit (s := S2x2048x128) ![j % 2, 0, 0] S1x2048x128.size h)).loc (c : Thread nD τ) ↦[(ouD al j).view.set]{fullShare} f) := BIBase.Entails.rfl
  ihave H := he $$ H
  iapply hw $$ H
  iintro H
  iapply (wpRetNil c _ Q)
  iapply HQ
  iexists f; iexact H

/-! ## The block a step computes -/

abbrev rS0 : LoadRect S2048x128 := ⟨![0, 0], S512x128.size, ![4, 1], Facts₀.inb_S2048x128_S512x128_0_0_s_4_1⟩
abbrev rS1 : LoadRect S2048x128 := ⟨![1, 0], S512x128.size, ![4, 1], Facts₀.inb_S2048x128_S512x128_1_0_s_4_1⟩
abbrev rS2 : LoadRect S2048x128 := ⟨![2, 0], S512x128.size, ![4, 1], Facts₀.inb_S2048x128_S512x128_2_0_s_4_1⟩
abbrev rS3 : LoadRect S2048x128 := ⟨![3, 0], S512x128.size, ![4, 1], Facts₀.inb_S2048x128_S512x128_3_0_s_4_1⟩

/-- The words of a block of results, from the block of tokens, the number of rows in use and the expert's weights. -/
def mmW (X : S2048x128.Idx → Elt F .i32) (v : Elt F .i32) (bgu : S1x1x2048.Idx → Elt F .f32) (wgu : S1024x2048.Idx → Elt F .bf16)
    (bd : S1x1x1024.Idx → Elt F .f32) (wd : S1024x1024.Idx → Elt F .bf16) : IVec S512x512 32 :=
  k0_pay3 (F := F) (k0_pay1 (fun j => X (rS0.idx j)) (fun j => X (rS1.idx j)) (fun j => X (rS2.idx j)) (fun j => X (rS3.idx j)) v) (k0_pay2 bgu) wgu bd wd

/-- Row `4 r + s` of a block holds words `128 s …` of row `r`. -/
def spread (P : IVec S512x512 32) : S2048x128.Idx → Elt F .i32 := fun x =>
  P (Shape.pair (d := ![512, 512]) ⟨(x 0).val / 4, by have h : (x 0).val < 2048 := (x 0).isLt; show _ < 512; omega⟩
    ⟨128 * ((x 0).val % 4) + (x 1).val, by have h : (x 1).val < 128 := (x 1).isLt; show _ < 512; omega⟩)

theorem spread_eq (X : S2048x128.Idx → Elt F .i32) (P : IVec S512x512 32) (v0 v1 v2 v3 : S512x128.Idx → Elt F .i32)
    (e0 : v0 = extractStridedSlice S512x128 ![0, 0] P Facts₀.slices_S512x512_o0_0_S512x128)
    (e1 : v1 = extractStridedSlice S512x128 ![0, 128] P Facts₀.slices_S512x512_o0_128_S512x128)
    (e2 : v2 = extractStridedSlice S512x128 ![0, 256] P Facts₀.slices_S512x512_o0_256_S512x128)
    (e3 : v3 = extractStridedSlice S512x128 ![0, 384] P Facts₀.slices_S512x512_o0_384_S512x128) :
    (Rect.mk rS3 Facts₀.spos_4_1).overlay ((Rect.mk rS2 Facts₀.spos_4_1).overlay ((Rect.mk rS1 Facts₀.spos_4_1).overlay ((Rect.mk rS0 Facts₀.spos_4_1).overlay X v0) v1) v2) v3
      = spread (F := F) P := by
  subst e0 e1 e2 e3
  funext x
  have hx0 : (x 0).val < 2048 := (x 0).isLt
  have hx1 : (x 1).val < 128 := (x 1).isLt
  let i : S512x128.Idx := Shape.pair (d := ![512, 128]) ⟨(x 0).val / 4, by show _ < 512; omega⟩ ⟨(x 1).val, by show _ < 128; omega⟩
  have key : ∀ (r : Rect S2048x128) (o : ℕ) (hr : r.size = S512x128.size) (ho : r.off = ![o, 0]) (hs : r.stride = ![4, 1]) (ho' : o < 4) (h : (x 0).val % 4 ≠ o), x ∉ r.set := by
    intro r o hr ho hs ho' h hm
    obtain ⟨j, hj, e⟩ := (r.mem_set.1 hm) 0
    rw [ho, hs] at e
    have e' : (x 0).val = o + 4 * j := e
    omega
  have hmem : ∀ (o : ℕ) (inb) (h : (x 0).val % 4 = o), (LoadRect.mk (s := S2048x128) ![o, 0] S512x128.size ![4, 1] inb).idx i = x := by
    intro o inb h
    funext a; apply Fin.ext
    fin_cases a
    · show o + 4 * ((x 0).val / 4) = (x 0).val; omega
    · show 0 + 1 * (x 1).val = (x 1).val; omega
  have hP : ∀ (o : ℕ) (h : (x 0).val % 4 = o) (hs), extractStridedSlice S512x128 ![0, 128 * o] P hs i = spread (F := F) P x := by
    intro o h hs
    unfold extractStridedSlice spread
    refine congrArg P ?_
    funext a; apply Fin.ext
    fin_cases a
    · show 0 + (x 0).val / 4 = (x 0).val / 4; omega
    · show 128 * o + (x 1).val = 128 * ((x 0).val % 4) + (x 1).val; omega
  have h4 : (x 0).val % 4 = 0 ∨ (x 0).val % 4 = 1 ∨ (x 0).val % 4 = 2 ∨ (x 0).val % 4 = 3 := by omega
  have ov : ∀ (r : Rect S2048x128) (Y : S2048x128.Idx → Elt F .i32) (G : r.shape.Idx → Elt F .i32) (j : r.shape.Idx), r.idx j = x → r.overlay Y G x = G j := by
    intro r Y G j h; subst h; exact Rect.overlay_emb r _ _ j
  rcases h4 with h | h | h | h
  · rw [Rect.overlay_of_not_mem _ _ _ (key _ 3 rfl rfl rfl (by omega) (by omega)), Rect.overlay_of_not_mem _ _ _ (key _ 2 rfl rfl rfl (by omega) (by omega)),
      Rect.overlay_of_not_mem _ _ _ (key _ 1 rfl rfl rfl (by omega) (by omega)), ov _ _ _ i (hmem 0 _ h)]
    exact hP 0 h _
  · rw [Rect.overlay_of_not_mem _ _ _ (key _ 3 rfl rfl rfl (by omega) (by omega)), Rect.overlay_of_not_mem _ _ _ (key _ 2 rfl rfl rfl (by omega) (by omega)),
      ov _ _ _ i (hmem 1 _ h)]
    exact hP 1 h _
  · rw [Rect.overlay_of_not_mem _ _ _ (key _ 3 rfl rfl rfl (by omega) (by omega)), ov _ _ _ i (hmem 2 _ h)]
    exact hP 2 h _
  · rw [ov _ _ _ i (hmem 3 _ h)]
    exact hP 3 h _

end Cert.Proof.Experts

end
-- ==== Proof.Experts.State.lean ====
/-
  The state of the pipeline before each step: which slot of each window is on its way, which is held,
  which is free, and what has been written of the result.
-/
module

public import proofs.«01_k».proof.Proof.Experts.Slots

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

/-- The kernel's arguments and scratch. -/
structure Mem where
  a0 : Memref sig .tc .smem S288 .i32
  ha0 : a0.IsWhole
  a1 : Memref sig .tc .smem S1 .i32
  ha1 : a1.IsWhole
  a2 : Memref sig .tc .smem S288 .i32
  ha2 : a2.IsWhole
  a3 : Memref sig .tc .hbm S589824x128 .i32
  ha3 : a3.IsWhole
  a4 : Memref sig .tc .hbm S32x1024x2048 .f32
  ha4 : a4.IsWhole
  a5 : Memref sig .tc .hbm S32x1x2048 .f32
  ha5 : a5.IsWhole
  a6 : Memref sig .tc .hbm S32x1024x1024 .f32
  ha6 : a6.IsWhole
  a7 : Memref sig .tc .hbm S32x1x1024 .f32
  ha7 : a7.IsWhole
  a8 : Memref sig .tc .hbm S589824x128 .i32
  ha8 : a8.IsWhole
  a9 : Memref sig .tc .vmem S1024x2048 .bf16
  ha9 : a9.IsWhole
  a10 : Memref sig .tc .vmem S1024x1024 .bf16
  ha10 : a10.IsWhole
  lx : Memref sig .tc .vmem S3x2048x128 .i32
  hlx : lx.IsWhole
  slx : DmaSems sig S3
  lg : Memref sig .tc .vmem S2x1x1024x2048 .f32
  hlg : lg.IsWhole
  slg : DmaSems sig S2
  lb : Memref sig .tc .vmem S2x1x1x2048 .f32
  hlb : lb.IsWhole
  slb : DmaSems sig S2
  lw : Memref sig .tc .vmem S2x1x1024x1024 .f32
  hlw : lw.IsWhole
  slw : DmaSems sig S2
  ld : Memref sig .tc .vmem S2x1x1x1024 .f32
  hld : ld.IsWhole
  sld : DmaSems sig S2
  lo : Memref sig .tc .vmem S2x2048x128 .i32
  hlo : lo.IsWhole
  slo : DmaSems sig S2

/-- The kernel's data on core `c`: the tables' words, the number of blocks in use, the arrays. -/
structure Dat (F : FTy → Type) (M : Mem) (c : Dev nD) where
  B : ℕ → BitVec 32
  V : ℕ → BitVec 32
  u : BitVec 32
  N : ℕ
  hN : NW u N
  hB : ∀ i, (B i).toNat < 32
  X : Buf (Elt F) (M.a3.view.loc (c : Thread nD τ))
  GU : Buf (Elt F) (M.a4.view.loc (c : Thread nD τ))
  BG : Buf (Elt F) (M.a5.view.loc (c : Thread nD τ))
  WD : Buf (Elt F) (M.a6.view.loc (c : Thread nD τ))
  BD : Buf (Elt F) (M.a7.view.loc (c : Thread nD τ))

/-- How often the expert has changed before step `k`. -/
def cnt (B : ℕ → BitVec 32) : ℕ → ℕ
  | 0 => 0
  | k + 1 => cnt B k + if B (k + 1) ≠ B k then 1 else 0

theorem cnt_le (B : ℕ → BitVec 32) (k : ℕ) : cnt B k ≤ k := by
  induction k with
  | zero => exact Nat.le_refl 0
  | succ k ih => unfold cnt; split <;> omega

/-- Step `k` is the first of a run of steps of one expert. -/
def fresh (B : ℕ → BitVec 32) (k : ℕ) : Prop := k = 0 ∨ B k ≠ B (k - 1)
instance (B : ℕ → BitVec 32) (k : ℕ) : Decidable (fresh B k) := inferInstanceAs (Decidable (_ ∨ _))

theorem fresh_iff (B : ℕ → BitVec 32) {k : ℕ} (hk : k < 288) : (B k ≠ B ((k + 287) % 288) ∨ k = 0) ↔ fresh B k := by
  unfold fresh
  rcases Nat.eq_zero_or_pos k with h | h
  · simp [h]
  · rw [show (k + 287) % 288 = k - 1 by omega]; tauto

/-! ## The windows of weights -/

variable (F) in
structure Win where
  fly : ℕ → ℕ → sProp 𝕄
  held : ℕ → ℕ → sProp 𝕄
  free : ℕ → sProp 𝕄
  hf : ∀ j b, held j b ⊢ free j
  slot : ∀ {j i : ℕ}, j % 2 = i % 2 → free j = free i

namespace Win
variable (W : Win F) (B : ℕ → BitVec 32)

def cur (k : ℕ) : sProp 𝕄 := W.held (cnt B k) (B k).toNat
def inn (k : ℕ) : sProp 𝕄 := if fresh B k then W.fly (cnt B k) (B k).toNat else W.held (cnt B k) (B k).toNat
def nx (k : ℕ) : sProp 𝕄 :=
  if B k ≠ B ((k + 1) % 288) ∧ k < 287 then W.fly (cnt B k + 1) (B ((k + 1) % 288)).toNat else W.free (cnt B k + 1)
def st (k : ℕ) : sProp 𝕄 := if k < 288 then iprop(W.inn B k ∗ W.free (cnt B k + 1)) else iprop(W.free 0 ∗ W.free 1)

theorem two (j : ℕ) : iprop(W.free j ∗ W.free (j + 1)) ⊢ iprop(W.free 0 ∗ W.free 1) := by
  rcases Nat.mod_two_eq_zero_or_one j with h | h
  · rw [W.slot (show j % 2 = 0 % 2 by omega), W.slot (show (j + 1) % 2 = 1 % 2 by omega)]
  · rw [W.slot (show j % 2 = 1 % 2 by omega), W.slot (show (j + 1) % 2 = 0 % 2 by omega)]
    iintro ⟨H1, H2⟩
    isplitl [H2]; · iexact H2
    iexact H1

theorem next {k : ℕ} (hk : k < 288) : iprop(W.cur B k ∗ W.nx B k) ⊢ W.st B (k + 1) := by
  unfold cur nx st
  by_cases h : k < 287
  · rw [if_pos (show k + 1 < 288 by omega), Nat.mod_eq_of_lt (show k + 1 < 288 by omega)]
    unfold inn
    have hf : fresh B (k + 1) ↔ B (k + 1) ≠ B k := by unfold fresh; simp
    by_cases e : B k = B (k + 1)
    · rw [if_neg (show ¬ (B k ≠ B (k + 1) ∧ k < 287) from fun h => h.1 e), if_neg (show ¬ fresh B (k + 1) by rw [hf]; exact fun h => h e.symm)]
      have : cnt B (k + 1) = cnt B k := by show cnt B k + _ = _; rw [if_neg (fun h => h e.symm)]; rfl
      rw [this, e]
    · rw [if_pos (show B k ≠ B (k + 1) ∧ k < 287 from ⟨e, h⟩), if_pos (show fresh B (k + 1) by rw [hf]; exact fun h => e h.symm)]
      have : cnt B (k + 1) = cnt B k + 1 := by show cnt B k + _ = _; rw [if_pos (fun h => e h.symm)]
      rw [this, W.slot (show (cnt B k + 1 + 1) % 2 = cnt B k % 2 by omega)]
      iintro ⟨H1, H2⟩
      isplitl [H2]; · iexact H2
      iapply (W.hf _ _) $$ H1
  · rw [if_neg (show ¬ k + 1 < 288 by omega), if_neg (show ¬ (B k ≠ B ((k + 1) % 288) ∧ k < 287) from fun h' => h h'.2)]
    refine BIBase.Entails.trans ?_ (W.two (cnt B k))
    iintro ⟨H1, H2⟩
    isplitl [H1]; · iapply (W.hf _ _) $$ H1
    iexact H2

end Win

variable {M : Mem} {c : Dev nD} (D : Dat F M c)

abbrev gW : Win F := ⟨guFly c M.lg M.slg M.a4 D.GU, guHeld c M.lg M.slg M.a4 D.GU, guFree c M.lg M.slg M.a4 D.GU, guHeldFree c M.lg M.slg M.a4 D.GU, guSlot c M.lg M.slg M.a4 D.GU⟩
abbrev bW : Win F := ⟨bgFly c M.lb M.slb M.a5 D.BG, bgHeld c M.lb M.slb M.a5 D.BG, bgFree c M.lb M.slb M.a5 D.BG, bgHeldFree c M.lb M.slb M.a5 D.BG, bgSlot c M.lb M.slb M.a5 D.BG⟩
abbrev wW : Win F := ⟨wdFly c M.lw M.slw M.a6 D.WD, wdHeld c M.lw M.slw M.a6 D.WD, wdFree c M.lw M.slw M.a6 D.WD, wdHeldFree c M.lw M.slw M.a6 D.WD, wdSlot c M.lw M.slw M.a6 D.WD⟩
abbrev dW : Win F := ⟨bdFly c M.ld M.sld M.a7 D.BD, bdHeld c M.ld M.sld M.a7 D.BD, bdFree c M.ld M.sld M.a7 D.BD, bdHeldFree c M.ld M.sld M.a7 D.BD, bdSlot c M.ld M.sld M.a7 D.BD⟩

/-! ## The window of tokens -/

abbrev xFly (j b : ℕ) : sProp 𝕄 := xsFly c M.lx M.slx M.a3 D.X j b
abbrev xHeld (j b : ℕ) : sProp 𝕄 := xsHeld c M.lx M.slx M.a3 D.X j b
abbrev xFree (j : ℕ) : sProp 𝕄 := xsFree c M.lx M.slx M.a3 D.X j

def x1 (k : ℕ) : sProp 𝕄 := if k ≤ D.N then xFly D k k else xHeld D D.N D.N
def x1' (k : ℕ) : sProp 𝕄 := xHeld D (min k D.N) (min k D.N)
def x2 (k : ℕ) : sProp 𝕄 := if k + 1 ≤ D.N then xFly D (k + 1) (k + 1) else xFree D (min k D.N + 1)
def x3 (k : ℕ) : sProp 𝕄 := xFree D (min k D.N + 2)
def x3' (k : ℕ) : sProp 𝕄 := if k + 2 ≤ D.N then xFly D (k + 2) (k + 2) else xFree D (min k D.N + 2)
def xSt (k : ℕ) : sProp 𝕄 := iprop(x1 D k ∗ x2 D k ∗ x3 D k)

theorem xNext (k : ℕ) : iprop(x1' D k ∗ x2 D k ∗ x3' D k) ⊢ xSt D (k + 1) := by
  unfold xSt x1 x1' x2 x3 x3'
  by_cases h : k + 1 ≤ D.N
  · rw [if_pos h, if_pos h, show min k D.N = k by omega, show min (k + 1) D.N = k + 1 by omega]
    have e3 : xFree D k = xFree D (k + 1 + 2) := xsSlot _ _ _ _ _ (by omega)
    by_cases h2 : k + 2 ≤ D.N
    · rw [if_pos h2]
      iintro ⟨H1, H2, H3⟩
      isplitl [H2]; · iexact H2
      isplitl [H3]; · iexact H3
      rw [← e3]
      iapply (xsHeldFree _ _ _ _ _ _ _) $$ H1
    · rw [if_neg h2]
      iintro ⟨H1, H2, H3⟩
      isplitl [H2]; · iexact H2
      isplitl [H3]; · iexact H3
      rw [← e3]
      iapply (xsHeldFree _ _ _ _ _ _ _) $$ H1
  · rw [if_neg h, if_neg h, if_neg (show ¬ k + 2 ≤ D.N by omega), if_neg (show ¬ k + 1 + 1 ≤ D.N by omega), show min k D.N = D.N by omega, show min (k + 1) D.N = D.N by omega]

theorem x_end : xSt D 288 ⊢ iprop(xFree D 0 ∗ xFree D 1 ∗ xFree D 2) := by
  have hN := D.hN.lt
  unfold xSt x1 x2 x3
  rw [if_neg (by omega), if_neg (by omega), show min 288 D.N = D.N by omega]
  have hh := xsHeldFree c M.lx M.slx M.a3 D.X D.N D.N
  have h3 : D.N % 3 = 0 ∨ D.N % 3 = 1 ∨ D.N % 3 = 2 := by omega
  refine BIBase.Entails.trans (Q := iprop(xsFree c M.lx M.slx M.a3 D.X D.N ∗ xFree D (D.N + 1) ∗ xFree D (D.N + 2))) ?_ ?_
  · iintro ⟨H1, H2⟩
    isplitl [H1]; · iapply hh $$ H1
    iexact H2
  rcases h3 with h | h | h
  · have e1 : xsFree c M.lx M.slx M.a3 D.X D.N = xFree D 0 := xsSlot _ _ _ _ _ (by omega)
    have e2 : xFree D (D.N + 1) = xFree D 1 := xsSlot _ _ _ _ _ (by omega)
    have e3 : xFree D (D.N + 2) = xFree D 2 := xsSlot _ _ _ _ _ (by omega)
    rw [e1, e2, e3]
  · have e1 : xsFree c M.lx M.slx M.a3 D.X D.N = xFree D 1 := xsSlot _ _ _ _ _ (by omega)
    have e2 : xFree D (D.N + 1) = xFree D 2 := xsSlot _ _ _ _ _ (by omega)
    have e3 : xFree D (D.N + 2) = xFree D 0 := xsSlot _ _ _ _ _ (by omega)
    rw [e1, e2, e3]
    iintro ⟨H1, H2, H3⟩
    isplitl [H3]; · iexact H3
    isplitl [H1]; · iexact H1
    iexact H2
  · have e1 : xsFree c M.lx M.slx M.a3 D.X D.N = xFree D 2 := xsSlot _ _ _ _ _ (by omega)
    have e2 : xFree D (D.N + 1) = xFree D 0 := xsSlot _ _ _ _ _ (by omega)
    have e3 : xFree D (D.N + 2) = xFree D 1 := xsSlot _ _ _ _ _ (by omega)
    rw [e1, e2, e3]
    iintro ⟨H1, H2, H3⟩
    isplitl [H2]; · iexact H2
    isplitl [H3]; · iexact H3
    iexact H1

/-! ## The scratch copies of the weights and the result -/

/-- The expert of step `k`. -/
abbrev Dat.e (k : ℕ) : ℕ := (D.B k).toNat
def wgu (k : ℕ) : S1024x2048.Idx → Elt F .bf16 := k0_pay5 (guBlk c M.a4 D.GU (D.e k))
def wdn (k : ℕ) : S1024x1024.Idx → Elt F .bf16 := k0_pay6 (wdBlk c M.a6 D.WD (D.e k))

/-- The block of results of step `b`. -/
def Y (b : ℕ) : S2048x128.Idx → Elt F .i32 :=
  if b ≤ D.N then spread (F := F) (mmW (xsBlk c M.a3 D.X b) (D.V b) (bgBlk c M.a5 D.BG (D.e b)) (wgu D b) (bdBlk c M.a7 D.BD (D.e b)) (wdn D b))
  else fun _ => 0#32

/-- The two copies of the weights after step `k`. -/
def scr' (k : ℕ) : sProp 𝕄 := iprop(owns (c : Thread nD τ) M.a9 fullShare (wgu D k) ∗ owns (c : Thread nD τ) M.a10 fullShare (wdn D k))
def scr : ℕ → sProp 𝕄
  | 0 => iprop(Free (F := F) c M.a9 ∗ Free (F := F) c M.a10)
  | k + 1 => scr' D k

abbrev oFree (j : ℕ) : sProp 𝕄 := ouFree (F := F) c M.lo M.slo j
abbrev oFull (j : ℕ) (Y : S2048x128.Idx → Elt F .i32) : sProp 𝕄 := ouFull c M.lo M.slo j Y
abbrev oFly (j b : ℕ) (Y : S2048x128.Idx → Elt F .i32) : sProp 𝕄 := ouFly c M.lo M.slo M.a8 j b Y
abbrev oRaw (b : ℕ) : sProp 𝕄 := ouRaw (F := F) c M.a8 b
abbrev oDone (b : ℕ) : sProp 𝕄 := ouDone c M.a8 b (Y D b)

/-- The slot of the result step `k` does not fill. -/
def oPrev : ℕ → sProp 𝕄
  | 0 => ouFree (F := F) c M.lo M.slo 1
  | k + 1 => ouFly c M.lo M.slo M.a8 k k (Y D k)
/-- The blocks written and the blocks to be written. -/
def oBlks (k : ℕ) : sProp 𝕄 := iprop(bigSep (Finset.range (k - 1)) (fun b => oDone D b) ∗ bigSep (Finset.Ico k 288) (fun b => ouRaw (F := F) c M.a8 b))

/-- The tables. -/
def tabs : sProp 𝕄 := iprop(Tab (F := F) c M.a0 D.B ∗ Tab (F := F) c M.a1 (fun _ => D.u) ∗ Tab (F := F) c M.a2 D.V)

/-- The state before step `k`. -/
def Inv (k : ℕ) : sProp 𝕄 :=
  iprop(tabs D ∗ Ow (F := F) c ∗ xSt D k ∗ (gW D).st D.B k ∗ (bW D).st D.B k ∗ (wW D).st D.B k ∗ (dW D).st D.B k
    ∗ scr D k ∗ ouFree (F := F) c M.lo M.slo k ∗ oPrev D k ∗ oBlks D k)

end Cert.Proof.Experts

end
-- ==== Proof.Experts.Checks.lean ====
/-
  The bounds the program assumes of its offsets, and loads of its tables.
-/
module

public import proofs.«01_k».proof.Proof.Experts.State

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

theorem chk9 (k : Trip) : k0_chk9 k (w k.val) (w (k.val - 1)) (w k.val) := by
  have := k.lt
  unfold k0_chk9
  refine ⟨inb1 (s := S1.size) (T := S288.size) (off22 k) (by show _ + 1 ≤ 288; omega), inb1 (s := S1.size) (T := S288.size) (off23 k) (by show _ + 1 ≤ 288; omega), inb1 (s := S1.size) (T := S288.size) (off28 k) (by show _ + 1 ≤ 288; omega), inb1 (s := S1.size) (T := S288.size) (off29 k) (by show _ + 1 ≤ 288; omega), inb1 (s := S1.size) (T := S288.size) (off34 k) (by show _ + 1 ≤ 288; omega), inb1 (s := S1.size) (T := S288.size) (off35 k) (by show _ + 1 ≤ 288; omega), inb1 (s := S1.size) (T := S288.size) (off40 k) (by show _ + 1 ≤ 288; omega), inb1 (s := S1.size) (T := S288.size) (off41 k) (by show _ + 1 ≤ 288; omega), inb1 (s := S1.size) (T := S288.size) (off49 k) (by show _ + 1 ≤ 288; omega), inb1 (s := S1.size) (T := S288.size) (off54 k) (by show _ + 1 ≤ 288; omega), inb1 (s := S1.size) (T := S288.size) (off59 k) (by show _ + 1 ≤ 288; omega), inb1 (s := S1.size) (T := S288.size) (off64 k) (by show _ + 1 ≤ 288; omega), inb1 (s := S1.size) (T := S288.size) (off69 k) (by show _ + 1 ≤ 288; omega), inb1 (s := S1.size) (T := S288.size) (off70 k) (by show _ + 1 ≤ 288; omega), fun _ => inb1 (s := S1.size) (T := S2.size) (off79 (j := k.val) (by omega)) (by show _ + 1 ≤ 2; omega), fun _ => inb2 (s := S2048x128.size) (T := S589824x128.size) (off80 k) (by show _ + 2048 ≤ 589824; omega) (by decide), fun _ => inb3 (s := S1x2048x128.size) (T := S2x2048x128.size) (off81 (j := k.val) (by omega)) (by show _ + 1 ≤ 2; omega) (by decide) (by decide), fun _ => inb1 (s := S1.size) (T := S2.size) (off82 (j := k.val - 1) (by omega)) (by show _ + 1 ≤ 2; omega), fun _ => inb2 (s := S2048x128.size) (T := S589824x128.size) (off83 k) (by show _ + 2048 ≤ 589824; omega) (by decide), fun _ => inb3 (s := S1x2048x128.size) (T := S2x2048x128.size) (off84 (j := k.val - 1) (by omega)) (by show _ + 1 ≤ 2; omega) (by decide) (by decide)⟩

section
variable {M : Mem} {c : Dev nD} (D : Dat F M c) (k : Trip)

theorem chk7 {v} : k0_chk7 k (w (min (k.val + 1) D.N + 1)) v D.u D.u := by
  have := k.lt
  unfold k0_chk7
  exact ⟨fun _ => inb1 (s := S1.size) (T := S3.size) (off19 (j := min (k.val + 1) D.N + 1) (by omega)) (by show _ + 1 ≤ 3; omega), fun _ => inb3 (s := S1x2048x128.size) (T := S3x2048x128.size) (off20 (j := min (k.val + 1) D.N + 1) (by omega)) (by show _ + 1 ≤ 3; omega) (by decide) (by decide)⟩

theorem chk8 : k0_chk8 k (w k.val) D.u D.u D.u := by
  have := D.hN.lt
  unfold k0_chk8
  exact fun _ => inb2 (s := S2048x128.size) (T := S589824x128.size) (off21 D.hN k) (by show _ + 2048 ≤ 589824; omega) (by decide)

theorem chk18 {v} : k0_chk18 k (w (min k.val D.N)) v D.u D.u := by
  have := k.lt
  unfold k0_chk18
  exact ⟨fun _ => inb1 (s := S1.size) (T := S3.size) (off46 (j := min k.val D.N) (by omega)) (by show _ + 1 ≤ 3; omega), fun _ => inb3 (s := S1x2048x128.size) (T := S3x2048x128.size) (off47 (j := min k.val D.N) (by omega)) (by show _ + 1 ≤ 3; omega) (by decide) (by decide)⟩

theorem chk19 : k0_chk19 k (w k.val) D.u D.u D.u := by
  have := D.hN.lt
  unfold k0_chk19
  exact fun _ => inb2 (s := S2048x128.size) (T := S589824x128.size) (off48 D.hN k) (by show _ + 2048 ≤ 589824; omega) (by decide)

theorem chk10 {j : ℕ} (hj : j < 1000) {x y} : k0_chk10 k (w j) (w k.val) x y := by
  unfold k0_chk10
  exact ⟨fun _ => inb1 (s := S1.size) (T := S288.size) (off24 k) (by show _ + 1 ≤ 288; omega), fun _ => inb1 (s := S1.size) (T := S2.size) (off25 (j := j) hj) (by show _ + 1 ≤ 2; omega), fun _ => inb4 (s := S1x1x1024x2048.size) (T := S2x1x1024x2048.size) (off26 (j := j) hj) (by show _ + 1 ≤ 2; omega) (by decide) (by decide) (by decide)⟩

theorem chk11 {e : BitVec 32} (he : e.toNat < 32) {x y} : k0_chk11 k x y e := by
  unfold k0_chk11
  exact fun _ => inb3 (s := S1x1024x2048.size) (T := S32x1024x2048.size) (off27 e) (by show _ + 1 ≤ 32; omega) (by decide) (by decide)

theorem chk20 {j : ℕ} (hj : j < 1000) {x y} : k0_chk20 k (w j) (w k.val) x y := by
  have := k.lt
  unfold k0_chk20
  exact ⟨fun _ => inb1 (s := S1.size) (T := S288.size) (off50 k) (by show _ + 1 ≤ 288; omega), fun _ => inb1 (s := S1.size) (T := S2.size) (off51 (j := j) hj) (by show _ + 1 ≤ 2; omega), fun _ => inb4 (s := S1x1x1024x2048.size) (T := S2x1x1024x2048.size) (off52 (j := j) hj) (by show _ + 1 ≤ 2; omega) (by decide) (by decide) (by decide)⟩

theorem chk21 {e : BitVec 32} (he : e.toNat < 32) {x y} : k0_chk21 k x y e := by
  unfold k0_chk21
  exact fun _ => inb3 (s := S1x1024x2048.size) (T := S32x1024x2048.size) (off53 e) (by show _ + 1 ≤ 32; omega) (by decide) (by decide)

theorem chk12 {j : ℕ} (hj : j < 1000) {x y} : k0_chk12 k (w j) (w k.val) x y := by
  unfold k0_chk12
  exact ⟨fun _ => inb1 (s := S1.size) (T := S288.size) (off30 k) (by show _ + 1 ≤ 288; omega), fun _ => inb1 (s := S1.size) (T := S2.size) (off31 (j := j) hj) (by show _ + 1 ≤ 2; omega), fun _ => inb4 (s := S1x1x1x2048.size) (T := S2x1x1x2048.size) (off32 (j := j) hj) (by show _ + 1 ≤ 2; omega) (by decide) (by decide) (by decide)⟩

theorem chk13 {e : BitVec 32} (he : e.toNat < 32) {x y} : k0_chk13 k x y e := by
  unfold k0_chk13
  exact fun _ => inb3 (s := S1x1x2048.size) (T := S32x1x2048.size) (off33 e) (by show _ + 1 ≤ 32; omega) (by decide) (by decide)

theorem chk22 {j : ℕ} (hj : j < 1000) {x y} : k0_chk22 k (w j) (w k.val) x y := by
  have := k.lt
  unfold k0_chk22
  exact ⟨fun _ => inb1 (s := S1.size) (T := S288.size) (off55 k) (by show _ + 1 ≤ 288; omega), fun _ => inb1 (s := S1.size) (T := S2.size) (off56 (j := j) hj) (by show _ + 1 ≤ 2; omega), fun _ => inb4 (s := S1x1x1x2048.size) (T := S2x1x1x2048.size) (off57 (j := j) hj) (by show _ + 1 ≤ 2; omega) (by decide) (by decide) (by decide)⟩

theorem chk23 {e : BitVec 32} (he : e.toNat < 32) {x y} : k0_chk23 k x y e := by
  unfold k0_chk23
  exact fun _ => inb3 (s := S1x1x2048.size) (T := S32x1x2048.size) (off58 e) (by show _ + 1 ≤ 32; omega) (by decide) (by decide)

theorem chk14 {j : ℕ} (hj : j < 1000) {x y} : k0_chk14 k (w j) (w k.val) x y := by
  unfold k0_chk14
  exact ⟨fun _ => inb1 (s := S1.size) (T := S288.size) (off36 k) (by show _ + 1 ≤ 288; omega), fun _ => inb1 (s := S1.size) (T := S2.size) (off37 (j := j) hj) (by show _ + 1 ≤ 2; omega), fun _ => inb4 (s := S1x1x1024x1024.size) (T := S2x1x1024x1024.size) (off38 (j := j) hj) (by show _ + 1 ≤ 2; omega) (by decide) (by decide) (by decide)⟩

theorem chk15 {e : BitVec 32} (he : e.toNat < 32) {x y} : k0_chk15 k x y e := by
  unfold k0_chk15
  exact fun _ => inb3 (s := S1x1024x1024.size) (T := S32x1024x1024.size) (off39 e) (by show _ + 1 ≤ 32; omega) (by decide) (by decide)

theorem chk24 {j : ℕ} (hj : j < 1000) {x y} : k0_chk24 k (w j) (w k.val) x y := by
  have := k.lt
  unfold k0_chk24
  exact ⟨fun _ => inb1 (s := S1.size) (T := S288.size) (off60 k) (by show _ + 1 ≤ 288; omega), fun _ => inb1 (s := S1.size) (T := S2.size) (off61 (j := j) hj) (by show _ + 1 ≤ 2; omega), fun _ => inb4 (s := S1x1x1024x1024.size) (T := S2x1x1024x1024.size) (off62 (j := j) hj) (by show _ + 1 ≤ 2; omega) (by decide) (by decide) (by decide)⟩

theorem chk25 {e : BitVec 32} (he : e.toNat < 32) {x y} : k0_chk25 k x y e := by
  unfold k0_chk25
  exact fun _ => inb3 (s := S1x1024x1024.size) (T := S32x1024x1024.size) (off63 e) (by show _ + 1 ≤ 32; omega) (by decide) (by decide)

theorem chk16 {j : ℕ} (hj : j < 1000) {x y} : k0_chk16 k (w j) (w k.val) x y := by
  unfold k0_chk16
  exact ⟨fun _ => inb1 (s := S1.size) (T := S288.size) (off42 k) (by show _ + 1 ≤ 288; omega), fun _ => inb1 (s := S1.size) (T := S2.size) (off43 (j := j) hj) (by show _ + 1 ≤ 2; omega), fun _ => inb4 (s := S1x1x1x1024.size) (T := S2x1x1x1024.size) (off44 (j := j) hj) (by show _ + 1 ≤ 2; omega) (by decide) (by decide) (by decide)⟩

theorem chk17 {e : BitVec 32} (he : e.toNat < 32) {x y} : k0_chk17 k x y e := by
  unfold k0_chk17
  exact fun _ => inb3 (s := S1x1x1024.size) (T := S32x1x1024.size) (off45 e) (by show _ + 1 ≤ 32; omega) (by decide) (by decide)

theorem chk26 {j : ℕ} (hj : j < 1000) {x y} : k0_chk26 k (w j) (w k.val) x y := by
  have := k.lt
  unfold k0_chk26
  exact ⟨fun _ => inb1 (s := S1.size) (T := S288.size) (off65 k) (by show _ + 1 ≤ 288; omega), fun _ => inb1 (s := S1.size) (T := S2.size) (off66 (j := j) hj) (by show _ + 1 ≤ 2; omega), fun _ => inb4 (s := S1x1x1x1024.size) (T := S2x1x1x1024.size) (off67 (j := j) hj) (by show _ + 1 ≤ 2; omega) (by decide) (by decide) (by decide)⟩

theorem chk27 {e : BitVec 32} (he : e.toNat < 32) {x y} : k0_chk27 k x y e := by
  unfold k0_chk27
  exact fun _ => inb3 (s := S1x1x1024.size) (T := S32x1x1024.size) (off68 e) (by show _ + 1 ≤ 32; omega) (by decide) (by decide)

theorem chk28 {i j : ℕ} (hi : i < 1000) (hj : j < 1000) {v x y} : k0_chk28 (w i) (w j) v x y := by
  unfold k0_chk28
  exact ⟨fun _ => inb4 (s := S1x1x1024x2048.size) (T := S2x1x1024x2048.size) (off71 (j := i) hi) (by show _ + 1 ≤ 2; omega) (by decide) (by decide) (by decide), fun _ => inb4 (s := S1x1x1024x1024.size) (T := S2x1x1024x1024.size) (off72 (j := j) hj) (by show _ + 1 ≤ 2; omega) (by decide) (by decide) (by decide)⟩

theorem chk29 {a i j : ℕ} (ha : a < 1000) (hi : i < 1000) (hj : j < 1000) {v} : k0_chk29 (w a) (w i) (w j) (w k.val) (w k.val) v := by
  have := k.lt
  unfold k0_chk29
  exact ⟨fun _ => inb3 (s := S1x2048x128.size) (T := S3x2048x128.size) (off73 (j := a) ha) (by show _ + 1 ≤ 3; omega) (by decide) (by decide), fun _ => inb1 (s := S1.size) (T := S288.size) (off74 k) (by show _ + 1 ≤ 288; omega), fun _ => inb4 (s := S1x1x1x2048.size) (T := S2x1x1x2048.size) (off75 (j := i) hi) (by show _ + 1 ≤ 2; omega) (by decide) (by decide) (by decide), fun _ => inb4 (s := S1x1x1x1024.size) (T := S2x1x1x1024.size) (off76 (j := j) hj) (by show _ + 1 ≤ 2; omega) (by decide) (by decide) (by decide), fun _ => inb3 (s := S1x2048x128.size) (T := S2x2048x128.size) (off77 (j := k.val) (by omega)) (by show _ + 1 ≤ 2; omega) (by decide) (by decide)⟩

theorem chk30 {v x} : k0_chk30 (w k.val) v x := by
  have := k.lt
  unfold k0_chk30
  exact fun _ => inb3 (s := S1x2048x128.size) (T := S2x2048x128.size) (off78 (j := k.val) (by omega)) (by show _ + 1 ≤ 2; omega) (by decide) (by decide)

theorem chk31 : k0_chk31 (w 287) := by
  unfold k0_chk31
  exact ⟨inb1 (s := S1.size) (T := S2.size) (off85 (j := 287) (by omega)) (by show _ + 1 ≤ 2; omega), inb3 (s := S1x2048x128.size) (T := S2x2048x128.size) (off87 (j := 287) (by omega)) (by show _ + 1 ≤ 2; omega) (by decide) (by decide)⟩

theorem chk32 : k0_chk32 (w 0) := by
  unfold k0_chk32
  exact inb2 (s := S2048x128.size) (T := S589824x128.size) off86 (by show _ + 2048 ≤ 589824; omega) (by decide)

end

/-! ## Steps of a program -/

/-- A join of two branches: what each branch leaves is what the continuation runs from. -/
theorem wpCut (c : Dev nD) {β : Type} (p : Prog (TpuEff nD τ sig (Elt F) Λ₀ .tc) β) (Mid : sProp 𝕄)
    {p' : Prog (TpuEff nD τ sig (Elt F) Λ₀ .tc) β} {Q : β → sProp 𝕄} :
    iprop(((Mid -∗ WP c p Q) -∗ WP c p' Q) ∗ (Mid -∗ WP c p Q)) ⊢ WP c p' Q := by
  iintro ⟨H, HK⟩
  iapply H
  iexact HK

variable {M : Mem} {c : Dev nD} (D : Dat F M c)

theorem ld0 {off : Fin 1 → ℕ} {h : ∀ a, off a + S1.size a ≤ (⟨1, ![288]⟩ : Shape).size a} {h1 hp} {i : ℕ} (e : off = ![i]) {Q : BitVec 32 → sProp 𝕄} :
    tabs D ⊢ iprop((tabs D -∗ Q (D.B i)) -∗ WP c (smemLoad M.a0 (Rect.unit (s := S288) off S1.size h) h1 hp) Q) := by
  unfold tabs
  iintro ⟨H, H1, H2⟩ HQ
  iapply (tabLoad c e) $$ H
  iintro H
  iapply HQ
  isplitl [H]; · iexact H
  isplitl [H1]; · iexact H1
  iexact H2

theorem ld1 {off : Fin 1 → ℕ} {h : ∀ a, off a + S1.size a ≤ (⟨1, ![1]⟩ : Shape).size a} {h1 hp} (e : off = ![0]) {Q : BitVec 32 → sProp 𝕄} :
    tabs D ⊢ iprop((tabs D -∗ Q D.u) -∗ WP c (smemLoad M.a1 (Rect.unit (s := S1) off S1.size h) h1 hp) Q) := by
  unfold tabs
  iintro ⟨H1, H, H2⟩ HQ
  iapply (tabLoad c e) $$ H
  iintro H
  iapply HQ
  isplitl [H1]; · iexact H1
  isplitl [H]; · iexact H
  iexact H2

theorem ld2 {off : Fin 1 → ℕ} {h : ∀ a, off a + S1.size a ≤ (⟨1, ![288]⟩ : Shape).size a} {h1 hp} {i : ℕ} (e : off = ![i]) {Q : BitVec 32 → sProp 𝕄} :
    tabs D ⊢ iprop((tabs D -∗ Q (D.V i)) -∗ WP c (smemLoad M.a2 (Rect.unit (s := S288) off S1.size h) h1 hp) Q) := by
  unfold tabs
  iintro ⟨H1, H2, H⟩ HQ
  iapply (tabLoad c e) $$ H
  iintro H
  iapply HQ
  isplitl [H1]; · iexact H1
  isplitl [H2]; · iexact H2
  iexact H

end Cert.Proof.Experts

end
-- ==== Proof.Experts.Part3.lean ====
/-
  The words a step starts from.
-/
module

public import proofs.«01_k».proof.Proof.Experts.Checks

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem part3 {Q} :
    tabs D ⊢ iprop((tabs D -∗ Q ⟨chk9 k, w k.val, bw (k.val = 0), bw (k.val = 287), w k.val, w ((k.val + 287) % 288), w ((k.val + 1) % 288), w ((k.val + 2) % 288), D.u, w (min ((k.val + 1) % 288) D.N), D.u, chk7 D k, bw (min ((k.val + 1) % 288) D.N ≠ min ((k.val + 2) % 288) D.N)⟩)
      -∗ WP c (k0_part3 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo 0#32 1#32 k (w (min (k.val + 1) D.N + 1)) (w k.val) (w (k.val - 1)) (w k.val)) Q) := by
  rw [k0_part3_eq_skeleton]; unfold k0_part3_skel
  have hN := D.hN.lt
  have hk := k.lt
  iintro HT HQ
  try dsimp -zetaHave only
  rw [wpBind]
  iapply (wpAssume c (chk9 k) _)
  try dsimp only
  rw [wpBind]
  iapply (ld1 D rfl) $$ HT; iintro HT
  try dsimp only
  rw [wpBind]
  iapply (ld1 D rfl) $$ HT; iintro HT
  try dsimp only
  rw [wpBind]
  have e1 : Scalar.addi (w k.val) 0#32 = w k.val := add0 _
  have e2 := nxt_w k.f
  have e3 : nxt (w ((k.val + 1) % 288)) = w ((k.val + 2) % 288) := by
    have h := nxt2_w k.f
    rwa [nxt_w k.f] at h
  have e4 := prv_w k.f
  have e5 := iv_w k
  have e6 := iv_eq0 k
  have e7 := iv_eq287 k
  have e8 := D.hN.min (j := (k.val + 1) % 288) (by omega)
  have e9 := D.hN.min (j := (k.val + 2) % 288) (by omega)
  have e10 : bw (w (min ((k.val + 1) % 288) D.N) ≠ w (min ((k.val + 2) % 288) D.N)) = bw (min ((k.val + 1) % 288) D.N ≠ min ((k.val + 2) % 288) D.N) :=
    bw_congr (not_congr (w_inj (by omega) (by omega)))
  simp only [nxt, prv] at e2 e3 e4
  iapply (wpAssume c (chk7 D k) _)
  try dsimp only
  iapply (wpPure c _ _)
  simp only [e5, e6, e7, e3, e2, e4, add0, e9, e8, cmp_ne, e10]
  iapply HQ; iexact HT

end Cert.Proof.Experts

end
-- ==== Proof.Experts.Part4.lean ====
/-
  The fetches of the tokens of the block after next and of the next gate and up weights.
-/
module

public import proofs.«01_k».proof.Proof.Experts.Checks

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem part4 {h9 h7 Q} :
    iprop(tabs D ∗ x3 D k.val ∗ (gW D).free (cnt D.B k.val + 1) ∗ (bW D).free (cnt D.B k.val + 1))
      ⊢ iprop((iprop(tabs D ∗ x3' D k.val ∗ (gW D).nx D.B k.val ∗ (bW D).nx D.B k.val)
          -∗ Q ⟨w (min (k.val + 2) D.N + 1), D.B k.val, D.B ((k.val + 1) % 288), (if D.B k.val ≠ D.B ((k.val + 1) % 288) ∧ k.val < 287 then w (cnt D.B k.val + 2) else w (cnt D.B k.val + 1)), D.B k.val, D.B ((k.val + 1) % 288), (if D.B k.val ≠ D.B ((k.val + 1) % 288) ∧ k.val < 287 then w (cnt D.B k.val + 2) else w (cnt D.B k.val + 1))⟩)
      -∗ WP c (k0_part4 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo k (w (min (k.val + 1) D.N + 1)) (w (cnt D.B k.val + 1)) (w (cnt D.B k.val + 1)) (w k.val) (w (k.val - 1)) (w k.val) h9
          (w k.val) (w k.val) (w ((k.val + 1) % 288)) (w ((k.val + 2) % 288)) D.u D.u h7 (bw (min ((k.val + 1) % 288) D.N ≠ min ((k.val + 2) % 288) D.N))) Q) := by
  rw [k0_part4_eq_skeleton]; unfold k0_part4_skel
  have hN := D.hN.lt
  have hk := k.lt
  have hcnt := cnt_le D.B k.val
  iintro ⟨HT, Hx, Hg, Hb⟩ HQ
  try dsimp -zetaHave only
  extract_lets -underBinder jp
  iapply (wpCut c (jp ⟨⟩) iprop(tabs D ∗ x3' D k.val))
  isplitl [HT Hx]
  · clear_value jp
    iintro Hjp
    have hcd := cond2 D.hN k
    unfold x3 x3'
    by_cases hc : k.val + 2 ≤ D.N
    · rw [dif_pos (hcd.trans (bw_true hc)), if_pos hc]
      have em : min (k.val + 1) D.N + 1 = k.val + 2 := by omega
      have em2 : min k.val D.N + 2 = k.val + 2 := by omega
      rw [wpBind]
      iapply (ld1 D rfl) $$ HT; iintro HT
      try dsimp -zetaHave only
      rw [wpBind]
      iapply (wpAssume c (chk8 D k) _)
      dsimp only
      rw [wpBind, em2]
      iapply (xsIssue (b := k.val + 2) (by omega) ((off19 (j := min (k.val + 1) D.N + 1) (by omega)).trans (by rw [em])) ((off20 (j := min (k.val + 1) D.N + 1) (by omega)).trans (by rw [em]))
        ((off21 D.hN k).trans (by rw [show min ((k.val + 2) % 288) D.N = k.val + 2 by omega]))) $$ Hx
      iintro Hx
      try dsimp only
      iapply Hjp
      isplitl [HT]; · iexact HT
      iexact Hx
    · rw [dif_neg (fun h => hc (bw_eq_one.1 (hcd.symm.trans h))), if_neg hc]
      iapply Hjp
      isplitl [HT]; · iexact HT
      iexact Hx
  iintro ⟨HT, Hx⟩
  try dsimp -zetaHave only [jp]
  clear jp
  try dsimp -zetaHave only
  rw [wpBind]
  iapply (ld0 D (off22 k)) $$ HT; iintro HT
  try dsimp -zetaHave only
  rw [wpBind]
  iapply (ld0 D (off23 k)) $$ HT; iintro HT
  try dsimp -zetaHave only
  rw [wpBind]
  iapply (wpAssume c (chk10 k (j := cnt D.B k.val + 1) (by omega)) _)
  try dsimp -zetaHave only
  extract_lets -underBinder hw10 a1 a2 a3 a4 jp
  iapply (wpCut c (jp ⟨⟩) iprop(tabs D ∗ (gW D).nx D.B k.val))
  isplitl [HT Hg]
  · clear_value jp
    iintro Hjp
    have hcd := cond3 k (D.B k.val) (D.B ((k.val + 1) % 288))
    unfold Win.nx
    by_cases hc : D.B k.val ≠ D.B ((k.val + 1) % 288) ∧ k.val < 287
    · rw [dif_pos (hcd.trans (bw_true hc)), if_pos hc]
      rw [wpBind]
      iapply (ld0 D (off24 k)) $$ HT; iintro HT
      try dsimp -zetaHave only
      rw [wpBind]
      iapply (wpAssume c (chk11 k (D.hB _)) _)
      dsimp only
      rw [wpBind]
      iapply (guIssue (D.hB _) (off25 (j := cnt D.B k.val + 1) (by omega)) (off26 (j := cnt D.B k.val + 1) (by omega)) (off27 _)) $$ Hg
      iintro Hg
      try dsimp only
      iapply Hjp
      isplitl [HT]; · iexact HT
      iexact Hg
    · rw [dif_neg (fun h => hc (bw_eq_one.1 (hcd.symm.trans h))), if_neg hc]
      iapply Hjp
      isplitl [HT]; · iexact HT
      iexact Hg
  iintro ⟨HT, Hg⟩
  try dsimp -zetaHave only [jp, a4, a3, a2, a1]
  clear jp a4 a3 a2 a1
  try dsimp -zetaHave only
  rw [wpBind]
  iapply (ld0 D (off28 k)) $$ HT; iintro HT
  try dsimp -zetaHave only
  rw [wpBind]
  iapply (ld0 D (off29 k)) $$ HT; iintro HT
  try dsimp -zetaHave only
  rw [wpBind]
  iapply (wpAssume c (chk12 k (j := cnt D.B k.val + 1) (by omega)) _)
  try dsimp -zetaHave only
  extract_lets -underBinder hw12 a1 a2 a3 a4 jp
  iapply (wpCut c (jp ⟨⟩) iprop(tabs D ∗ (bW D).nx D.B k.val))
  isplitl [HT Hb]
  · clear_value jp
    iintro Hjp
    have hcd := cond4 k (D.B k.val) (D.B ((k.val + 1) % 288))
    unfold Win.nx
    by_cases hc : D.B k.val ≠ D.B ((k.val + 1) % 288) ∧ k.val < 287
    · rw [dif_pos (hcd.trans (bw_true hc)), if_pos hc]
      rw [wpBind]
      iapply (ld0 D (off30 k)) $$ HT; iintro HT
      try dsimp -zetaHave only
      rw [wpBind]
      iapply (wpAssume c (chk13 k (D.hB _)) _)
      dsimp only
      rw [wpBind]
      iapply (bgIssue (D.hB _) (off31 (j := cnt D.B k.val + 1) (by omega)) (off32 (j := cnt D.B k.val + 1) (by omega)) (off33 _)) $$ Hb
      iintro Hb
      try dsimp only
      iapply Hjp
      isplitl [HT]; · iexact HT
      iexact Hb
    · rw [dif_neg (fun h => hc (bw_eq_one.1 (hcd.symm.trans h))), if_neg hc]
      iapply Hjp
      isplitl [HT]; · iexact HT
      iexact Hb
  iintro ⟨HT, Hb⟩
  try dsimp -zetaHave only [jp, a4, a3, a2, a1]
  clear jp a4 a3 a2 a1
  have eI : ∀ (p : Prop) [Decidable p] (a : ℕ), Scalar.select (bw p) (Scalar.addi (w a) 1#32) (w a) = if p then w (a + 1) else w a := by
    intro p _ a; rw [sel_bw, show Scalar.addi (w a) 1#32 = w (a + 1) from (BitVec.ofNat_add a 1).symm]
  have e287 : ∀ (x y : BitVec 32), Scalar.andi (Scalar.andi (Scalar.cmpi .ne x y) (Scalar.xori (Scalar.cmpi .sge (w k.val) 287#32) 1#1)) 1#1 = bw (x ≠ y ∧ k.val < 287) := by
    intro x y; rw [andi_one, iv_sge287, cmp_ne, bw_not, bw_and]; exact bw_congr (and_congr Iff.rfl (by omega))
  have eX : Scalar.select (Scalar.andi (Scalar.andi (bw (min ((k.val + 1) % 288) D.N ≠ min ((k.val + 2) % 288) D.N)) (Scalar.xori (Scalar.cmpi .sge (w k.val) 286#32) 1#1)) 1#1)
      (Scalar.addi (w (min (k.val + 1) D.N + 1)) 1#32) (w (min (k.val + 1) D.N + 1)) = w (min (k.val + 2) D.N + 1) := by
    rw [andi_one, iv_sge286, bw_not, bw_and, eI]
    split
    · congr 1; omega
    · congr 1; omega
  iapply (wpPure c _ _)
  simp only [e287, eI, eX]
  iapply HQ
  isplitl [HT]; · iexact HT
  isplitl [Hx]; · iexact Hx
  isplitl [Hg]; · iexact Hg
  iexact Hb

end Cert.Proof.Experts

end
-- ==== Proof.Experts.Part5.lean ====
/-
  The fetches of the next down weights.
-/
module

public import proofs.«01_k».proof.Proof.Experts.Checks

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem part5 {h9 Q} :
    iprop(tabs D ∗ (wW D).free (cnt D.B k.val + 1) ∗ (dW D).free (cnt D.B k.val + 1))
      ⊢ iprop((iprop(tabs D ∗ (wW D).nx D.B k.val ∗ (dW D).nx D.B k.val)
          -∗ Q ⟨D.B k.val, D.B ((k.val + 1) % 288), (if D.B k.val ≠ D.B ((k.val + 1) % 288) ∧ k.val < 287 then w (cnt D.B k.val + 2) else w (cnt D.B k.val + 1)), D.B k.val, D.B ((k.val + 1) % 288), (if D.B k.val ≠ D.B ((k.val + 1) % 288) ∧ k.val < 287 then w (cnt D.B k.val + 2) else w (cnt D.B k.val + 1)), D.u, w (min k.val D.N), D.u, chk18 D k, Scalar.subi D.u 1#32⟩)
      -∗ WP c (k0_part5 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo k (w (min k.val D.N)) (w (cnt D.B k.val + 1)) (w (cnt D.B k.val + 1)) (w k.val) (w (k.val - 1)) (w k.val) h9
          (w k.val) (w k.val) (w ((k.val + 1) % 288))) Q) := by
  rw [k0_part5_eq_skeleton]; unfold k0_part5_skel
  have hN := D.hN.lt
  have hk := k.lt
  have hcnt := cnt_le D.B k.val
  iintro ⟨HT, Hw, Hd⟩ HQ
  try dsimp -zetaHave only
  rw [wpBind]
  iapply (ld0 D (off34 k)) $$ HT; iintro HT
  try dsimp -zetaHave only
  rw [wpBind]
  iapply (ld0 D (off35 k)) $$ HT; iintro HT
  try dsimp -zetaHave only
  rw [wpBind]
  iapply (wpAssume c (chk14 k (j := cnt D.B k.val + 1) (by omega)) _)
  try dsimp -zetaHave only
  extract_lets -underBinder hw14 a1 a2 a3 a4 jp
  iapply (wpCut c (jp ⟨⟩) iprop(tabs D ∗ (wW D).nx D.B k.val))
  isplitl [HT Hw]
  · clear_value jp
    iintro Hjp
    have hcd := cond5 k (D.B k.val) (D.B ((k.val + 1) % 288))
    unfold Win.nx
    by_cases hc : D.B k.val ≠ D.B ((k.val + 1) % 288) ∧ k.val < 287
    · rw [dif_pos (hcd.trans (bw_true hc)), if_pos hc]
      rw [wpBind]
      iapply (ld0 D (off36 k)) $$ HT; iintro HT
      try dsimp -zetaHave only
      rw [wpBind]
      iapply (wpAssume c (chk15 k (D.hB _)) _)
      dsimp only
      rw [wpBind]
      iapply (wdIssue (D.hB _) (off37 (j := cnt D.B k.val + 1) (by omega)) (off38 (j := cnt D.B k.val + 1) (by omega)) (off39 _)) $$ Hw
      iintro Hw
      try dsimp only
      iapply Hjp
      isplitl [HT]; · iexact HT
      iexact Hw
    · rw [dif_neg (fun h => hc (bw_eq_one.1 (hcd.symm.trans h))), if_neg hc]
      iapply Hjp
      isplitl [HT]; · iexact HT
      iexact Hw
  iintro ⟨HT, Hw⟩
  try dsimp -zetaHave only [jp, a4, a3, a2, a1]
  clear jp a4 a3 a2 a1
  try dsimp -zetaHave only
  rw [wpBind]
  iapply (ld0 D (off40 k)) $$ HT; iintro HT
  try dsimp -zetaHave only
  rw [wpBind]
  iapply (ld0 D (off41 k)) $$ HT; iintro HT
  try dsimp -zetaHave only
  rw [wpBind]
  iapply (wpAssume c (chk16 k (j := cnt D.B k.val + 1) (by omega)) _)
  try dsimp -zetaHave only
  extract_lets -underBinder hw16 a1 a2 a3 a4 jp
  iapply (wpCut c (jp ⟨⟩) iprop(tabs D ∗ (dW D).nx D.B k.val))
  isplitl [HT Hd]
  · clear_value jp
    iintro Hjp
    have hcd := cond6 k (D.B k.val) (D.B ((k.val + 1) % 288))
    unfold Win.nx
    by_cases hc : D.B k.val ≠ D.B ((k.val + 1) % 288) ∧ k.val < 287
    · rw [dif_pos (hcd.trans (bw_true hc)), if_pos hc]
      rw [wpBind]
      iapply (ld0 D (off42 k)) $$ HT; iintro HT
      try dsimp -zetaHave only
      rw [wpBind]
      iapply (wpAssume c (chk17 k (D.hB _)) _)
      dsimp only
      rw [wpBind]
      iapply (bdIssue (D.hB _) (off43 (j := cnt D.B k.val + 1) (by omega)) (off44 (j := cnt D.B k.val + 1) (by omega)) (off45 _)) $$ Hd
      iintro Hd
      try dsimp only
      iapply Hjp
      isplitl [HT]; · iexact HT
      iexact Hd
    · rw [dif_neg (fun h => hc (bw_eq_one.1 (hcd.symm.trans h))), if_neg hc]
      iapply Hjp
      isplitl [HT]; · iexact HT
      iexact Hd
  iintro ⟨HT, Hd⟩
  try dsimp -zetaHave only [jp, a4, a3, a2, a1]
  clear jp a4 a3 a2 a1
  have eI : ∀ (p : Prop) [Decidable p] (a : ℕ), Scalar.select (bw p) (Scalar.addi (w a) 1#32) (w a) = if p then w (a + 1) else w a := by
    intro p _ a; rw [sel_bw, show Scalar.addi (w a) 1#32 = w (a + 1) from (BitVec.ofNat_add a 1).symm]
  have e287 : ∀ (x y : BitVec 32), Scalar.andi (Scalar.andi (Scalar.cmpi .ne x y) (Scalar.xori (Scalar.cmpi .sge (w k.val) 287#32) 1#1)) 1#1 = bw (x ≠ y ∧ k.val < 287) := by
    intro x y; rw [andi_one, iv_sge287, cmp_ne, bw_not, bw_and]; exact bw_congr (and_congr Iff.rfl (by omega))
  rw [wpBind]
  iapply (ld1 D rfl) $$ HT; iintro HT
  try dsimp -zetaHave only
  rw [wpBind]
  iapply (ld1 D rfl) $$ HT; iintro HT
  try dsimp -zetaHave only
  rw [wpBind]
  iapply (wpAssume c (chk18 D k) _)
  try dsimp only
  iapply (wpPure c _ _)
  have eM := D.hN.min (j := k.val) (by omega)
  simp only [e287, eI, eM]
  iapply HQ
  isplitl [HT]; · iexact HT
  isplitl [Hw]; · iexact Hw
  iexact Hd

end Cert.Proof.Experts

end
-- ==== Proof.Experts.Part6.lean ====
/-
  The waits for the tokens and the weights of a step.
-/
module

public import proofs.«01_k».proof.Proof.Experts.Checks

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem part6 {h9 h18 Q} :
    iprop(tabs D ∗ Ow (F := F) c ∗ x1 D k.val ∗ (gW D).inn D.B k.val ∗ (bW D).inn D.B k.val ∗ (wW D).inn D.B k.val ∗ (dW D).inn D.B k.val)
      ⊢ iprop((iprop(tabs D ∗ Ow (F := F) c ∗ x1' D k.val ∗ (gW D).cur D.B k.val ∗ (bW D).cur D.B k.val ∗ (wW D).cur D.B k.val ∗ (dW D).cur D.B k.val)
          -∗ Q ⟨w (min ((k.val + 287) % 288) D.N), D.B ((k.val + 287) % 288), D.B ((k.val + 287) % 288), D.B ((k.val + 287) % 288), D.B ((k.val + 287) % 288), Scalar.ori (Scalar.cmpi .ne (w k.val) (w ((k.val + 287) % 288))) (bw (k.val = 0))⟩)
      -∗ WP c (k0_part6 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo k (w (min k.val D.N)) (w (cnt D.B k.val)) (w (cnt D.B k.val)) (w (cnt D.B k.val)) (w (cnt D.B k.val)) (w k.val) (w (k.val - 1)) (w k.val) h9
          (w k.val) (bw (k.val = 0)) (w k.val) (w ((k.val + 287) % 288)) (D.B k.val) (D.B k.val) (D.B k.val) (D.B k.val) D.u (w (min k.val D.N)) D.u h18 (Scalar.subi D.u 1#32)) Q) := by
  rw [k0_part6_eq_skeleton]; unfold k0_part6_skel
  have hN := D.hN.lt
  have hk := k.lt
  have hcnt := cnt_le D.B k.val
  iintro ⟨HT, HO, Hx, Hg, Hb, Hw, Hd⟩ HQ
  try dsimp -zetaHave only
  extract_lets -underBinder jp
  iapply (wpCut c (jp ⟨⟩) iprop(tabs D ∗ Ow (F := F) c ∗ x1' D k.val))
  isplitl [HT HO Hx]
  · clear_value jp
    iintro Hjp
    have hcd := cond7 D.hN k
    by_cases hc : k.val ≤ D.N
    · have em : min k.val D.N = k.val := by omega
      have hi : x1 D k.val ⊢ xFly D k.val k.val := by unfold x1; rw [if_pos hc]
      have ho : xHeld D k.val k.val ⊢ x1' D k.val := by unfold x1'; rw [em]
      ihave Hx := hi $$ Hx
      iapply (wpIfPos c (hcd.trans (bw_true hc)) _ _ _)
      rw [wpBind]
      iapply (ld1 D rfl) $$ HT; iintro HT
      try dsimp -zetaHave only
      rw [wpBind]
      iapply (wpAssume c (chk19 D k) _)
      dsimp only
      rw [wpBind]
      iapply (xsWait ((off46 (j := min k.val D.N) (by omega)).trans (by rw [em])) ((off47 (j := min k.val D.N) (by omega)).trans (by rw [em]))) $$ [Hx HO]
      · isplitl [Hx]; · iexact Hx
        iexact HO
      iintro ⟨Hx, HO⟩
      try dsimp only
      iapply Hjp
      isplitl [HT]; · iexact HT
      isplitl [HO]; · iexact HO
      iapply ho $$ Hx
    · have hi : x1 D k.val ⊢ x1' D k.val := by unfold x1 x1'; rw [if_neg hc, show min k.val D.N = D.N by omega]
      ihave Hx := hi $$ Hx
      iapply (wpIfNeg c (fun h => hc (bw_eq_one.1 (hcd.symm.trans h))) _ _ _)
      iapply Hjp
      isplitl [HT]; · iexact HT
      isplitl [HO]; · iexact HO
      iexact Hx
  iintro ⟨HT, HO, Hx⟩
  try dsimp -zetaHave only [jp]
  clear jp
  try dsimp -zetaHave only
  rw [wpBind]
  iapply (ld0 D (off49 k)) $$ HT; iintro HT
  try dsimp -zetaHave only
  rw [wpBind]
  iapply (wpAssume c (chk20 k (j := cnt D.B k.val) (by omega)) _)
  try dsimp -zetaHave only
  extract_lets -underBinder hw20 jp
  iapply (wpCut c (jp ⟨⟩) iprop(tabs D ∗ Ow (F := F) c ∗ (gW D).cur D.B k.val))
  isplitl [HT HO Hg]
  · clear_value jp
    iintro Hjp
    have hcd := cond8 k (D.B k.val) (D.B ((k.val + 287) % 288))
    have hfr := fresh_iff D.B k.lt
    by_cases hc : fresh D.B k.val
    · have hi : (gW D).inn D.B k.val ⊢ (gW D).fly (cnt D.B k.val) (D.B k.val).toNat := by unfold Win.inn; rw [if_pos hc]
      have ho : (gW D).held (cnt D.B k.val) (D.B k.val).toNat ⊢ (gW D).cur D.B k.val := by unfold Win.cur; exact BIBase.Entails.rfl
      ihave Hg := hi $$ Hg
      iapply (wpIfPos c (hcd.trans (bw_true (hfr.2 hc))) _ _ _)
      rw [wpBind]
      iapply (ld0 D (off50 k)) $$ HT; iintro HT
      try dsimp -zetaHave only
      rw [wpBind]
      iapply (wpAssume c (chk21 k (D.hB _)) _)
      dsimp only
      rw [wpBind]
      iapply (guWait (off51 (j := cnt D.B k.val) (by omega)) (off52 (j := cnt D.B k.val) (by omega))) $$ [Hg HO]
      · isplitl [Hg]; · iexact Hg
        iexact HO
      iintro ⟨Hg, HO⟩
      try dsimp only
      iapply Hjp
      isplitl [HT]; · iexact HT
      isplitl [HO]; · iexact HO
      iapply ho $$ Hg
    · have hi : (gW D).inn D.B k.val ⊢ (gW D).cur D.B k.val := by unfold Win.inn Win.cur; rw [if_neg hc]
      ihave Hg := hi $$ Hg
      iapply (wpIfNeg c (fun h => hc (hfr.1 (bw_eq_one.1 (hcd.symm.trans h)))) _ _ _)
      iapply Hjp
      isplitl [HT]; · iexact HT
      isplitl [HO]; · iexact HO
      iexact Hg
  iintro ⟨HT, HO, Hg⟩
  try dsimp -zetaHave only [jp]
  clear jp
  try dsimp -zetaHave only
  rw [wpBind]
  iapply (ld0 D (off54 k)) $$ HT; iintro HT
  try dsimp -zetaHave only
  rw [wpBind]
  iapply (wpAssume c (chk22 k (j := cnt D.B k.val) (by omega)) _)
  try dsimp -zetaHave only
  extract_lets -underBinder hw22 jp
  iapply (wpCut c (jp ⟨⟩) iprop(tabs D ∗ Ow (F := F) c ∗ (bW D).cur D.B k.val))
  isplitl [HT HO Hb]
  · clear_value jp
    iintro Hjp
    have hcd := cond9 k (D.B k.val) (D.B ((k.val + 287) % 288))
    have hfr := fresh_iff D.B k.lt
    by_cases hc : fresh D.B k.val
    · have hi : (bW D).inn D.B k.val ⊢ (bW D).fly (cnt D.B k.val) (D.B k.val).toNat := by unfold Win.inn; rw [if_pos hc]
      have ho : (bW D).held (cnt D.B k.val) (D.B k.val).toNat ⊢ (bW D).cur D.B k.val := by unfold Win.cur; exact BIBase.Entails.rfl
      ihave Hb := hi $$ Hb
      iapply (wpIfPos c (hcd.trans (bw_true (hfr.2 hc))) _ _ _)
      rw [wpBind]
      iapply (ld0 D (off55 k)) $$ HT; iintro HT
      try dsimp -zetaHave only
      rw [wpBind]
      iapply (wpAssume c (chk23 k (D.hB _)) _)
      dsimp only
      rw [wpBind]
      iapply (bgWait (off56 (j := cnt D.B k.val) (by omega)) (off57 (j := cnt D.B k.val) (by omega))) $$ [Hb HO]
      · isplitl [Hb]; · iexact Hb
        iexact HO
      iintro ⟨Hb, HO⟩
      try dsimp only
      iapply Hjp
      isplitl [HT]; · iexact HT
      isplitl [HO]; · iexact HO
      iapply ho $$ Hb
    · have hi : (bW D).inn D.B k.val ⊢ (bW D).cur D.B k.val := by unfold Win.inn Win.cur; rw [if_neg hc]
      ihave Hb := hi $$ Hb
      iapply (wpIfNeg c (fun h => hc (hfr.1 (bw_eq_one.1 (hcd.symm.trans h)))) _ _ _)
      iapply Hjp
      isplitl [HT]; · iexact HT
      isplitl [HO]; · iexact HO
      iexact Hb
  iintro ⟨HT, HO, Hb⟩
  try dsimp -zetaHave only [jp]
  clear jp
  try dsimp -zetaHave only
  rw [wpBind]
  iapply (ld0 D (off59 k)) $$ HT; iintro HT
  try dsimp -zetaHave only
  rw [wpBind]
  iapply (wpAssume c (chk24 k (j := cnt D.B k.val) (by omega)) _)
  try dsimp -zetaHave only
  extract_lets -underBinder hw24 jp
  iapply (wpCut c (jp ⟨⟩) iprop(tabs D ∗ Ow (F := F) c ∗ (wW D).cur D.B k.val))
  isplitl [HT HO Hw]
  · clear_value jp
    iintro Hjp
    have hcd := cond10 k (D.B k.val) (D.B ((k.val + 287) % 288))
    have hfr := fresh_iff D.B k.lt
    by_cases hc : fresh D.B k.val
    · have hi : (wW D).inn D.B k.val ⊢ (wW D).fly (cnt D.B k.val) (D.B k.val).toNat := by unfold Win.inn; rw [if_pos hc]
      have ho : (wW D).held (cnt D.B k.val) (D.B k.val).toNat ⊢ (wW D).cur D.B k.val := by unfold Win.cur; exact BIBase.Entails.rfl
      ihave Hw := hi $$ Hw
      iapply (wpIfPos c (hcd.trans (bw_true (hfr.2 hc))) _ _ _)
      rw [wpBind]
      iapply (ld0 D (off60 k)) $$ HT; iintro HT
      try dsimp -zetaHave only
      rw [wpBind]
      iapply (wpAssume c (chk25 k (D.hB _)) _)
      dsimp only
      rw [wpBind]
      iapply (wdWait (off61 (j := cnt D.B k.val) (by omega)) (off62 (j := cnt D.B k.val) (by omega))) $$ [Hw HO]
      · isplitl [Hw]; · iexact Hw
        iexact HO
      iintro ⟨Hw, HO⟩
      try dsimp only
      iapply Hjp
      isplitl [HT]; · iexact HT
      isplitl [HO]; · iexact HO
      iapply ho $$ Hw
    · have hi : (wW D).inn D.B k.val ⊢ (wW D).cur D.B k.val := by unfold Win.inn Win.cur; rw [if_neg hc]
      ihave Hw := hi $$ Hw
      iapply (wpIfNeg c (fun h => hc (hfr.1 (bw_eq_one.1 (hcd.symm.trans h)))) _ _ _)
      iapply Hjp
      isplitl [HT]; · iexact HT
      isplitl [HO]; · iexact HO
      iexact Hw
  iintro ⟨HT, HO, Hw⟩
  try dsimp -zetaHave only [jp]
  clear jp
  try dsimp -zetaHave only
  rw [wpBind]
  iapply (ld0 D (off64 k)) $$ HT; iintro HT
  try dsimp -zetaHave only
  rw [wpBind]
  iapply (wpAssume c (chk26 k (j := cnt D.B k.val) (by omega)) _)
  try dsimp -zetaHave only
  extract_lets -underBinder hw26 jp
  iapply (wpCut c (jp ⟨⟩) iprop(tabs D ∗ Ow (F := F) c ∗ (dW D).cur D.B k.val))
  isplitl [HT HO Hd]
  · clear_value jp
    iintro Hjp
    have hcd := cond11 k (D.B k.val) (D.B ((k.val + 287) % 288))
    have hfr := fresh_iff D.B k.lt
    by_cases hc : fresh D.B k.val
    · have hi : (dW D).inn D.B k.val ⊢ (dW D).fly (cnt D.B k.val) (D.B k.val).toNat := by unfold Win.inn; rw [if_pos hc]
      have ho : (dW D).held (cnt D.B k.val) (D.B k.val).toNat ⊢ (dW D).cur D.B k.val := by unfold Win.cur; exact BIBase.Entails.rfl
      ihave Hd := hi $$ Hd
      iapply (wpIfPos c (hcd.trans (bw_true (hfr.2 hc))) _ _ _)
      rw [wpBind]
      iapply (ld0 D (off65 k)) $$ HT; iintro HT
      try dsimp -zetaHave only
      rw [wpBind]
      iapply (wpAssume c (chk27 k (D.hB _)) _)
      dsimp only
      rw [wpBind]
      iapply (bdWait (off66 (j := cnt D.B k.val) (by omega)) (off67 (j := cnt D.B k.val) (by omega))) $$ [Hd HO]
      · isplitl [Hd]; · iexact Hd
        iexact HO
      iintro ⟨Hd, HO⟩
      try dsimp only
      iapply Hjp
      isplitl [HT]; · iexact HT
      isplitl [HO]; · iexact HO
      iapply ho $$ Hd
    · have hi : (dW D).inn D.B k.val ⊢ (dW D).cur D.B k.val := by unfold Win.inn Win.cur; rw [if_neg hc]
      ihave Hd := hi $$ Hd
      iapply (wpIfNeg c (fun h => hc (hfr.1 (bw_eq_one.1 (hcd.symm.trans h)))) _ _ _)
      iapply Hjp
      isplitl [HT]; · iexact HT
      isplitl [HO]; · iexact HO
      iexact Hd
  iintro ⟨HT, HO, Hd⟩
  try dsimp -zetaHave only [jp]
  clear jp
  iapply (wpPure c _ _)
  have eM := D.hN.min (j := (k.val + 287) % 288) (by omega)
  simp only [eM]
  iapply HQ
  isplitl [HT]; · iexact HT
  isplitl [HO]; · iexact HO
  isplitl [Hx]; · iexact Hx
  isplitl [Hg]; · iexact Hg
  isplitl [Hb]; · iexact Hb
  isplitl [Hw]; · iexact Hw
  iexact Hd

end Cert.Proof.Experts

end
-- ==== Proof.Experts.Loads.lean ====
/-
  Loads of the slots of the windows, and the two pieces of the step that read the operands.
-/
module

public import proofs.«01_k».proof.Proof.Experts.Checks

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

/-- A rectangle that is the whole shape. -/
theorem idx_full {s : Shape} (o : Fin s.rank → ℕ) (h) (e : o = fun _ => 0) (j : s.Idx) : (Rect.unit (s := s) o s.size h).idx j = j := by
  subst e
  funext a; apply Fin.ext
  show 0 + 1 * (j a).val = (j a).val
  omega

theorem overlay_full {s : Shape} {e : EltTy} (o : Fin s.rank → ℕ) (h) (eo : o = fun _ => 0) (X : s.Idx → Elt F e) (v : s.Idx → Elt F e) :
    (Rect.unit (s := s) o s.size h).overlay X v = v := by
  funext x
  have h1 := Rect.overlay_emb (Rect.unit (s := s) o s.size h) X v x
  have h2 : (Rect.unit (s := s) o s.size h).emb x = x := idx_full o h eo x
  rw [h2] at h1
  exact h1

theorem z2 : (![0, 0] : Fin 2 → ℕ) = fun _ => 0 := by funext i; fin_cases i <;> rfl
theorem z3 : (![0, 0, 0] : Fin 3 → ℕ) = fun _ => 0 := by funext i; fin_cases i <;> rfl

variable {c : Dev nD}

theorem ldOwns' {s : Shape} {e : EltTy} {m : Memref sig .tc .vmem s e} {X : s.Idx → Elt F e} {r : LoadRect s} {hl} {Z : r.shape.Idx → Elt F e}
    (hZ : (fun j => X (r.idx j)) = Z) {Q : (r.shape.Idx → Elt F e) → sProp 𝕄} :
    owns (c : Thread nD τ) m fullShare X ⊢ iprop((owns (c : Thread nD τ) m fullShare X -∗ Q Z)
      -∗ WP c (Prog.lift (.load m r hl)) Q) := by
  subst hZ; exact ldOwns c

/-- The whole of an array loaded, and stored. -/
theorem ldAll {s : Shape} {e : EltTy} {m : Memref sig .tc .vmem s e} {X : s.Idx → Elt F e} {o h hl} (eo : o = fun _ => 0) {Q : (s.Idx → Elt F e) → sProp 𝕄} :
    owns (c : Thread nD τ) m fullShare X ⊢ iprop((owns (c : Thread nD τ) m fullShare X -∗ Q X)
      -∗ WP c (Prog.lift (.load m (Rect.unit (s := s) o s.size h).toLoadRect hl)) Q) :=
  ldOwns' (r := (Rect.unit (s := s) o s.size h).toLoadRect) (Z := X) (funext fun i => congrArg X (idx_full o h eo i))

theorem xsLd {al sm ar A} {j b : ℕ} {o2 h2 h2'} {r : LoadRect S2048x128} {hl} (e2 : o2 = ![j % 3, 0, 0]) {Q : (r.shape.Idx → Elt F .i32) → sProp 𝕄} :
    xsHeld c al sm ar A j b ⊢ iprop((xsHeld c al sm ar A j b -∗ Q (fun i => xsBlk c ar A b (r.idx i)))
      -∗ WP c (Prog.lift (.load ((al.slice (Rect.unit (s := S3x2048x128) o2 S1x2048x128.size h2) h2').squeeze S2048x128 Facts₀.squeezes_S1x2048x128_S2048x128) r hl)) Q) := by
  subst e2
  unfold xsHeld SHeld
  iintro ⟨H, H1⟩ HQ
  iapply (ldOwns c (m := xsD al j)) $$ H
  iintro H
  iapply HQ
  isplitl [H]; · iexact H
  iexact H1

theorem guLd {al sm ar A} {j b : ℕ} {o2 h2 h2' h3} {hl} (e2 : o2 = ![j % 2, 0, 0, 0]) {Q : (S1x1024x2048.Idx → Elt F .f32) → sProp 𝕄} :
    guHeld c al sm ar A j b ⊢ iprop((guHeld c al sm ar A j b -∗ Q (guBlk c ar A b))
      -∗ WP c (Prog.lift (.load ((al.slice (Rect.unit (s := S2x1x1024x2048) o2 S1x1x1024x2048.size h2) h2').squeeze S1x1024x2048 Facts₀.squeezes_S1x1x1024x2048_S1x1024x2048) (Rect.unit (s := S1x1024x2048) ![0, 0, 0] S1x1024x2048.size h3).toLoadRect hl)) Q) := by
  subst e2
  unfold guHeld SHeld
  iintro ⟨H, H1⟩ HQ
  iapply (ldAll z3 (m := guD al j)) $$ H
  iintro H
  iapply HQ
  isplitl [H]; · iexact H
  iexact H1

theorem bgLd {al sm ar A} {j b : ℕ} {o2 h2 h2' h3} {hl} (e2 : o2 = ![j % 2, 0, 0, 0]) {Q : (S1x1x2048.Idx → Elt F .f32) → sProp 𝕄} :
    bgHeld c al sm ar A j b ⊢ iprop((bgHeld c al sm ar A j b -∗ Q (bgBlk c ar A b))
      -∗ WP c (Prog.lift (.load ((al.slice (Rect.unit (s := S2x1x1x2048) o2 S1x1x1x2048.size h2) h2').squeeze S1x1x2048 Facts₀.squeezes_S1x1x1x2048_S1x1x2048) (Rect.unit (s := S1x1x2048) ![0, 0, 0] S1x1x2048.size h3).toLoadRect hl)) Q) := by
  subst e2
  unfold bgHeld SHeld
  iintro ⟨H, H1⟩ HQ
  iapply (ldAll z3 (m := bgD al j)) $$ H
  iintro H
  iapply HQ
  isplitl [H]; · iexact H
  iexact H1

theorem wdLd {al sm ar A} {j b : ℕ} {o2 h2 h2' h3} {hl} (e2 : o2 = ![j % 2, 0, 0, 0]) {Q : (S1x1024x1024.Idx → Elt F .f32) → sProp 𝕄} :
    wdHeld c al sm ar A j b ⊢ iprop((wdHeld c al sm ar A j b -∗ Q (wdBlk c ar A b))
      -∗ WP c (Prog.lift (.load ((al.slice (Rect.unit (s := S2x1x1024x1024) o2 S1x1x1024x1024.size h2) h2').squeeze S1x1024x1024 Facts₀.squeezes_S1x1x1024x1024_S1x1024x1024) (Rect.unit (s := S1x1024x1024) ![0, 0, 0] S1x1024x1024.size h3).toLoadRect hl)) Q) := by
  subst e2
  unfold wdHeld SHeld
  iintro ⟨H, H1⟩ HQ
  iapply (ldAll z3 (m := wdD al j)) $$ H
  iintro H
  iapply HQ
  isplitl [H]; · iexact H
  iexact H1

theorem bdLd {al sm ar A} {j b : ℕ} {o2 h2 h2' h3} {hl} (e2 : o2 = ![j % 2, 0, 0, 0]) {Q : (S1x1x1024.Idx → Elt F .f32) → sProp 𝕄} :
    bdHeld c al sm ar A j b ⊢ iprop((bdHeld c al sm ar A j b -∗ Q (bdBlk c ar A b))
      -∗ WP c (Prog.lift (.load ((al.slice (Rect.unit (s := S2x1x1x1024) o2 S1x1x1x1024.size h2) h2').squeeze S1x1x1024 Facts₀.squeezes_S1x1x1x1024_S1x1x1024) (Rect.unit (s := S1x1x1024) ![0, 0, 0] S1x1x1024.size h3).toLoadRect hl)) Q) := by
  subst e2
  unfold bdHeld SHeld
  iintro ⟨H, H1⟩ HQ
  iapply (ldAll z3 (m := bdD al j)) $$ H
  iintro H
  iapply HQ
  isplitl [H]; · iexact H
  iexact H1

theorem ouLd {al sm} {j : ℕ} {Y : S2048x128.Idx → Elt F .i32} {o2 h2 h2'} {r : LoadRect S2048x128} {hl} (e2 : o2 = ![j % 2, 0, 0]) {Q : (r.shape.Idx → Elt F .i32) → sProp 𝕄} :
    ouFull c al sm j Y ⊢ iprop((ouFull c al sm j Y -∗ Q (fun i => Y (r.idx i)))
      -∗ WP c (Prog.lift (.load ((al.slice (Rect.unit (s := S2x2048x128) o2 S1x2048x128.size h2) h2').squeeze S2048x128 Facts₀.squeezes_S1x2048x128_S2048x128) r hl)) Q) := by
  subst e2
  unfold ouFull
  iintro ⟨H, H1⟩ HQ
  iapply (ldOwns c (m := ouD al j)) $$ H
  iintro H
  iapply HQ
  isplitl [H]; · iexact H
  iexact H1

theorem ouSt {al sm} {j : ℕ} {Y : S2048x128.Idx → Elt F .i32} {o2 h2 h2'} {r : Rect S2048x128} {v : r.shape.Idx → Elt F .i32} {hx hm} (e2 : o2 = ![j % 2, 0, 0]) {Q : PUnit → sProp 𝕄} :
    ouFull c al sm j Y ⊢ iprop((ouFull c al sm j (r.overlay Y v) -∗ Q ⟨⟩)
      -∗ WP c (Prog.lift (.store ((al.slice (Rect.unit (s := S2x2048x128) o2 S1x2048x128.size h2) h2').squeeze S2048x128 Facts₀.squeezes_S1x2048x128_S2048x128) r v Finset.univ hx hm)) Q) := by
  subst e2
  unfold ouFull
  iintro ⟨H, H1⟩ HQ
  iapply (stOwns c (m := ouD al j)) $$ H
  iintro H
  iapply HQ
  isplitl [H]; · iexact H
  iexact H1

/-- A slot of the result, at whatever it holds. -/
theorem ouOpen {al sm} {j : ℕ} : ouFree (F := F) c al sm j ⊢ iprop(∃ X, ouFull c al sm j X) := by
  unfold ouFree ouFull
  iintro ⟨H, H1⟩
  ihave H2 := (free_owns c) $$ H
  icases H2 with ⟨%X, H⟩
  iexists X
  isplitl [H]; · iexact H
  iexact H1
theorem stAll {s : Shape} {e : EltTy} {m : Memref sig .tc .vmem s e} {X v : s.Idx → Elt F e} {o h hx hm} (eo : o = fun _ => 0) {Q : PUnit → sProp 𝕄} :
    owns (c : Thread nD τ) m fullShare X ⊢ iprop((owns (c : Thread nD τ) m fullShare v -∗ Q ⟨⟩)
      -∗ WP c (Prog.lift (.store m (Rect.unit (s := s) o s.size h) v Finset.univ hx hm)) Q) := by
  iintro H HQ
  iapply (stOwns c) $$ H
  rw [overlay_full o h eo X v]
  iexact HQ

variable {M : Mem} (D : Dat F M c) (k : Trip)

/-- The arguments of the step's computation. -/
def p1 (k : ℕ) : FVec F S512x1024 .bf16 :=
  k0_pay1 (fun j => xsBlk c M.a3 D.X k (rS0.idx j)) (fun j => xsBlk c M.a3 D.X k (rS1.idx j)) (fun j => xsBlk c M.a3 D.X k (rS2.idx j)) (fun j => xsBlk c M.a3 D.X k (rS3.idx j)) (D.V k)
def p2 (k : ℕ) : FVec F S1x2048 .f32 := k0_pay2 (bgBlk c M.a5 D.BG (D.e k))
/-- The words the step computes. -/
def p3 (k : ℕ) : IVec S512x512 32 := k0_pay3 (F := F) (p1 D k) (p2 D k) (wgu D k) (bdBlk c M.a7 D.BD (D.e k)) (wdn D k)

theorem Y_used {k : ℕ} (h : k ≤ D.N) : Y D k = spread (F := F) (p3 D k) := if_pos h

theorem part1 {a : ℕ} (ha : a = k.val) {v120 v284 hw h14 Q} :
    iprop(tabs D ∗ xHeld D a a ∗ bgHeld c M.lb M.slb M.a5 D.BG (cnt D.B k.val) (D.B k.val).toNat)
    ⊢ iprop((iprop(tabs D ∗ xHeld D a a ∗ bgHeld c M.lb M.slb M.a5 D.BG (cnt D.B k.val) (D.B k.val).toNat) -∗ Q ⟨p1 D k.val, p2 D k.val⟩)
      -∗ WP c (k0_part1 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo (w a) (w (cnt D.B k.val)) (w (cnt D.B k.val)) (w k.val) (w k.val) v120 v284 hw h14) Q) := by
  subst ha
  rw [k0_part1_eq_skeleton]; unfold k0_part1_skel p1 p2
  have hk := k.lt
  have hc := cnt_le D.B k.val
  iintro ⟨HT, Hx, Hb⟩ HQ
  try dsimp -zetaHave only
  rw [wpBind]
  iapply (xsLd (off73 (j := k.val) (by omega))) $$ Hx; iintro Hx
  rw [wpBind]
  iapply (xsLd (off73 (j := k.val) (by omega))) $$ Hx; iintro Hx
  rw [wpBind]
  iapply (xsLd (off73 (j := k.val) (by omega))) $$ Hx; iintro Hx
  rw [wpBind]
  iapply (xsLd (off73 (j := k.val) (by omega))) $$ Hx; iintro Hx
  rw [wpBind]
  iapply (ld2 D (off74 k)) $$ HT; iintro HT
  try dsimp only
  rw [wpBind]
  iapply (bgLd (off75 (j := cnt D.B k.val) (by omega))) $$ Hb; iintro Hb
  try dsimp only
  iapply (wpPure c _ Q)
  iapply HQ
  isplitl [HT]; · iexact HT
  isplitl [Hx]; · iexact Hx
  iexact Hb

theorem part2 {a : ℕ} (ha : a = k.val) {v284 hw h14 Q} :
    iprop(scr' D k.val ∗ bdHeld c M.ld M.sld M.a7 D.BD (cnt D.B k.val) (D.B k.val).toNat)
    ⊢ iprop((iprop(scr' D k.val ∗ bdHeld c M.ld M.sld M.a7 D.BD (cnt D.B k.val) (D.B k.val).toNat) -∗ Q ⟨p3 D k.val, k0_pay4 (F := F) (p1 D k.val) (p2 D k.val) (wgu D k.val) (bdBlk c M.a7 D.BD (D.e k.val)) (wdn D k.val)⟩)
      -∗ WP c (k0_part2 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo (w a) (w (cnt D.B k.val)) (w (cnt D.B k.val)) (w k.val) (w k.val) v284 hw h14 (p1 D k.val) (p2 D k.val)) Q) := by
  subst ha
  rw [k0_part2_eq_skeleton]; unfold k0_part2_skel scr' p3
  have hk := k.lt
  have hc := cnt_le D.B k.val
  iintro ⟨⟨H9, H10⟩, Hb⟩ HQ
  try dsimp -zetaHave only
  rw [wpBind]
  iapply (ldAll z2) $$ H9; iintro H9
  rw [wpBind]
  iapply (bdLd (off76 (j := cnt D.B k.val) (by omega))) $$ Hb; iintro Hb
  rw [wpBind]
  iapply (ldAll z2) $$ H10; iintro H10
  iapply (wpPure c _ Q)
  iapply HQ
  isplitr [Hb]
  · isplitl [H9]; · iexact H9
    iexact H10
  iexact Hb

end Cert.Proof.Experts

end
-- ==== Proof.Experts.Part7.lean ====
/-
  The step: the weights of a fresh expert taken into their copies, the block of results computed or zeroed.
-/
module

public import proofs.«01_k».proof.Proof.Experts.Loads

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem scr_free (k : ℕ) : scr D k ⊢ iprop((∃ X, owns (c : Thread nD τ) M.a9 fullShare X) ∗ (∃ X, owns (c : Thread nD τ) M.a10 fullShare X)) := by
  cases k with
  | zero =>
    unfold scr
    iintro ⟨H1, H2⟩
    isplitl [H1]
    · iapply (free_owns c) $$ H1
    · iapply (free_owns c) $$ H2
  | succ k =>
    unfold scr scr'
    iintro ⟨H1, H2⟩
    isplitl [H1]
    · iexists _; iexact H1
    · iexists _; iexact H2

theorem scr_keep {k : ℕ} (h : ¬ fresh D.B k) : scr D k ⊢ scr' D k := by
  cases k with
  | zero => exact absurd (Or.inl rfl) h
  | succ k =>
    have e : D.B (k + 1) = D.B k := by
      by_contra hne; exact h (Or.inr hne)
    unfold scr scr' wgu wdn Dat.e
    rw [e]

theorem Y_unused {k : ℕ} (h : ¬ k ≤ D.N) : Y D k = fun _ => 0#32 := if_neg h

theorem stZero' (c : Dev nD) (al : Memref sig .tc .vmem S2x2048x128 .i32) (j : ℕ) {o h} {v : S1x2048x128.Idx → Elt F .i32} {z : Elt F .i32} (ev : v = fun _ => z) (e1 : o = ![j % 2, 0, 0]) {hx hm} {Q : PUnit → sProp 𝕄} :
    Free (F := F) c (ouD al j) ⊢ iprop((owns (c : Thread nD τ) (ouD al j) fullShare (fun _ => z) -∗ Q ⟨⟩)
      -∗ WP c (Prog.lift (.store al (Rect.unit (s := S2x2048x128) o S1x2048x128.size h) v Finset.univ hx hm)) Q) := by
  subst ev; exact stZero c al j e1

/-- The slot of the result at a step in use filled, at a step not in use still free. -/
def oMid (k : ℕ) : sProp 𝕄 := if k ≤ D.N then ouFull c M.lo M.slo k (Y D k) else ouFree (F := F) c M.lo M.slo k

theorem part7 {h9 v119 v120 v143 v219 v262 Q} :
    iprop(tabs D ∗ x1' D k.val ∗ guHeld c M.lg M.slg M.a4 D.GU (cnt D.B k.val) (D.B k.val).toNat ∗ bgHeld c M.lb M.slb M.a5 D.BG (cnt D.B k.val) (D.B k.val).toNat ∗ wdHeld c M.lw M.slw M.a6 D.WD (cnt D.B k.val) (D.B k.val).toNat ∗ bdHeld c M.ld M.sld M.a7 D.BD (cnt D.B k.val) (D.B k.val).toNat ∗ scr D k.val ∗ ouFree (F := F) c M.lo M.slo k.val)
    ⊢ iprop((iprop(tabs D ∗ x1' D k.val ∗ guHeld c M.lg M.slg M.a4 D.GU (cnt D.B k.val) (D.B k.val).toNat ∗ bgHeld c M.lb M.slb M.a5 D.BG (cnt D.B k.val) (D.B k.val).toNat ∗ wdHeld c M.lw M.slw M.a6 D.WD (cnt D.B k.val) (D.B k.val).toNat ∗ bdHeld c M.ld M.sld M.a7 D.BD (cnt D.B k.val) (D.B k.val).toNat ∗ scr' D k.val ∗ ouFull c M.lo M.slo k.val (Y D k.val)) -∗ Q ⟨⟩)
      -∗ WP c (k0_part7 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo k (w (min k.val D.N)) (w (cnt D.B k.val)) (w (cnt D.B k.val)) (w (cnt D.B k.val)) (w (cnt D.B k.val)) (w k.val) (w (k.val - 1)) (w k.val) h9
          (w k.val) v119 v120 v143 v219 v262) Q) := by
  rw [k0_part7_eq_skeleton]; unfold k0_part7_skel
  have hN := D.hN.lt
  have hk := k.lt
  have hcnt := cnt_le D.B k.val
  iintro ⟨HT, Hx, Hg, Hb, Hw, Hd, Hs, Ho⟩ HQ
  try dsimp -zetaHave only
  extract_lets -underBinder jp
  simp only [ite_self]
  try dsimp -zetaHave only [jp]
  clear jp
  try dsimp -zetaHave only
  rw [wpBind]
  iapply (ld0 D (off69 k)) $$ HT; iintro HT
  try dsimp -zetaHave only
  rw [wpBind]
  iapply (ld0 D (off70 k)) $$ HT; iintro HT
  try dsimp -zetaHave only
  rw [wpBind]
  iapply (wpAssume c (chk28 (i := cnt D.B k.val) (j := cnt D.B k.val) (by omega) (by omega)) _)
  try dsimp -zetaHave only
  extract_lets -underBinder hw28 jp
  iapply (wpCut c (jp ⟨⟩) iprop(guHeld c M.lg M.slg M.a4 D.GU (cnt D.B k.val) (D.B k.val).toNat ∗ wdHeld c M.lw M.slw M.a6 D.WD (cnt D.B k.val) (D.B k.val).toNat ∗ scr' D k.val))
  isplitl [Hg Hw Hs]
  · clear_value jp
    iintro Hjp
    have hcd := cond13 k (D.B k.val) (D.B (k.val - 1))
    by_cases hc : fresh D.B k.val
    · ihave Hs := (scr_free D k.val) $$ Hs
      icases Hs with ⟨⟨%X9, H9⟩, ⟨%X10, H10⟩⟩
      iapply (wpIfPos c (hcd.trans (bw_true hc)) _ _ _)
      try dsimp -zetaHave only
      rw [wpBind]
      iapply (guLd (off71 (j := cnt D.B k.val) (by omega))) $$ Hg; iintro Hg
      rw [wpBind]
      iapply (ldAll z2) $$ H9; iintro H9
      rw [wpBind]
      iapply (stAll z2) $$ H9; iintro H9
      try dsimp -zetaHave only
      rw [wpBind]
      iapply (wdLd (off72 (j := cnt D.B k.val) (by omega))) $$ Hw; iintro Hw
      rw [wpBind]
      iapply (ldAll z2) $$ H10; iintro H10
      rw [wpBind]
      iapply (stAll z2) $$ H10; iintro H10
      try dsimp only
      iapply Hjp
      isplitl [Hg]; · iexact Hg
      isplitl [Hw]; · iexact Hw
      unfold scr' wgu wdn
      isplitl [H9]; · iexact H9
      iexact H10
    · ihave Hs := (scr_keep D hc) $$ Hs
      iapply (wpIfNeg c (fun h => hc (bw_eq_one.1 (hcd.symm.trans h))) _ _ _)
      iapply Hjp
      isplitl [Hg]; · iexact Hg
      isplitl [Hw]; · iexact Hw
      iexact Hs
  iintro ⟨Hg, Hw, Hs⟩
  try dsimp -zetaHave only [jp]
  clear jp
  try dsimp -zetaHave only
  rw [wpBind]
  iapply (ld1 D rfl) $$ HT; iintro HT
  try dsimp -zetaHave only
  rw [wpBind]
  iapply (wpAssume c (chk29 k (a := min k.val D.N) (i := cnt D.B k.val) (j := cnt D.B k.val) (by omega) (by omega) (by omega)) _)
  try dsimp -zetaHave only
  extract_lets -underBinder hw29 jp
  iapply (wpCut c (jp ⟨⟩) iprop(tabs D ∗ x1' D k.val ∗ bgHeld c M.lb M.slb M.a5 D.BG (cnt D.B k.val) (D.B k.val).toNat ∗ bdHeld c M.ld M.sld M.a7 D.BD (cnt D.B k.val) (D.B k.val).toNat ∗ scr' D k.val ∗ oMid D k.val))
  isplitl [HT Hx Hb Hd Hs Ho]
  · clear_value jp
    iintro Hjp
    have hcd := cond14 D.hN k
    by_cases hc : k.val ≤ D.N
    · have em : min k.val D.N = k.val := by omega
      have ho : ouFull c M.lo M.slo k.val (spread (F := F) (p3 D k.val)) ⊢ oMid D k.val := by
        unfold oMid; rw [if_pos hc, Y_used D hc]
      have hx : x1' D k.val ⊢ xHeld D (min k.val D.N) (min k.val D.N) := by unfold x1'; exact BIBase.Entails.rfl
      have hx' : xHeld D (min k.val D.N) (min k.val D.N) ⊢ x1' D k.val := by unfold x1'; exact BIBase.Entails.rfl
      ihave Hx := hx $$ Hx
      ihave Ho := ouOpen $$ Ho
      icases Ho with ⟨%X0, Ho⟩
      iapply (wpIfPos c (hcd.trans (bw_true hc)) _ _ _)
      try dsimp -zetaHave only
      rw [wpBind]
      iapply (part1 D k em) $$ [HT Hx Hb]
      · isplitl [HT]; · iexact HT
        isplitl [Hx]; · iexact Hx
        iexact Hb
      iintro ⟨HT, Hx, Hb⟩
      try dsimp -zetaHave only
      rw [wpBind]
      iapply (part2 D k em) $$ [Hs Hd]
      · isplitl [Hs]; · iexact Hs
        iexact Hd
      iintro ⟨Hs, Hd⟩
      try dsimp -zetaHave only
      rw [wpBind]
      iapply (ouLd (off77 (j := k.val) (by omega))) $$ Ho; iintro Ho
      rw [wpBind]
      iapply (ouSt (off77 (j := k.val) (by omega))) $$ Ho; iintro Ho
      try dsimp -zetaHave only
      rw [wpBind]
      iapply (ouLd (off77 (j := k.val) (by omega))) $$ Ho; iintro Ho
      rw [wpBind]
      iapply (ouSt (off77 (j := k.val) (by omega))) $$ Ho; iintro Ho
      try dsimp -zetaHave only
      rw [wpBind]
      iapply (ouLd (off77 (j := k.val) (by omega))) $$ Ho; iintro Ho
      rw [wpBind]
      iapply (ouSt (off77 (j := k.val) (by omega))) $$ Ho; iintro Ho
      try dsimp -zetaHave only
      rw [wpBind]
      iapply (ouLd (off77 (j := k.val) (by omega))) $$ Ho; iintro Ho
      rw [wpBind]
      iapply (ouSt (off77 (j := k.val) (by omega))) $$ Ho; iintro Ho
      try dsimp -zetaHave only
      have hsp := spread_eq X0 (p3 D k.val) (k0_pay4 (F := F) (p1 D k.val) (p2 D k.val) (wgu D k.val) (bdBlk c M.a7 D.BD (D.e k.val)) (wdn D k.val)) (k0_pay7 (p3 D k.val)) (k0_pay8 (p3 D k.val)) (k0_pay9 (p3 D k.val)) rfl rfl rfl rfl
      have ho2 := ho
      rw [← hsp] at ho2
      iapply Hjp
      isplitl [HT]; · iexact HT
      isplitl [Hx]; · iapply hx' $$ Hx
      isplitl [Hb]; · iexact Hb
      isplitl [Hd]; · iexact Hd
      isplitl [Hs]; · iexact Hs
      iapply ho2 $$ Ho
    · have ho : ouFree (F := F) c M.lo M.slo k.val ⊢ oMid D k.val := by unfold oMid; rw [if_neg hc]
      iapply (wpIfNeg c (fun h => hc (bw_eq_one.1 (hcd.symm.trans h))) _ _ _)
      iapply Hjp
      isplitl [HT]; · iexact HT
      isplitl [Hx]; · iexact Hx
      isplitl [Hb]; · iexact Hb
      isplitl [Hd]; · iexact Hd
      isplitl [Hs]; · iexact Hs
      iapply ho $$ Ho
  iintro ⟨HT, Hx, Hb, Hd, Hs, Ho⟩
  try dsimp -zetaHave only [jp]
  clear jp
  try dsimp -zetaHave only
  rw [wpBind]
  iapply (ld1 D rfl) $$ HT; iintro HT
  try dsimp -zetaHave only
  rw [wpBind]
  iapply (wpAssume c (chk30 k) _)
  try dsimp -zetaHave only
  extract_lets -underBinder hw30 jp
  iapply (wpCut c (jp ⟨⟩) iprop(ouFull c M.lo M.slo k.val (Y D k.val)))
  isplitl [Ho]
  · clear_value jp
    iintro Hjp
    have hcd := cond15 D.hN k
    by_cases hc : k.val ≤ D.N
    · have ho : oMid D k.val ⊢ ouFull c M.lo M.slo k.val (Y D k.val) := by unfold oMid; rw [if_pos hc]
      iapply (wpIfNeg c (fun h => (bw_eq_one.1 (hcd.symm.trans h)) hc) _ _ _)
      iapply Hjp
      iapply ho $$ Ho
    · have ho : oMid D k.val ⊢ iprop(Free (F := F) c (ouD M.lo k.val) ∗ semVal ((c : Thread nD τ), SemLoc.dma (ouS M.slo k.val)) 0) := by
        unfold oMid; rw [if_neg hc]; unfold ouFree; exact BIBase.Entails.rfl
      have ho' : iprop(owns (c : Thread nD τ) (ouD M.lo k.val) fullShare (fun _ => (0#32 : Elt F .i32)) ∗ semVal ((c : Thread nD τ), SemLoc.dma (ouS M.slo k.val)) 0) ⊢ ouFull c M.lo M.slo k.val (Y D k.val) := by
        rw [Y_unused D hc]; unfold ouFull; exact BIBase.Entails.rfl
      ihave Ho := ho $$ Ho
      icases Ho with ⟨Ho, Hm⟩
      iapply (wpIfPos c (hcd.trans (bw_true hc)) _ _ _)
      try dsimp -zetaHave only
      rw [wpBind]
      iapply (ldSlot c M.lo k.val (off78 (j := k.val) (by omega))) $$ Ho; iintro %v Ho
      rw [wpBind]
      iapply (stZero' c M.lo k.val (v := k0_pay10) (z := (0#32 : Elt F .i32)) rfl (off78 (j := k.val) (by omega))) $$ Ho; iintro Ho
      try dsimp only
      iapply Hjp
      iapply ho'
      isplitl [Ho]; · iexact Ho
      iexact Hm
  iintro Ho
  try dsimp -zetaHave only [jp]
  clear jp
  try dsimp -zetaHave only
  extract_lets -underBinder jp
  simp only [ite_self]
  try dsimp -zetaHave only [jp]
  clear jp
  iapply (wpPure c _ _)
  iapply HQ
  isplitl [HT]; · iexact HT
  isplitl [Hx]; · iexact Hx
  isplitl [Hg]; · iexact Hg
  isplitl [Hb]; · iexact Hb
  isplitl [Hw]; · iexact Hw
  isplitl [Hd]; · iexact Hd
  isplitl [Hs]; · iexact Hs
  iexact Ho

end Cert.Proof.Experts

end
-- ==== Proof.Experts.Part8.lean ====
/-
  The block of results sent, the block before waited for, and the carried words of a step.
-/
module

public import proofs.«01_k».proof.Proof.Experts.Part7

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem addi_w (j : ℕ) : Scalar.addi (w j) 1#32 = w (j + 1) := by
  show BitVec.ofNat 32 j + BitVec.ofNat 32 1 = BitVec.ofNat 32 (j + 1)
  exact (BitVec.ofNat_add j 1).symm

/-- The carried words before step `k`: the slot numbers of the windows. -/
def cX (k : ℕ) : ℕ := if k = 288 then D.N + 1 else min k D.N
def cA (k : ℕ) : ℕ := cnt D.B (min k 287) + 1
def cW (k : ℕ) : ℕ := if k = 288 then cnt D.B 287 + 1 else cnt D.B k

theorem selW : Scalar.select (Scalar.ori (Scalar.cmpi .ne (D.B k.val) (D.B ((k.val + 1) % 288))) (bw (k.val = 287))) (Scalar.addi (w (cnt D.B k.val)) 1#32) (w (cnt D.B k.val))
    = w (cW D (k.val + 1)) := by
  have hk := k.lt
  rw [cmp_ne, bw_or, sel_bw, addi_w]
  unfold cW
  by_cases h : k.val = 287
  · rw [if_pos (Or.inr h), if_pos (by omega), h]
  · rw [if_neg (show ¬ k.val + 1 = 288 by omega), Nat.mod_eq_of_lt (show k.val + 1 < 288 by omega)]
    show _ = w (cnt D.B k.val + _)
    by_cases e : D.B (k.val + 1) = D.B k.val
    · rw [if_neg (by rintro (h' | h'); exact h' e.symm; exact h h'), if_neg (fun h' => h' e)]
      rfl
    · rw [if_pos (Or.inl (fun h' => e h'.symm)), if_pos e]

theorem selX : Scalar.select (Scalar.ori (Scalar.cmpi .ne (w (min k.val D.N)) (w (min ((k.val + 1) % 288) D.N))) (bw (k.val = 287))) (Scalar.addi (w (min k.val D.N)) 1#32) (w (min k.val D.N))
    = w (cX D (k.val + 1)) := by
  have hk := k.lt
  have hN := D.hN.lt
  rw [cmp_ne, bw_or, sel_bw, addi_w]
  unfold cX
  by_cases h : k.val = 287
  · rw [if_pos (Or.inr h), if_pos (by omega), h, show min 287 D.N = D.N by omega]
  · rw [if_neg (show ¬ k.val + 1 = 288 by omega), Nat.mod_eq_of_lt (show k.val + 1 < 288 by omega)]
    by_cases e : k.val < D.N
    · rw [if_pos (Or.inl (fun h' => by rw [w_inj (by omega) (by omega)] at h'; omega)), show min k.val D.N + 1 = min (k.val + 1) D.N by omega]
    · rw [if_neg (by rintro (h' | h'); exact h' (by rw [show min k.val D.N = min (k.val + 1) D.N by omega]); exact h h'), show min k.val D.N = min (k.val + 1) D.N by omega]

theorem selA : (if D.B k.val ≠ D.B ((k.val + 1) % 288) ∧ k.val < 287 then w (cnt D.B k.val + 2) else w (cnt D.B k.val + 1)) = w (cA D (k.val + 1)) := by
  have hk := k.lt
  unfold cA
  by_cases h : k.val < 287
  · rw [show min (k.val + 1) 287 = k.val + 1 by omega, Nat.mod_eq_of_lt (show k.val + 1 < 288 by omega)]
    show _ = w (cnt D.B k.val + _ + 1)
    by_cases e : D.B (k.val + 1) = D.B k.val
    · rw [if_neg (fun h' => h'.1 e.symm), if_neg (fun h' => h' e)]
    · rw [if_pos ⟨fun h' => e h'.symm, h⟩, if_pos e]
  · rw [if_neg (fun h' => h h'.2), show min (k.val + 1) 287 = k.val by omega]

theorem selO : Scalar.select (Scalar.andi (Scalar.ori (Scalar.cmpi .ne (w k.val) (w ((k.val + 1) % 288))) (bw (k.val = 287))) 1#1) (Scalar.addi (w k.val) 1#32) (w k.val) = w (k.val + 1) := by
  have hk := k.lt
  rw [andi_one, cmp_ne, bw_or, sel_bw, addi_w, if_pos]
  left
  rw [Ne, w_inj (by omega) (by omega)]
  omega

theorem selP : Scalar.select (Scalar.andi (Scalar.andi (Scalar.cmpi .ne (w k.val) (w ((k.val + 287) % 288))) (Scalar.xori (bw (k.val = 0)) 1#1)) 1#1) (Scalar.addi (w (k.val - 1)) 1#32) (w (k.val - 1)) = w (k.val + 1 - 1) := by
  have hk := k.lt
  rw [andi_one, cmp_ne, bw_not, bw_and, sel_bw, addi_w]
  by_cases h : k.val = 0
  · rw [if_neg (fun h' => h'.2 h), h]
  · rw [if_pos ⟨by rw [Ne, w_inj (by omega) (by omega)]; omega, h⟩]
    rw [show k.val - 1 + 1 = k.val + 1 - 1 by omega]

theorem part8 {h9 v158 v160 v172 v174 v186 v188 v200 v202 v219 v222 v230 Q} :
    iprop(ouFull c M.lo M.slo k.val (Y D k.val) ∗ ouRaw (F := F) c M.a8 k.val) ⊢ iprop((∀ a b, ouFly c M.lo M.slo M.a8 k.val k.val (Y D k.val) -∗ Q ⟨w (k.val + 1), a, b⟩)
      -∗ WP c (k0_part8 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo k (w k.val) (w (k.val - 1)) (w k.val) h9 (bw (k.val = 0)) (bw (k.val = 287)) (w k.val) (w ((k.val + 1) % 288)) v158 v160 v172 v174 v186 v188 v200 v202 v219 v222 v230) Q) := by
  rw [k0_part8_eq_skeleton]; unfold k0_part8_skel
  have hk := k.lt
  iintro ⟨Ho, Hr⟩ HQ
  try dsimp -zetaHave only
  extract_lets -underBinder jp
  simp only [ite_self]
  try dsimp -zetaHave only [jp]
  clear jp
  try dsimp -zetaHave only
  extract_lets -underBinder jp
  simp only [ite_self]
  try dsimp -zetaHave only [jp]
  clear jp
  try dsimp -zetaHave only
  extract_lets -underBinder jp
  simp only [ite_self]
  try dsimp -zetaHave only [jp]
  clear jp
  try dsimp -zetaHave only
  extract_lets -underBinder jp
  simp only [ite_self]
  try dsimp -zetaHave only [jp]
  clear jp
  try dsimp -zetaHave only
  extract_lets -underBinder jp
  iapply (wpCut c (jp ⟨⟩) iprop(ouFly c M.lo M.slo M.a8 k.val k.val (Y D k.val)))
  isplitl [Ho Hr]
  · clear_value jp
    iintro Hjp
    iapply (wpIfPos c (cond21 k) _ _ _)
    try dsimp -zetaHave only
    rw [wpBind]
    iapply (ouIssue (j := k.val) (b := k.val) (by omega) (off79 (j := k.val) (by omega)) (off81 (j := k.val) (by omega)) (off80 k)) $$ [Ho Hr]
    · isplitl [Ho]; · iexact Ho
      iexact Hr
    iintro Ho
    try dsimp only
    iapply Hjp
    iexact Ho
  iintro Ho
  try dsimp -zetaHave only [jp]
  clear jp
  try dsimp -zetaHave only
  extract_lets -underBinder jp
  simp only [ite_self]
  try dsimp -zetaHave only [jp]
  clear jp
  try dsimp -zetaHave only
  iapply (wpPure c _ _)
  simp only [selO]
  iapply HQ
  iexact Ho

theorem range_done {k : ℕ} (h : k ≠ 0) : iprop(oDone D (k - 1) ∗ bigSep (Finset.range (k - 1)) (fun b => oDone D b)) ⊢ (bigSep (Finset.range k) (fun b => oDone D b) : sProp 𝕄) := by
  obtain ⟨n, rfl⟩ := Nat.exists_eq_succ_of_ne_zero h
  rw [Nat.succ_sub_one, Finset.range_add_one, bigSep_insert Finset.notMem_range_self]
  exact BIBase.Entails.rfl

theorem part9 {h9 v186 v200 v238 v246 v254 v332 v334 Q} :
    iprop(oPrev D k.val ∗ Ow (F := F) c ∗ bigSep (Finset.range (k.val - 1)) (fun b => oDone D b))
    ⊢ iprop((iprop(ouFree (F := F) c M.lo M.slo (k.val + 1) ∗ Ow (F := F) c ∗ bigSep (Finset.range k.val) (fun b => oDone D b))
        -∗ Q ⟨w (k.val + 1 - 1), w (cX D (k.val + 1)), w (cW D (k.val + 1)), Scalar.ori (Scalar.cmpi .ne (D.B k.val) (D.B ((k.val + 1) % 288))) (bw (k.val = 287)), Scalar.addi (w (cnt D.B k.val)) 1#32⟩)
      -∗ WP c (k0_part9 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo k (w (min k.val D.N)) (w (cnt D.B k.val)) (w (cnt D.B k.val)) (w k.val) (w (k.val - 1)) (w k.val) h9 (bw (k.val = 0)) (bw (k.val = 287)) (w k.val) (w ((k.val + 287) % 288))
          (w (min ((k.val + 1) % 288) D.N)) (D.B k.val) (D.B ((k.val + 1) % 288)) (D.B k.val) (D.B ((k.val + 1) % 288)) v186 v200 (w (min k.val D.N)) v238 v246 v254 v332 v334) Q) := by
  rw [k0_part9_eq_skeleton]; unfold k0_part9_skel
  have hk := k.lt
  iintro ⟨Ho, HO, Hd⟩ HQ
  try dsimp -zetaHave only
  extract_lets -underBinder jp
  simp only [ite_self]
  try dsimp -zetaHave only [jp]
  clear jp
  try dsimp -zetaHave only
  extract_lets -underBinder jp
  simp only [ite_self]
  try dsimp -zetaHave only [jp]
  clear jp
  try dsimp -zetaHave only
  extract_lets -underBinder jp
  simp only [ite_self]
  try dsimp -zetaHave only [jp]
  clear jp
  try dsimp -zetaHave only
  extract_lets -underBinder jp
  simp only [ite_self]
  try dsimp -zetaHave only [jp]
  clear jp
  try dsimp -zetaHave only
  extract_lets -underBinder jp
  iapply (wpCut c (jp ⟨⟩) iprop(ouFree (F := F) c M.lo M.slo (k.val + 1) ∗ Ow (F := F) c ∗ bigSep (Finset.range k.val) (fun b => oDone D b)))
  isplitl [Ho HO Hd]
  · clear_value jp
    iintro Hjp
    have hcd := cond27 k
    by_cases hc : k.val ≠ 0
    · have hp : oPrev D k.val ⊢ ouFly c M.lo M.slo M.a8 (k.val - 1) (k.val - 1) (Y D (k.val - 1)) := by
        obtain ⟨n, hn⟩ := Nat.exists_eq_succ_of_ne_zero hc
        rw [hn]; exact BIBase.Entails.rfl
      ihave Ho := hp $$ Ho
      iapply (wpIfPos c (hcd.trans (bw_true hc)) _ _ _)
      try dsimp -zetaHave only
      rw [wpBind]
      iapply (ouWait (j := k.val - 1) (b := k.val - 1) (by omega) (off82 (j := k.val - 1) (by omega)) ((off83 k).trans (by rw [show (k.val + 287) % 288 = k.val - 1 by omega]))) $$ [Ho HO]
      · isplitl [Ho]; · iexact Ho
        iexact HO
      iintro ⟨H1, H2, HO⟩
      try dsimp only
      have hs : ouFree (F := F) c M.lo M.slo (k.val - 1) ⊢ ouFree (F := F) c M.lo M.slo (k.val + 1) := by
        rw [ouSlot c M.lo M.slo (show (k.val - 1) % 2 = (k.val + 1) % 2 by omega)]
      iapply Hjp
      isplitl [H2]; · iapply hs $$ H2
      isplitl [HO]; · iexact HO
      iapply (range_done D hc)
      isplitl [H1]; · iexact H1
      iexact Hd
    · have hz : k.val = 0 := by omega
      have hp : oPrev D k.val ⊢ ouFree (F := F) c M.lo M.slo (k.val + 1) := by
        rw [hz]; exact BIBase.Entails.rfl
      have hd : (bigSep (Finset.range (k.val - 1)) (fun b => oDone D b) : sProp 𝕄) ⊢ bigSep (Finset.range k.val) (fun b => oDone D b) := by
        rw [hz]
      iapply (wpIfNeg c (fun h => hc (bw_eq_one.1 (hcd.symm.trans h))) _ _ _)
      iapply Hjp
      isplitl [Ho]; · iapply hp $$ Ho
      isplitl [HO]; · iexact HO
      iapply hd $$ Hd
  iintro H
  try dsimp -zetaHave only [jp]
  clear jp
  try dsimp -zetaHave only
  iapply (wpPure c _ _)
  simp only [selP, selX, selW]
  iapply HQ
  iexact H

end Cert.Proof.Experts

end
-- ==== Proof.Experts.Body.lean ====
/-
  One step of the pipeline, from the state before it to the state after it.
-/
module

public import proofs.«01_k».proof.Proof.Experts.Part3
public import proofs.«01_k».proof.Proof.Experts.Part4
public import proofs.«01_k».proof.Proof.Experts.Part5
public import proofs.«01_k».proof.Proof.Experts.Part6
public import proofs.«01_k».proof.Proof.Experts.Part8

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable {M : Mem} {c : Dev nD} (D : Dat F M c) (k : Trip)

theorem Win.st_open (W : Win F) (B : ℕ → BitVec 32) {k : ℕ} (h : k < 288) : W.st B k ⊢ iprop(W.inn B k ∗ W.free (cnt B k + 1)) := by
  unfold Win.st; rw [if_pos h]

theorem raw_open {k : ℕ} (h : k < 288) : (bigSep (Finset.Ico k 288) (fun b => ouRaw (F := F) c M.a8 b) : sProp 𝕄)
    ⊢ iprop(ouRaw (F := F) c M.a8 k ∗ bigSep (Finset.Ico (k + 1) 288) (fun b => ouRaw (F := F) c M.a8 b)) := by
  have e : Finset.Ico k 288 = insert k (Finset.Ico (k + 1) 288) := by ext x; simp only [Finset.mem_insert, Finset.mem_Ico]; omega
  rw [e, bigSep_insert (by simp)]
  exact BIBase.Entails.rfl

theorem inv_open {k : ℕ} (h : k < 288) : Inv D k ⊢ iprop(tabs D ∗ Ow (F := F) c ∗ x1 D k ∗ x2 D k ∗ x3 D k
    ∗ (gW D).inn D.B k ∗ (gW D).free (cnt D.B k + 1) ∗ (bW D).inn D.B k ∗ (bW D).free (cnt D.B k + 1)
    ∗ (wW D).inn D.B k ∗ (wW D).free (cnt D.B k + 1) ∗ (dW D).inn D.B k ∗ (dW D).free (cnt D.B k + 1)
    ∗ scr D k ∗ ouFree (F := F) c M.lo M.slo k ∗ oPrev D k
    ∗ bigSep (Finset.range (k - 1)) (fun b => oDone D b) ∗ ouRaw (F := F) c M.a8 k ∗ bigSep (Finset.Ico (k + 1) 288) (fun b => ouRaw (F := F) c M.a8 b)) := by
  unfold Inv xSt oBlks
  iintro ⟨HT, HO, ⟨Hx1, Hx2, Hx3⟩, Hg, Hb, Hw, Hd, Hs, Ho, Hp, Hdn, Hr⟩
  ihave Hg := ((gW D).st_open D.B h) $$ Hg
  icases Hg with ⟨Hg1, Hg2⟩
  ihave Hb := ((bW D).st_open D.B h) $$ Hb
  icases Hb with ⟨Hb1, Hb2⟩
  ihave Hw := ((wW D).st_open D.B h) $$ Hw
  icases Hw with ⟨Hw1, Hw2⟩
  ihave Hd := ((dW D).st_open D.B h) $$ Hd
  icases Hd with ⟨Hd1, Hd2⟩
  ihave Hr := (raw_open h) $$ Hr
  icases Hr with ⟨Hr1, Hr2⟩
  isplitl [HT]; · iexact HT
  isplitl [HO]; · iexact HO
  isplitl [Hx1]; · iexact Hx1
  isplitl [Hx2]; · iexact Hx2
  isplitl [Hx3]; · iexact Hx3
  isplitl [Hg1]; · iexact Hg1
  isplitl [Hg2]; · iexact Hg2
  isplitl [Hb1]; · iexact Hb1
  isplitl [Hb2]; · iexact Hb2
  isplitl [Hw1]; · iexact Hw1
  isplitl [Hw2]; · iexact Hw2
  isplitl [Hd1]; · iexact Hd1
  isplitl [Hd2]; · iexact Hd2
  isplitl [Hs]; · iexact Hs
  isplitl [Ho]; · iexact Ho
  isplitl [Hp]; · iexact Hp
  isplitl [Hdn]; · iexact Hdn
  isplitl [Hr1]; · iexact Hr1
  iexact Hr2

theorem inv_close {k : ℕ} (h : k < 288) : iprop(tabs D ∗ Ow (F := F) c ∗ (x1' D k ∗ x2 D k ∗ x3' D k)
    ∗ ((gW D).cur D.B k ∗ (gW D).nx D.B k) ∗ ((bW D).cur D.B k ∗ (bW D).nx D.B k)
    ∗ ((wW D).cur D.B k ∗ (wW D).nx D.B k) ∗ ((dW D).cur D.B k ∗ (dW D).nx D.B k)
    ∗ scr' D k ∗ ouFree (F := F) c M.lo M.slo (k + 1) ∗ ouFly c M.lo M.slo M.a8 k k (Y D k)
    ∗ bigSep (Finset.range k) (fun b => oDone D b) ∗ bigSep (Finset.Ico (k + 1) 288) (fun b => ouRaw (F := F) c M.a8 b)) ⊢ Inv D (k + 1) := by
  have hx := xNext D k
  have hg := (gW D).next D.B h
  have hb := (bW D).next D.B h
  have hw := (wW D).next D.B h
  have hd := (dW D).next D.B h
  have ho : iprop(bigSep (Finset.range k) (fun b => oDone D b) ∗ bigSep (Finset.Ico (k + 1) 288) (fun b => ouRaw (F := F) c M.a8 b)) ⊢ oBlks D (k + 1) := BIBase.Entails.rfl
  have hs : scr' D k ⊢ scr D (k + 1) := BIBase.Entails.rfl
  have hp : ouFly c M.lo M.slo M.a8 k k (Y D k) ⊢ oPrev D (k + 1) := BIBase.Entails.rfl
  unfold Inv
  iintro ⟨HT, HO, Hx, Hg, Hb, Hw, Hd, Hs, Ho, Hp, Hr⟩
  isplitl [HT]; · iexact HT
  isplitl [HO]; · iexact HO
  isplitl [Hx]; · iapply hx $$ Hx
  isplitl [Hg]; · iapply hg $$ Hg
  isplitl [Hb]; · iapply hb $$ Hb
  isplitl [Hw]; · iapply hw $$ Hw
  isplitl [Hd]; · iapply hd $$ Hd
  isplitl [Hs]; · iapply hs $$ Hs
  isplitl [Ho]; · iexact Ho
  isplitl [Hp]; · iapply hp $$ Hp
  iapply ho $$ Hr

/-- The thirteen words carried into step `k`. -/
def car (k : ℕ) : BitVec 32 × BitVec 32 × BitVec 32 × BitVec 32 × BitVec 32 × BitVec 32 × BitVec 32 × BitVec 32 × BitVec 32 × BitVec 32 × BitVec 32 × BitVec 32 × BitVec 32 :=
  (w (min (k + 1) D.N + 1), w (cX D k), w (cA D k), w (cW D k), w (cA D k), w (cW D k), w (cA D k), w (cW D k), w (cA D k), w (cW D k), w k, w (k - 1), w (k % 288))

theorem car_lt {k : ℕ} (h : k < 288) : car D k = (w (min (k + 1) D.N + 1), w (min k D.N), w (cnt D.B k + 1), w (cnt D.B k), w (cnt D.B k + 1), w (cnt D.B k), w (cnt D.B k + 1), w (cnt D.B k), w (cnt D.B k + 1), w (cnt D.B k), w k, w (k - 1), w k) := by
  have h1 : cX D k = min k D.N := if_neg (by omega)
  have h2 : cW D k = cnt D.B k := if_neg (by omega)
  have h3 : cA D k = cnt D.B k + 1 := by unfold cA; rw [show min k 287 = k by omega]
  unfold car
  rw [h1, h2, h3, Nat.mod_eq_of_lt h]

theorem wpPureEq (c : Dev nD) {α : Type} {a b : α} (e : a = b) (Q : α → sProp 𝕄) : Q b ⊢ WP c (pure a) Q := by
  subst e; exact wpPure c a Q

theorem nxtw : Scalar.select (Scalar.cmpi .eq (Scalar.select 1#1 (Scalar.addi (w k.val) 1#32) (w k.val)) 288#32) 0#32 (Scalar.select 1#1 (Scalar.addi (w k.val) 1#32) (w k.val)) = w ((k.val + 1) % 288) :=
  nxt_w k.f

theorem gcur {k : ℕ} : (gW D).cur D.B k = guHeld c M.lg M.slg M.a4 D.GU (cnt D.B k) (D.B k).toNat := rfl
theorem bcur {k : ℕ} : (bW D).cur D.B k = bgHeld c M.lb M.slb M.a5 D.BG (cnt D.B k) (D.B k).toNat := rfl
theorem wcur {k : ℕ} : (wW D).cur D.B k = wdHeld c M.lw M.slw M.a6 D.WD (cnt D.B k) (D.B k).toNat := rfl
theorem dcur {k : ℕ} : (dW D).cur D.B k = bdHeld c M.ld M.sld M.a7 D.BD (cnt D.B k) (D.B k).toNat := rfl

/-- One step of the pipeline. -/
theorem body {v43 v52 v61 v70 v83 c1 c2 c3 c4 c5 Q} : Inv D k.val ⊢ iprop((Inv D (k.val + 1) -∗ Q (car D (k.val + 1)))
    -∗ WP c (k0_t1_body (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo v43 v52 v61 v70 v83 c1 c2 c3 c4 c5 k (car D k.val)) Q) := by
  have hk := k.lt
  have hN := D.hN.lt
  rw [car_lt D hk]
  refine BIBase.Entails.trans (inv_open D hk) ?_
  unfold k0_t1_body
  iintro ⟨HT, HO, Hx1, Hx2, Hx3, Hg1, Hg2, Hb1, Hb2, Hw1, Hw2, Hd1, Hd2, Hs, Ho, Hp, Hdn, Hr1, Hr2⟩ HQ
  try dsimp -zetaHave only
  rw [wpBind]
  iapply (part3 D k) $$ HT; iintro HT
  try dsimp -zetaHave only
  rw [wpBind]
  iapply (part4 D k) $$ [HT Hx3 Hg2 Hb2]
  · isplitl [HT]; · iexact HT
    isplitl [Hx3]; · iexact Hx3
    isplitl [Hg2]; · iexact Hg2
    iexact Hb2
  iintro ⟨HT, Hx3, Hg2, Hb2⟩
  try dsimp -zetaHave only
  rw [wpBind]
  iapply (part5 D k) $$ [HT Hw2 Hd2]
  · isplitl [HT]; · iexact HT
    isplitl [Hw2]; · iexact Hw2
    iexact Hd2
  iintro ⟨HT, Hw2, Hd2⟩
  try dsimp -zetaHave only
  rw [wpBind]
  iapply (part6 D k) $$ [HT HO Hx1 Hg1 Hb1 Hw1 Hd1]
  · isplitl [HT]; · iexact HT
    isplitl [HO]; · iexact HO
    isplitl [Hx1]; · iexact Hx1
    isplitl [Hg1]; · iexact Hg1
    isplitl [Hb1]; · iexact Hb1
    isplitl [Hw1]; · iexact Hw1
    iexact Hd1
  iintro ⟨HT, HO, Hx1, Hg1, Hb1, Hw1, Hd1⟩
  try dsimp -zetaHave only
  rw [wpBind]
  ihave Hg1 := (BIBase.Entails.of_eq (gcur D)) $$ Hg1
  ihave Hb1 := (BIBase.Entails.of_eq (bcur D)) $$ Hb1
  ihave Hw1 := (BIBase.Entails.of_eq (wcur D)) $$ Hw1
  ihave Hd1 := (BIBase.Entails.of_eq (dcur D)) $$ Hd1
  iapply (part7 D k) $$ [HT Hx1 Hg1 Hb1 Hw1 Hd1 Hs Ho]
  · isplitl [HT]; · iexact HT
    isplitl [Hx1]; · iexact Hx1
    isplitl [Hg1]; · iexact Hg1
    isplitl [Hb1]; · iexact Hb1
    isplitl [Hw1]; · iexact Hw1
    isplitl [Hd1]; · iexact Hd1
    isplitl [Hs]; · iexact Hs
    iexact Ho
  iintro ⟨HT, Hx1, Hg1, Hb1, Hw1, Hd1, Hs, Ho⟩
  try dsimp -zetaHave only
  rw [wpBind]
  ihave Hg1 := (BIBase.Entails.of_eq (gcur D).symm) $$ Hg1
  ihave Hb1 := (BIBase.Entails.of_eq (bcur D).symm) $$ Hb1
  ihave Hw1 := (BIBase.Entails.of_eq (wcur D).symm) $$ Hw1
  ihave Hd1 := (BIBase.Entails.of_eq (dcur D).symm) $$ Hd1
  iapply (part8 D k) $$ [Ho Hr1]
  · isplitl [Ho]; · iexact Ho
    iexact Hr1
  iintro %v332 %v334 Ho
  try dsimp -zetaHave only
  rw [wpBind]
  iapply (part9 D k) $$ [Hp HO Hdn]
  · isplitl [Hp]; · iexact Hp
    isplitl [HO]; · iexact HO
    iexact Hdn
  iintro ⟨Hf, HO, Hdn⟩
  try dsimp -zetaHave only
  have e : ∀ t, t = car D (k.val + 1) → Q (car D (k.val + 1)) ⊢ WP c (pure t) Q := fun t ht => wpPureEq c ht Q
  iapply (e _ (by simp only [selA, selW, nxtw]; rfl))
  iapply HQ
  iapply (inv_close D hk)
  isplitl [HT]; · iexact HT
  isplitl [HO]; · iexact HO
  isplitl [Hx1 Hx2 Hx3]
  · isplitl [Hx1]; · iexact Hx1
    isplitl [Hx2]; · iexact Hx2
    iexact Hx3
  isplitl [Hg1 Hg2]
  · isplitl [Hg1]; · iexact Hg1
    iexact Hg2
  isplitl [Hb1 Hb2]
  · isplitl [Hb1]; · iexact Hb1
    iexact Hb2
  isplitl [Hw1 Hw2]
  · isplitl [Hw1]; · iexact Hw1
    iexact Hw2
  isplitl [Hd1 Hd2]
  · isplitl [Hd1]; · iexact Hd1
    iexact Hd2
  isplitl [Hs]; · iexact Hs
  isplitl [Hf]; · iexact Hf
  isplitl [Ho]; · iexact Ho
  isplitl [Hdn]; · iexact Hdn
  iexact Hr2

end Cert.Proof.Experts

end
-- ==== Proof.Experts.Main.lean ====
/-
  The start of the pipeline and the loop over its steps.
-/
module

public import proofs.«01_k».proof.Proof.Experts.Body

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

theorem o1 : k0_off1 = ![0 % 3] := by decide +kernel
theorem o2 : k0_off2 = ![0 % 3, 0, 0] := by decide +kernel
theorem o4 : k0_off4 = ![0 % 2] := by decide +kernel
theorem o5 : k0_off5 = ![0 % 2, 0, 0, 0] := by decide +kernel
theorem o7 : k0_off7 = ![0 % 2] := by decide +kernel
theorem o8 : k0_off8 = ![0 % 2, 0, 0, 0] := by decide +kernel
theorem o10 : k0_off10 = ![0 % 2] := by decide +kernel
theorem o11 : k0_off11 = ![0 % 2, 0, 0, 0] := by decide +kernel
theorem o13 : k0_off13 = ![0 % 2] := by decide +kernel
theorem o14 : k0_off14 = ![0 % 2, 0, 0, 0] := by decide +kernel
theorem o16 : k0_off16 = ![1 % 3] := by decide +kernel
theorem o17 : k0_off17 = ![1 % 3, 0, 0] := by decide +kernel

theorem chk2 {e : BitVec 32} (h : e.toNat < 32) : k0_chk2 e := by
  unfold k0_chk2
  exact inb3 (s := S1x1024x2048.size) (T := S32x1024x2048.size) (off6 e) (by show _ + 1 ≤ 32; omega) (by decide) (by decide)

theorem chk3 {e : BitVec 32} (h : e.toNat < 32) : k0_chk3 e := by
  unfold k0_chk3
  exact inb3 (s := S1x1x2048.size) (T := S32x1x2048.size) (off9 e) (by show _ + 1 ≤ 32; omega) (by decide) (by decide)

theorem chk4 {e : BitVec 32} (h : e.toNat < 32) : k0_chk4 e := by
  unfold k0_chk4
  exact inb3 (s := S1x1024x1024.size) (T := S32x1024x1024.size) (off12 e) (by show _ + 1 ≤ 32; omega) (by decide) (by decide)

theorem chk5 {e : BitVec 32} (h : e.toNat < 32) : k0_chk5 e := by
  unfold k0_chk5
  exact inb3 (s := S1x1x1024.size) (T := S32x1x1024.size) (off15 e) (by show _ + 1 ≤ 32; omega) (by decide) (by decide)

theorem sel12 {u : BitVec 32} {N : ℕ} (hN : NW u N) : Scalar.select (Scalar.andi 1#1 (Scalar.cmpi .ne (Scalar.minsi (w 1) (Scalar.subi u 1#32)) (Scalar.minsi 0#32 (Scalar.subi u 1#32)))) (Scalar.addi (w 1) 1#32) (w 1)
    = w (min 1 N + 1) := by
  show Scalar.select (Scalar.andi 1#1 (Scalar.cmpi .ne (Scalar.minsi (w 1) (Scalar.subi u 1#32)) (Scalar.minsi (w 0) (Scalar.subi u 1#32)))) (Scalar.addi (w 1) 1#32) (w 1) = _
  rw [hN.min (by omega), hN.min (by omega)]
  by_cases h : 1 ≤ N
  · rw [show min 1 N = 1 by omega, show min 0 N = 0 by omega]; rfl
  · rw [show min 1 N = 0 by omega, show min 0 N = 0 by omega]; rfl

variable {M : Mem} {c : Dev nD} (D : Dat F M c)

theorem chk1 : k0_chk1 D.u := by
  unfold k0_chk1
  exact inb2 (s := S2048x128.size) (T := S589824x128.size) (off3 D.hN) (by show _ + 2048 ≤ 589824; omega) (by decide)
theorem chk6 {v71 v74} : k0_chk6 v71 v74 D.u := by
  have := D.hN.lt
  unfold k0_chk6
  exact fun _ => inb2 (s := S2048x128.size) (T := S589824x128.size) (off18 D.hN) (by show _ + 2048 ≤ 589824; omega) (by decide)

theorem part10 {Q} : tabs D ⊢ iprop((tabs D -∗ Q ⟨w 1, D.u, chk1 D⟩) -∗ WP c (k0_part10 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo) Q) := by
  rw [k0_part10_eq_skeleton]; unfold k0_part10_skel
  iintro HT HQ
  try dsimp -zetaHave only
  rw [wpBind]
  iapply (ld1 D rfl) $$ HT; iintro HT
  try dsimp -zetaHave only
  rw [wpBind]
  iapply (wpAssume c (chk1 D) _)
  try dsimp only
  have e : ∀ t, t = ⟨w 1, D.u, chk1 D⟩ → Q ⟨w 1, D.u, chk1 D⟩ ⊢ WP c (pure t) Q := fun t ht => wpPureEq c ht Q
  iapply (e _ rfl)
  iapply HQ; iexact HT

theorem part11 {h Q} : iprop(tabs D ∗ xFree D 0 ∗ (gW D).free 0 ∗ (bW D).free 0) ⊢ iprop((iprop(tabs D ∗ xFly D 0 0 ∗ (gW D).fly 0 (D.B 0).toNat ∗ (bW D).fly 0 (D.B 0).toNat)
      -∗ Q ⟨w 1, w 1, w 1, D.B 0, chk4 (D.hB 0)⟩) -∗ WP c (k0_part11 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo D.u h) Q) := by
  rw [k0_part11_eq_skeleton]; unfold k0_part11_skel
  iintro ⟨HT, Hx, Hg, Hb⟩ HQ
  try dsimp -zetaHave only
  rw [wpBind]
  iapply (xsIssue (j := 0) (by omega : 0 < 288) o1 o2 ((off3 D.hN).trans (by rw [Nat.zero_min]))) $$ Hx
  iintro Hx
  try dsimp only
  rw [wpBind]
  iapply (ld0 D (i := 0) rfl) $$ HT; iintro HT
  try dsimp -zetaHave only
  rw [wpBind]
  iapply (wpAssume c (chk2 (D.hB 0)) _)
  try dsimp only
  rw [wpBind]
  iapply (guIssue (j := 0) (D.hB 0) o4 o5 (off6 _)) $$ Hg
  iintro Hg
  try dsimp only
  rw [wpBind]
  iapply (ld0 D (i := 0) rfl) $$ HT; iintro HT
  try dsimp -zetaHave only
  rw [wpBind]
  iapply (wpAssume c (chk3 (D.hB 0)) _)
  try dsimp only
  rw [wpBind]
  iapply (bgIssue (j := 0) (D.hB 0) o7 o8 (off9 _)) $$ Hb
  iintro Hb
  try dsimp only
  rw [wpBind]
  iapply (ld0 D (i := 0) rfl) $$ HT; iintro HT
  try dsimp -zetaHave only
  rw [wpBind]
  iapply (wpAssume c (chk4 (D.hB 0)) _)
  try dsimp only
  have e : ∀ t, t = ⟨w 1, w 1, w 1, D.B 0, chk4 (D.hB 0)⟩ → Q ⟨w 1, w 1, w 1, D.B 0, chk4 (D.hB 0)⟩ ⊢ WP c (pure t) Q := fun t ht => wpPureEq c ht Q
  iapply (e _ rfl)
  iapply HQ
  isplitl [HT]; · iexact HT
  isplitl [Hx]; · iexact Hx
  isplitl [Hg]; · iexact Hg
  iexact Hb

theorem part12 {h Q} : iprop(tabs D ∗ xFree D 1 ∗ (wW D).free 0 ∗ (dW D).free 0) ⊢ iprop((iprop(tabs D ∗ x2 D 0 ∗ (wW D).fly 0 (D.B 0).toNat ∗ (dW D).fly 0 (D.B 0).toNat)
      -∗ Q ⟨w 1, w 1, w (min 1 D.N + 1), 0#32, 0#32, 0#32, 0#32, 0#32⟩) -∗ WP c (k0_part12 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo (w 1) (w 1) (D.B 0) h) Q) := by
  rw [k0_part12_eq_skeleton]; unfold k0_part12_skel
  iintro ⟨HT, Hx, Hw, Hd⟩ HQ
  try dsimp -zetaHave only
  rw [wpBind]
  iapply (wdIssue (j := 0) (D.hB 0) o10 o11 (off12 _)) $$ Hw
  iintro Hw
  try dsimp only
  rw [wpBind]
  iapply (ld0 D (i := 0) rfl) $$ HT; iintro HT
  try dsimp -zetaHave only
  rw [wpBind]
  iapply (wpAssume c (chk5 (D.hB 0)) _)
  try dsimp only
  rw [wpBind]
  iapply (bdIssue (j := 0) (D.hB 0) o13 o14 (off15 _)) $$ Hd
  iintro Hd
  try dsimp only
  rw [wpBind]
  iapply (ld1 D rfl) $$ HT; iintro HT
  try dsimp -zetaHave only
  rw [wpBind]
  iapply (ld1 D rfl) $$ HT; iintro HT
  try dsimp -zetaHave only
  have e : ∀ t, t = ⟨w 1, w 1, w (min 1 D.N + 1), 0#32, 0#32, 0#32, 0#32, 0#32⟩ → Q ⟨w 1, w 1, w (min 1 D.N + 1), 0#32, 0#32, 0#32, 0#32, 0#32⟩ ⊢ WP c (pure t) Q := fun t ht => wpPureEq c ht Q
  have hcd := cond1 D.hN
  unfold x2
  by_cases hc : 1 ≤ D.N
  · rw [dif_pos (hcd.trans (bw_true hc)), if_pos hc]
    rw [wpBind]
    iapply (ld1 D rfl) $$ HT; iintro HT
    try dsimp -zetaHave only
    rw [wpBind]
    iapply (wpAssume c (chk6 D) _)
    try dsimp only
    rw [wpBind]
    iapply (xsIssue (j := 1) (b := 1) (by omega) o16 o17 ((off18 D.hN).trans (by rw [show min 1 D.N = 1 by omega]))) $$ Hx
    iintro Hx
    try dsimp only
    iapply (e _ (by rw [sel12 D.hN]; rfl))
    iapply HQ
    isplitl [HT]; · iexact HT
    isplitl [Hx]; · iexact Hx
    isplitl [Hw]; · iexact Hw
    iexact Hd
  · rw [dif_neg (fun h => hc (bw_eq_one.1 (hcd.symm.trans h))), if_neg hc]
    iapply (e _ (by rw [sel12 D.hN]; rfl))
    iapply HQ
    isplitl [HT]; · iexact HT
    isplitl [Hx]
    · rw [Nat.zero_min]
      iexact Hx
    isplitl [Hw]; · iexact Hw
    iexact Hd

/-- The carried words and the state, before each step. -/
def loopInv (k : ℕ) (a : BitVec 32 × BitVec 32 × BitVec 32 × BitVec 32 × BitVec 32 × BitVec 32 × BitVec 32 × BitVec 32 × BitVec 32 × BitVec 32 × BitVec 32 × BitVec 32 × BitVec 32) : sProp 𝕄 :=
  iprop(⌜a = car D k⌝ ∗ Inv D k)

theorem loop {v43 v52 v61 v70 v83 c1 c2 c3 c4 c5} {Q : (BitVec 32 × BitVec 32 × BitVec 32 × BitVec 32 × BitVec 32 × BitVec 32 × BitVec 32 × BitVec 32 × BitVec 32 × BitVec 32 × BitVec 32 × BitVec 32 × BitVec 32) → sProp 𝕄} {a} (e : a = car D 0) : Inv D 0 ⊢ iprop((Inv D 288 -∗ Q (car D 288))
    -∗ WP c (Scf.Loop.for k0_t1_loop Facts₀.k0_t1_ok a (k0_t1_body (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo v43 v52 v61 v70 v83 c1 c2 c3 c4 c5)) Q) := by
  subst e
  have h := Scf.wp_for frame (wpE (defs₀ (F := F)) 𝒱₀ (c : Thread nD τ) none) Set.univ k0_t1_loop.lb k0_t1_loop.ub k0_t1_loop.st Facts₀.k0_t1_ok (car D 0)
    (k0_t1_body (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo v43 v52 v61 v70 v83 c1 c2 c3 c4 c5) (loopInv D)
    (by
      intro k a
      unfold loopInv
      iintro ⟨%e, H⟩
      subst e
      iapply (body D k) $$ H
      iintro H
      isplitr [H]
      · ipureintro; rfl
      iexact H) (Q := Q)
  iintro H HQ
  iapply h
  isplitl [H]
  · unfold loopInv
    isplitr [H]
    · ipureintro; rfl
    iexact H
  · have e : Scf.trips k0_t1_loop.lb k0_t1_loop.ub k0_t1_loop.st = 288 := trips_eq
    rw [e]
    iintro %a H
    unfold loopInv
    icases H with ⟨%ea, H⟩
    subst ea
    iapply HQ; iexact H

theorem part13 {v43 v52 v61 v70 v83 c1 c2 c3 c4 c5 Q} (e : (v83, c1, v43, c2, v52, c3, v61, c4, v70, c5, 0#32, 0#32, 0#32) = car D 0) :
    Inv D 0 ⊢ iprop((∀ a b, Inv D 288 -∗ Q ⟨w 287, w 0, chk32, chk31, a, b, 0#32⟩) -∗ WP c (k0_part13 (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo v43 v52 v61 v70 v83 c1 c2 c3 c4 c5) Q) := by
  rw [k0_part13_eq_skeleton]; unfold k0_part13_skel
  iintro H HQ
  try dsimp -zetaHave only
  rw [wpBind]
  iapply (loop D e) $$ H
  iintro H
  have ec : car D 288 = ((car D 288).1, (car D 288).2.1, (car D 288).2.2.1, (car D 288).2.2.2.1, (car D 288).2.2.2.2.1, (car D 288).2.2.2.2.2.1, (car D 288).2.2.2.2.2.2.1, (car D 288).2.2.2.2.2.2.2.1, (car D 288).2.2.2.2.2.2.2.2.1, (car D 288).2.2.2.2.2.2.2.2.2.1, (car D 288).2.2.2.2.2.2.2.2.2.2.1, w 287, w 0) := rfl
  rw [ec]
  try dsimp -zetaHave only
  rw [wpBind]
  iapply (wpAssume c chk32 _)
  try dsimp -zetaHave only
  rw [wpBind]
  iapply (wpAssume c chk31 _)
  try dsimp only
  iapply (wpPure c _ _)
  iapply HQ
  iexact H

/-- The windows and the copies of the weights, all free; the tables. -/
def idle (D : Dat F M c) : sProp 𝕄 := iprop(tabs D ∗ Ow (F := F) c ∗ (xFree D 0 ∗ xFree D 1 ∗ xFree D 2)
  ∗ ((gW D).free 0 ∗ (gW D).free 1) ∗ ((bW D).free 0 ∗ (bW D).free 1) ∗ ((wW D).free 0 ∗ (wW D).free 1) ∗ ((dW D).free 0 ∗ (dW D).free 1)
  ∗ ouFree (F := F) c M.lo M.slo 0 ∗ ouFree (F := F) c M.lo M.slo 1)

theorem Win.st_zero (W : Win F) (B : ℕ → BitVec 32) : iprop(W.fly 0 (B 0).toNat ∗ W.free 1) ⊢ W.st B 0 := by
  unfold Win.st Win.inn
  rw [if_pos (show 0 < 288 by omega), if_pos (show fresh B 0 from Or.inl rfl)]
  exact BIBase.Entails.rfl

theorem Win.st_last (W : Win F) (B : ℕ → BitVec 32) : W.st B 288 ⊢ iprop(W.free 0 ∗ W.free 1) := by
  unfold Win.st
  rw [if_neg (show ¬ 288 < 288 by omega)]

theorem blks_zero : bigSep (Finset.range 288) (fun b => ouRaw (F := F) c M.a8 b) ⊢ oBlks D 0 := by
  unfold oBlks
  rw [show 0 - 1 = 0 from rfl, Finset.range_zero, bigSep_empty, Finset.range_eq_Ico]
  exact BI.emp_sep.2

theorem blks_last : iprop(oDone D 287 ∗ oBlks D 288) ⊢ bigSep (Finset.range 288) (fun b => oDone D b) := by
  refine BIBase.Entails.trans ?_ (range_done D (k := 288) (by omega))
  unfold oBlks
  iintro ⟨H, H1, H2⟩
  isplitl [H]; · iexact H
  iexact H1

theorem inv_zero : iprop(tabs D ∗ Ow (F := F) c ∗ xFly D 0 0 ∗ x2 D 0 ∗ xFree D 2
    ∗ ((gW D).fly 0 (D.B 0).toNat ∗ (gW D).free 1) ∗ ((bW D).fly 0 (D.B 0).toNat ∗ (bW D).free 1)
    ∗ ((wW D).fly 0 (D.B 0).toNat ∗ (wW D).free 1) ∗ ((dW D).fly 0 (D.B 0).toNat ∗ (dW D).free 1)
    ∗ (Free (F := F) c M.a9 ∗ Free (F := F) c M.a10) ∗ ouFree (F := F) c M.lo M.slo 0 ∗ ouFree (F := F) c M.lo M.slo 1
    ∗ bigSep (Finset.range 288) (fun b => ouRaw (F := F) c M.a8 b)) ⊢ Inv D 0 := by
  have hg := (gW D).st_zero D.B
  have hb := (bW D).st_zero D.B
  have hw := (wW D).st_zero D.B
  have hd := (dW D).st_zero D.B
  have hr := blks_zero D
  have hx : iprop(xFly D 0 0 ∗ x2 D 0 ∗ xFree D 2) ⊢ xSt D 0 := by
    unfold xSt x1 x3
    rw [if_pos (Nat.zero_le _), Nat.zero_min]
  have hs : iprop(Free (F := F) c M.a9 ∗ Free (F := F) c M.a10) ⊢ scr D 0 := BIBase.Entails.rfl
  have ho : ouFree (F := F) c M.lo M.slo 1 ⊢ oPrev D 0 := BIBase.Entails.rfl
  unfold Inv
  iintro ⟨HT, HO, Hx1, Hx2, Hx3, Hg, Hb, Hw, Hd, Hs, Ho, Hp, Hr⟩
  isplitl [HT]; · iexact HT
  isplitl [HO]; · iexact HO
  isplitl [Hx1 Hx2 Hx3]
  · iapply hx
    isplitl [Hx1]; · iexact Hx1
    isplitl [Hx2]; · iexact Hx2
    iexact Hx3
  isplitl [Hg]; · iapply hg $$ Hg
  isplitl [Hb]; · iapply hb $$ Hb
  isplitl [Hw]; · iapply hw $$ Hw
  isplitl [Hd]; · iapply hd $$ Hd
  isplitl [Hs]; · iapply hs $$ Hs
  isplitl [Ho]; · iexact Ho
  isplitl [Hp]; · iapply ho $$ Hp
  iapply hr $$ Hr

theorem inv_last : Inv D 288 ⊢ iprop(tabs D ∗ Ow (F := F) c ∗ (xFree D 0 ∗ xFree D 1 ∗ xFree D 2)
    ∗ ((gW D).free 0 ∗ (gW D).free 1) ∗ ((bW D).free 0 ∗ (bW D).free 1) ∗ ((wW D).free 0 ∗ (wW D).free 1) ∗ ((dW D).free 0 ∗ (dW D).free 1)
    ∗ scr' D 287 ∗ ouFree (F := F) c M.lo M.slo 0 ∗ ouFly c M.lo M.slo M.a8 287 287 (Y D 287) ∗ oBlks D 288) := by
  have hg := (gW D).st_last D.B
  have hb := (bW D).st_last D.B
  have hw := (wW D).st_last D.B
  have hd := (dW D).st_last D.B
  have hx := x_end D
  have hs : scr D 288 ⊢ scr' D 287 := BIBase.Entails.rfl
  have hp : oPrev D 288 ⊢ ouFly c M.lo M.slo M.a8 287 287 (Y D 287) := BIBase.Entails.rfl
  have ho : ouFree (F := F) c M.lo M.slo 288 ⊢ ouFree (F := F) c M.lo M.slo 0 := BIBase.Entails.of_eq (ouSlot c _ _ (by omega))
  unfold Inv
  iintro ⟨HT, HO, Hx, Hg, Hb, Hw, Hd, Hs, Ho, Hp, Hr⟩
  isplitl [HT]; · iexact HT
  isplitl [HO]; · iexact HO
  isplitl [Hx]; · iapply hx $$ Hx
  isplitl [Hg]; · iapply hg $$ Hg
  isplitl [Hb]; · iapply hb $$ Hb
  isplitl [Hw]; · iapply hw $$ Hw
  isplitl [Hd]; · iapply hd $$ Hd
  isplitl [Hs]; · iapply hs $$ Hs
  isplitl [Ho]; · iapply ho $$ Ho
  isplitl [Hp]; · iapply hp $$ Hp
  iexact Hr

/-- The kernel's body: from everything free and the result's blocks at anything to the result's blocks written. -/
theorem whole {Q} : iprop(idle D ∗ (Free (F := F) c M.a9 ∗ Free (F := F) c M.a10) ∗ bigSep (Finset.range 288) (fun b => ouRaw (F := F) c M.a8 b))
    ⊢ iprop((iprop(idle D ∗ scr' D 287 ∗ bigSep (Finset.range 288) (fun b => oDone D b)) -∗ Q ⟨⟩) -∗ WP c (cc0_experts (F := F) M.a0 M.ha0 M.a1 M.ha1 M.a2 M.ha2 M.a3 M.ha3 M.a4 M.ha4 M.a5 M.ha5 M.a6 M.ha6 M.a7 M.ha7 M.a8 M.ha8 M.a9 M.ha9 M.a10 M.ha10 M.lx M.hlx M.slx M.lg M.hlg M.slg M.lb M.hlb M.slb M.lw M.hlw M.slw M.ld M.hld M.sld M.lo M.hlo M.slo) Q) := by
  rw [cc0_experts_eq_skeleton]; unfold cc0_experts_skel idle
  iintro ⟨⟨HT, HO, ⟨Hx1, Hx2, Hx3⟩, ⟨Hg1, Hg2⟩, ⟨Hb1, Hb2⟩, ⟨Hw1, Hw2⟩, ⟨Hd1, Hd2⟩, Ho1, Ho2⟩, Hs, Hr⟩ HQ
  try dsimp -zetaHave only
  rw [wpBind]
  iapply (part10 D) $$ HT; iintro HT
  try dsimp -zetaHave only
  rw [wpBind]
  iapply (part11 D) $$ [HT Hx1 Hg1 Hb1]
  · isplitl [HT]; · iexact HT
    isplitl [Hx1]; · iexact Hx1
    isplitl [Hg1]; · iexact Hg1
    iexact Hb1
  iintro ⟨HT, Hx1, Hg1, Hb1⟩
  try dsimp -zetaHave only
  rw [wpBind]
  iapply (part12 D) $$ [HT Hx2 Hw1 Hd1]
  · isplitl [HT]; · iexact HT
    isplitl [Hx2]; · iexact Hx2
    isplitl [Hw1]; · iexact Hw1
    iexact Hd1
  iintro ⟨HT, Hx2, Hw1, Hd1⟩
  try dsimp -zetaHave only
  rw [wpBind]
  iapply (part13 D (by rw [car_lt D (show 0 < 288 by omega), Nat.zero_min]; rfl)) $$ [HT HO Hx1 Hx2 Hx3 Hg1 Hg2 Hb1 Hb2 Hw1 Hw2 Hd1 Hd2 Hs Ho1 Ho2 Hr]
  · iapply (inv_zero D)
    isplitl [HT]; · iexact HT
    isplitl [HO]; · iexact HO
    isplitl [Hx1]; · iexact Hx1
    isplitl [Hx2]; · iexact Hx2
    isplitl [Hx3]; · iexact Hx3
    isplitl [Hg1 Hg2]
    · isplitl [Hg1]; · iexact Hg1
      iexact Hg2
    isplitl [Hb1 Hb2]
    · isplitl [Hb1]; · iexact Hb1
      iexact Hb2
    isplitl [Hw1 Hw2]
    · isplitl [Hw1]; · iexact Hw1
      iexact Hw2
    isplitl [Hd1 Hd2]
    · isplitl [Hd1]; · iexact Hd1
      iexact Hd2
    isplitl [Hs]; · iexact Hs
    isplitl [Ho1]; · iexact Ho1
    isplitl [Ho2]; · iexact Ho2
    iexact Hr
  iintro %a %b H
  ihave H := (inv_last D) $$ H
  icases H with ⟨HT, HO, Hx, Hg, Hb, Hw, Hd, Hs, Ho, Hp, Hr⟩
  try dsimp -zetaHave only
  rw [wpBind]
  iapply (ouWait (j := 287) (b := 287) (by omega) (off85 (j := 287) (by omega)) off86) $$ [Hp HO]
  · isplitl [Hp]; · iexact Hp
    iexact HO
  iintro ⟨Hy, Hf, HO⟩
  try dsimp only
  iapply (wpPure c _ _)
  iapply HQ
  isplitl [HT HO Hx Hg Hb Hw Hd Ho Hf]
  · isplitl [HT]; · iexact HT
    isplitl [HO]; · iexact HO
    isplitl [Hx]; · iexact Hx
    isplitl [Hg]; · iexact Hg
    isplitl [Hb]; · iexact Hb
    isplitl [Hw]; · iexact Hw
    isplitl [Hd]; · iexact Hd
    isplitl [Ho]; · iexact Ho
    have hf : ouFree (F := F) c M.lo M.slo 287 ⊢ ouFree (F := F) c M.lo M.slo 1 := BIBase.Entails.of_eq (ouSlot c _ _ (by omega))
    iapply hf $$ Hf
  isplitl [Hs]; · iexact Hs
  iapply (blks_last D)
  isplitl [Hy]; · iexact Hy
  iexact Hr

end Cert.Proof.Experts

end
-- ==== Proof.Experts.Split.lean ====
/-
  The buffers of the launch as the windows, and back.
-/
module

public import proofs.«01_k».proof.Proof.Experts.State

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

theorem mem_slot {S : Shape} {off sz : Fin S.rank → ℕ} {h} (a0 : Fin S.rank) {m : ℕ} (h0 : off a0 = m) (h1 : sz a0 = 1)
    (hz : ∀ a, a ≠ a0 → off a = 0 ∧ sz a = S.size a) (y : S.Idx) : y ∈ (Rect.unit (s := S) off sz h).set ↔ (y a0).val = m := by
  rw [Rect.mem_set_unit]
  constructor
  · intro H
    have := H a0
    rw [h0, h1] at this
    omega
  · intro H a
    by_cases ha : a = a0
    · subst ha; rw [h0, h1]; omega
    · obtain ⟨e0, e1⟩ := hz a ha
      rw [e0, e1]
      have := (y a).isLt
      omega

theorem bigSep_two {M : Type} [URA M] (Φ : Fin 2 → sProp M) : bigSep Finset.univ Φ = iprop(Φ 0 ∗ Φ 1) :=
  bigSep_univ_eq_bigSepL [(0 : Fin 2), (1 : Fin 2)] (by decide) (by decide) Φ
theorem bigSep_three {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

/-! ## An array and the shares its slots fetch by -/

section
variable {ℓ : Loc nD τ sig} (A : Buf (Elt F) ℓ)

theorem toks_two : (ℓ ↦{fullShare} A : sProp 𝕄) ⊣⊢ iprop((ℓ ↦{Transfers.shareDrop fullShare 2} A) ∗ (ℓ ↦{Transfers.shareTokN fullShare 0} A) ∗ (ℓ ↦{Transfers.shareTokN fullShare 1} A)) := by
  have h := Transfers.pointsTo_toks_range (Ix := Unit) (Name := ℕ) (U := UU nD τ) (Lvl := ℕ) (ℓ := ℓ) (S := Finset.univ) (f := A) fullShare 2
  have e : (bigSep (Finset.range 2) (fun i => ℓ ↦[Finset.univ]{Transfers.shareTokN fullShare i} A) : sProp 𝕄)
      = iprop((ℓ ↦{Transfers.shareTokN fullShare 0} A) ∗ (ℓ ↦{Transfers.shareTokN fullShare 1} A)) :=
    (Ring.bigSep_fin_eq_range 2 (fun i : Fin 2 => (ℓ ↦[Finset.univ]{Transfers.shareTokN fullShare i.val} A : sProp 𝕄)) _ (fun _ _ => rfl)).symm.trans (bigSep_two _)
  rw [e] at h
  exact h

theorem toks_three : (ℓ ↦{fullShare} A : sProp 𝕄) ⊣⊢ iprop((ℓ ↦{Transfers.shareDrop fullShare 3} A) ∗ (ℓ ↦{Transfers.shareTokN fullShare 0} A) ∗ (ℓ ↦{Transfers.shareTokN fullShare 1} A) ∗ (ℓ ↦{Transfers.shareTokN fullShare 2} A)) := by
  have h := Transfers.pointsTo_toks_range (Ix := Unit) (Name := ℕ) (U := UU nD τ) (Lvl := ℕ) (ℓ := ℓ) (S := Finset.univ) (f := A) fullShare 3
  have e : (bigSep (Finset.range 3) (fun i => ℓ ↦[Finset.univ]{Transfers.shareTokN fullShare i} A) : sProp 𝕄)
      = iprop((ℓ ↦{Transfers.shareTokN fullShare 0} A) ∗ (ℓ ↦{Transfers.shareTokN fullShare 1} A) ∗ (ℓ ↦{Transfers.shareTokN fullShare 2} A)) :=
    (Ring.bigSep_fin_eq_range 3 (fun i : Fin 3 => (ℓ ↦[Finset.univ]{Transfers.shareTokN fullShare i.val} A : sProp 𝕄)) _ (fun _ _ => rfl)).symm.trans (bigSep_three _)
  rw [e] at h
  exact h
end

variable (c : Dev nD)

/-- The buffer `r` whole, at some contents. -/
abbrev Some (r : Ref sig .tc) : sProp 𝕄 := iprop(∃ f : Buf (Elt F) ((c : Thread nD τ).loc r), ((c : Thread nD τ).loc r) ↦{fullShare} f)
/-- The semaphore `s` at zero. -/
abbrev Zero (s : DmaSem sig) : sProp 𝕄 := semVal ((c : Thread nD τ), SemLoc.dma s) 0

section
variable {r : Ref sig .tc}
theorem some_two (K : Fin 2 → Finset (Idx ((c : Thread nD τ).loc r))) (hd : ∀ a b, a ≠ b → Disjoint (K a) (K b)) (hc : (Finset.univ : Finset (Fin 2)).biUnion K = Finset.univ) :
    Some (F := F) c r ⊣⊢ iprop((∃ f : Buf (Elt F) ((c : Thread nD τ).loc r), ((c : Thread nD τ).loc r) ↦[K 0]{fullShare} f) ∗ (∃ f : Buf (Elt F) ((c : Thread nD τ).loc r), ((c : Thread nD τ).loc r) ↦[K 1]{fullShare} f)) := by
  constructor
  · iintro ⟨%f, H⟩
    ihave H := (BIBase.Entails.of_eq ((Ring.pointsTo_blocks (Ix := Unit) (Name := ℕ) (U := UU nD τ) (Lvl := ℕ) (q := fullShare) (ℓ := (c : Thread nD τ).loc r) K hd hc f).trans (bigSep_two _))) $$ H
    icases H with ⟨H0, H1⟩
    isplitl [H0]
    · iexists f; iexact H0
    · iexists f; iexact H1
  · iintro ⟨⟨%f, H0⟩, H1⟩
    iapply (Ring.pointsTo_blocks_join_exists (ℓ := (c : Thread nD τ).loc r) K hd hc f)
    irw [bigSep_two]
    isplitl [H0]
    · iexists f; iexact H0
    · iexact H1
theorem some_three (K : Fin 3 → Finset (Idx ((c : Thread nD τ).loc r))) (hd : ∀ a b, a ≠ b → Disjoint (K a) (K b)) (hc : (Finset.univ : Finset (Fin 3)).biUnion K = Finset.univ) :
    Some (F := F) c r ⊣⊢ iprop((∃ f : Buf (Elt F) ((c : Thread nD τ).loc r), ((c : Thread nD τ).loc r) ↦[K 0]{fullShare} f) ∗ (∃ f : Buf (Elt F) ((c : Thread nD τ).loc r), ((c : Thread nD τ).loc r) ↦[K 1]{fullShare} f) ∗ (∃ f : Buf (Elt F) ((c : Thread nD τ).loc r), ((c : Thread nD τ).loc r) ↦[K 2]{fullShare} f)) := by
  constructor
  · iintro ⟨%f, H⟩
    ihave H := (BIBase.Entails.of_eq ((Ring.pointsTo_blocks (Ix := Unit) (Name := ℕ) (U := UU nD τ) (Lvl := ℕ) (q := fullShare) (ℓ := (c : Thread nD τ).loc r) K hd hc f).trans (bigSep_three _))) $$ H
    icases H with ⟨H0, H1, H2⟩
    isplitl [H0]; · iexists f; iexact H0
    isplitl [H1]; · iexists f; iexact H1
    iexists f; iexact H2
  · iintro ⟨⟨%f, H0⟩, H1, H2⟩
    iapply (Ring.pointsTo_blocks_join_exists (ℓ := (c : Thread nD τ).loc r) K hd hc f)
    irw [bigSep_three]
    isplitl [H0]; · iexists f; iexact H0
    isplitl [H1]; · iexact H1
    iexact H2
end

/-! ## The window `xs` -/

def xsK (m : ℕ) (hm : m + 1 ≤ 3) : Finset S3x2048x128.Idx := (Rect.unit (s := S3x2048x128) ![m, 0, 0] S1x2048x128.size (inb3 (a := m) rfl hm (by decide) (by decide))).set
theorem xsK_mem (m : ℕ) (hm : m + 1 ≤ 3) (y : S3x2048x128.Idx) : y ∈ xsK m hm ↔ (y 0).val = m :=
  mem_slot (S := S3x2048x128) (0 : Fin 3) rfl rfl (by
    intro a ha; fin_cases a
    · exact absurd rfl ha
    · exact ⟨rfl, rfl⟩
    · exact ⟨rfl, rfl⟩
  ) y
theorem xsK_disjoint (a b : Fin 3) (h : a ≠ b) : Disjoint (xsK a.val a.isLt) (xsK b.val b.isLt) := by
  rw [Finset.disjoint_left]; intro y h1 h2; rw [xsK_mem] at h1 h2; exact h (Fin.ext (h1.symm.trans h2))
theorem xsK_cover : (Finset.univ : Finset (Fin 3)).biUnion (fun a => xsK a.val a.isLt) = Finset.univ := by
  ext y; simp only [Finset.mem_biUnion, Finset.mem_univ, true_and, iff_true]; exact ⟨(y 0).cast (by rfl), by rw [xsK_mem]; rfl⟩
theorem xsD_set (m : ℕ) (hm : m + 1 ≤ 3) : (xsD' (Memref.whole cc0_scoped0) m hm : Memref sig .tc .vmem _ _).view.set = xsK m hm :=
  (View.set_reshape _ _).trans (View.set_slice_whole _ _)
theorem xsD_free (m : ℕ) (hm : m + 1 ≤ 3) : Free (F := F) c (xsD' (Memref.whole cc0_scoped0) m hm)
    = iprop(∃ f : Buf (Elt F) ((c : Thread nD τ).loc cc0_scoped0), ((c : Thread nD τ).loc cc0_scoped0) ↦[xsK m hm]{fullShare} f) :=
  congrArg (fun K => iprop(∃ f : Buf (Elt F) ((c : Thread nD τ).loc cc0_scoped0), ((c : Thread nD τ).loc cc0_scoped0) ↦[K]{fullShare} f)) (xsD_set m hm)
theorem xs_slots : Some (F := F) c cc0_scoped0 ⊣⊢ iprop(Free (F := F) c (xsD (Memref.whole cc0_scoped0) 0) ∗ Free (F := F) c (xsD (Memref.whole cc0_scoped0) 1) ∗ Free (F := F) c (xsD (Memref.whole cc0_scoped0) 2)) := by
  have h := some_three (F := F) c (r := cc0_scoped0) (fun a => xsK a.val a.isLt) xsK_disjoint xsK_cover
  have e : ∀ a : Fin 3, Free (F := F) c (xsD (Memref.whole cc0_scoped0) a.val) = iprop(∃ f : Buf (Elt F) ((c : Thread nD τ).loc cc0_scoped0), ((c : Thread nD τ).loc cc0_scoped0) ↦[xsK a.val a.isLt]{fullShare} f) := by
    intro a
    fin_cases a
    · exact xsD_free c 0 (by decide)
    · exact xsD_free c 1 (by decide)
    · exact xsD_free c 2 (by decide)
  have e0 := e 0
  have e1 := e 1
  have e2 := e 2
  exact (h.trans (BIBase.BiEntails.of_eq (by rw [show Free (F := F) c (xsD (Memref.whole cc0_scoped0) 0) = _ from e0, show Free (F := F) c (xsD (Memref.whole cc0_scoped0) 1) = _ from e1, show Free (F := F) c (xsD (Memref.whole cc0_scoped0) 2) = _ from e2])))
theorem xsS_0 : xsS cc0_scoped1 0 = (⟨3, by decide⟩ : Fin 16) := by decide +kernel
theorem xsS_1 : xsS cc0_scoped1 1 = (⟨4, by decide⟩ : Fin 16) := by decide +kernel
theorem xsS_2 : xsS cc0_scoped1 2 = (⟨5, by decide⟩ : Fin 16) := by decide +kernel

section
variable (A : Buf (Elt F) ((c : Thread nD τ).loc main_arg0))
abbrev xsW (j : ℕ) : sProp 𝕄 := xsFree c (Memref.whole cc0_scoped0) cc0_scoped1 (Memref.whole main_arg0) A j
theorem xsW_eq (j : ℕ) : xsW c A j = iprop(Free (F := F) c (xsD (Memref.whole cc0_scoped0) j) ∗ Zero (F := F) c (xsS cc0_scoped1 j) ∗ (((c : Thread nD τ).loc main_arg0) ↦{xsQ j} A)) :=
  congrArg (fun K => iprop(Free (F := F) c (xsD (Memref.whole cc0_scoped0) j) ∗ Zero (F := F) c (xsS cc0_scoped1 j) ∗ (((c : Thread nD τ).loc main_arg0) ↦[K]{xsQ j} A))) (View.set_whole main_arg0)
theorem xs_open : iprop(Some (F := F) c cc0_scoped0 ∗ (Zero (F := F) c (⟨3, by decide⟩ : Fin 16) ∗ Zero (F := F) c (⟨4, by decide⟩ : Fin 16) ∗ Zero (F := F) c (⟨5, by decide⟩ : Fin 16)) ∗ (((c : Thread nD τ).loc main_arg0) ↦{fullShare} A)) ⊢ iprop((((c : Thread nD τ).loc main_arg0) ↦{Transfers.shareDrop fullShare 3} A) ∗ xsW c A 0 ∗ xsW c A 1 ∗ xsW c A 2) := by
  rw [xsW_eq c A 0, xsW_eq c A 1, xsW_eq c A 2, xsS_0, xsS_1, xsS_2]
  have h1 := (xs_slots (F := F) c).1
  have h2 := (toks_three A).1
  iintro ⟨H, ⟨Z0, Z1, Z2⟩, HA⟩
  ihave H := h1 $$ H
  icases H with ⟨F0, F1, F2⟩
  ihave HA := h2 $$ HA
  icases HA with ⟨HD, A0, A1, A2⟩
  isplitl [HD]; · iexact HD
  isplitl [F0 Z0 A0]
  · isplitl [F0]; · iexact F0
    isplitl [Z0]; · iexact Z0
    iexact A0
  isplitl [F1 Z1 A1]
  · isplitl [F1]; · iexact F1
    isplitl [Z1]; · iexact Z1
    iexact A1
  isplitl [F2]; · iexact F2
  isplitl [Z2]; · iexact Z2
  iexact A2
theorem xs_close : iprop((((c : Thread nD τ).loc main_arg0) ↦{Transfers.shareDrop fullShare 3} A) ∗ xsW c A 0 ∗ xsW c A 1 ∗ xsW c A 2) ⊢ iprop(Some (F := F) c cc0_scoped0 ∗ (Zero (F := F) c (⟨3, by decide⟩ : Fin 16) ∗ Zero (F := F) c (⟨4, by decide⟩ : Fin 16) ∗ Zero (F := F) c (⟨5, by decide⟩ : Fin 16)) ∗ (((c : Thread nD τ).loc main_arg0) ↦{fullShare} A)) := by
  rw [xsW_eq c A 0, xsW_eq c A 1, xsW_eq c A 2, xsS_0, xsS_1, xsS_2]
  have h1 := (xs_slots (F := F) c).2
  have h2 := (toks_three A).2
  iintro ⟨HD, ⟨F0, Z0, A0⟩, ⟨F1, Z1, A1⟩, ⟨F2, Z2, A2⟩⟩
  isplitl [F0 F1 F2]
  · iapply h1
    isplitl [F0]; · iexact F0
    isplitl [F1]; · iexact F1
    iexact F2
  isplitl [Z0 Z1 Z2]
  · isplitl [Z0]; · iexact Z0
    isplitl [Z1]; · iexact Z1
    iexact Z2
  iapply h2
  isplitl [HD]; · iexact HD
  isplitl [A0]; · iexact A0
  isplitl [A1]; · iexact A1
  iexact A2
end

/-! ## The window `gu` -/

def guK (m : ℕ) (hm : m + 1 ≤ 2) : Finset S2x1x1024x2048.Idx := (Rect.unit (s := S2x1x1024x2048) ![m, 0, 0, 0] S1x1x1024x2048.size (inb4 (a := m) rfl hm (by decide) (by decide) (by decide))).set
theorem guK_mem (m : ℕ) (hm : m + 1 ≤ 2) (y : S2x1x1024x2048.Idx) : y ∈ guK m hm ↔ (y 0).val = m :=
  mem_slot (S := S2x1x1024x2048) (0 : Fin 4) rfl rfl (by
    intro a ha; fin_cases a
    · exact absurd rfl ha
    · exact ⟨rfl, rfl⟩
    · exact ⟨rfl, rfl⟩
    · exact ⟨rfl, rfl⟩
  ) y
theorem guK_disjoint (a b : Fin 2) (h : a ≠ b) : Disjoint (guK a.val a.isLt) (guK b.val b.isLt) := by
  rw [Finset.disjoint_left]; intro y h1 h2; rw [guK_mem] at h1 h2; exact h (Fin.ext (h1.symm.trans h2))
theorem guK_cover : (Finset.univ : Finset (Fin 2)).biUnion (fun a => guK a.val a.isLt) = Finset.univ := by
  ext y; simp only [Finset.mem_biUnion, Finset.mem_univ, true_and, iff_true]; exact ⟨(y 0).cast (by rfl), by rw [guK_mem]; rfl⟩
theorem guD_set (m : ℕ) (hm : m + 1 ≤ 2) : (guD' (Memref.whole cc0_scoped2) m hm : Memref sig .tc .vmem _ _).view.set = guK m hm :=
  (View.set_reshape _ _).trans (View.set_slice_whole _ _)
theorem guD_free (m : ℕ) (hm : m + 1 ≤ 2) : Free (F := F) c (guD' (Memref.whole cc0_scoped2) m hm)
    = iprop(∃ f : Buf (Elt F) ((c : Thread nD τ).loc cc0_scoped2), ((c : Thread nD τ).loc cc0_scoped2) ↦[guK m hm]{fullShare} f) :=
  congrArg (fun K => iprop(∃ f : Buf (Elt F) ((c : Thread nD τ).loc cc0_scoped2), ((c : Thread nD τ).loc cc0_scoped2) ↦[K]{fullShare} f)) (guD_set m hm)
theorem gu_slots : Some (F := F) c cc0_scoped2 ⊣⊢ iprop(Free (F := F) c (guD (Memref.whole cc0_scoped2) 0) ∗ Free (F := F) c (guD (Memref.whole cc0_scoped2) 1)) := by
  have h := some_two (F := F) c (r := cc0_scoped2) (fun a => guK a.val a.isLt) guK_disjoint guK_cover
  have e : ∀ a : Fin 2, Free (F := F) c (guD (Memref.whole cc0_scoped2) a.val) = iprop(∃ f : Buf (Elt F) ((c : Thread nD τ).loc cc0_scoped2), ((c : Thread nD τ).loc cc0_scoped2) ↦[guK a.val a.isLt]{fullShare} f) := by
    intro a
    fin_cases a
    · exact guD_free c 0 (by decide)
    · exact guD_free c 1 (by decide)
  have e0 := e 0
  have e1 := e 1
  exact (h.trans (BIBase.BiEntails.of_eq (by rw [show Free (F := F) c (guD (Memref.whole cc0_scoped2) 0) = _ from e0, show Free (F := F) c (guD (Memref.whole cc0_scoped2) 1) = _ from e1])))
theorem guS_0 : guS cc0_scoped3 0 = (⟨6, by decide⟩ : Fin 16) := by decide +kernel
theorem guS_1 : guS cc0_scoped3 1 = (⟨7, by decide⟩ : Fin 16) := by decide +kernel

section
variable (A : Buf (Elt F) ((c : Thread nD τ).loc main_arg4))
abbrev guW (j : ℕ) : sProp 𝕄 := guFree c (Memref.whole cc0_scoped2) cc0_scoped3 (Memref.whole main_arg4) A j
theorem guW_eq (j : ℕ) : guW c A j = iprop(Free (F := F) c (guD (Memref.whole cc0_scoped2) j) ∗ Zero (F := F) c (guS cc0_scoped3 j) ∗ (((c : Thread nD τ).loc main_arg4) ↦{guQ j} A)) :=
  congrArg (fun K => iprop(Free (F := F) c (guD (Memref.whole cc0_scoped2) j) ∗ Zero (F := F) c (guS cc0_scoped3 j) ∗ (((c : Thread nD τ).loc main_arg4) ↦[K]{guQ j} A))) (View.set_whole main_arg4)
theorem gu_open : iprop(Some (F := F) c cc0_scoped2 ∗ (Zero (F := F) c (⟨6, by decide⟩ : Fin 16) ∗ Zero (F := F) c (⟨7, by decide⟩ : Fin 16)) ∗ (((c : Thread nD τ).loc main_arg4) ↦{fullShare} A)) ⊢ iprop((((c : Thread nD τ).loc main_arg4) ↦{Transfers.shareDrop fullShare 2} A) ∗ guW c A 0 ∗ guW c A 1) := by
  rw [guW_eq c A 0, guW_eq c A 1, guS_0, guS_1]
  have h1 := (gu_slots (F := F) c).1
  have h2 := (toks_two A).1
  iintro ⟨H, ⟨Z0, Z1⟩, HA⟩
  ihave H := h1 $$ H
  icases H with ⟨F0, F1⟩
  ihave HA := h2 $$ HA
  icases HA with ⟨HD, A0, A1⟩
  isplitl [HD]; · iexact HD
  isplitl [F0 Z0 A0]
  · isplitl [F0]; · iexact F0
    isplitl [Z0]; · iexact Z0
    iexact A0
  isplitl [F1]; · iexact F1
  isplitl [Z1]; · iexact Z1
  iexact A1
theorem gu_close : iprop((((c : Thread nD τ).loc main_arg4) ↦{Transfers.shareDrop fullShare 2} A) ∗ guW c A 0 ∗ guW c A 1) ⊢ iprop(Some (F := F) c cc0_scoped2 ∗ (Zero (F := F) c (⟨6, by decide⟩ : Fin 16) ∗ Zero (F := F) c (⟨7, by decide⟩ : Fin 16)) ∗ (((c : Thread nD τ).loc main_arg4) ↦{fullShare} A)) := by
  rw [guW_eq c A 0, guW_eq c A 1, guS_0, guS_1]
  have h1 := (gu_slots (F := F) c).2
  have h2 := (toks_two A).2
  iintro ⟨HD, ⟨F0, Z0, A0⟩, ⟨F1, Z1, A1⟩⟩
  isplitl [F0 F1]
  · iapply h1
    isplitl [F0]; · iexact F0
    iexact F1
  isplitl [Z0 Z1]
  · isplitl [Z0]; · iexact Z0
    iexact Z1
  iapply h2
  isplitl [HD]; · iexact HD
  isplitl [A0]; · iexact A0
  iexact A1
end

/-! ## The window `bg` -/

def bgK (m : ℕ) (hm : m + 1 ≤ 2) : Finset S2x1x1x2048.Idx := (Rect.unit (s := S2x1x1x2048) ![m, 0, 0, 0] S1x1x1x2048.size (inb4 (a := m) rfl hm (by decide) (by decide) (by decide))).set
theorem bgK_mem (m : ℕ) (hm : m + 1 ≤ 2) (y : S2x1x1x2048.Idx) : y ∈ bgK m hm ↔ (y 0).val = m :=
  mem_slot (S := S2x1x1x2048) (0 : Fin 4) rfl rfl (by
    intro a ha; fin_cases a
    · exact absurd rfl ha
    · exact ⟨rfl, rfl⟩
    · exact ⟨rfl, rfl⟩
    · exact ⟨rfl, rfl⟩
  ) y
theorem bgK_disjoint (a b : Fin 2) (h : a ≠ b) : Disjoint (bgK a.val a.isLt) (bgK b.val b.isLt) := by
  rw [Finset.disjoint_left]; intro y h1 h2; rw [bgK_mem] at h1 h2; exact h (Fin.ext (h1.symm.trans h2))
theorem bgK_cover : (Finset.univ : Finset (Fin 2)).biUnion (fun a => bgK a.val a.isLt) = Finset.univ := by
  ext y; simp only [Finset.mem_biUnion, Finset.mem_univ, true_and, iff_true]; exact ⟨(y 0).cast (by rfl), by rw [bgK_mem]; rfl⟩
theorem bgD_set (m : ℕ) (hm : m + 1 ≤ 2) : (bgD' (Memref.whole cc0_scoped4) m hm : Memref sig .tc .vmem _ _).view.set = bgK m hm :=
  (View.set_reshape _ _).trans (View.set_slice_whole _ _)
theorem bgD_free (m : ℕ) (hm : m + 1 ≤ 2) : Free (F := F) c (bgD' (Memref.whole cc0_scoped4) m hm)
    = iprop(∃ f : Buf (Elt F) ((c : Thread nD τ).loc cc0_scoped4), ((c : Thread nD τ).loc cc0_scoped4) ↦[bgK m hm]{fullShare} f) :=
  congrArg (fun K => iprop(∃ f : Buf (Elt F) ((c : Thread nD τ).loc cc0_scoped4), ((c : Thread nD τ).loc cc0_scoped4) ↦[K]{fullShare} f)) (bgD_set m hm)
theorem bg_slots : Some (F := F) c cc0_scoped4 ⊣⊢ iprop(Free (F := F) c (bgD (Memref.whole cc0_scoped4) 0) ∗ Free (F := F) c (bgD (Memref.whole cc0_scoped4) 1)) := by
  have h := some_two (F := F) c (r := cc0_scoped4) (fun a => bgK a.val a.isLt) bgK_disjoint bgK_cover
  have e : ∀ a : Fin 2, Free (F := F) c (bgD (Memref.whole cc0_scoped4) a.val) = iprop(∃ f : Buf (Elt F) ((c : Thread nD τ).loc cc0_scoped4), ((c : Thread nD τ).loc cc0_scoped4) ↦[bgK a.val a.isLt]{fullShare} f) := by
    intro a
    fin_cases a
    · exact bgD_free c 0 (by decide)
    · exact bgD_free c 1 (by decide)
  have e0 := e 0
  have e1 := e 1
  exact (h.trans (BIBase.BiEntails.of_eq (by rw [show Free (F := F) c (bgD (Memref.whole cc0_scoped4) 0) = _ from e0, show Free (F := F) c (bgD (Memref.whole cc0_scoped4) 1) = _ from e1])))
theorem bgS_0 : bgS cc0_scoped5 0 = (⟨8, by decide⟩ : Fin 16) := by decide +kernel
theorem bgS_1 : bgS cc0_scoped5 1 = (⟨9, by decide⟩ : Fin 16) := by decide +kernel

section
variable (A : Buf (Elt F) ((c : Thread nD τ).loc main_v0))
abbrev bgW (j : ℕ) : sProp 𝕄 := bgFree c (Memref.whole cc0_scoped4) cc0_scoped5 (Memref.whole main_v0) A j
theorem bgW_eq (j : ℕ) : bgW c A j = iprop(Free (F := F) c (bgD (Memref.whole cc0_scoped4) j) ∗ Zero (F := F) c (bgS cc0_scoped5 j) ∗ (((c : Thread nD τ).loc main_v0) ↦{bgQ j} A)) :=
  congrArg (fun K => iprop(Free (F := F) c (bgD (Memref.whole cc0_scoped4) j) ∗ Zero (F := F) c (bgS cc0_scoped5 j) ∗ (((c : Thread nD τ).loc main_v0) ↦[K]{bgQ j} A))) (View.set_whole main_v0)
theorem bg_open : iprop(Some (F := F) c cc0_scoped4 ∗ (Zero (F := F) c (⟨8, by decide⟩ : Fin 16) ∗ Zero (F := F) c (⟨9, by decide⟩ : Fin 16)) ∗ (((c : Thread nD τ).loc main_v0) ↦{fullShare} A)) ⊢ iprop((((c : Thread nD τ).loc main_v0) ↦{Transfers.shareDrop fullShare 2} A) ∗ bgW c A 0 ∗ bgW c A 1) := by
  rw [bgW_eq c A 0, bgW_eq c A 1, bgS_0, bgS_1]
  have h1 := (bg_slots (F := F) c).1
  have h2 := (toks_two A).1
  iintro ⟨H, ⟨Z0, Z1⟩, HA⟩
  ihave H := h1 $$ H
  icases H with ⟨F0, F1⟩
  ihave HA := h2 $$ HA
  icases HA with ⟨HD, A0, A1⟩
  isplitl [HD]; · iexact HD
  isplitl [F0 Z0 A0]
  · isplitl [F0]; · iexact F0
    isplitl [Z0]; · iexact Z0
    iexact A0
  isplitl [F1]; · iexact F1
  isplitl [Z1]; · iexact Z1
  iexact A1
theorem bg_close : iprop((((c : Thread nD τ).loc main_v0) ↦{Transfers.shareDrop fullShare 2} A) ∗ bgW c A 0 ∗ bgW c A 1) ⊢ iprop(Some (F := F) c cc0_scoped4 ∗ (Zero (F := F) c (⟨8, by decide⟩ : Fin 16) ∗ Zero (F := F) c (⟨9, by decide⟩ : Fin 16)) ∗ (((c : Thread nD τ).loc main_v0) ↦{fullShare} A)) := by
  rw [bgW_eq c A 0, bgW_eq c A 1, bgS_0, bgS_1]
  have h1 := (bg_slots (F := F) c).2
  have h2 := (toks_two A).2
  iintro ⟨HD, ⟨F0, Z0, A0⟩, ⟨F1, Z1, A1⟩⟩
  isplitl [F0 F1]
  · iapply h1
    isplitl [F0]; · iexact F0
    iexact F1
  isplitl [Z0 Z1]
  · isplitl [Z0]; · iexact Z0
    iexact Z1
  iapply h2
  isplitl [HD]; · iexact HD
  isplitl [A0]; · iexact A0
  iexact A1
end

/-! ## The window `wd` -/

def wdK (m : ℕ) (hm : m + 1 ≤ 2) : Finset S2x1x1024x1024.Idx := (Rect.unit (s := S2x1x1024x1024) ![m, 0, 0, 0] S1x1x1024x1024.size (inb4 (a := m) rfl hm (by decide) (by decide) (by decide))).set
theorem wdK_mem (m : ℕ) (hm : m + 1 ≤ 2) (y : S2x1x1024x1024.Idx) : y ∈ wdK m hm ↔ (y 0).val = m :=
  mem_slot (S := S2x1x1024x1024) (0 : Fin 4) rfl rfl (by
    intro a ha; fin_cases a
    · exact absurd rfl ha
    · exact ⟨rfl, rfl⟩
    · exact ⟨rfl, rfl⟩
    · exact ⟨rfl, rfl⟩
  ) y
theorem wdK_disjoint (a b : Fin 2) (h : a ≠ b) : Disjoint (wdK a.val a.isLt) (wdK b.val b.isLt) := by
  rw [Finset.disjoint_left]; intro y h1 h2; rw [wdK_mem] at h1 h2; exact h (Fin.ext (h1.symm.trans h2))
theorem wdK_cover : (Finset.univ : Finset (Fin 2)).biUnion (fun a => wdK a.val a.isLt) = Finset.univ := by
  ext y; simp only [Finset.mem_biUnion, Finset.mem_univ, true_and, iff_true]; exact ⟨(y 0).cast (by rfl), by rw [wdK_mem]; rfl⟩
theorem wdD_set (m : ℕ) (hm : m + 1 ≤ 2) : (wdD' (Memref.whole cc0_scoped6) m hm : Memref sig .tc .vmem _ _).view.set = wdK m hm :=
  (View.set_reshape _ _).trans (View.set_slice_whole _ _)
theorem wdD_free (m : ℕ) (hm : m + 1 ≤ 2) : Free (F := F) c (wdD' (Memref.whole cc0_scoped6) m hm)
    = iprop(∃ f : Buf (Elt F) ((c : Thread nD τ).loc cc0_scoped6), ((c : Thread nD τ).loc cc0_scoped6) ↦[wdK m hm]{fullShare} f) :=
  congrArg (fun K => iprop(∃ f : Buf (Elt F) ((c : Thread nD τ).loc cc0_scoped6), ((c : Thread nD τ).loc cc0_scoped6) ↦[K]{fullShare} f)) (wdD_set m hm)
theorem wd_slots : Some (F := F) c cc0_scoped6 ⊣⊢ iprop(Free (F := F) c (wdD (Memref.whole cc0_scoped6) 0) ∗ Free (F := F) c (wdD (Memref.whole cc0_scoped6) 1)) := by
  have h := some_two (F := F) c (r := cc0_scoped6) (fun a => wdK a.val a.isLt) wdK_disjoint wdK_cover
  have e : ∀ a : Fin 2, Free (F := F) c (wdD (Memref.whole cc0_scoped6) a.val) = iprop(∃ f : Buf (Elt F) ((c : Thread nD τ).loc cc0_scoped6), ((c : Thread nD τ).loc cc0_scoped6) ↦[wdK a.val a.isLt]{fullShare} f) := by
    intro a
    fin_cases a
    · exact wdD_free c 0 (by decide)
    · exact wdD_free c 1 (by decide)
  have e0 := e 0
  have e1 := e 1
  exact (h.trans (BIBase.BiEntails.of_eq (by rw [show Free (F := F) c (wdD (Memref.whole cc0_scoped6) 0) = _ from e0, show Free (F := F) c (wdD (Memref.whole cc0_scoped6) 1) = _ from e1])))
theorem wdS_0 : wdS cc0_scoped7 0 = (⟨10, by decide⟩ : Fin 16) := by decide +kernel
theorem wdS_1 : wdS cc0_scoped7 1 = (⟨11, by decide⟩ : Fin 16) := by decide +kernel

section
variable (A : Buf (Elt F) ((c : Thread nD τ).loc main_arg6))
abbrev wdW (j : ℕ) : sProp 𝕄 := wdFree c (Memref.whole cc0_scoped6) cc0_scoped7 (Memref.whole main_arg6) A j
theorem wdW_eq (j : ℕ) : wdW c A j = iprop(Free (F := F) c (wdD (Memref.whole cc0_scoped6) j) ∗ Zero (F := F) c (wdS cc0_scoped7 j) ∗ (((c : Thread nD τ).loc main_arg6) ↦{wdQ j} A)) :=
  congrArg (fun K => iprop(Free (F := F) c (wdD (Memref.whole cc0_scoped6) j) ∗ Zero (F := F) c (wdS cc0_scoped7 j) ∗ (((c : Thread nD τ).loc main_arg6) ↦[K]{wdQ j} A))) (View.set_whole main_arg6)
theorem wd_open : iprop(Some (F := F) c cc0_scoped6 ∗ (Zero (F := F) c (⟨10, by decide⟩ : Fin 16) ∗ Zero (F := F) c (⟨11, by decide⟩ : Fin 16)) ∗ (((c : Thread nD τ).loc main_arg6) ↦{fullShare} A)) ⊢ iprop((((c : Thread nD τ).loc main_arg6) ↦{Transfers.shareDrop fullShare 2} A) ∗ wdW c A 0 ∗ wdW c A 1) := by
  rw [wdW_eq c A 0, wdW_eq c A 1, wdS_0, wdS_1]
  have h1 := (wd_slots (F := F) c).1
  have h2 := (toks_two A).1
  iintro ⟨H, ⟨Z0, Z1⟩, HA⟩
  ihave H := h1 $$ H
  icases H with ⟨F0, F1⟩
  ihave HA := h2 $$ HA
  icases HA with ⟨HD, A0, A1⟩
  isplitl [HD]; · iexact HD
  isplitl [F0 Z0 A0]
  · isplitl [F0]; · iexact F0
    isplitl [Z0]; · iexact Z0
    iexact A0
  isplitl [F1]; · iexact F1
  isplitl [Z1]; · iexact Z1
  iexact A1
theorem wd_close : iprop((((c : Thread nD τ).loc main_arg6) ↦{Transfers.shareDrop fullShare 2} A) ∗ wdW c A 0 ∗ wdW c A 1) ⊢ iprop(Some (F := F) c cc0_scoped6 ∗ (Zero (F := F) c (⟨10, by decide⟩ : Fin 16) ∗ Zero (F := F) c (⟨11, by decide⟩ : Fin 16)) ∗ (((c : Thread nD τ).loc main_arg6) ↦{fullShare} A)) := by
  rw [wdW_eq c A 0, wdW_eq c A 1, wdS_0, wdS_1]
  have h1 := (wd_slots (F := F) c).2
  have h2 := (toks_two A).2
  iintro ⟨HD, ⟨F0, Z0, A0⟩, ⟨F1, Z1, A1⟩⟩
  isplitl [F0 F1]
  · iapply h1
    isplitl [F0]; · iexact F0
    iexact F1
  isplitl [Z0 Z1]
  · isplitl [Z0]; · iexact Z0
    iexact Z1
  iapply h2
  isplitl [HD]; · iexact HD
  isplitl [A0]; · iexact A0
  iexact A1
end

/-! ## The window `bd` -/

def bdK (m : ℕ) (hm : m + 1 ≤ 2) : Finset S2x1x1x1024.Idx := (Rect.unit (s := S2x1x1x1024) ![m, 0, 0, 0] S1x1x1x1024.size (inb4 (a := m) rfl hm (by decide) (by decide) (by decide))).set
theorem bdK_mem (m : ℕ) (hm : m + 1 ≤ 2) (y : S2x1x1x1024.Idx) : y ∈ bdK m hm ↔ (y 0).val = m :=
  mem_slot (S := S2x1x1x1024) (0 : Fin 4) rfl rfl (by
    intro a ha; fin_cases a
    · exact absurd rfl ha
    · exact ⟨rfl, rfl⟩
    · exact ⟨rfl, rfl⟩
    · exact ⟨rfl, rfl⟩
  ) y
theorem bdK_disjoint (a b : Fin 2) (h : a ≠ b) : Disjoint (bdK a.val a.isLt) (bdK b.val b.isLt) := by
  rw [Finset.disjoint_left]; intro y h1 h2; rw [bdK_mem] at h1 h2; exact h (Fin.ext (h1.symm.trans h2))
theorem bdK_cover : (Finset.univ : Finset (Fin 2)).biUnion (fun a => bdK a.val a.isLt) = Finset.univ := by
  ext y; simp only [Finset.mem_biUnion, Finset.mem_univ, true_and, iff_true]; exact ⟨(y 0).cast (by rfl), by rw [bdK_mem]; rfl⟩
theorem bdD_set (m : ℕ) (hm : m + 1 ≤ 2) : (bdD' (Memref.whole cc0_scoped8) m hm : Memref sig .tc .vmem _ _).view.set = bdK m hm :=
  (View.set_reshape _ _).trans (View.set_slice_whole _ _)
theorem bdD_free (m : ℕ) (hm : m + 1 ≤ 2) : Free (F := F) c (bdD' (Memref.whole cc0_scoped8) m hm)
    = iprop(∃ f : Buf (Elt F) ((c : Thread nD τ).loc cc0_scoped8), ((c : Thread nD τ).loc cc0_scoped8) ↦[bdK m hm]{fullShare} f) :=
  congrArg (fun K => iprop(∃ f : Buf (Elt F) ((c : Thread nD τ).loc cc0_scoped8), ((c : Thread nD τ).loc cc0_scoped8) ↦[K]{fullShare} f)) (bdD_set m hm)
theorem bd_slots : Some (F := F) c cc0_scoped8 ⊣⊢ iprop(Free (F := F) c (bdD (Memref.whole cc0_scoped8) 0) ∗ Free (F := F) c (bdD (Memref.whole cc0_scoped8) 1)) := by
  have h := some_two (F := F) c (r := cc0_scoped8) (fun a => bdK a.val a.isLt) bdK_disjoint bdK_cover
  have e : ∀ a : Fin 2, Free (F := F) c (bdD (Memref.whole cc0_scoped8) a.val) = iprop(∃ f : Buf (Elt F) ((c : Thread nD τ).loc cc0_scoped8), ((c : Thread nD τ).loc cc0_scoped8) ↦[bdK a.val a.isLt]{fullShare} f) := by
    intro a
    fin_cases a
    · exact bdD_free c 0 (by decide)
    · exact bdD_free c 1 (by decide)
  have e0 := e 0
  have e1 := e 1
  exact (h.trans (BIBase.BiEntails.of_eq (by rw [show Free (F := F) c (bdD (Memref.whole cc0_scoped8) 0) = _ from e0, show Free (F := F) c (bdD (Memref.whole cc0_scoped8) 1) = _ from e1])))
theorem bdS_0 : bdS cc0_scoped9 0 = (⟨12, by decide⟩ : Fin 16) := by decide +kernel
theorem bdS_1 : bdS cc0_scoped9 1 = (⟨13, by decide⟩ : Fin 16) := by decide +kernel

section
variable (A : Buf (Elt F) ((c : Thread nD τ).loc main_v1))
abbrev bdW (j : ℕ) : sProp 𝕄 := bdFree c (Memref.whole cc0_scoped8) cc0_scoped9 (Memref.whole main_v1) A j
theorem bdW_eq (j : ℕ) : bdW c A j = iprop(Free (F := F) c (bdD (Memref.whole cc0_scoped8) j) ∗ Zero (F := F) c (bdS cc0_scoped9 j) ∗ (((c : Thread nD τ).loc main_v1) ↦{bdQ j} A)) :=
  congrArg (fun K => iprop(Free (F := F) c (bdD (Memref.whole cc0_scoped8) j) ∗ Zero (F := F) c (bdS cc0_scoped9 j) ∗ (((c : Thread nD τ).loc main_v1) ↦[K]{bdQ j} A))) (View.set_whole main_v1)
theorem bd_open : iprop(Some (F := F) c cc0_scoped8 ∗ (Zero (F := F) c (⟨12, by decide⟩ : Fin 16) ∗ Zero (F := F) c (⟨13, by decide⟩ : Fin 16)) ∗ (((c : Thread nD τ).loc main_v1) ↦{fullShare} A)) ⊢ iprop((((c : Thread nD τ).loc main_v1) ↦{Transfers.shareDrop fullShare 2} A) ∗ bdW c A 0 ∗ bdW c A 1) := by
  rw [bdW_eq c A 0, bdW_eq c A 1, bdS_0, bdS_1]
  have h1 := (bd_slots (F := F) c).1
  have h2 := (toks_two A).1
  iintro ⟨H, ⟨Z0, Z1⟩, HA⟩
  ihave H := h1 $$ H
  icases H with ⟨F0, F1⟩
  ihave HA := h2 $$ HA
  icases HA with ⟨HD, A0, A1⟩
  isplitl [HD]; · iexact HD
  isplitl [F0 Z0 A0]
  · isplitl [F0]; · iexact F0
    isplitl [Z0]; · iexact Z0
    iexact A0
  isplitl [F1]; · iexact F1
  isplitl [Z1]; · iexact Z1
  iexact A1
theorem bd_close : iprop((((c : Thread nD τ).loc main_v1) ↦{Transfers.shareDrop fullShare 2} A) ∗ bdW c A 0 ∗ bdW c A 1) ⊢ iprop(Some (F := F) c cc0_scoped8 ∗ (Zero (F := F) c (⟨12, by decide⟩ : Fin 16) ∗ Zero (F := F) c (⟨13, by decide⟩ : Fin 16)) ∗ (((c : Thread nD τ).loc main_v1) ↦{fullShare} A)) := by
  rw [bdW_eq c A 0, bdW_eq c A 1, bdS_0, bdS_1]
  have h1 := (bd_slots (F := F) c).2
  have h2 := (toks_two A).2
  iintro ⟨HD, ⟨F0, Z0, A0⟩, ⟨F1, Z1, A1⟩⟩
  isplitl [F0 F1]
  · iapply h1
    isplitl [F0]; · iexact F0
    iexact F1
  isplitl [Z0 Z1]
  · isplitl [Z0]; · iexact Z0
    iexact Z1
  iapply h2
  isplitl [HD]; · iexact HD
  isplitl [A0]; · iexact A0
  iexact A1
end

/-! ## The window `ou` -/

def ouK (m : ℕ) (hm : m + 1 ≤ 2) : Finset S2x2048x128.Idx := (Rect.unit (s := S2x2048x128) ![m, 0, 0] S1x2048x128.size (inb3 (a := m) rfl hm (by decide) (by decide))).set
theorem ouK_mem (m : ℕ) (hm : m + 1 ≤ 2) (y : S2x2048x128.Idx) : y ∈ ouK m hm ↔ (y 0).val = m :=
  mem_slot (S := S2x2048x128) (0 : Fin 3) rfl rfl (by
    intro a ha; fin_cases a
    · exact absurd rfl ha
    · exact ⟨rfl, rfl⟩
    · exact ⟨rfl, rfl⟩
  ) y
theorem ouK_disjoint (a b : Fin 2) (h : a ≠ b) : Disjoint (ouK a.val a.isLt) (ouK b.val b.isLt) := by
  rw [Finset.disjoint_left]; intro y h1 h2; rw [ouK_mem] at h1 h2; exact h (Fin.ext (h1.symm.trans h2))
theorem ouK_cover : (Finset.univ : Finset (Fin 2)).biUnion (fun a => ouK a.val a.isLt) = Finset.univ := by
  ext y; simp only [Finset.mem_biUnion, Finset.mem_univ, true_and, iff_true]; exact ⟨(y 0).cast (by rfl), by rw [ouK_mem]; rfl⟩
theorem ouD_set (m : ℕ) (hm : m + 1 ≤ 2) : (ouD' (Memref.whole cc0_scoped10) m hm : Memref sig .tc .vmem _ _).view.set = ouK m hm :=
  (View.set_reshape _ _).trans (View.set_slice_whole _ _)
theorem ouD_free (m : ℕ) (hm : m + 1 ≤ 2) : Free (F := F) c (ouD' (Memref.whole cc0_scoped10) m hm)
    = iprop(∃ f : Buf (Elt F) ((c : Thread nD τ).loc cc0_scoped10), ((c : Thread nD τ).loc cc0_scoped10) ↦[ouK m hm]{fullShare} f) :=
  congrArg (fun K => iprop(∃ f : Buf (Elt F) ((c : Thread nD τ).loc cc0_scoped10), ((c : Thread nD τ).loc cc0_scoped10) ↦[K]{fullShare} f)) (ouD_set m hm)
theorem ou_slots : Some (F := F) c cc0_scoped10 ⊣⊢ iprop(Free (F := F) c (ouD (Memref.whole cc0_scoped10) 0) ∗ Free (F := F) c (ouD (Memref.whole cc0_scoped10) 1)) := by
  have h := some_two (F := F) c (r := cc0_scoped10) (fun a => ouK a.val a.isLt) ouK_disjoint ouK_cover
  have e : ∀ a : Fin 2, Free (F := F) c (ouD (Memref.whole cc0_scoped10) a.val) = iprop(∃ f : Buf (Elt F) ((c : Thread nD τ).loc cc0_scoped10), ((c : Thread nD τ).loc cc0_scoped10) ↦[ouK a.val a.isLt]{fullShare} f) := by
    intro a
    fin_cases a
    · exact ouD_free c 0 (by decide)
    · exact ouD_free c 1 (by decide)
  have e0 := e 0
  have e1 := e 1
  exact (h.trans (BIBase.BiEntails.of_eq (by rw [show Free (F := F) c (ouD (Memref.whole cc0_scoped10) 0) = _ from e0, show Free (F := F) c (ouD (Memref.whole cc0_scoped10) 1) = _ from e1])))
theorem ouS_0 : ouS cc0_scoped11 0 = (⟨14, by decide⟩ : Fin 16) := by decide +kernel
theorem ouS_1 : ouS cc0_scoped11 1 = (⟨15, by decide⟩ : Fin 16) := by decide +kernel

abbrev ouW (j : ℕ) : sProp 𝕄 := ouFree (F := F) c (Memref.whole cc0_scoped10) cc0_scoped11 j
theorem ouW_eq (j : ℕ) : ouW (F := F) c j = iprop(Free (F := F) c (ouD (Memref.whole cc0_scoped10) j) ∗ Zero (F := F) c (ouS cc0_scoped11 j)) := rfl
theorem ou_open : iprop(Some (F := F) c cc0_scoped10 ∗ (Zero (F := F) c (⟨14, by decide⟩ : Fin 16) ∗ Zero (F := F) c (⟨15, by decide⟩ : Fin 16))) ⊢ iprop(ouW (F := F) c 0 ∗ ouW (F := F) c 1) := by
  rw [ouW_eq c 0, ouW_eq c 1, ouS_0, ouS_1]
  have h1 := (ou_slots (F := F) c).1
  iintro ⟨H, ⟨Z0, Z1⟩⟩
  ihave H := h1 $$ H
  icases H with ⟨F0, F1⟩
  isplitl [F0 Z0]
  · isplitl [F0]; · iexact F0
    iexact Z0
  isplitl [F1]; · iexact F1
  iexact Z1
theorem ou_close : iprop(ouW (F := F) c 0 ∗ ouW (F := F) c 1) ⊢ iprop(Some (F := F) c cc0_scoped10 ∗ (Zero (F := F) c (⟨14, by decide⟩ : Fin 16) ∗ Zero (F := F) c (⟨15, by decide⟩ : Fin 16))) := by
  rw [ouW_eq c 0, ouW_eq c 1, ouS_0, ouS_1]
  have h1 := (ou_slots (F := F) c).2
  iintro ⟨⟨F0, Z0⟩, ⟨F1, Z1⟩⟩
  isplitl [F0 F1]
  · iapply h1
    isplitl [F0]; · iexact F0
    iexact F1
  isplitl [Z0]; · iexact Z0
  iexact Z1

/-! ## The result's blocks -/

theorem xsR_mem (b : Fin 288) (y : S589824x128.Idx) : y ∈ (xsR b.val).set ↔ (y 0).val / 2048 = b.val := by
  rw [Rect.mem_set_unit]
  have hb : b.val % 288 = b.val := Nat.mod_eq_of_lt b.isLt
  have h1 : (y 1).val < 128 := (y 1).isLt
  constructor
  · intro H
    have a0 : 2048 * (b.val % 288) ≤ (y 0).val ∧ (y 0).val < 2048 * (b.val % 288) + 2048 := H 0
    omega
  · intro H i; fin_cases i
    · show 2048 * (b.val % 288) ≤ (y 0).val ∧ (y 0).val < 2048 * (b.val % 288) + 2048; omega
    · show 0 ≤ (y 1).val ∧ (y 1).val < 0 + 128; omega
theorem xsR_disjoint (a b : Fin 288) (h : a ≠ b) : Disjoint (xsR a.val).set (xsR b.val).set := by
  rw [Finset.disjoint_left]; intro y h1 h2; rw [xsR_mem] at h1 h2; exact h (Fin.ext (h1.symm.trans h2))
theorem xsR_cover : (Finset.univ : Finset (Fin 288)).biUnion (fun a => (xsR a.val).set) = Finset.univ := by
  ext y; simp only [Finset.mem_biUnion, Finset.mem_univ, true_and, iff_true]
  have h : (y 0).val < 589824 := (y 0).isLt
  exact ⟨⟨(y 0).val / 2048, by omega⟩, by rw [xsR_mem]⟩

/-- The result as a whole, from its blocks. -/
def gather (Yb : ℕ → S2048x128.Idx → Elt F .i32) : S589824x128.Idx → Elt F .i32 := fun i =>
  Yb ((i 0).val / 2048) (fun a => if h : a = 0 then ⟨(i 0).val % 2048, by subst h; exact Nat.mod_lt _ (by decide)⟩
    else ⟨(i a).val, by
      have : a = 1 := by fin_cases a; exact absurd rfl h; rfl
      subst this; exact (i 1).isLt⟩)

theorem gather_emb (Yb : ℕ → S2048x128.Idx → Elt F .i32) (b : Fin 288) (j : S2048x128.Idx) : gather Yb ((xsR b.val).emb j) = Yb b.val j := by
  have hb : b.val % 288 = b.val := Nat.mod_eq_of_lt b.isLt
  have h0 : ((xsR b.val).emb j 0).val = 2048 * (b.val % 288) + 1 * (j 0).val := rfl
  have h1 : ((xsR b.val).emb j 1).val = 0 + 1 * (j 1).val := rfl
  have hj : (j 0).val < 2048 := (j 0).isLt
  unfold gather
  rw [show ((xsR b.val).emb j 0).val / 2048 = b.val by omega]
  congr 1
  funext a
  fin_cases a
  · exact Fin.ext (show ((xsR b.val).emb j 0).val % 2048 = (j 0).val by omega)
  · exact Fin.ext (show ((xsR b.val).emb j 1).val = (j 1).val by omega)

theorem owns_some {sp} {s : Shape} {e} (a : Memref sig .tc sp s e) (X : s.Idx → Elt F e) :
    owns (c : Thread nD τ) a fullShare X ⊢ (iprop(∃ f : Buf (Elt F) (a.view.loc (c : Thread nD τ)), a.view.loc (c : Thread nD τ) ↦[a.view.set]{fullShare} f) : sProp 𝕄) := by
  unfold owns
  iintro ⟨%g, -, H⟩
  iexists g; iexact H

theorem raw_all (f : Buf (Elt F) ((c : Thread nD τ).loc main_v2)) : (((c : Thread nD τ).loc main_v2) ↦{fullShare} f : sProp 𝕄)
    ⊢ bigSep (Finset.range 288) (fun b => ouRaw (F := F) c (Memref.whole main_v2) b) := by
  have h := pointsTo_rects (Ix := Unit) (Name := ℕ) (U := UU nD τ) (Lvl := ℕ) (c : Thread nD τ) (Memref.whole main_v2) fullShare (fun b : Fin 288 => xsR b.val) (fun _ _ => rfl) xsR_disjoint xsR_cover f
  have e := Ring.bigSep_fin_eq_range 288 (fun b : Fin 288 => ouRaw (F := F) c (Memref.whole main_v2) b.val) _ (fun _ _ => rfl)
  rw [← e]
  refine BIBase.Entails.trans (BIBase.Entails.of_eq ((congrArg (fun K => (((c : Thread nD τ).loc main_v2) ↦[K]{fullShare} f : sProp 𝕄)) (View.set_whole main_v2).symm).trans h)) ?_
  exact bigSep_mono fun b _ => owns_some (F := F) c (ouB (Memref.whole main_v2) b.val) _

theorem done_all (Yb : ℕ → S2048x128.Idx → Elt F .i32) : bigSep (Finset.range 288) (fun b => ouDone (F := F) c (Memref.whole main_v2) b (Yb b))
    ⊢ (((c : Thread nD τ).loc main_v2) ↦{fullShare} (gather Yb : Buf (Elt F) ((c : Thread nD τ).loc main_v2)) : sProp 𝕄) := by
  have e := Ring.bigSep_fin_eq_range 288 (fun b : Fin 288 => ouDone (F := F) c (Memref.whole main_v2) b.val (Yb b.val)) (fun b => ouDone (F := F) c (Memref.whole main_v2) b (Yb b)) (fun _ _ => rfl)
  rw [← e]
  have h := owns_of_rects (Ix := Unit) (Name := ℕ) (U := UU nD τ) (Lvl := ℕ) (Val := Elt F) (c : Thread nD τ) (Memref.whole main_v2) fullShare (fun b : Fin 288 => xsR b.val) (fun _ _ => rfl) xsR_disjoint xsR_cover (gather Yb)
  have e2 : (bigSep Finset.univ (fun b : Fin 288 => ouDone (F := F) c (Memref.whole main_v2) b.val (Yb b.val)) : sProp 𝕄)
      = bigSep Finset.univ (fun t : Fin 288 => owns (c : Thread nD τ) ((Memref.whole main_v2).slice (xsR t.val) (fun _ => rfl)) fullShare (fun j => gather Yb ((xsR t.val).emb j))) :=
    bigSep_congr fun b _ => congrArg (fun Z => owns (c : Thread nD τ) ((Memref.whole main_v2).slice (xsR b.val) (fun _ => rfl)) fullShare Z) (funext fun j => (gather_emb Yb b j).symm)
  rw [e2]
  refine h.trans ?_
  rw [owns_whole_eq]
  iintro ⟨%f, %hf, H⟩
  subst hf
  iexact H

end Cert.Proof.Experts

end
-- ==== Proof.Experts.Launch.lean ====
/-
  The data of the launch and its one body.
-/
module

public import proofs.«01_k».proof.Proof.Experts.Main
public import proofs.«01_k».proof.Proof.Experts.Split
public import proofs.«01_k».proof.Proof.Gen.Kernel.Frame
public import Idealize.ShloMosaic.Lib.Pipeline.KitQuiescent

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable (c : Dev nD)

theorem owns_tab {n : ℕ} (a : Memref sig .tc .smem ⟨1, ![n]⟩ .i32) (X : Shape.Idx ⟨1, ![n]⟩ → Elt F .i32) (B : ℕ → BitVec 32) (h : ∀ x, X x = B (x 0).val) :
    (owns (c : Thread nD τ) a fullShare X : sProp 𝕄) = Tab (F := F) c a B := by
  unfold owns Tab
  congr 1
  funext f
  congr 2
  exact propext ⟨fun e x => (congrFun e x).trans (h x), fun e => funext fun x => (e x).trans (h x).symm⟩

/-! ## The launch's own cells -/

def osem : Fin 13 → SemLoc sig := fun i => SemLoc.dma (⟨i.val + 3, by have := i.isLt; omega⟩ : Fin 16)
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(Zero (F := F) c (⟨3, by decide⟩ : Fin 16) ∗ Zero (F := F) c (⟨4, by decide⟩ : Fin 16) ∗ Zero (F := F) c (⟨5, by decide⟩ : Fin 16) ∗ Zero (F := F) c (⟨6, by decide⟩ : Fin 16) ∗ Zero (F := F) c (⟨7, by decide⟩ : Fin 16) ∗ Zero (F := F) c (⟨8, by decide⟩ : Fin 16) ∗ Zero (F := F) c (⟨9, by decide⟩ : Fin 16) ∗ Zero (F := F) c (⟨10, by decide⟩ : Fin 16) ∗ Zero (F := F) c (⟨11, by decide⟩ : Fin 16) ∗ Zero (F := F) c (⟨12, by decide⟩ : Fin 16) ∗ Zero (F := F) c (⟨13, by decide⟩ : Fin 16) ∗ Zero (F := F) c (⟨14, by decide⟩ : Fin 16) ∗ Zero (F := F) c (⟨15, by decide⟩ : Fin 16)) := by
  unfold Pipeline.ownSems0
  exact bigSep_univ_eq_bigSepL [(⟨0, by decide⟩ : Fin 13), (⟨1, by decide⟩ : Fin 13), (⟨2, by decide⟩ : Fin 13), (⟨3, by decide⟩ : Fin 13), (⟨4, by decide⟩ : Fin 13), (⟨5, by decide⟩ : Fin 13), (⟨6, by decide⟩ : Fin 13), (⟨7, by decide⟩ : Fin 13), (⟨8, by decide⟩ : Fin 13), (⟨9, by decide⟩ : Fin 13), (⟨10, by decide⟩ : Fin 13), (⟨11, by decide⟩ : Fin 13), (⟨12, by decide⟩ : Fin 13)] (by decide) (by decide) _

section
variable (X : Buf (Elt F) ((c : Thread nD τ).loc main_arg0)) (GU : Buf (Elt F) ((c : Thread nD τ).loc main_arg4)) (BG : Buf (Elt F) ((c : Thread nD τ).loc main_v0)) (WD : Buf (Elt F) ((c : Thread nD τ).loc main_arg6)) (BD : Buf (Elt F) ((c : Thread nD τ).loc main_v1))

/-- The five arrays the windows fetch from. -/
def arrs : sProp 𝕄 := iprop((((c : Thread nD τ).loc main_arg0) ↦{fullShare} X) ∗ (((c : Thread nD τ).loc main_arg4) ↦{fullShare} GU) ∗ (((c : Thread nD τ).loc main_v0) ↦{fullShare} BG) ∗ (((c : Thread nD τ).loc main_arg6) ↦{fullShare} WD) ∗ (((c : Thread nD τ).loc main_v1) ↦{fullShare} BD))
/-- What of their shares no slot holds. -/
def drops : sProp 𝕄 := iprop((((c : Thread nD τ).loc main_arg0) ↦{Transfers.shareDrop fullShare 3} X) ∗ (((c : Thread nD τ).loc main_arg4) ↦{Transfers.shareDrop fullShare 2} GU) ∗ (((c : Thread nD τ).loc main_v0) ↦{Transfers.shareDrop fullShare 2} BG) ∗ (((c : Thread nD τ).loc main_arg6) ↦{Transfers.shareDrop fullShare 2} WD) ∗ (((c : Thread nD τ).loc main_v1) ↦{Transfers.shareDrop fullShare 2} BD))
/-- Every slot at rest. -/
def kit : sProp 𝕄 := iprop((xsW c X 0 ∗ xsW c X 1 ∗ xsW c X 2) ∗ (guW c GU 0 ∗ guW c GU 1) ∗ (bgW c BG 0 ∗ bgW c BG 1) ∗ (wdW c WD 0 ∗ wdW c WD 1) ∗ (bdW c BD 0 ∗ bdW c BD 1) ∗ ouW (F := F) c 0 ∗ ouW (F := F) c 1)
/-- The buffers of the slots. -/
def bufs : sProp 𝕄 := iprop(Some (F := F) c cc0_scoped0 ∗ Some (F := F) c cc0_scoped2 ∗ Some (F := F) c cc0_scoped4 ∗ Some (F := F) c cc0_scoped6 ∗ Some (F := F) c cc0_scoped8 ∗ Some (F := F) c cc0_scoped10)

theorem kit_open : iprop(arrs c X GU BG WD BD ∗ (Pipeline.ownSems0 (Ix := Unit) (Name := ℕ) (U := UU nD τ) (Lvl := ℕ) (Val := Elt F) (τ := τ) osem c : sProp 𝕄) ∗ bufs (F := F) c)
    ⊢ iprop(drops c X GU BG WD BD ∗ kit c X GU BG WD BD) := by
  rw [ownSems0_eq]
  unfold arrs drops kit bufs
  have hxs := xs_open c X
  have hgu := gu_open c GU
  have hbg := bg_open c BG
  have hwd := wd_open c WD
  have hbd := bd_open c BD
  have hou := ou_open (F := F) c
  iintro ⟨⟨Axs, Agu, Abg, Awd, Abd⟩, ⟨Z3, Z4, Z5, Z6, Z7, Z8, Z9, Z10, Z11, Z12, Z13, Z14, Z15⟩, ⟨Bxs, Bgu, Bbg, Bwd, Bbd, Bou⟩⟩
  ihave Hxs := hxs $$ [Bxs Z3 Z4 Z5 Axs]
  · isplitl [Bxs]; · iexact Bxs
    isplitl [Z3 Z4 Z5]
    · isplitl [Z3]; · iexact Z3
      isplitl [Z4]; · iexact Z4
      iexact Z5
    iexact Axs
  icases Hxs with ⟨Dxs, xs0, xs1, xs2⟩
  ihave Hgu := hgu $$ [Bgu Z6 Z7 Agu]
  · isplitl [Bgu]; · iexact Bgu
    isplitl [Z6 Z7]
    · isplitl [Z6]; · iexact Z6
      iexact Z7
    iexact Agu
  icases Hgu with ⟨Dgu, gu0, gu1⟩
  ihave Hbg := hbg $$ [Bbg Z8 Z9 Abg]
  · isplitl [Bbg]; · iexact Bbg
    isplitl [Z8 Z9]
    · isplitl [Z8]; · iexact Z8
      iexact Z9
    iexact Abg
  icases Hbg with ⟨Dbg, bg0, bg1⟩
  ihave Hwd := hwd $$ [Bwd Z10 Z11 Awd]
  · isplitl [Bwd]; · iexact Bwd
    isplitl [Z10 Z11]
    · isplitl [Z10]; · iexact Z10
      iexact Z11
    iexact Awd
  icases Hwd with ⟨Dwd, wd0, wd1⟩
  ihave Hbd := hbd $$ [Bbd Z12 Z13 Abd]
  · isplitl [Bbd]; · iexact Bbd
    isplitl [Z12 Z13]
    · isplitl [Z12]; · iexact Z12
      iexact Z13
    iexact Abd
  icases Hbd with ⟨Dbd, bd0, bd1⟩
  ihave Hou := hou $$ [Bou Z14 Z15]
  · isplitl [Bou]; · iexact Bou
    isplitl [Z14]; · iexact Z14
    iexact Z15
  icases Hou with ⟨ou0, ou1⟩
  isplitl [Dxs Dgu Dbg Dwd Dbd]
  · isplitl [Dxs]; · iexact Dxs
    isplitl [Dgu]; · iexact Dgu
    isplitl [Dbg]; · iexact Dbg
    isplitl [Dwd]; · iexact Dwd
    iexact Dbd
  isplitl [xs0 xs1 xs2]
  · isplitl [xs0]; · iexact xs0
    isplitl [xs1]; · iexact xs1
    iexact xs2
  isplitl [gu0 gu1]
  · isplitl [gu0]; · iexact gu0
    iexact gu1
  isplitl [bg0 bg1]
  · isplitl [bg0]; · iexact bg0
    iexact bg1
  isplitl [wd0 wd1]
  · isplitl [wd0]; · iexact wd0
    iexact wd1
  isplitl [bd0 bd1]
  · isplitl [bd0]; · iexact bd0
    iexact bd1
  isplitl [ou0]; · iexact ou0
  iexact ou1

theorem kit_close : iprop(drops c X GU BG WD BD ∗ kit c X GU BG WD BD)
    ⊢ iprop(arrs c X GU BG WD BD ∗ (Pipeline.ownSems0 (Ix := Unit) (Name := ℕ) (U := UU nD τ) (Lvl := ℕ) (Val := Elt F) (τ := τ) osem c : sProp 𝕄) ∗ bufs (F := F) c) := by
  rw [ownSems0_eq]
  unfold arrs drops kit bufs
  have hxs := xs_close c X
  have hgu := gu_close c GU
  have hbg := bg_close c BG
  have hwd := wd_close c WD
  have hbd := bd_close c BD
  have hou := ou_close (F := F) c
  iintro ⟨⟨Dxs, Dgu, Dbg, Dwd, Dbd⟩, ⟨xs0, xs1, xs2⟩, ⟨gu0, gu1⟩, ⟨bg0, bg1⟩, ⟨wd0, wd1⟩, ⟨bd0, bd1⟩, ou0, ou1⟩
  ihave Hxs := hxs $$ [Dxs xs0 xs1 xs2]
  · isplitl [Dxs]; · iexact Dxs
    isplitl [xs0]; · iexact xs0
    isplitl [xs1]; · iexact xs1
    iexact xs2
  icases Hxs with ⟨Bxs, ⟨Z3, Z4, Z5⟩, Axs⟩
  ihave Hgu := hgu $$ [Dgu gu0 gu1]
  · isplitl [Dgu]; · iexact Dgu
    isplitl [gu0]; · iexact gu0
    iexact gu1
  icases Hgu with ⟨Bgu, ⟨Z6, Z7⟩, Agu⟩
  ihave Hbg := hbg $$ [Dbg bg0 bg1]
  · isplitl [Dbg]; · iexact Dbg
    isplitl [bg0]; · iexact bg0
    iexact bg1
  icases Hbg with ⟨Bbg, ⟨Z8, Z9⟩, Abg⟩
  ihave Hwd := hwd $$ [Dwd wd0 wd1]
  · isplitl [Dwd]; · iexact Dwd
    isplitl [wd0]; · iexact wd0
    iexact wd1
  icases Hwd with ⟨Bwd, ⟨Z10, Z11⟩, Awd⟩
  ihave Hbd := hbd $$ [Dbd bd0 bd1]
  · isplitl [Dbd]; · iexact Dbd
    isplitl [bd0]; · iexact bd0
    iexact bd1
  icases Hbd with ⟨Bbd, ⟨Z12, Z13⟩, Abd⟩
  ihave Hou := hou $$ [ou0 ou1]
  · isplitl [ou0]; · iexact ou0
    iexact ou1
  icases Hou with ⟨Bou, ⟨Z14, Z15⟩⟩
  isplitl [Axs Agu Abg Awd Abd]
  · isplitl [Axs]; · iexact Axs
    isplitl [Agu]; · iexact Agu
    isplitl [Abg]; · iexact Abg
    isplitl [Awd]; · iexact Awd
    iexact Abd
  isplitl [Z3 Z4 Z5 Z6 Z7 Z8 Z9 Z10 Z11 Z12 Z13 Z14 Z15]
  · isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    iexact Z15
  isplitl [Bxs]; · iexact Bxs
  isplitl [Bgu]; · iexact Bgu
  isplitl [Bbg]; · iexact Bbg
  isplitl [Bwd]; · iexact Bwd
  isplitl [Bbd]; · iexact Bbd
  iexact Bou
end

theorem scratch0_free : Free (F := F) c (Memref.whole cc0_scratch0) = Some (F := F) c cc0_scratch0 :=
  congrArg (fun K => iprop(∃ f : Buf (Elt F) ((c : Thread nD τ).loc cc0_scratch0), ((c : Thread nD τ).loc cc0_scratch0) ↦[K]{fullShare} f)) (View.set_whole cc0_scratch0)
theorem scratch1_free : Free (F := F) c (Memref.whole cc0_scratch1) = Some (F := F) c cc0_scratch1 :=
  congrArg (fun K => iprop(∃ f : Buf (Elt F) ((c : Thread nD τ).loc cc0_scratch1), ((c : Thread nD τ).loc cc0_scratch1) ↦[K]{fullShare} f)) (View.set_whole cc0_scratch1)

/-! ## The data of the launch -/

/-- The memrefs the body is called with. -/
abbrev M0 : Mem where
  a0 := st0_0 t0_0
  ha0 := Gen.hstage0_0 0
  a1 := st0_1 t0_0
  ha1 := Gen.hstage0_1 0
  a2 := st0_2 t0_0
  ha2 := Gen.hstage0_2 0
  a3 := Memref.whole main_arg0
  ha3 := Memref.isWhole_whole _
  a4 := Memref.whole main_arg4
  ha4 := Memref.isWhole_whole _
  a5 := Memref.whole main_v0
  ha5 := Memref.isWhole_whole _
  a6 := Memref.whole main_arg6
  ha6 := Memref.isWhole_whole _
  a7 := Memref.whole main_v1
  ha7 := Memref.isWhole_whole _
  a8 := Memref.whole main_v2
  ha8 := Memref.isWhole_whole _
  a9 := Memref.whole cc0_scratch0
  ha9 := Memref.isWhole_whole _
  a10 := Memref.whole cc0_scratch1
  ha10 := Memref.isWhole_whole _
  lx := Memref.whole cc0_scoped0
  hlx := Memref.isWhole_whole _
  slx := cc0_scoped1
  lg := Memref.whole cc0_scoped2
  hlg := Memref.isWhole_whole _
  slg := cc0_scoped3
  lb := Memref.whole cc0_scoped4
  hlb := Memref.isWhole_whole _
  slb := cc0_scoped5
  lw := Memref.whole cc0_scoped6
  hlw := Memref.isWhole_whole _
  slw := cc0_scoped7
  ld := Memref.whole cc0_scoped8
  hld := Memref.isWhole_whole _
  sld := cc0_scoped9
  lo := Memref.whole cc0_scoped10
  hlo := Memref.isWhole_whole _
  slo := cc0_scoped11

variable (m : (ℓ : Loc nD τ sig) → Buf (Elt F) ℓ) (ρ : Dev nD → PrngReg)

def ix (n : ℕ) (h : n < 288) : S288.Idx := fun a => ⟨n, by fin_cases a; exact h⟩
def ix1 : S1.Idx := fun a => ⟨0, by fin_cases a; decide⟩

/-- The table of experts, the count and the table of the rows' bounds, as words by position. -/
def tB (n : ℕ) : BitVec 32 := if h : n < 288 then (V m c main_arg1 : S288.Idx → BitVec 32) (ix n h) else 0#32
def tV (n : ℕ) : BitVec 32 := if h : n < 288 then (V m c main_arg3 : S288.Idx → BitVec 32) (ix n h) else 0#32
def tU : BitVec 32 := (V m c main_arg2 : S1.Idx → BitVec 32) ix1

/-- What the precondition says of the arguments. -/
structure PreOK : Prop where
  e : ∀ (c : Dev nD) (j : S288.Idx), 0 ≤ ((m ((c : Thread nD τ).loc main_arg1) : S288.Idx → BitVec 32) j).toInt ∧ ((m ((c : Thread nD τ).loc main_arg1) : S288.Idx → BitVec 32) j).toInt < 32
  u : ∀ (c : Dev nD) (j : S1.Idx), 1 ≤ ((m ((c : Thread nD τ).loc main_arg2) : S1.Idx → BitVec 32) j).toInt

theorem word_lt {w : BitVec 32} (h0 : 0 ≤ w.toInt) (h1 : w.toInt < 32) : w.toNat < 32 := by
  have h := BitVec.toInt_eq_toNat_cond w
  have := w.isLt
  split at h <;> omega

theorem tB_lt (h : PreOK m) (n : ℕ) : (tB c m n).toNat < 32 := by
  unfold tB
  split
  · rw [V_main_arg1]
    rename_i hn
    obtain ⟨h0, h1⟩ := h.e c (ix n hn)
    exact word_lt h0 h1
  · decide

def D0 (h : PreOK m) : Dat F M0 c where
  B := tB c m
  V := tV c m
  u := tU c m
  N := min ((tU c m).toInt - 1).toNat 287
  hN := ⟨by unfold tU; rw [V_main_arg2]; exact h.u c _, rfl⟩
  hB := tB_lt c m h
  X := V m c main_arg0
  GU := V m c main_arg4
  BG := V m c main_v0
  WD := V m c main_arg6
  BD := V m c main_v1

abbrev kit0 : sProp 𝕄 := kit c (V m c main_arg0) (V m c main_arg4) (V m c main_v0) (V m c main_arg6) (V m c main_v1)
abbrev drops0 : sProp 𝕄 := drops c (V m c main_arg0) (V m c main_arg4) (V m c main_v0) (V m c main_arg6) (V m c main_v1)
abbrev arrs0 : sProp 𝕄 := arrs c (V m c main_arg0) (V m c main_arg4) (V m c main_v0) (V m c main_arg6) (V m c main_v1)

theorem idle0 (h : PreOK m) : idle (D0 c m h) = iprop(tabs (D0 c m h) ∗ Ow (F := F) c ∗ kit0 c m) := rfl

theorem rd0 (x : S288.Idx) : iblk m c 0 t0_0 x = tB c m (x 0).val := by
  have hx : (x 0).val < 288 := (x 0).isLt
  unfold iblk tB
  rw [dif_pos hx, View.read_apply]
  refine congrArg (V m c main_arg1) (funext fun a => Fin.ext ?_)
  fin_cases a
  show _ = (x 0).val
  have h : ∀ k : ℕ, 0 * 288 + 1 * k = k := fun k => by omega
  exact h _
theorem rd2 (x : S288.Idx) : iblk m c 2 t0_0 x = tV c m (x 0).val := by
  have hx : (x 0).val < 288 := (x 0).isLt
  unfold iblk tV
  rw [dif_pos hx, View.read_apply]
  refine congrArg (V m c main_arg3) (funext fun a => Fin.ext ?_)
  fin_cases a
  show _ = (x 0).val
  have h : ∀ k : ℕ, 0 * 288 + 1 * k = k := fun k => by omega
  exact h _
theorem rd1 (x : S1.Idx) : iblk m c 1 t0_0 x = tU c m := by
  unfold iblk tU
  rw [View.read_apply]
  refine congrArg (V m c main_arg2) (funext fun a => ?_)
  fin_cases a
  exact Subsingleton.elim (α := Fin 1) _ _

theorem tabs0 (h : PreOK m) : tabs (D0 c m h) = iprop(owns (c : Thread nD τ) (st0_0 t0_0) fullShare (iblk m c 0 t0_0) ∗ owns (c : Thread nD τ) (st0_1 t0_0) fullShare (iblk m c 1 t0_0)
    ∗ owns (c : Thread nD τ) (st0_2 t0_0) fullShare (iblk m c 2 t0_0)) := by
  have e0 := owns_tab (F := F) c (st0_0 t0_0) (iblk m c 0 t0_0) (tB c m) (rd0 c m)
  have e1 := owns_tab (F := F) c (st0_1 t0_0) (iblk m c 1 t0_0) (fun _ => tU c m) (rd1 c m)
  have e2 := owns_tab (F := F) c (st0_2 t0_0) (iblk m c 2 t0_0) (tV c m) (rd2 c m)
  exact (congr (congrArg (fun P Q => iprop(P ∗ Q)) e0.symm) (congr (congrArg (fun P Q => iprop(P ∗ Q)) e1.symm) e2.symm))

/-- The launch's result. -/
def G0 (h : PreOK m) : Buf (Elt F) ((c : Thread nD τ).loc main_v2) := gather (Y (D0 c m h))

/-- The result's blocks, before the run and after. -/
def raws : sProp 𝕄 := bigSep (Finset.range 288) (fun b => ouRaw (F := F) c (Memref.whole main_v2) b)
def dones (h : PreOK m) : sProp 𝕄 := bigSep (Finset.range 288) (fun b => ouDone (F := F) c (Memref.whole main_v2) b (Y (D0 c m h) b))

/-- The region's invariant. -/
def Φ (h : PreOK m) (t : Fin (cfg0.N + 1)) : sProp 𝕄 :=
  iprop(drops0 c m ∗ kit0 c m ∗ Free (F := F) c (Memref.whole cc0_scratch0) ∗ Free (F := F) c (Memref.whole cc0_scratch1) ∗ if t.val = 0 then raws (F := F) c else dones c m h)

theorem Φ_zero (h : PreOK m) : Φ c m h 0 = iprop(drops0 c m ∗ kit0 c m ∗ Free (F := F) c (Memref.whole cc0_scratch0) ∗ Free (F := F) c (Memref.whole cc0_scratch1) ∗ raws (F := F) c) := by
  unfold Φ; rw [if_pos (show (0 : Fin (cfg0.N + 1)).val = 0 from rfl)]
theorem Φ_last (h : PreOK m) : Φ c m h (Fin.last cfg0.N) = iprop(drops0 c m ∗ kit0 c m ∗ Free (F := F) c (Memref.whole cc0_scratch0) ∗ Free (F := F) c (Memref.whole cc0_scratch1) ∗ dones c m h) := by
  have e : (Fin.last cfg0.N).val = 1 := N_0
  unfold Φ; rw [if_neg (by rw [e]; decide)]

/-- The body, from the launch's state. -/
theorem body0 (h : PreOK m) {Q : PUnit → sProp 𝕄} : iprop((drops0 c m ∗ kit0 c m ∗ Free (F := F) c (Memref.whole cc0_scratch0) ∗ Free (F := F) c (Memref.whole cc0_scratch1) ∗ raws (F := F) c) ∗ Ow (F := F) c ∗ tabs (D0 c m h))
    ⊢ iprop((iprop((drops0 c m ∗ kit0 c m ∗ Free (F := F) c (Memref.whole cc0_scratch0) ∗ Free (F := F) c (Memref.whole cc0_scratch1) ∗ dones c m h) ∗ Ow (F := F) c ∗ tabs (D0 c m h)) -∗ Q ⟨⟩)
      -∗ WP c (cc0_experts (F := F) M0.a0 M0.ha0 M0.a1 M0.ha1 M0.a2 M0.ha2 M0.a3 M0.ha3 M0.a4 M0.ha4 M0.a5 M0.ha5 M0.a6 M0.ha6 M0.a7 M0.ha7 M0.a8 M0.ha8 M0.a9 M0.ha9 M0.a10 M0.ha10 M0.lx M0.hlx M0.slx M0.lg M0.hlg M0.slg M0.lb M0.hlb M0.slb M0.lw M0.hlw M0.slw M0.ld M0.hld M0.sld M0.lo M0.hlo M0.slo) Q) := by
  have hw := whole (D0 c m h) (Q := Q)
  rw [idle0] at hw
  have s0 : _ ⊢ Free (F := F) c (Memref.whole cc0_scratch0) := owns_some (F := F) c (Memref.whole cc0_scratch0) (wgu (D0 c m h) 287)
  have s1 : _ ⊢ Free (F := F) c (Memref.whole cc0_scratch1) := owns_some (F := F) c (Memref.whole cc0_scratch1) (wdn (D0 c m h) 287)
  have r0 : raws (F := F) c ⊢ bigSep (Finset.range 288) (fun b => ouRaw (F := F) c M0.a8 b) := BIBase.Entails.of_eq rfl
  have r1 : bigSep (Finset.range 288) (fun b => oDone (D0 c m h) b) ⊢ dones c m h := BIBase.Entails.of_eq rfl
  unfold scr' at hw
  iintro ⟨⟨Hd, Hk, H9, H10, Hr⟩, Ho, Ht⟩ HQ
  iapply hw $$ [Hk H9 H10 Hr Ho Ht]
  · isplitl [Ht Ho Hk]
    · isplitl [Ht]; · iexact Ht
      isplitl [Ho]; · iexact Ho
      iexact Hk
    isplitl [H9 H10]
    · isplitl [H9]; · iexact H9
      iexact H10
    iapply r0; iexact Hr
  iintro ⟨⟨Ht, Ho, Hk⟩, ⟨H9, H10⟩, Hr⟩
  ihave H9 := s0 $$ H9
  ihave H10 := s1 $$ H10
  iapply HQ
  isplitl [Hd Hk H9 H10 Hr]
  · isplitl [Hd]; · iexact Hd
    isplitl [Hk]; · iexact Hk
    isplitl [H9]; · iexact H9
    isplitl [H10]; · iexact H10
    iapply r1; iexact Hr
  isplitl [Ho]; · iexact Ho
  iexact Ht

end Cert.Proof.Experts

end
-- ==== Proof.Experts.Run.lean ====
/-
  The run of the kernel: its result, its arguments kept, its counters zero.
-/
module

public import proofs.«01_k».proof.Proof.Experts.Launch

@[expose] public section

noncomputable section

namespace Cert.Proof.Experts

open Cert.Kernel Cert.Kernel.Gen
open Cert.Kernel.Facts₀ Cert.Kernel.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

variable (c : Dev nD) (m : (ℓ : Loc nD τ sig) → Buf (Elt F) ℓ) (ρ : Dev nD → PrngReg)

abbrev EP : Emb (UR sig nD τ) (MT nD τ sig Unit (Elt F) ℕ (UU nD τ) ℕ) := embL

def dats (h : PreOK m) (_ : Fin 1) (c : Dev nD) : Pipeline.Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Φ c m h t
  q _ := fullShare
  owed _ := 0

theorem before_w0 (h : PreOK m) (t : Fin cfg0.N) (d) : (dats m h 0 c).before 0 t d = iblk m c 0 t := by
  unfold Pipeline.Dat.before; rw [if_pos (fetch0_0 t)]; unfold Pipeline.Dat.fetched Pipeline.Dat.blockOf iblk; dsimp only [dats]; rfl
theorem before_w1 (h : PreOK m) (t : Fin cfg0.N) (d) : (dats m h 0 c).before 1 t d = iblk m c 1 t := by
  unfold Pipeline.Dat.before; rw [if_pos (fetch0_1 t)]; unfold Pipeline.Dat.fetched Pipeline.Dat.blockOf iblk; dsimp only [dats]; rfl
theorem before_w2 (h : PreOK m) (t : Fin cfg0.N) (d) : (dats m h 0 c).before 2 t d = iblk m c 2 t := by
  unfold Pipeline.Dat.before; rw [if_pos (fetch0_2 t)]; unfold Pipeline.Dat.fetched Pipeline.Dat.blockOf iblk; dsimp only [dats]; rfl
theorem after_w0 (h : PreOK m) (t : Fin cfg0.N) : (dats m h 0 c).after 0 t = iblk m c 0 t := by dsimp only [dats]
theorem after_w1 (h : PreOK m) (t : Fin cfg0.N) : (dats m h 0 c).after 1 t = iblk m c 1 t := by dsimp only [dats]
theorem after_w2 (h : PreOK m) (t : Fin cfg0.N) : (dats m h 0 c).after 2 t = iblk m c 2 t := by dsimp only [dats]

theorem defs_tc : (defs₀ (F := F)) .tc cfg0.body
    = fun a => cc0_experts (win0_0.stage (a.2 0)) (Gen.hstage0_0 0) (win0_1.stage (a.2 1)) (Gen.hstage0_1 0) (win0_2.stage (a.2 2)) (Gen.hstage0_2 0) M0.a3 M0.ha3 M0.a4 M0.ha4 M0.a5 M0.ha5 M0.a6 M0.ha6 M0.a7 M0.ha7 M0.a8 M0.ha8 M0.a9 M0.ha9 M0.a10 M0.ha10 M0.lx M0.hlx M0.slx M0.lg M0.hlg M0.slg M0.lb M0.hlb M0.slb M0.lw M0.hlw M0.slw M0.ld M0.hld M0.sld M0.lo M0.hlo M0.slo := rfl
theorem prog_eq : (defs₀ (F := F)) .tc cfg0.body (cfg0.bodyArgs t0_0 (cfg0.slots t0_0)) = cc0_experts (F := F) M0.a0 M0.ha0 M0.a1 M0.ha1 M0.a2 M0.ha2 M0.a3 M0.ha3 M0.a4 M0.ha4 M0.a5 M0.ha5 M0.a6 M0.ha6 M0.a7 M0.ha7 M0.a8 M0.ha8 M0.a9 M0.ha9 M0.a10 M0.ha10 M0.lx M0.hlx M0.slx M0.lg M0.hlg M0.slg M0.lb M0.hlb M0.slb M0.lw M0.hlw M0.slw M0.ld M0.hld M0.sld M0.lo M0.hlo M0.slo :=
  (congrFun defs_tc _).trans rfl

set_option backward.isDefEq.respectTransparency.types false in
theorem body_obligation (h : PreOK m) : Pipeline.BodyObligation (dats (F := F) m h 0 c) (defs₀ (F := F)) Variants.none () Set.univ := fun t => by
  obtain rfl : t = t0_0 := fin_N0 t
  rw [bigSep_W0, bigSep_W0]
  dsimp only
  simp only [before_w0, before_w1, before_w2, after_w0, after_w1, after_w2]
  rw [show (dats m h 0 c).Φ t0_0.castSucc = _ from Φ_zero c m h, show (dats m h 0 c).Φ t0_0.succ = _ from Φ_last c m h]
  unfold Pipeline.Dat.owesAt Pipeline.owesWithin
  rw [show (dats m h 0 c).owed t0_0.castSucc = 0 from rfl, show (dats m h 0 c).owed t0_0.succ = 0 from rfl]
  have hb := fun Q => body0 c m h (Q := Q)
  rw [tabs0] at hb
  unfold Ow at hb
  iintro ⟨HΦ, ⟨%W, -, HW⟩, ⟨%d0, H0⟩, ⟨%d1, H1⟩, ⟨%d2, H2⟩⟩
  sl_rw [prog_eq]
  iapply hb $$ [HΦ HW H0 H1 H2]
  · isplitl [HΦ]; · iexact HΦ
    isplitl [HW]; · iexists W; iexact HW
    isplitl [H0]; · iexact H0
    isplitl [H1]; · iexact H1
    iexact H2
  iintro ⟨HΦ, ⟨%W', HW⟩, H0, H1, H2⟩
  isplitl [HΦ]; · iexact HΦ
  isplitl [HW]
  · iexists W'; isplitr; · ipureintro; exact fun _ _ => Or.inl trivial
    iexact HW
  isplitl [H0]; · iexact H0
  isplitl [H1]; · iexact H1
  iexact H2

/-! ## The run -/

def intoΦ : sProp 𝕄 := iprop(arrs0 c m ∗ (((c : Thread nD τ).loc main_v2) ↦{fullShare} V m c main_v2) ∗ Pipeline.ownSems0 (Ix := Unit) (Name := ℕ) (U := UU nD τ) (Lvl := ℕ) (Val := Elt F) (τ := τ) osem c)
def outOfΦ (h : PreOK m) : sProp 𝕄 := iprop(arrs0 c m ∗ (((c : Thread nD τ).loc main_v2) ↦{fullShare} G0 c m h))
def rest0 : sProp 𝕄 := iprop((((c : Thread nD τ).loc main_arg5) ↦{fullShare} V m c main_arg5) ∗ (((c : Thread nD τ).loc main_arg7) ↦{fullShare} V m c main_arg7))
def u₀ : UU nD τ := (initOf (Pipeline.cells cfgs Gen.cellOf_inj) (Pipeline.launchToks cfgs Gen.cellOf_inj), 1)
def finalA (h : PreOK m) (c : Dev nD) (w : Fin cfg0.W) : Buf (Elt F) ((cfg0.win w).arr.view.loc (c : Thread nD τ)) := (dats m h 0 c).arrAt w cfg0.N

/-- What the run leaves of the arrays no window stages. -/
structure QY (h : PreOK m) (c : Dev nD) (s : MemSt nD τ sig (Elt F)) : Prop where
  a0 : s.mem ((c : Thread nD τ).loc main_arg0) = V m c main_arg0
  a4 : s.mem ((c : Thread nD τ).loc main_arg4) = V m c main_arg4
  a5 : s.mem ((c : Thread nD τ).loc main_arg5) = V m c main_arg5
  a6 : s.mem ((c : Thread nD τ).loc main_arg6) = V m c main_arg6
  a7 : s.mem ((c : Thread nD τ).loc main_arg7) = V m c main_arg7
  v2 : s.mem ((c : Thread nD τ).loc main_v2) = G0 c m h

def QC (h : PreOK m) : PUnit × MemSt nD τ sig (Elt F) → Prop := fun r =>
  ∀ c : Dev nD, (∀ w : Fin cfg0.W, r.2.mem ((cfg0.win w).arr.view.loc (c : Thread nD τ)) = finalA m h c w) ∧ QY m h c r.2

theorem hin0 (h : PreOK m) : iprop(intoΦ c m ∗ Pipeline.scopedRest (Ix := Unit) (Name := ℕ) (U := UU nD τ) (Lvl := ℕ) (Val := Elt F) spec0 c) ⊢ Φ c m h 0 := by
  rw [Φ_zero, scopedRest0_eq, scratch0_free, scratch1_free]
  have hk := kit_open c (V m c main_arg0) (V m c main_arg4) (V m c main_v0) (V m c main_arg6) (V m c main_v1)
  have hr := raw_all c (V m c main_v2)
  unfold intoΦ
  unfold bufs at hk
  unfold raws
  iintro ⟨⟨HA, HR, HS⟩, H9, H10, HB⟩
  ihave HR := hr $$ HR
  ihave HK := hk $$ [HA HS HB]
  · isplitl [HA]; · iexact HA
    isplitl [HS]; · iexact HS
    iexact HB
  icases HK with ⟨HD, HK⟩
  isplitl [HD]; · iexact HD
  isplitl [HK]; · iexact HK
  isplitl [H9]; · iexact H9
  isplitl [H10]; · iexact H10
  iexact HR

theorem hout0 (h : PreOK m) : Φ c m h (Fin.last cfg0.N) ⊢ iprop(outOfΦ c m h ∗ Pipeline.ownSems0 (Ix := Unit) (Name := ℕ) (U := UU nD τ) (Lvl := ℕ) (Val := Elt F) (τ := τ) osem c
    ∗ Pipeline.scopedRest (Ix := Unit) (Name := ℕ) (U := UU nD τ) (Lvl := ℕ) (Val := Elt F) spec0 c) := by
  rw [Φ_last, scopedRest0_eq, scratch0_free, scratch1_free]
  have hk := kit_close c (V m c main_arg0) (V m c main_arg4) (V m c main_v0) (V m c main_arg6) (V m c main_v1)
  have hr := done_all c (Y (D0 c m h))
  unfold outOfΦ G0 dones
  unfold bufs at hk
  iintro ⟨HD, HK, H9, H10, HR⟩
  ihave HR := hr $$ HR
  ihave HK := hk $$ [HD HK]
  · isplitl [HD]; · iexact HD
    iexact HK
  icases HK with ⟨HA, HS, HB⟩
  isplitl [HA HR]
  · isplitl [HA]; · iexact HA
    iexact HR
  isplitl [HS]; · iexact HS
  isplitl [H9]; · iexact H9
  isplitl [H10]; · iexact H10
  iexact HB

set_option backward.isDefEq.respectTransparency.types false in
/-- From any memory of the precondition with zero counters: every execution ends, with the result `G0`, the arguments
    unchanged and every counter zero. -/
theorem run_main (h : PreOK m) : θ_run defs (onTc (τ := τ) (main (F := F))) (s₀ m ρ) (fun r => QC m h r ∧ r.2.sem = fun _ => 0) :=
  Pipeline.θ_run_region_kit_quiescent cfgs (dats m h) () (0 : Fin 1) launch0 ownSemFacts EP defs₀ Variants.none m ρ main
    (hbody := fun c => (body_obligation c m h).loose) (hshare := fun c => (dats m h 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ _ => rfl)
    (X := fun c => intoΦ c m) (Y := fun c => outOfΦ c m h) (Z := fun c => rest0 c m)
    (hX := fun c => by
      rw [unscopedRest0_eq]
      unfold intoΦ rest0 arrs0 arrs
      iintro ⟨⟨H0, H4, H5, H6, H7, HV0, HV1, HV2⟩, HS, -, -, -⟩; imodintro
      isplitl [H0 H4 H6 HV0 HV1 HV2 HS]
      · isplitl [H0 H4 H6 HV0 HV1]
        · isplitl [H0]; · iexact H0
          isplitl [H4]; · iexact H4
          isplitl [HV0]; · iexact HV0
          isplitl [H6]; · iexact H6
          iexact HV1
        isplitl [HV2]; · iexact HV2
        iexact HS
      isplitl [H5]; · iexact H5
      iexact H7)
    (hin := fun c => hin0 c m h)
    (hout := fun c => hout0 c m h)
    (QY := QY m h)
    (hY := fun c s' => by
      unfold outOfΦ rest0 arrs0 arrs
      iintro ⟨⟨⟨H0, H4, -, H6, -⟩, HV2⟩, ⟨H5, H7⟩, HSI⟩
      icombine HSI H0 gives %h0
      icombine HSI H4 gives %h4
      icombine HSI H6 gives %h6
      icombine HSI H5 gives %h5
      icombine HSI H7 gives %h7
      icombine HSI HV2 gives %hv
      imodintro
      isplitr
      · ipureintro
        exact ⟨Buf.eq_of_forall_mem_univ h0, Buf.eq_of_forall_mem_univ h4, Buf.eq_of_forall_mem_univ h5, Buf.eq_of_forall_mem_univ h6, Buf.eq_of_forall_mem_univ h7, Buf.eq_of_forall_mem_univ hv⟩
      iexact HSI)
    (hQ := fun _ hh hz => ⟨hh, hz⟩)

theorem finalA_in (h : PreOK m) (c : Dev nD) (w : Fin cfg0.W) (hw : (cfg0.win w).isOut = false) :
    finalA m h c w = V m c (Pipeline.arrRef spec0 w) :=
  (dats (F := F) m h 0 c).arrAt_in w hw _

/-- The arguments unchanged. -/
def Kept (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)

theorem QC.kept {h : PreOK m} {r : PUnit × MemSt nD τ sig (Elt F)} (hh : QC m h r) (c : Dev nD) : Kept m r.2 c :=
  ⟨(hh c).2.a0.trans (V_main_arg0 m c), ((hh c).1 0).trans ((finalA_in m h c 0 rfl).trans (V_main_arg1 m c)),
    ((hh c).1 1).trans ((finalA_in m h c 1 rfl).trans (V_main_arg2 m c)), ((hh c).1 2).trans ((finalA_in m h c 2 rfl).trans (V_main_arg3 m c)),
    (hh c).2.a4.trans (V_main_arg4 m c), (hh c).2.a5.trans (V_main_arg5 m c), (hh c).2.a6.trans (V_main_arg6 m c), (hh c).2.a7.trans (V_main_arg7 m c)⟩

end Cert.Proof.Experts

end
-- ==== Proof.Experts.Pre.lean ====
/-
  What the precondition says of the tables.
-/
module

public import proofs.«01_k».proof.Defs
public import proofs.«01_k».proof.Proof.Gen.Pre_experts_fit
public import Idealize.ShloMosaic.Lib.ReduceAll
public import Idealize.ShloMosaic.Lib.WordCmp

@[expose] public section

namespace Cert.Proof.Experts

open Idealize.ShloMosaic
open Cert.Pre_experts_fit

theorem of_fit (a0 : IVec S589824x128 32) (a1 : IVec S288 32) (a2 : IVec S1 32) (a3 : IVec S288 32) (a4 : FVec Bits S32x1024x2048 .f32) (a5 : FVec Bits S32x2048 .f32)
    (a6 : FVec Bits S32x1024x1024 .f32) (a7 : FVec Bits S32x1024 .f32) (j : S_.Idx) (h : fn (F := Bits) a0 a1 a2 a3 a4 a5 a6 a7 j = 1#1) :
    (∀ i, 0 ≤ (a1 i).toInt ∧ (a1 i).toInt < 32) ∧ ∀ i, 1 ≤ (a2 i).toInt := by
  have hand : ∀ x y : BitVec 1, IntOp.andi x y = 1#1 → x = 1#1 ∧ y = 1#1 := by decide
  have hu : ∀ i i' : S1.Idx, i = i' := fun i i' => funext fun a => by fin_cases a; exact Subsingleton.elim (α := Fin 1) _ _
  unfold fn at h
  obtain ⟨h1, h2⟩ := hand _ _ h
  have hs : Subsingleton S_.Idx := ⟨fun i i' => funext fun a => a.elim0⟩
  have h1 := Host.reduce_andi_all _ _ _ _ j h1
  refine ⟨fun i => ?_, fun i => ?_⟩
  · obtain ⟨ha, hb⟩ := hand _ _ (h1 i)
    exact ⟨IntOp.cmpi_sge.1 ha, IntOp.cmpi_slt.1 hb⟩
  · have h3 : (1#32 : BitVec 32).toInt ≤ (shapeCast S_ a2 Facts.shapeCasts_S1_S_ j).toInt := IntOp.cmpi_sge.1 h2
    unfold shapeCast at h3
    rw [hu i _]
    exact h3

end Cert.Proof.Experts
-- ==== Proof.Experts.Ref.lean ====
/-
  The reference's run: its side conditions from the precondition.
-/
module

public import proofs.«01_k».proof.Proof.Gen.Reference.Frame
public import Idealize.ShloMosaic.Lib.WordCmp

@[expose] public section

noncomputable section

namespace Cert.Proof.ExpertsR

open Cert.Reference Cert.Reference.Gen
open Idealize.ShloMosaic Idealize.ShloMosaic.TcCoe

variable {F : FTy → Type} [BitOps F] (m : (ℓ : Loc nD τ sig) → Buf (Elt F) ℓ)

theorem chk_of {w : BitVec 32} (h0 : 0 ≤ w.toInt) (h1 : w.toInt < 32) : k0_chk1 w := by
  have hw : w.toNat < 32 := by
    have h := BitVec.toInt_eq_toNat_cond w
    have := w.isLt
    split at h <;> omega
  have e : (Scalar.indexCast w : Index).toNat = w.toNat := rfl
  unfold k0_chk1 k0_off3 k0_off4 k0_off5 k0_off6
  dsimp only
  rw [e]
  refine ⟨fun a => ?_, fun a => ?_, fun a => ?_, fun a => ?_⟩
  · fin_cases a
    · show w.toNat + 1 ≤ 32; omega
    · show 0 + 2048 ≤ 2048; omega
  · fin_cases a
    · show w.toNat + 1 ≤ 32; omega
    · show 0 + 1024 ≤ 1024; omega
    · show 0 + 2048 ≤ 2048; omega
  · fin_cases a
    · show w.toNat + 1 ≤ 32; omega
    · show 0 + 1024 ≤ 1024; omega
  · fin_cases a
    · show w.toNat + 1 ≤ 32; omega
    · show 0 + 1024 ≤ 1024; omega
    · show 0 + 1024 ≤ 1024; omega

theorem hyps_of (h : ∀ (c : Dev nD) (j : S288.Idx), 0 ≤ ((m ((c : Thread nD τ).loc main_arg1) : S288.Idx → BitVec 32) j).toInt ∧ ((m ((c : Thread nD τ).loc main_arg1) : S288.Idx → BitVec 32) j).toInt < 32) :
    Hyps m := Hyps.of fun c t kq hkq => by
  rw [View.readAt_apply, (hs0_0 t).read_unread]
  unfold iblk
  rw [View.read_apply]
  have e : ∀ y, k0_chk1 ((V m c main_arg1 : S288.Idx → BitVec 32) y) := fun y => by
    rw [V_main_arg1]
    exact chk_of (h c y).1 (h c y).2
  exact e _

end Cert.Proof.ExpertsR

end
-- ==== Proof.Experts.Value.lean ====
/-
  The reference's result: what its loop over the blocks leaves, block by block.
-/
module

public import proofs.«01_k».proof.Proof.Experts.Ref
public import Idealize.ShloMosaic.Lib.Pipeline.Value

@[expose] public section

noncomputable section

namespace Cert.Proof.ExpertsR

open Cert.Reference Cert.Reference.Gen
open Cert.Reference.Facts₀ Cert.Reference.Facts
open Idealize.ShloMosaic Idealize.ShloMosaic.TcCoe

variable {F : FTy → Type} [BitOps F]

/-- The entry of a table that trip `k` reads. -/
abbrev ix (k : Fin k0_t1_loop.trips) : S288.Idx :=
  (Rect.unit (s := S288) (k0_off1 k) S1.size (Gen.k0_off1_inb k)).toLoadRect.idx (Shape.Idx.first (Gen.numel1_S1.symm ▸ Nat.one_pos))

/-- The words trip `k` stores, from its table entries, its rows and the loads of its expert's weights. -/
def wordV (k : Fin k0_t1_loop.trips) (e : Elt F .i32) (h : k0_chk1 e) (v6 : Vec F S512x512 .i32) (v10 : Elt F .i32)
    (L5 : (B : LoadRect S32x2048) → B.shape.Idx → Elt F .f32) (L4 : (B : LoadRect S32x1024x2048) → B.shape.Idx → Elt F .f32)
    (L7 : (B : LoadRect S32x1024) → B.shape.Idx → Elt F .f32) (L6 : (B : LoadRect S32x1024x1024) → B.shape.Idx → Elt F .f32) (u : Elt F .i32) : IVec S512x512 32 :=
  let v25 : Vec F S1x2048 .f32 := L5 (Rect.unit (s := S32x2048) (k0_off3 e) S1x2048.size (k0_off3_inb _ h)).toLoadRect
  let v27 : Vec F S1x1024x2048 .f32 := L4 (Rect.unit (s := S32x1024x2048) (k0_off4 e) S1x1024x2048.size (k0_off4_inb _ h)).toLoadRect
  k0_pay1 (Scf.iv 0#32 1#32 k) (k0_pay3 v6 v10 v25 v27) (k0_pay4 v6 v10 v25 v27) (k0_pay5 v6 v10 v25 v27)
    (L7 (Rect.unit (s := S32x1024) (k0_off5 e) S1x1024.size (k0_off5_inb _ h)).toLoadRect)
    (L6 (Rect.unit (s := S32x1024x1024) (k0_off6 e) S1x1024x1024.size (k0_off6_inb _ h)).toLoadRect) u

theorem wordV_congr (k : Fin k0_t1_loop.trips) {e e' : Elt F .i32} (h : k0_chk1 e) (h' : k0_chk1 e') (he : e = e') {v6 v6' : Vec F S512x512 .i32} (h6 : v6 = v6')
    {v10 v10' : Elt F .i32} (h10 : v10 = v10') {L5 L5' : (B : LoadRect S32x2048) → B.shape.Idx → Elt F .f32} (h5 : L5 = L5')
    {L4 L4' : (B : LoadRect S32x1024x2048) → B.shape.Idx → Elt F .f32} (h4 : L4 = L4') {L7 L7' : (B : LoadRect S32x1024) → B.shape.Idx → Elt F .f32} (h7 : L7 = L7')
    {L6 L6' : (B : LoadRect S32x1024x1024) → B.shape.Idx → Elt F .f32} (hh6 : L6 = L6') {u u' : Elt F .i32} (hu : u = u') :
    wordV k e h v6 v10 L5 L4 L7 L6 u = wordV k e' h' v6' v10' L5' L4' L7' L6' u' := by
  subst he h6 h10 h5 h4 h7 hh6 hu
  rfl

/-- The one entry of the count of used blocks. -/
abbrev ix1 : S1.Idx := (Rect.unit (s := S1) ![0] S1.size Gen.inb_S1_S1_0).toLoadRect.idx (Shape.Idx.first (Gen.numel1_S1.symm ▸ Nat.one_pos))

section
variable (x0 : Vec F S288 .i32) (x1 : Vec F S1 .i32) (x2 : Vec F S288 .i32) (x3 : Vec F S147456x512 .i32) (x4 : Vec F S32x1024x2048 .f32) (x5 : Vec F S32x2048 .f32) (x6 : Vec F S32x1024x1024 .f32) (x7 : Vec F S32x1024 .f32)

/-- The words trip `k` stores: its expert's layers on its rows, or zeros past the used blocks. -/
def word (k : Fin k0_t1_loop.trips) (h : k0_chk1 (x0 (ix k))) : IVec S512x512 32 :=
  wordV k (x0 (ix k)) h (fun j => x3 ((Rect.unit (s := S147456x512) (k0_off2 k) S512x512.size (Gen.k0_off2_inb k)).toLoadRect.idx j)) (x2 (ix k))
    (fun B j => x5 (B.idx j)) (fun B j => x4 (B.idx j)) (fun B j => x7 (B.idx j)) (fun B j => x6 (B.idx j)) (x1 ix1)
end

/-- Reading whole contents through a rectangle. -/
theorem rd {sp : Space} {s : Shape} {e : EltTy} {M : Memref sig .tc sp s e} (hM : M.IsWhole) (x : Vec F s e) (B : LoadRect s) :
    M.view.readAt (Elt F) B (hM.unread x) = fun j => x (B.idx j) := by
  funext j
  rw [View.readAt_apply, hM.read_unread]

variable (c : Dev nD) (arg0 : Memref sig .tc .smem S288 .i32) (harg0 : arg0.IsWhole) (arg1 : Memref sig .tc .smem S1 .i32) (harg1 : arg1.IsWhole) (arg2 : Memref sig .tc .smem S288 .i32) (harg2 : arg2.IsWhole) (arg3 : Memref sig .tc .vmem S147456x512 .i32) (harg3 : arg3.IsWhole) (arg4 : Memref sig .tc .vmem S32x1024x2048 .f32) (harg4 : arg4.IsWhole) (arg5 : Memref sig .tc .vmem S32x2048 .f32) (harg5 : arg5.IsWhole) (arg6 : Memref sig .tc .vmem S32x1024x1024 .f32) (harg6 : arg6.IsWhole) (arg7 : Memref sig .tc .vmem S32x1024 .f32) (harg7 : arg7.IsWhole) (arg8 : Memref sig .tc .vmem S147456x512 .i32) (harg8 : arg8.IsWhole)
  (x0 : Vec F S288 .i32) (x1 : Vec F S1 .i32) (x2 : Vec F S288 .i32) (x3 : Vec F S147456x512 .i32) (x4 : Vec F S32x1024x2048 .f32) (x5 : Vec F S32x2048 .f32) (x6 : Vec F S32x1024x1024 .f32) (x7 : Vec F S32x1024 .f32)
  (hw : ∀ (kq : ℕ) (hkq : kq < k0_t1_loop.trips), k0_chk1 (arg0.view.readAt (Elt F) (Rect.unit (s := S288) (k0_off1 ⟨kq, hkq⟩) S1.size (Gen.k0_off1_inb ⟨kq, hkq⟩)).toLoadRect (harg0.unread x0) (Shape.Idx.first (Gen.numel1_S1.symm ▸ Nat.one_pos))))

include hw in
theorem chk_ix (k : Fin k0_t1_loop.trips) : k0_chk1 (x0 (ix k)) := by
  have h := hw k.val k.isLt
  rw [rd] at h
  exact h

theorem trip_eq (k : Fin k0_t1_loop.trips) :
    tripL_k0_t1 (F := F) Variants.none c none arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) (harg6.unread x6) (harg7.unread x7) k (hw k.val k.isLt)
      = [⟨Rect.unit (s := S147456x512) (k0_off7 k) S512x512.size (Gen.k0_off7_inb k), word x0 x1 x2 x3 x4 x5 x6 x7 k (chk_ix arg0 harg0 x0 hw k)⟩] := by
  have hr : tripL_k0_t1 (F := F) Variants.none c none arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) (harg6.unread x6) (harg7.unread x7) k (hw k.val k.isLt)
      = [⟨Rect.unit (s := S147456x512) (k0_off7 k) S512x512.size (Gen.k0_off7_inb k), wordV (F := F) k
          (arg0.view.readAt (Elt F) (Rect.unit (s := S288) (k0_off1 k) S1.size (Gen.k0_off1_inb k)).toLoadRect (harg0.unread x0) (Shape.Idx.first (Gen.numel1_S1.symm ▸ Nat.one_pos)))
          (hw k.val k.isLt)
          (arg3.view.readAt (Elt F) (Rect.unit (s := S147456x512) (k0_off2 k) S512x512.size (Gen.k0_off2_inb k)).toLoadRect (harg3.unread x3))
          (arg2.view.readAt (Elt F) (Rect.unit (s := S288) (k0_off1 k) S1.size (Gen.k0_off1_inb k)).toLoadRect (harg2.unread x2) (Shape.Idx.first (Gen.numel1_S1.symm ▸ Nat.one_pos)))
          (fun B => arg5.view.readAt (Elt F) B (harg5.unread x5)) (fun B => arg4.view.readAt (Elt F) B (harg4.unread x4))
          (fun B => arg7.view.readAt (Elt F) B (harg7.unread x7)) (fun B => arg6.view.readAt (Elt F) B (harg6.unread x6))
          (arg1.view.readAt (Elt F) (Rect.unit (s := S1) ![0] S1.size Gen.inb_S1_S1_0).toLoadRect (harg1.unread x1) (Shape.Idx.first (Gen.numel1_S1.symm ▸ Nat.one_pos)))⟩] := by
    unfold tripL_k0_t1 trip_k0_t1
    dsimp only
    unfold trip_k0_t1.sl.r_2 trip_k0_t1.sl.r_3 trip_k0_t1.sl.r_4 trip_k0_t1.sl.r_5 trip_k0_t1.sl.r_1 trip_k0_t1.sl.r trip_k0_t1.sl.arg9
    rfl
  rw [hr]
  unfold word
  refine congrArg (fun w => [(⟨Rect.unit (s := S147456x512) (k0_off7 k) S512x512.size (Gen.k0_off7_inb k), w⟩ : (r : Rect S147456x512) × (r.shape.Idx → Elt F .i32))]) ?_
  exact wordV_congr k _ _ (congrFun (rd harg0 x0 _) _) (rd harg3 x3 _) (congrFun (rd harg2 x2 _) _) (funext fun B => rd harg5 x5 B) (funext fun B => rd harg4 x4 B)
    (funext fun B => rd harg7 x7 B) (funext fun B => rd harg6 x6 B) (congrFun (rd harg1 x1 _) _)

/-- The store of trip `k`: its rectangle and the words in it. -/
abbrev piece (k : Fin k0_t1_loop.trips) : View.Piece (Elt F) S147456x512 .i32 :=
  ⟨Rect.unit (s := S147456x512) (k0_off7 k) S512x512.size (Gen.k0_off7_inb k), word x0 x1 x2 x3 x4 x5 x6 x7 k (chk_ix arg0 harg0 x0 hw k)⟩

/-- The stores of the first trips are exactly those of each trip. -/
theorem mem_pb : ∀ (n : ℕ) (hn : n ≤ k0_t1_loop.trips) (q : View.Piece (Elt F) S147456x512 .i32),
    q ∈ pb_k0_t1 (F := F) Variants.none c none arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) (harg6.unread x6) (harg7.unread x7) hw n ↔ ∃ k : Fin k0_t1_loop.trips, k.val < n ∧ q = piece arg0 harg0 x0 x1 x2 x3 x4 x5 x6 x7 hw k
  | 0, _, q => by
      rw [pb_k0_t1.eq_1]
      exact ⟨fun h => absurd h List.not_mem_nil, fun ⟨k, h, _⟩ => absurd h (Nat.not_lt_zero _)⟩
  | n + 1, hn, q => by
      rw [pb_k0_t1_succ (F := F) Variants.none c none arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) (harg6.unread x6) (harg7.unread x7) hw ⟨n, hn⟩, trip_eq, List.mem_append, List.mem_singleton, mem_pb n (Nat.le_of_succ_le hn) q]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.mp hk with hk | hk
        · exact .inr ⟨k, hk, h⟩
        · obtain rfl : k = ⟨n, hn⟩ := Fin.ext hk
          exact .inl h

theorem run_pieces :
    (kernelRun0_A (F := F) c arg0 harg0 arg1 harg1 arg2 harg2 arg3 harg3 arg4 harg4 arg5 harg5 arg6 harg6 arg7 harg7 arg8 harg8 x0 x1 x2 x3 x4 x5 x6 x7 hw).1 = pb_k0_t1 (F := F) Variants.none c none arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) (harg6.unread x6) (harg7.unread x7) hw k0_t1_loop.trips := by
  unfold kernelRun0_A
  rfl

/-- The row and column a store of trip `k` puts its entry `x` at. -/
theorem piece_emb (k : Fin k0_t1_loop.trips) (x : S512x512.Idx) :
    (((piece arg0 harg0 x0 x1 x2 x3 x4 x5 x6 x7 hw k).1.emb x) 0).val = 512 * k.val + (x 0).val ∧ (((piece arg0 harg0 x0 x1 x2 x3 x4 x5 x6 x7 hw k).1.emb x) 1).val = (x 1).val := by
  constructor
  · show k0_off7 k 0 + 1 * (x 0).val = _
    rw [Gen.k0_off7_eq, Nat.one_mul]; rfl
  · show k0_off7 k 1 + 1 * (x 1).val = _
    rw [Gen.k0_off7_eq, Nat.one_mul]; exact Nat.zero_add _

/-- What the run leaves at an entry of trip `k`'s store. -/
theorem out_piece (k : Fin k0_t1_loop.trips) (x : S512x512.Idx) :
    out0_A_8 (F := F) c arg0 harg0 arg1 harg1 arg2 harg2 arg3 harg3 arg4 harg4 arg5 harg5 arg6 harg6 arg7 harg7 arg8 harg8 x0 x1 x2 x3 x4 x5 x6 x7 hw ((piece arg0 harg0 x0 x1 x2 x3 x4 x5 x6 x7 hw k).1.emb x) = word x0 x1 x2 x3 x4 x5 x6 x7 k (chk_ix arg0 harg0 x0 hw k) x := by
  unfold out0_A_8
  rw [run_pieces]
  refine View.read_writes_of_unique _ _ (piece arg0 harg0 x0 x1 x2 x3 x4 x5 x6 x7 hw k) x _ ((mem_pb c arg0 harg0 arg1 harg1 arg2 harg2 arg3 harg3 arg4 harg4 arg5 harg5 arg6 harg6 arg7 harg7 arg8 harg8 x0 x1 x2 x3 x4 x5 x6 x7 hw _ le_rfl _).mpr ⟨k, k.isLt, rfl⟩) ?_
  intro q hq hmem
  obtain ⟨j, _, rfl⟩ := (mem_pb c arg0 harg0 arg1 harg1 arg2 harg2 arg3 harg3 arg4 harg4 arg5 harg5 arg6 harg6 arg7 harg7 arg8 harg8 x0 x1 x2 x3 x4 x5 x6 x7 hw _ le_rfl _).mp hq
  have h0 := (Rect.mem_set_unit (s := S147456x512) (off := k0_off7 j) (size := S512x512.size) (inb := Gen.k0_off7_inb j)).mp hmem 0
  rw [(piece_emb arg0 harg0 x0 x1 x2 x3 x4 x5 x6 x7 hw k x).1, Gen.k0_off7_eq j] at h0
  have hx : (x 0).val < 512 := (x 0).isLt
  obtain ⟨h1, h2⟩ : 512 * j.val ≤ 512 * k.val + (x 0).val ∧ 512 * k.val + (x 0).val < 512 * j.val + 512 := h0
  obtain rfl : j = k := Fin.ext (by omega)
  rfl

end Cert.Proof.ExpertsR

end
-- ==== Proof.Experts.Result.lean ====
/-
  The reference's result: its one array written back, and reshaped.
-/
module

public import proofs.«01_k».proof.Proof.Experts.Value
public import Idealize.ShloMosaic.Lib.Pipeline.ValueKit.Geometry

@[expose] public section

noncomputable section

namespace Cert.Proof.ExpertsR

open Cert.Reference Cert.Reference.Gen
open Cert.Reference.Facts₀ Cert.Reference.Facts
open Idealize.ShloMosaic Idealize.ShloMosaic.TcCoe
open Idealize.SL Idealize.SL.Sem

variable {F : FTy → Type} [BitOps F] (m : (ℓ : Loc nD τ sig) → Buf (Elt F) ℓ) (ρ : Dev nD → PrngReg)

/-- The one point of the grid. -/
abbrev t0 : Fin cfg0.N := ⟨0, by decide⟩

theorem in0 (c : Dev nD) (t : Fin cfg0.N) : (iblk m c 0 t : Vec F S288 .i32) = V m c main_arg1 := by
  unfold iblk
  funext y
  rw [View.read_apply]
  exact congrArg (V m c main_arg1) (funext fun a => Fin.ext (Pipeline.Window.rect_emb_val_of_index_zero win0_0 t a rfl y))

theorem in1 (c : Dev nD) (t : Fin cfg0.N) : (iblk m c 1 t : Vec F S1 .i32) = V m c main_arg2 := by
  unfold iblk
  funext y
  rw [View.read_apply]
  exact congrArg (V m c main_arg2) (funext fun a => Fin.ext (Pipeline.Window.rect_emb_val_of_index_zero win0_1 t a rfl y))

theorem in2 (c : Dev nD) (t : Fin cfg0.N) : (iblk m c 2 t : Vec F S288 .i32) = V m c main_arg3 := by
  unfold iblk
  funext y
  rw [View.read_apply]
  exact congrArg (V m c main_arg3) (funext fun a => Fin.ext (Pipeline.Window.rect_emb_val_of_index_zero win0_2 t a rfl y))

theorem in3 (c : Dev nD) (t : Fin cfg0.N) : (iblk m c 3 t : Vec F S147456x512 .i32) = V m c main_v0 := by
  unfold iblk
  funext y
  rw [View.read_apply]
  exact congrArg (V m c main_v0) (funext fun a => Fin.ext (Pipeline.Window.rect_emb_val_of_index_zero win0_3 t a rfl y))

theorem in4 (c : Dev nD) (t : Fin cfg0.N) : (iblk m c 4 t : Vec F S32x1024x2048 .f32) = V m c main_arg4 := by
  unfold iblk
  funext y
  rw [View.read_apply]
  exact congrArg (V m c main_arg4) (funext fun a => Fin.ext (Pipeline.Window.rect_emb_val_of_index_zero win0_4 t a rfl y))

theorem in5 (c : Dev nD) (t : Fin cfg0.N) : (iblk m c 5 t : Vec F S32x2048 .f32) = V m c main_arg5 := by
  unfold iblk
  funext y
  rw [View.read_apply]
  exact congrArg (V m c main_arg5) (funext fun a => Fin.ext (Pipeline.Window.rect_emb_val_of_index_zero win0_5 t a rfl y))

theorem in6 (c : Dev nD) (t : Fin cfg0.N) : (iblk m c 6 t : Vec F S32x1024x1024 .f32) = V m c main_arg6 := by
  unfold iblk
  funext y
  rw [View.read_apply]
  exact congrArg (V m c main_arg6) (funext fun a => Fin.ext (Pipeline.Window.rect_emb_val_of_index_zero win0_6 t a rfl y))

theorem in7 (c : Dev nD) (t : Fin cfg0.N) : (iblk m c 7 t : Vec F S32x1024 .f32) = V m c main_arg7 := by
  unfold iblk
  funext y
  rw [View.read_apply]
  exact congrArg (V m c main_arg7) (funext fun a => Fin.ext (Pipeline.Window.rect_emb_val_of_index_zero win0_7 t a rfl y))

theorem word_congr {x0 x0' : Vec F S288 .i32} {x1 x1' : Vec F S1 .i32} {x2 x2' : Vec F S288 .i32} {x3 x3' : Vec F S147456x512 .i32} {x4 x4' : Vec F S32x1024x2048 .f32} {x5 x5' : Vec F S32x2048 .f32} {x6 x6' : Vec F S32x1024x1024 .f32} {x7 x7' : Vec F S32x1024 .f32} (e0 : x0 = x0') (e1 : x1 = x1') (e2 : x2 = x2') (e3 : x3 = x3') (e4 : x4 = x4') (e5 : x5 = x5') (e6 : x6 = x6') (e7 : x7 = x7') (k : Fin k0_t1_loop.trips) (h : k0_chk1 (x0 (ix k))) (h' : k0_chk1 (x0' (ix k))) (x : S512x512.Idx) :
    word x0 x1 x2 x3 x4 x5 x6 x7 k h x = word x0' x1' x2' x3' x4' x5' x6' x7' k h' x := by
  subst e0 e1 e2 e3 e4 e5 e6 e7
  rfl

/-- What the body leaves at a row of block `k`. -/
theorem outs (hH : Hyps m) (c : Dev nD) (t : Fin cfg0.N) (y : S147456x512.Idx) (k : Fin k0_t1_loop.trips) (x : S512x512.Idx)
    (h0 : (y 0).val = 512 * k.val + (x 0).val) (h1 : (y 1).val = (x 1).val) (hk : k0_chk1 ((V m c main_arg1 : Vec F S288 .i32) (ix k))) :
    outsAt0 m hH c t y = word (V m c main_arg1 : Vec F S288 .i32) (V m c main_arg2 : Vec F S1 .i32) (V m c main_arg3 : Vec F S288 .i32) (V m c main_v0 : Vec F S147456x512 .i32)
      (V m c main_arg4 : Vec F S32x1024x2048 .f32) (V m c main_arg5 : Vec F S32x2048 .f32) (V m c main_arg6 : Vec F S32x1024x1024 .f32) (V m c main_arg7 : Vec F S32x1024 .f32) k hk x := by
  unfold outsAt0
  have hp := piece_emb (ms0_0 t) (hs0_0 t) (iblk m c 0 t) (iblk m c 1 t) (iblk m c 2 t) (iblk m c 3 t) (iblk m c 4 t) (iblk m c 5 t) (iblk m c 6 t) (iblk m c 7 t) (Hyps.c0 hH c t) k x
  have hy : y = (piece (ms0_0 t) (hs0_0 t) (iblk m c 0 t) (iblk m c 1 t) (iblk m c 2 t) (iblk m c 3 t) (iblk m c 4 t) (iblk m c 5 t) (iblk m c 6 t) (iblk m c 7 t) (Hyps.c0 hH c t) k).1.emb x := by
    funext a
    apply Fin.ext
    fin_cases a
    · exact h0.trans hp.1.symm
    · exact h1.trans hp.2.symm
  rw [hy, out_piece]
  exact word_congr (in0 m c t) (in1 m c t) (in2 m c t) (in3 m c t) (in4 m c t) (in5 m c t) (in6 m c t) (in7 m c t) k _ hk x

theorem arr8 (hH : Hyps m) (c : Dev nD) : (dats m hH 0 c).arrAt 8 cfg0.N = outsAt0 m hH c t0 := by
  funext i
  refine (Pipeline.Dat.arrAt_emb_eq_after_last (dats m hH 0 c) 8 t0 (by decide +kernel) (i : S147456x512.Idx)).trans ?_
  rw [after0_8]
  rfl

theorem final (hH : Hyps m) (c : Dev nD) (r) (hr : Pipeline.FramePost cfgs (dats m hH) 0 (Pipeline.afterTail₀ cfgs (dats m hH) 0 (V0 m) [hostOps1]) r) :
    r.2.mem ((c : Thread nD τ).loc main_v2) = shapeCast S589824x128 (outsAt0 m hH c t0) Gen.shapeCasts_S147456x512_S589824x128 := by
  rw [(hr c).2 main_v2 (Pipeline.mem_restRefs_of main_v2 (by decide) (by decide))]
  unfold Pipeline.afterTail₀
  rw [show [hostOps1 (F := F)].flatten = hostOps1 from rfl, StableHlo.after_cons, StableHlo.after_nil, StableHlo.reshape_result']
  have h := (Pipeline.withArrays_arr (cfgs 0).spec winFacts0.arr_inj c (V0 m c) (fun w => (dats m hH 0 c).arrAt w (cfgs 0).N) 8).trans (arr8 m hH c)
  exact congrArg (fun A => shapeCast S589824x128 A Gen.shapeCasts_S147456x512_S589824x128) h

end Cert.Proof.ExpertsR

end
-- ==== Proof.Experts.Pay.lean ====
/-
  The two programs' arithmetic on one block: the same words from the same rows and weights.
-/
module

public import proofs.«01_k».proof.Proof.Experts.Run
public import proofs.«01_k».proof.Proof.Experts.Result

@[expose] public section

noncomputable section

namespace Cert.Proof.Same

open Idealize.ShloMosaic Idealize.ShloMosaic.TcCoe

variable {F : FTy → Type} [BitOps F]

/-- The first layer of a block, before the activation. -/
def mid (a : FVec F Cert.Kernel.S512x1024 .bf16) (b : FVec F Cert.Kernel.S1x2048 .f32) (w : Vec F Cert.Kernel.S1024x2048 .bf16) : FVec F Cert.Kernel.S512x2048 .f32 :=
  addf (broadcastTo Cert.Kernel.S512x2048 b Cert.Kernel.Facts₀.broadcasts_S1x2048_S512x2048)
    (matmul Cert.Kernel.dot_S512x1024_S1024x2048_S512x2048_1_0_0_1_n_n none a w (constant Cert.Kernel.S512x2048 .f32 0x00000000#32))

theorem ref_mid (x0 x1 x2 x3 : Vec F Cert.Kernel.S512x128 .i32) (v : Elt F .i32) (bg : Vec F Cert.Kernel.S1x1x2048 .f32) (gu : Vec F Cert.Kernel.S1x1024x2048 .f32)
    (x : Vec F Cert.Reference.S512x512 .i32) (bg' : Vec F Cert.Reference.S1x2048 .f32)
    (hx : x = concatenate Cert.Kernel.S512x512 1 [⟨Cert.Kernel.S512x128, x0⟩, ⟨Cert.Kernel.S512x128, x1⟩, ⟨Cert.Kernel.S512x128, x2⟩, ⟨Cert.Kernel.S512x128, x3⟩] Cert.Kernel.Facts₀.concatenates_S512x128_S512x128_S512x128_S512x128_S512x512_d1)
    (hg : bg' = shapeCast Cert.Kernel.S1x2048 bg Cert.Kernel.Facts₀.shapeCasts_S1x1x2048_S1x2048) :
    Cert.Reference.Gen.k0_pay2 x v bg' gu = mid (Cert.Kernel.Gen.k0_pay1 x0 x1 x2 x3 v) (Cert.Kernel.Gen.k0_pay2 bg) (Cert.Kernel.Gen.k0_pay5 gu) := by
  subst hg
  unfold Cert.Reference.Gen.k0_pay2 mid Cert.Kernel.Gen.k0_pay2 Cert.Kernel.Gen.k0_pay5 Cert.Kernel.Gen.k0_pay1
  dsimp only
  rw [← hx, shapeCast_self, shapeCast_self]
  rfl

/-- Rounding before or after taking a half of the columns is the same. -/
theorem pack_eq (q : FVec F Cert.Kernel.S512x1024 .f32) :
    Scalar.select 1#1
      (ori
        (shrui (bitcastToInt (extractStridedSlice Cert.Reference.S512x512 ![0, 0] (extf .f32 (truncf .bf16 q Cert.Reference.Gen.bitsLt_bf16_f32) Cert.Reference.Gen.bitsLt_bf16_f32) Cert.Reference.Gen.slices_S512x1024_o0_0_S512x512)) (broadcast Cert.Reference.S512x512 16#32))
        (andi (bitcastToInt (extractStridedSlice Cert.Reference.S512x512 ![0, 512] (extf .f32 (truncf .bf16 q Cert.Reference.Gen.bitsLt_bf16_f32) Cert.Reference.Gen.bitsLt_bf16_f32) Cert.Reference.Gen.slices_S512x1024_o0_512_S512x512)) (broadcast Cert.Reference.S512x512 4294901760#32)))
      (broadcast Cert.Reference.S512x512 0#32)
    = ori
        (shrui (bitcastToInt (extf .f32 (truncf .bf16 (extractStridedSlice Cert.Kernel.S512x512 ![0, 0] q Cert.Kernel.Gen.slices_S512x1024_o0_0_S512x512) Cert.Kernel.Gen.bitsLt_bf16_f32) Cert.Kernel.Gen.bitsLt_bf16_f32)) (broadcast Cert.Kernel.S512x512 16#32))
        (andi (bitcastToInt (extf .f32 (truncf .bf16 (extractStridedSlice Cert.Kernel.S512x512 ![0, 512] q Cert.Kernel.Gen.slices_S512x1024_o0_512_S512x512) Cert.Kernel.Gen.bitsLt_bf16_f32) Cert.Kernel.Gen.bitsLt_bf16_f32)) (broadcast Cert.Kernel.S512x512 4294901760#32)) := by
  rfl

/-- A block in use: the reference's words are the kernel's. -/
theorem pay_used (x0 x1 x2 x3 : Vec F Cert.Kernel.S512x128 .i32) (v : Elt F .i32) (bg : Vec F Cert.Kernel.S1x1x2048 .f32) (gu : Vec F Cert.Kernel.S1x1024x2048 .f32)
    (bd : Vec F Cert.Kernel.S1x1x1024 .f32) (wd : Vec F Cert.Kernel.S1x1024x1024 .f32) (n u : BitVec 32)
    (x : Vec F Cert.Reference.S512x512 .i32) (bg' : Vec F Cert.Reference.S1x2048 .f32) (bd' : Vec F Cert.Reference.S1x1024 .f32)
    (hx : x = concatenate Cert.Kernel.S512x512 1 [⟨Cert.Kernel.S512x128, x0⟩, ⟨Cert.Kernel.S512x128, x1⟩, ⟨Cert.Kernel.S512x128, x2⟩, ⟨Cert.Kernel.S512x128, x3⟩] Cert.Kernel.Facts₀.concatenates_S512x128_S512x128_S512x128_S512x128_S512x512_d1)
    (hg : bg' = shapeCast Cert.Kernel.S1x2048 bg Cert.Kernel.Facts₀.shapeCasts_S1x1x2048_S1x2048)
    (hd : bd' = shapeCast Cert.Kernel.S1x1024 bd Cert.Kernel.Facts₀.shapeCasts_S1x1x1024_S1x1024)
    (hn : Scalar.cmpi .slt n u = 1#1) :
    Cert.Reference.Gen.k0_pay1 (F := F) n (Cert.Reference.Gen.k0_pay3 x v bg' gu) (Cert.Reference.Gen.k0_pay4 x v bg' gu) (Cert.Reference.Gen.k0_pay5 x v bg' gu) bd' wd u
      = Cert.Kernel.Gen.k0_pay3 (F := F) (Cert.Kernel.Gen.k0_pay1 x0 x1 x2 x3 v) (Cert.Kernel.Gen.k0_pay2 bg) (Cert.Kernel.Gen.k0_pay5 gu) bd (Cert.Kernel.Gen.k0_pay6 wd) := by
  unfold Cert.Reference.Gen.k0_pay5 Cert.Reference.Gen.k0_pay4 Cert.Reference.Gen.k0_pay3
  rw [ref_mid x0 x1 x2 x3 v bg gu x bg' hx hg]
  unfold Cert.Kernel.Gen.k0_pay3
  unfold mid
  generalize Cert.Kernel.Gen.k0_pay1 x0 x1 x2 x3 v = a
  generalize Cert.Kernel.Gen.k0_pay2 bg = b
  generalize Cert.Kernel.Gen.k0_pay5 gu = w
  dsimp only
  generalize addf (broadcastTo Cert.Kernel.S512x2048 b _) (matmul _ none a w _) = h
  subst hd
  unfold Cert.Reference.Gen.k0_pay1 Cert.Kernel.Gen.k0_pay6
  dsimp only
  rw [hn, shapeCast_self]
  exact pack_eq _

/-- A block past the used ones: the reference's words are zeros. -/
theorem pay_zero (v36 v42 v44 : FVec F Cert.Reference.S512x1024 .f32) (v49 : Vec F Cert.Reference.S1x1024 .f32) (v52 : Vec F Cert.Reference.S1x1024x1024 .f32) (n u : BitVec 32)
    (hn : Scalar.cmpi .slt n u = 0#1) :
    Cert.Reference.Gen.k0_pay1 (F := F) n v36 v42 v44 v49 v52 u = fun _ => 0#32 := by
  unfold Cert.Reference.Gen.k0_pay1
  dsimp only
  rw [hn]
  rfl

end Cert.Proof.Same

end
-- ==== Proof.Experts.Rows.lean ====
/-
  The rows, the weights and the tables both programs read, by position.
-/
module

public import proofs.«01_k».proof.Proof.Experts.Pay

@[expose] public section

noncomputable section

namespace Cert.Proof.Same

open Idealize.ShloMosaic Idealize.ShloMosaic.TcCoe
open Cert.Proof.Experts (xsR guR bgR wdR bdR rS0 rS1 rS2 rS3)

variable {F : FTy → Type} [BitOps F]

/-- A strided load's entry, in the array. -/
theorem at_row (X : Cert.Kernel.S589824x128.Idx → Elt F .i32) (b : ℕ) (r : LoadRect Cert.Kernel.S2048x128) (i : r.shape.Idx) (y : Cert.Kernel.S589824x128.Idx)
    (h0 : (y 0).val = 2048 * (b % 288) + (r.idx i 0).val) (h1 : (y 1).val = (r.idx i 1).val) : X ((xsR b).emb (r.idx i)) = X y := by
  refine congrArg X (funext fun a => Fin.ext ?_)
  fin_cases a
  · show 2048 * (b % 288) + 1 * (r.idx i 0).val = (y 0).val
    omega
  · show 0 + 1 * (r.idx i 1).val = (y 1).val
    omega

/-- The rows of block `k`, whole in the reference and in four strided parts in the kernel. -/
theorem rows_eq (X : Cert.Kernel.S589824x128.Idx → Elt F .i32) (k : Fin Cert.Reference.k0_t1_loop.trips) :
    (fun j => (shapeCast Cert.Reference.S147456x512 X Cert.Reference.Gen.shapeCasts_S589824x128_S147456x512)
        ((Rect.unit (s := Cert.Reference.S147456x512) (Cert.Reference.k0_off2 k) Cert.Reference.S512x512.size (Cert.Reference.Gen.k0_off2_inb k)).toLoadRect.idx j))
      = concatenate Cert.Kernel.S512x512 1 [⟨Cert.Kernel.S512x128, fun j => X ((xsR k.val).emb (rS0.idx j))⟩, ⟨Cert.Kernel.S512x128, fun j => X ((xsR k.val).emb (rS1.idx j))⟩,
          ⟨Cert.Kernel.S512x128, fun j => X ((xsR k.val).emb (rS2.idx j))⟩, ⟨Cert.Kernel.S512x128, fun j => X ((xsR k.val).emb (rS3.idx j))⟩]
        Cert.Kernel.Facts₀.concatenates_S512x128_S512x128_S512x128_S512x128_S512x512_d1 := by
  have hk : k.val < 288 := k.isLt
  have hkm : k.val % 288 = k.val := Nat.mod_eq_of_lt hk
  refine funext fun (j : Cert.Reference.S512x512.Idx) => ?_
  have hj0 : (j 0).val < 512 := (j 0).isLt
  have hj1 : (j 1).val < 512 := (j 1).isLt
  have e0 : (((Rect.unit (s := Cert.Reference.S147456x512) (Cert.Reference.k0_off2 k) Cert.Reference.S512x512.size (Cert.Reference.Gen.k0_off2_inb k)).toLoadRect.idx j) 0).val = 512 * k.val + (j 0).val := by
    refine (congrArg (fun f : Fin 2 → ℕ => f 0 + 1 * (j 0).val) (Cert.Reference.Gen.k0_off2_eq k)).trans ?_
    show 512 * k.val + 1 * (j 0).val = _
    omega
  have e1 : (((Rect.unit (s := Cert.Reference.S147456x512) (Cert.Reference.k0_off2 k) Cert.Reference.S512x512.size (Cert.Reference.Gen.k0_off2_inb k)).toLoadRect.idx j) 1).val = (j 1).val := by
    refine (congrArg (fun f : Fin 2 → ℕ => f 1 + 1 * (j 1).val) (Cert.Reference.Gen.k0_off2_eq k)).trans ?_
    show 0 + 1 * (j 1).val = _
    omega
  have hq : (j 1).val / 128 < 4 := by omega
  have hl : shapeCast Cert.Reference.S147456x512 X Cert.Reference.Gen.shapeCasts_S589824x128_S147456x512
        ((Rect.unit (s := Cert.Reference.S147456x512) (Cert.Reference.k0_off2 k) Cert.Reference.S512x512.size (Cert.Reference.Gen.k0_off2_inb k)).toLoadRect.idx j)
      = X (Shape.pair (d := ![589824, 128]) ⟨2048 * k.val + 4 * (j 0).val + (j 1).val / 128, by show _ < 589824; omega⟩ ⟨(j 1).val % 128, Nat.mod_lt _ (by decide)⟩) := by
    apply shapeCast_apply
    rw [Shape.rowMajor_val_two, Shape.rowMajor_val_two]
    have g : (2048 * k.val + 4 * (j 0).val + (j 1).val / 128) * 128 + (j 1).val % 128 = (512 * k.val + (j 0).val) * 512 + (j 1).val := by omega
    rw [e0, e1]
    exact g
  refine Eq.trans hl ?_
  symm
  have c4 : (j 1).val / 128 = 0 ∨ (j 1).val / 128 = 1 ∨ (j 1).val / 128 = 2 ∨ (j 1).val / 128 = 3 := by omega
  rcases c4 with h | h | h | h
  · have hi : (j 1).val - 0 < 128 := by omega
    refine (concatenate_apply_piece (t := Cert.Kernel.S512x512) 1 _ _ j 0 (by show 0 < 4; decide) Cert.Kernel.S512x128 (fun j => X ((xsR k.val).emb (rS0.idx j))) rfl rfl 0 rfl
      (Shape.pair (d := ![512, 128]) ⟨(j 0).val, hj0⟩ ⟨(j 1).val - 0, hi⟩) ?_ ?_).trans ?_
    · intro b hb
      fin_cases b
      · rfl
      · exact absurd rfl hb
    · show 0 + ((j 1).val - 0) = (j 1).val
      omega
    · refine at_row (F := F) X k.val rS0 (Shape.pair (d := ![512, 128]) ⟨(j 0).val, hj0⟩ ⟨(j 1).val - 0, hi⟩) _ ?_ ?_
      · show 2048 * k.val + 4 * (j 0).val + (j 1).val / 128 = 2048 * (k.val % 288) + (0 + 4 * (j 0).val)
        omega
      · show (j 1).val % 128 = 0 + 1 * ((j 1).val - 0)
        omega
  · have hi : (j 1).val - 128 < 128 := by omega
    refine (concatenate_apply_piece (t := Cert.Kernel.S512x512) 1 _ _ j 1 (by show 1 < 4; decide) Cert.Kernel.S512x128 (fun j => X ((xsR k.val).emb (rS1.idx j))) rfl rfl 128 rfl
      (Shape.pair (d := ![512, 128]) ⟨(j 0).val, hj0⟩ ⟨(j 1).val - 128, hi⟩) ?_ ?_).trans ?_
    · intro b hb
      fin_cases b
      · rfl
      · exact absurd rfl hb
    · show 128 + ((j 1).val - 128) = (j 1).val
      omega
    · refine at_row (F := F) X k.val rS1 (Shape.pair (d := ![512, 128]) ⟨(j 0).val, hj0⟩ ⟨(j 1).val - 128, hi⟩) _ ?_ ?_
      · show 2048 * k.val + 4 * (j 0).val + (j 1).val / 128 = 2048 * (k.val % 288) + (1 + 4 * (j 0).val)
        omega
      · show (j 1).val % 128 = 0 + 1 * ((j 1).val - 128)
        omega
  · have hi : (j 1).val - 256 < 128 := by omega
    refine (concatenate_apply_piece (t := Cert.Kernel.S512x512) 1 _ _ j 2 (by show 2 < 4; decide) Cert.Kernel.S512x128 (fun j => X ((xsR k.val).emb (rS2.idx j))) rfl rfl 256 rfl
      (Shape.pair (d := ![512, 128]) ⟨(j 0).val, hj0⟩ ⟨(j 1).val - 256, hi⟩) ?_ ?_).trans ?_
    · intro b hb
      fin_cases b
      · rfl
      · exact absurd rfl hb
    · show 256 + ((j 1).val - 256) = (j 1).val
      omega
    · refine at_row (F := F) X k.val rS2 (Shape.pair (d := ![512, 128]) ⟨(j 0).val, hj0⟩ ⟨(j 1).val - 256, hi⟩) _ ?_ ?_
      · show 2048 * k.val + 4 * (j 0).val + (j 1).val / 128 = 2048 * (k.val % 288) + (2 + 4 * (j 0).val)
        omega
      · show (j 1).val % 128 = 0 + 1 * ((j 1).val - 256)
        omega
  · have hi : (j 1).val - 384 < 128 := by omega
    refine (concatenate_apply_piece (t := Cert.Kernel.S512x512) 1 _ _ j 3 (by show 3 < 4; decide) Cert.Kernel.S512x128 (fun j => X ((xsR k.val).emb (rS3.idx j))) rfl rfl 384 rfl
      (Shape.pair (d := ![512, 128]) ⟨(j 0).val, hj0⟩ ⟨(j 1).val - 384, hi⟩) ?_ ?_).trans ?_
    · intro b hb
      fin_cases b
      · rfl
      · exact absurd rfl hb
    · show 384 + ((j 1).val - 384) = (j 1).val
      omega
    · refine at_row (F := F) X k.val rS3 (Shape.pair (d := ![512, 128]) ⟨(j 0).val, hj0⟩ ⟨(j 1).val - 384, hi⟩) _ ?_ ?_
      · show 2048 * k.val + 4 * (j 0).val + (j 1).val / 128 = 2048 * (k.val % 288) + (3 + 4 * (j 0).val)
        omega
      · show (j 1).val % 128 = 0 + 1 * ((j 1).val - 384)
        omega

open Cert.Reference (k0_off3 k0_off4 k0_off5 k0_off6)

theorem off3_eq (e : BitVec 32) : k0_off3 e = ![e.toNat, 0] := rfl
theorem off4_eq (e : BitVec 32) : k0_off4 e = ![e.toNat, 0, 0] := rfl
theorem off5_eq (e : BitVec 32) : k0_off5 e = ![e.toNat, 0] := rfl
theorem off6_eq (e : BitVec 32) : k0_off6 e = ![e.toNat, 0, 0] := rfl

/-- An index by its three coordinates. -/
def third {d : Fin 3 → ℕ} (a : Fin (d 0)) (b : Fin (d 1)) (e : Fin (d 2)) : Shape.Idx ⟨3, d⟩ := fun q => match q with
  | 0 => a
  | 1 => b
  | 2 => e

/-- The gate and up biases of expert `e`. -/
theorem bias_gu (A : Cert.Kernel.S32x2048.Idx → Elt F .f32) (e : BitVec 32) (he : e.toNat < 32) (h) :
    (fun j => A ((Rect.unit (s := Cert.Reference.S32x2048) (k0_off3 e) Cert.Reference.S1x2048.size h).toLoadRect.idx j))
      = shapeCast Cert.Kernel.S1x2048 (fun y => (shapeCast Cert.Kernel.S32x1x2048 A Cert.Kernel.Gen.shapeCasts_S32x2048_S32x1x2048) ((bgR e.toNat).emb y)) Cert.Kernel.Facts₀.shapeCasts_S1x1x2048_S1x2048 := by
  refine funext fun (j : Cert.Reference.S1x2048.Idx) => ?_
  have hj0 : (j 0).val < 1 := (j 0).isLt
  have hj1 : (j 1).val < 2048 := (j 1).isLt
  have hem : e.toNat % 32 = e.toNat := Nat.mod_eq_of_lt he
  symm
  refine (shapeCast_apply _ _ j (third (d := ![1, 1, 2048]) ⟨0, Nat.one_pos⟩ ⟨0, Nat.one_pos⟩ ⟨(j 1).val, hj1⟩) ?_).trans ?_
  · rw [Shape.rowMajor_val_two, Shape.rowMajor_val_three]
    have g : (0 * 1 + 0) * 2048 + (j 1).val = (j 0).val * 2048 + (j 1).val := by omega
    exact g
  · refine shapeCast_apply A _ _ _ ?_
    rw [Shape.rowMajor_val_two, Shape.rowMajor_val_three]
    have g : (e.toNat + 1 * (j 0).val) * 2048 + (0 + 1 * (j 1).val) = ((e.toNat % 32 + 1 * 0) * 1 + (0 + 1 * 0)) * 2048 + (0 + 1 * (j 1).val) := by omega
    exact g

/-- The down biases of expert `e`. -/
theorem bias_dn (A : Cert.Kernel.S32x1024.Idx → Elt F .f32) (e : BitVec 32) (he : e.toNat < 32) (h) :
    (fun j => A ((Rect.unit (s := Cert.Reference.S32x1024) (k0_off5 e) Cert.Reference.S1x1024.size h).toLoadRect.idx j))
      = shapeCast Cert.Kernel.S1x1024 (fun y => (shapeCast Cert.Kernel.S32x1x1024 A Cert.Kernel.Gen.shapeCasts_S32x1024_S32x1x1024) ((bdR e.toNat).emb y)) Cert.Kernel.Facts₀.shapeCasts_S1x1x1024_S1x1024 := by
  refine funext fun (j : Cert.Reference.S1x1024.Idx) => ?_
  have hj0 : (j 0).val < 1 := (j 0).isLt
  have hj1 : (j 1).val < 1024 := (j 1).isLt
  have hem : e.toNat % 32 = e.toNat := Nat.mod_eq_of_lt he
  symm
  refine (shapeCast_apply _ _ j (third (d := ![1, 1, 1024]) ⟨0, Nat.one_pos⟩ ⟨0, Nat.one_pos⟩ ⟨(j 1).val, hj1⟩) ?_).trans ?_
  · rw [Shape.rowMajor_val_two, Shape.rowMajor_val_three]
    have g : (0 * 1 + 0) * 1024 + (j 1).val = (j 0).val * 1024 + (j 1).val := by omega
    exact g
  · refine shapeCast_apply A _ _ _ ?_
    rw [Shape.rowMajor_val_two, Shape.rowMajor_val_three]
    have g : (e.toNat + 1 * (j 0).val) * 1024 + (0 + 1 * (j 1).val) = ((e.toNat % 32 + 1 * 0) * 1 + (0 + 1 * 0)) * 1024 + (0 + 1 * (j 1).val) := by omega
    exact g

/-- The gate and up weights of expert `e`. -/
theorem weights_gu {α : Type} (A : Cert.Kernel.S32x1024x2048.Idx → α) (e : BitVec 32) (he : e.toNat < 32) (h) :
    (fun j => A ((Rect.unit (s := Cert.Reference.S32x1024x2048) (k0_off4 e) Cert.Reference.S1x1024x2048.size h).toLoadRect.idx j)) = fun y => A ((guR e.toNat).emb y) := by
  have hem : e.toNat % 32 = e.toNat := Nat.mod_eq_of_lt he
  refine funext fun (j : Cert.Reference.S1x1024x2048.Idx) => congrArg A (funext fun a => Fin.ext ?_)
  fin_cases a
  · show e.toNat + 1 * (j 0).val = e.toNat % 32 + 1 * (j 0).val
    omega
  · rfl
  · rfl

/-- The down weights of expert `e`. -/
theorem weights_dn {α : Type} (A : Cert.Kernel.S32x1024x1024.Idx → α) (e : BitVec 32) (he : e.toNat < 32) (h) :
    (fun j => A ((Rect.unit (s := Cert.Reference.S32x1024x1024) (k0_off6 e) Cert.Reference.S1x1024x1024.size h).toLoadRect.idx j)) = fun y => A ((wdR e.toNat).emb y) := by
  have hem : e.toNat % 32 = e.toNat := Nat.mod_eq_of_lt he
  refine funext fun (j : Cert.Reference.S1x1024x1024.Idx) => congrArg A (funext fun a => Fin.ext ?_)
  fin_cases a
  · show e.toNat + 1 * (j 0).val = e.toNat % 32 + 1 * (j 0).val
    omega
  · rfl
  · rfl

end Cert.Proof.Same

end
-- ==== Proof.Experts.Equal.lean ====
/-
  The reference's result and the kernel's are the same words.
-/
module

public import proofs.«01_k».proof.Proof.Experts.Rows

@[expose] public section

noncomputable section

namespace Cert.Proof.Same

open Idealize.ShloMosaic Idealize.ShloMosaic.TcCoe
open Cert.Proof.Experts (xsR guR bgR wdR bdR mmW)

variable {F : FTy → Type} [BitOps F]

abbrev KMem (F : FTy → Type) : Type := (ℓ : Loc Cert.Kernel.nD Cert.Kernel.τ Cert.Kernel.sig) → Buf (Elt F) ℓ
abbrev RMem (F : FTy → Type) : Type := (ℓ : Loc Cert.Reference.nD Cert.Reference.τ Cert.Reference.sig) → Buf (Elt F) ℓ

/-! ## The arrays the two programs reshape first -/

theorem kernel_v0 (m : KMem F) (c : Dev Cert.Kernel.nD) : (Cert.Kernel.Gen.V m c Cert.Kernel.main_v0 : Vec F Cert.Kernel.S32x1x2048 .f32)
    = shapeCast Cert.Kernel.S32x1x2048 (m ((c : Thread Cert.Kernel.nD Cert.Kernel.τ).loc Cert.Kernel.main_arg5) : Vec F Cert.Kernel.S32x2048 .f32) Cert.Kernel.Gen.shapeCasts_S32x2048_S32x1x2048 := by
  show StableHlo.after Cert.Kernel.Gen.hostOps0 (fun b => m (c, b)) (Proc.devRef .tc Cert.Kernel.main_v0) = _
  unfold Cert.Kernel.Gen.hostOps0
  rw [StableHlo.after_cons, StableHlo.after_cons, StableHlo.after_nil, StableHlo.reshape_result_ne' (h := by decide), StableHlo.reshape_result']
  rfl

theorem kernel_v1 (m : KMem F) (c : Dev Cert.Kernel.nD) : (Cert.Kernel.Gen.V m c Cert.Kernel.main_v1 : Vec F Cert.Kernel.S32x1x1024 .f32)
    = shapeCast Cert.Kernel.S32x1x1024 (m ((c : Thread Cert.Kernel.nD Cert.Kernel.τ).loc Cert.Kernel.main_arg7) : Vec F Cert.Kernel.S32x1024 .f32) Cert.Kernel.Gen.shapeCasts_S32x1024_S32x1x1024 := by
  show StableHlo.after Cert.Kernel.Gen.hostOps0 (fun b => m (c, b)) (Proc.devRef .tc Cert.Kernel.main_v1) = _
  unfold Cert.Kernel.Gen.hostOps0
  rw [StableHlo.after_cons, StableHlo.after_cons, StableHlo.after_nil, StableHlo.reshape_result', StableHlo.reshape_result_ne' (h := by decide)]
  rfl

theorem reference_v0 (m : RMem F) (c : Dev Cert.Reference.nD) : (Cert.Reference.Gen.V m c Cert.Reference.main_v0 : Vec F Cert.Reference.S147456x512 .i32)
    = shapeCast Cert.Reference.S147456x512 (m ((c : Thread Cert.Reference.nD Cert.Reference.τ).loc Cert.Reference.main_arg0) : Vec F Cert.Reference.S589824x128 .i32) Cert.Reference.Gen.shapeCasts_S589824x128_S147456x512 := by
  show StableHlo.after (List.flatten [Cert.Reference.Gen.hostOps0]) (fun b => m (c, b)) (Proc.devRef .tc Cert.Reference.main_v0) = _
  rw [show (List.flatten [Cert.Reference.Gen.hostOps0 (F := F)]) = Cert.Reference.Gen.hostOps0 from rfl]
  unfold Cert.Reference.Gen.hostOps0
  rw [StableHlo.after_cons, StableHlo.after_nil, StableHlo.reshape_result']
  rfl

/-! ## One block -/

section
variable (T1 : Vec F Cert.Kernel.S288 .i32) (U : Vec F Cert.Kernel.S1 .i32) (T3 : Vec F Cert.Kernel.S288 .i32) (A0 : Vec F Cert.Kernel.S589824x128 .i32)
  (A4 : Vec F Cert.Kernel.S32x1024x2048 .f32) (A5 : Vec F Cert.Kernel.S32x2048 .f32) (A6 : Vec F Cert.Kernel.S32x1024x1024 .f32) (A7 : Vec F Cert.Kernel.S32x1024 .f32)

/-- The reference's words on a block in use are the kernel's. -/
theorem word_used (k : Fin Cert.Reference.k0_t1_loop.trips) (hk : Cert.Reference.k0_chk1 (T1 (ExpertsR.ix k))) (e : BitVec 32) (he : T1 (ExpertsR.ix k) = e) (h32 : e.toNat < 32)
    (v : Elt F .i32) (hv : T3 (ExpertsR.ix k) = v) (hn : Scalar.cmpi .slt (Scf.iv 0#32 1#32 k.val) (U ExpertsR.ix1) = 1#1) :
    ExpertsR.word T1 U T3 (shapeCast Cert.Reference.S147456x512 A0 Cert.Reference.Gen.shapeCasts_S589824x128_S147456x512) A4 A5 A6 A7 k hk
      = mmW (F := F) (fun y => A0 ((xsR k.val).emb y)) v
          (fun y => (shapeCast Cert.Kernel.S32x1x2048 A5 Cert.Kernel.Gen.shapeCasts_S32x2048_S32x1x2048) ((bgR e.toNat).emb y)) (Cert.Kernel.Gen.k0_pay5 fun y => A4 ((guR e.toNat).emb y))
          (fun y => (shapeCast Cert.Kernel.S32x1x1024 A7 Cert.Kernel.Gen.shapeCasts_S32x1024_S32x1x1024) ((bdR e.toNat).emb y)) (Cert.Kernel.Gen.k0_pay6 fun y => A6 ((wdR e.toNat).emb y)) := by
  subst he hv
  have hx := rows_eq (F := F) A0 k
  have hg := bias_gu (F := F) A5 (T1 (ExpertsR.ix k)) h32 (Cert.Reference.k0_off3_inb _ hk)
  have hd := bias_dn (F := F) A7 (T1 (ExpertsR.ix k)) h32 (Cert.Reference.k0_off5_inb _ hk)
  have hgu := weights_gu A4 (T1 (ExpertsR.ix k)) h32 (Cert.Reference.k0_off4_inb _ hk)
  have hwd := weights_dn A6 (T1 (ExpertsR.ix k)) h32 (Cert.Reference.k0_off6_inb _ hk)
  unfold mmW
  refine Eq.trans ?_ (pay_used _ _ _ _ (T3 (ExpertsR.ix k)) _ _ _ _ (Scf.iv 0#32 1#32 k.val) (U ExpertsR.ix1) _ _ _ hx hg hd hn)
  unfold ExpertsR.word ExpertsR.wordV
  dsimp only
  rw [hgu, hwd]
  rfl

/-- The reference's words past the blocks in use. -/
theorem word_rest (A3 : Vec F Cert.Reference.S147456x512 .i32) (k : Fin Cert.Reference.k0_t1_loop.trips) (hk : Cert.Reference.k0_chk1 (T1 (ExpertsR.ix k)))
    (hn : Scalar.cmpi .slt (Scf.iv 0#32 1#32 k.val) (U ExpertsR.ix1) = 0#1) : ExpertsR.word T1 U T3 A3 A4 A5 A6 A7 k hk = fun _ => 0#32 := by
  unfold ExpertsR.word ExpertsR.wordV
  exact pay_zero _ _ _ _ _ _ _ hn

end

/-! ## The result -/

theorem ix_eq (k : Fin Cert.Reference.k0_t1_loop.trips) (hk : k.val < 288) : ExpertsR.ix k = Experts.ix k.val hk := by
  funext a
  apply Fin.ext
  fin_cases a
  refine (congrArg (fun f : Fin 1 → ℕ => f 0 + 1 * 0) (Cert.Reference.Gen.k0_off1_eq k)).trans ?_
  rfl

theorem ix1_eq : ExpertsR.ix1 = Experts.ix1 := by
  funext a
  apply Fin.ext
  fin_cases a
  rfl

theorem iv_eq (k : ℕ) : Scf.iv 0#32 1#32 k = Experts.w k := by
  unfold Scf.iv
  rw [BitVec.mul_one, BitVec.zero_add]

/-- The kernel's words on block `k`. -/
def blockK (m : KMem F) (c : Dev Cert.Kernel.nD) (h : Experts.PreOK m) (k : ℕ) : IVec Cert.Kernel.S512x512 32 :=
  if k ≤ (Experts.D0 c m h).N then
    mmW (F := F) (fun y => (Cert.Kernel.Gen.V m c Cert.Kernel.main_arg0 : Vec F Cert.Kernel.S589824x128 .i32) ((xsR k).emb y)) (Experts.tV c m k)
      (fun y => (Cert.Kernel.Gen.V m c Cert.Kernel.main_v0 : Vec F Cert.Kernel.S32x1x2048 .f32) ((bgR (Experts.tB c m k).toNat).emb y))
      (Cert.Kernel.Gen.k0_pay5 fun y => (Cert.Kernel.Gen.V m c Cert.Kernel.main_arg4 : Vec F Cert.Kernel.S32x1024x2048 .f32) ((guR (Experts.tB c m k).toNat).emb y))
      (fun y => (Cert.Kernel.Gen.V m c Cert.Kernel.main_v1 : Vec F Cert.Kernel.S32x1x1024 .f32) ((bdR (Experts.tB c m k).toNat).emb y))
      (Cert.Kernel.Gen.k0_pay6 fun y => (Cert.Kernel.Gen.V m c Cert.Kernel.main_arg6 : Vec F Cert.Kernel.S32x1024x1024 .f32) ((wdR (Experts.tB c m k).toNat).emb y))
  else fun _ => 0#32

theorem Y_eq (m : KMem F) (c : Dev Cert.Kernel.nD) (h : Experts.PreOK m) (k : ℕ) : Experts.Y (Experts.D0 c m h) k = Experts.spread (F := F) (blockK m c h k) := by
  unfold Experts.Y blockK
  split
  · rfl
  · rfl

/-- The reference's words on block `k` are the kernel's. -/
theorem block_eq (m : KMem F) (c : Dev Cert.Kernel.nD) (h : Experts.PreOK m)
    (T1 : Vec F Cert.Kernel.S288 .i32) (U : Vec F Cert.Kernel.S1 .i32) (T3 : Vec F Cert.Kernel.S288 .i32) (A3 : Vec F Cert.Reference.S147456x512 .i32)
    (A4 : Vec F Cert.Kernel.S32x1024x2048 .f32) (A5 : Vec F Cert.Kernel.S32x2048 .f32) (A6 : Vec F Cert.Kernel.S32x1024x1024 .f32) (A7 : Vec F Cert.Kernel.S32x1024 .f32)
    (t1 : T1 = Cert.Kernel.Gen.V m c Cert.Kernel.main_arg1) (t2 : U = Cert.Kernel.Gen.V m c Cert.Kernel.main_arg2) (t3 : T3 = Cert.Kernel.Gen.V m c Cert.Kernel.main_arg3)
    (t0 : A3 = shapeCast Cert.Reference.S147456x512 (Cert.Kernel.Gen.V m c Cert.Kernel.main_arg0 : Vec F Cert.Kernel.S589824x128 .i32) Cert.Reference.Gen.shapeCasts_S589824x128_S147456x512)
    (t4 : A4 = Cert.Kernel.Gen.V m c Cert.Kernel.main_arg4) (t5 : A5 = m ((c : Thread Cert.Kernel.nD Cert.Kernel.τ).loc Cert.Kernel.main_arg5))
    (t6 : A6 = Cert.Kernel.Gen.V m c Cert.Kernel.main_arg6) (t7 : A7 = m ((c : Thread Cert.Kernel.nD Cert.Kernel.τ).loc Cert.Kernel.main_arg7))
    (k : Fin Cert.Reference.k0_t1_loop.trips) (hk : Cert.Reference.k0_chk1 (T1 (ExpertsR.ix k))) :
    ExpertsR.word T1 U T3 A3 A4 A5 A6 A7 k hk = blockK m c h k.val := by
  have hb : k.val < 288 := k.isLt
  subst t0 t4 t5 t6 t7
  have hB : T1 (ExpertsR.ix k) = Experts.tB c m k.val := by
    unfold Experts.tB; rw [dif_pos hb, t1, ix_eq k hb]
  have hV : T3 (ExpertsR.ix k) = Experts.tV c m k.val := by
    unfold Experts.tV; rw [dif_pos hb, t3, ix_eq k hb]
  have hu : U ExpertsR.ix1 = (Experts.D0 c m h).u := by
    rw [t2, ix1_eq]; rfl
  have hs := (Experts.D0 c m h).hN.slt (j := k.val) (by omega)
  rw [← iv_eq, ← hu] at hs
  unfold blockK
  split
  · rename_i hN
    rw [Experts.bw_eq_one.mpr hN] at hs
    rw [word_used T1 U T3 _ _ _ _ _ k hk _ hB (Experts.tB_lt c m h k.val) _ hV hs, kernel_v0, kernel_v1]
  · rename_i hN
    refine word_rest T1 U T3 _ _ _ _ _ k hk (hs.trans ?_)
    unfold Experts.bw
    rw [if_neg hN]

/-- The two results agree, from memories agreeing on the arguments. -/
theorem result_eq (m : KMem F) (m' : RMem F) (h : Experts.PreOK m) (hH : Cert.Reference.Gen.Hyps m') (c : Dev Cert.Kernel.nD)
    (a0 : m' ((c : Thread Cert.Reference.nD Cert.Reference.τ).loc Cert.Reference.main_arg0) = m ((c : Thread Cert.Kernel.nD Cert.Kernel.τ).loc Cert.Kernel.main_arg0))
    (a1 : m' ((c : Thread Cert.Reference.nD Cert.Reference.τ).loc Cert.Reference.main_arg1) = m ((c : Thread Cert.Kernel.nD Cert.Kernel.τ).loc Cert.Kernel.main_arg1))
    (a2 : m' ((c : Thread Cert.Reference.nD Cert.Reference.τ).loc Cert.Reference.main_arg2) = m ((c : Thread Cert.Kernel.nD Cert.Kernel.τ).loc Cert.Kernel.main_arg2))
    (a3 : m' ((c : Thread Cert.Reference.nD Cert.Reference.τ).loc Cert.Reference.main_arg3) = m ((c : Thread Cert.Kernel.nD Cert.Kernel.τ).loc Cert.Kernel.main_arg3))
    (a4 : m' ((c : Thread Cert.Reference.nD Cert.Reference.τ).loc Cert.Reference.main_arg4) = m ((c : Thread Cert.Kernel.nD Cert.Kernel.τ).loc Cert.Kernel.main_arg4))
    (a5 : m' ((c : Thread Cert.Reference.nD Cert.Reference.τ).loc Cert.Reference.main_arg5) = m ((c : Thread Cert.Kernel.nD Cert.Kernel.τ).loc Cert.Kernel.main_arg5))
    (a6 : m' ((c : Thread Cert.Reference.nD Cert.Reference.τ).loc Cert.Reference.main_arg6) = m ((c : Thread Cert.Kernel.nD Cert.Kernel.τ).loc Cert.Kernel.main_arg6))
    (a7 : m' ((c : Thread Cert.Reference.nD Cert.Reference.τ).loc Cert.Reference.main_arg7) = m ((c : Thread Cert.Kernel.nD Cert.Kernel.τ).loc Cert.Kernel.main_arg7)) :
    shapeCast Cert.Reference.S589824x128 (Cert.Reference.Gen.outsAt0 m' hH c ExpertsR.t0) Cert.Reference.Gen.shapeCasts_S147456x512_S589824x128 = Experts.G0 c m h := by
  refine funext fun (i : Cert.Kernel.S589824x128.Idx) => ?_
  have hi0 : (i 0).val < 589824 := (i 0).isLt
  have hi1 : (i 1).val < 128 := (i 1).isLt
  have hb : (i 0).val / 2048 < 288 := by omega
  refine (shapeCast_apply _ _ i (Shape.pair (d := ![147456, 512]) ⟨(i 0).val / 4, by show _ < 147456; omega⟩ ⟨128 * ((i 0).val % 4) + (i 1).val, by show _ < 512; omega⟩) ?_).trans ?_
  · rw [Shape.rowMajor_val_two, Shape.rowMajor_val_two]
    have g : (i 0).val / 4 * 512 + (128 * ((i 0).val % 4) + (i 1).val) = (i 0).val * 128 + (i 1).val := by omega
    exact g
  have t1 : (Cert.Reference.Gen.V m' c Cert.Reference.main_arg1 : Vec F Cert.Kernel.S288 .i32) = Cert.Kernel.Gen.V m c Cert.Kernel.main_arg1 :=
    (Cert.Reference.Gen.V_main_arg1 m' c).trans (a1.trans (Cert.Kernel.Gen.V_main_arg1 m c).symm)
  have t2 : (Cert.Reference.Gen.V m' c Cert.Reference.main_arg2 : Vec F Cert.Kernel.S1 .i32) = Cert.Kernel.Gen.V m c Cert.Kernel.main_arg2 :=
    (Cert.Reference.Gen.V_main_arg2 m' c).trans (a2.trans (Cert.Kernel.Gen.V_main_arg2 m c).symm)
  have t3 : (Cert.Reference.Gen.V m' c Cert.Reference.main_arg3 : Vec F Cert.Kernel.S288 .i32) = Cert.Kernel.Gen.V m c Cert.Kernel.main_arg3 :=
    (Cert.Reference.Gen.V_main_arg3 m' c).trans (a3.trans (Cert.Kernel.Gen.V_main_arg3 m c).symm)
  have t4 : (Cert.Reference.Gen.V m' c Cert.Reference.main_arg4 : Vec F Cert.Kernel.S32x1024x2048 .f32) = Cert.Kernel.Gen.V m c Cert.Kernel.main_arg4 :=
    (Cert.Reference.Gen.V_main_arg4 m' c).trans (a4.trans (Cert.Kernel.Gen.V_main_arg4 m c).symm)
  have t6 : (Cert.Reference.Gen.V m' c Cert.Reference.main_arg6 : Vec F Cert.Kernel.S32x1024x1024 .f32) = Cert.Kernel.Gen.V m c Cert.Kernel.main_arg6 :=
    (Cert.Reference.Gen.V_main_arg6 m' c).trans (a6.trans (Cert.Kernel.Gen.V_main_arg6 m c).symm)
  have t5 : (Cert.Reference.Gen.V m' c Cert.Reference.main_arg5 : Vec F Cert.Kernel.S32x2048 .f32) = m ((c : Thread Cert.Kernel.nD Cert.Kernel.τ).loc Cert.Kernel.main_arg5) :=
    (Cert.Reference.Gen.V_main_arg5 m' c).trans a5
  have t7 : (Cert.Reference.Gen.V m' c Cert.Reference.main_arg7 : Vec F Cert.Kernel.S32x1024 .f32) = m ((c : Thread Cert.Kernel.nD Cert.Kernel.τ).loc Cert.Kernel.main_arg7) :=
    (Cert.Reference.Gen.V_main_arg7 m' c).trans a7
  have t0 : (Cert.Reference.Gen.V m' c Cert.Reference.main_v0 : Vec F Cert.Reference.S147456x512 .i32)
      = shapeCast Cert.Reference.S147456x512 (Cert.Kernel.Gen.V m c Cert.Kernel.main_arg0 : Vec F Cert.Kernel.S589824x128 .i32) Cert.Reference.Gen.shapeCasts_S589824x128_S147456x512 := by
    rw [reference_v0]
    exact congrArg (fun A => shapeCast Cert.Reference.S147456x512 A Cert.Reference.Gen.shapeCasts_S589824x128_S147456x512) (a0.trans (Cert.Kernel.Gen.V_main_arg0 m c).symm)
  have hx : ExpertsR.ix (⟨(i 0).val / 2048, hb⟩ : Fin Cert.Reference.k0_t1_loop.trips) = Experts.ix ((i 0).val / 2048) hb := ix_eq _ hb
  have hk : Cert.Reference.k0_chk1 ((Cert.Reference.Gen.V m' c Cert.Reference.main_arg1 : Vec F Cert.Reference.S288 .i32) (ExpertsR.ix ⟨(i 0).val / 2048, hb⟩)) := by
    rw [hx]
    have e1 := congrFun t1 (Experts.ix ((i 0).val / 2048) hb)
    have e2 := congrFun (Cert.Kernel.Gen.V_main_arg1 m c) (Experts.ix ((i 0).val / 2048) hb)
    have e := h.e c (Experts.ix ((i 0).val / 2048) hb)
    rw [← e2] at e
    rw [← e1] at e
    exact ExpertsR.chk_of e.1 e.2
  refine (ExpertsR.outs m' hH c ExpertsR.t0 _ ⟨(i 0).val / 2048, hb⟩
    (Shape.pair (d := ![512, 512]) ⟨(i 0).val % 2048 / 4, by show _ < 512; omega⟩ ⟨128 * ((i 0).val % 2048 % 4) + (i 1).val, by show _ < 512; omega⟩) ?_ ?_ hk).trans ?_
  · show (i 0).val / 4 = 512 * ((i 0).val / 2048) + (i 0).val % 2048 / 4
    omega
  · show 128 * ((i 0).val % 4) + (i 1).val = 128 * ((i 0).val % 2048 % 4) + (i 1).val
    omega
  have key := block_eq m c h (Cert.Reference.Gen.V m' c Cert.Reference.main_arg1) (Cert.Reference.Gen.V m' c Cert.Reference.main_arg2) (Cert.Reference.Gen.V m' c Cert.Reference.main_arg3)
    (Cert.Reference.Gen.V m' c Cert.Reference.main_v0) (Cert.Reference.Gen.V m' c Cert.Reference.main_arg4) (Cert.Reference.Gen.V m' c Cert.Reference.main_arg5)
    (Cert.Reference.Gen.V m' c Cert.Reference.main_arg6) (Cert.Reference.Gen.V m' c Cert.Reference.main_arg7) t1 t2 t3 t0 t4 t5 t6 t7 ⟨(i 0).val / 2048, hb⟩ hk
  refine (congrFun key _).trans ?_
  unfold Experts.G0 Experts.gather
  rw [Y_eq]
  rfl

end Cert.Proof.Same

end
-- ==== Proof.Modulation.Value.lean ====
/- The modulation call's result, and its reference's. The kernel computes the product a tile of 1536 columns at a time;
   entry `(r, n)` of the result is the whole product's, because a tile's columns are columns of the weights. -/
module

public import proofs.«01_k».proof.Proof.Gen.ModIdeal.Value
public import proofs.«01_k».proof.Proof.Gen.ModReferenceIdeal.Read
public import Idealize.ShloMosaic.Lib.Pointwise

@[expose] public section

noncomputable section

namespace Cert.Modulation

open Cert.ModIdeal Cert.ModIdeal.Gen Cert.ModIdeal.Value Idealize.ShloMosaic Idealize.ShloMosaic.TcCoe Idealize.SL.Sem

/-- Entry `(r, n)` of the modulation: the bias, plus the sum over `k` of `silu c` at `(r, k)` times the weights at `(k, n)`. -/
def G (c : Vec Ideal S8x1024 .f32) (w : Vec Ideal S1024x6144 .f32) (b : Vec Ideal S6144 .f32) : Vec Ideal S8x6144 .f32 := fun i =>
  (∑ k : Fin 1024, c (ix2 (i 0) k) * Ideal.logistic (c (ix2 (i 0) k)) * w (ix2 k (i 1))) + b (ix1 (i 1))

/-! ## One tile -/

theorem hz : (![0, 0] : Fin 2 → Nat) = fun _ => 0 := funext fun a => by fin_cases a <;> rfl

/-- One grid point's stored tile at an index. -/
theorem pay_apply (x0 : Vec Ideal S8x1024 .f32) (x1 : Vec Ideal S1024x1536 .f32) (x2 : Vec Ideal S1x1536 .f32) (j : S8x1536.Idx) :
    k0_pay1 (F := Ideal) x0 x1 x2 j
      = (∑ k : Fin 1024, x0 (ix2 (j 0) k) * Ideal.logistic (x0 (ix2 (j 0) k)) * x1 (ix2 k (j 1))) + x2 (ix2 0 (j 1)) := by
  unfold k0_pay1
  pointwise

/-- What the body leaves in the output's buffer is its one payload. -/
theorem out_eq (x0 : Vec Ideal S8x1024 .f32) (x1 : Vec Ideal S1024x1536 .f32) (x2 : Vec Ideal S1x1536 .f32) :
    out0_3 x0 x1 x2 = k0_pay1 x0 x1 x2 := by
  unfold out0_3
  rw [View.canon_unit_zero hz, View.ld_unit_zero hz, View.ld_unit_zero hz, View.ld_unit_zero hz]

/-! ## The windows' blocks -/

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- Column `j` of tile `t`. -/
def col (t : Fin cfg0.N) (j : Fin 1536) : Fin 6144 := ⟨t.val * 1536 + j.val, by
  have h : t.val < 4 := t.isLt.trans_eq N_0
  have := j.isLt; omega⟩

theorem emb0 (t : Fin cfg0.N) (j : S8x1024.Idx) : ((cfg0.win 0).blk t).view.emb j = j := by
  obtain ⟨e0, e1⟩ := idx0 t
  funext a; apply Fin.ext
  match a with
  | ⟨0, _⟩ => show win0_0.index t (0 : Fin 2) * 8 + 1 * (j 0).val = (j 0).val; omega
  | ⟨1, _⟩ => show win0_0.index t (1 : Fin 2) * 1024 + 1 * (j 1).val = (j 1).val; omega

theorem emb1 (t : Fin cfg0.N) (j : S1024x1536.Idx) : ((cfg0.win 1).blk t).view.emb j = (ix2 (j 0) (col t (j 1)) : S1024x6144.Idx) := by
  obtain ⟨e0, e1⟩ := idx1 t
  funext a; apply Fin.ext
  match a with
  | ⟨0, _⟩ => show win0_1.index t (0 : Fin 2) * 1024 + 1 * (j 0).val = (j 0).val; omega
  | ⟨1, _⟩ => show win0_1.index t (1 : Fin 2) * 1536 + 1 * (j 1).val = t.val * 1536 + (j 1).val; omega

theorem emb2 (t : Fin cfg0.N) (j : S1x1536.Idx) : ((cfg0.win 2).blk t).view.emb j = (ix2 (j 0) (col t (j 1)) : S1x6144.Idx) := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1536 + 1 * (j 1).val = t.val * 1536 + (j 1).val; omega

theorem emb3 (t : Fin cfg0.N) (j : S8x1536.Idx) : ((cfg0.win 3).blk t).view.emb j = (ix2 (j 0) (col t (j 1)) : S8x6144.Idx) := by
  obtain ⟨e0, e1⟩ := idx3 t
  funext a; apply Fin.ext
  match a with
  | ⟨0, _⟩ => show win0_3.index t (0 : Fin 2) * 8 + 1 * (j 0).val = (j 0).val; omega
  | ⟨1, _⟩ => show win0_3.index t (1 : Fin 2) * 1536 + 1 * (j 1).val = t.val * 1536 + (j 1).val; omega

/-- The bias as the grid finds it: the argument as one row. -/
theorem bias_eq (c : Dev nD) (n : Fin 6144) :
    (V m c main_v0 : Vec Ideal S1x6144 .f32) (ix2 0 n) = (m ((c : Thread nD τ).loc main_arg2) : Vec Ideal S6144 .f32) (ix1 n) := by
  have e : V m c main_v0 = shapeCast S1x6144 (m ((c : Thread nD τ).loc main_arg2) : Vec Ideal S6144 .f32) shapeCasts_S6144_S1x6144 := by
    dsimp only [V, hostOps0]; after_results; rfl
  rw [e]
  exact shapeCast_apply _ _ _ _ (by
    refine (Shape.rowMajor_val_one (ix1 n : S6144.Idx)).trans ?_
    rw [Shape.rowMajor_val_two]; show n.val = 0 * 6144 + n.val; omega)

/-! ## The result array -/

/-- What a point writes back is its block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [flushed3, out_eq]
  funext j
  show k0_pay1 (F := Ideal) (iblk m c 0 t) (iblk m c 1 t) (iblk m c 2 t) j = G _ _ _ (((cfg0.win 3).blk t).view.emb j)
  rw [pay_apply, emb3]
  have h0 : ∀ i : S8x1024.Idx, iblk m c 0 t i = m ((c : Thread nD τ).loc main_arg0) i := fun i => by
    rw [← V_main_arg0 m c]; show V m c main_arg0 (((cfg0.win 0).blk t).view.emb i) = _; rw [emb0]
  have h1 : ∀ i : S1024x1536.Idx, iblk m c 1 t i = (m ((c : Thread nD τ).loc main_arg1) : Vec Ideal S1024x6144 .f32) (ix2 (i 0) (col t (i 1))) := fun i => by
    rw [← V_main_arg1 m c]; show V m c main_arg1 (((cfg0.win 1).blk t).view.emb i) = _; rw [emb1]
  have h2 : iblk m c 2 t (ix2 0 (j 1) : S1x1536.Idx) = (m ((c : Thread nD τ).loc main_arg2) : Vec Ideal S6144 .f32) (ix1 (col t (j 1))) := by
    rw [← bias_eq m c]; show V m c main_v0 (((cfg0.win 2).blk t).view.emb _) = _; rw [emb2]; rfl
  refine congrArg₂ (· + ·) (Finset.sum_congr rfl fun k _ => ?_) h2
  rw [h0, h1]; rfl

/-- Every index of the result is in some point's block. -/
theorem covered (i : S8x6144.Idx) : ∃ t : Fin cfg0.N, (cfg0.win 3).flush t = true ∧ i ∈ ((cfg0.win 3).blk t).view.set := by
  have hi : (i 1).val < 6144 := (i 1).isLt
  have hN : cfg0.N = 4 := N_0
  let t : Fin cfg0.N := ⟨(i 1).val / 1536, by omega⟩
  have h := ((cfg0.win 3).blk t).view.emb_mem_set (ix2 (i 0) ⟨(i 1).val % 1536, Nat.mod_lt _ (by decide)⟩ : S8x1536.Idx)
  refine ⟨t, flush0_3 t, ?_⟩
  rw [emb3] at h
  have e : (ix2 (i 0) (col t ⟨(i 1).val % 1536, Nat.mod_lt _ (by decide)⟩) : S8x6144.Idx) = i := by
    funext a; apply Fin.ext
    match a with
    | ⟨0, _⟩ => rfl
    | ⟨1, _⟩ => show (i 1).val / 1536 * 1536 + (i 1).val % 1536 = (i 1).val; omega
  exact e ▸ h

theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The run with the result at `G` of the arguments. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

/-! ## The reference -/

open Cert.ModReferenceIdeal.Read in
/-- The reference's result is the same function. -/
theorem reference_eq (x0 : Vec Ideal S8x1024 .f32) (x1 : Vec Ideal S1024x6144 .f32) (x2 : Vec Ideal S6144 .f32) :
    val_main_v4 (F := Ideal) x0 x1 x2 = G x0 x1 x2 := by
  have one : (FloatOps.ofBits .f32 0x3F800000#32 : Ideal .f32) = 1 := by pointwise
  funext i
  rw [val_main_v4_apply, val_main_v1_apply, val_main_v3_apply, val_main_v2_apply]
  refine congrArg₂ (· + ·) (Finset.sum_congr rfl fun k _ => ?_) (congrArg x2 (funext fun a => by match a with | ⟨0, _⟩ => rfl))
  refine congrArg₂ (· * ·) ?_ (congrArg x1 (funext fun a => by match a with | ⟨0, _⟩ => rfl | ⟨1, _⟩ => rfl))
  have e : lidx_main_v1 i k = (ix2 (i 0) k : S8x1024.Idx) := funext fun a => by match a with | ⟨0, _⟩ => rfl | ⟨1, _⟩ => rfl
  rw [e, val_main_v0_apply, val_main_call0_v5_apply, val_main_call0_v4_apply, val_main_call0_cst_0_apply, val_main_call0_v3_apply,
    val_main_call0_v2_apply, val_main_call0_cst_apply, val_main_call0_v1_apply, val_main_call0_v0_apply, one]
  rfl

end Cert.Modulation

end
-- ==== Proof.Combination.Pay.lean ====
/-
  The two programs' arithmetic on a tile of tokens: the weighted sum by halves of the columns is the whole one's halves.
-/
module

public import proofs.«01_k».proof.Proof.Gen.Combine.Skeleton
public import proofs.«01_k».proof.Proof.Gen.CombineReference.Skeleton
public import Idealize.ShloMosaic.Lib.Pipeline.Value

@[expose] public section

noncomputable section

namespace Cert.Proof.Combination

open Idealize.ShloMosaic Idealize.ShloMosaic.TcCoe
open Cert.Combine (S512x4 S512x1 S512x128 S512x512 S512x1024 S1x1x1024 S1x1024)

variable {F : FTy → Type} [FloatOps F]

/-- Two halves of columns side by side. -/
abbrev cat {α : Type} (a b : S512x512.Idx → α) : S512x1024.Idx → α :=
  concatenate S512x1024 1 [⟨S512x512, a⟩, ⟨S512x512, b⟩] Cert.CombineReference.Gen.concatenates_S512x512_S512x512_S512x1024_d1

theorem cat_left {α : Type} (a b : S512x512.Idx → α) (j : S512x1024.Idx) (h : (j 1).val < 512) :
    cat a b j = a (Shape.pair (d := ![512, 512]) ⟨(j 0).val, (j 0).isLt⟩ ⟨(j 1).val, h⟩) := by
  refine concatenate_apply_piece (t := S512x1024) 1 _ _ j 0 (by show 0 < 2; decide) S512x512 a rfl rfl 0 rfl _ ?_ ?_
  · intro q hq
    fin_cases q
    · rfl
    · exact absurd rfl hq
  · show 0 + (j 1).val = (j 1).val
    omega

theorem cat_right {α : Type} (a b : S512x512.Idx → α) (j : S512x1024.Idx) (h : ¬ (j 1).val < 512) :
    cat a b j = b (Shape.pair (d := ![512, 512]) ⟨(j 0).val, (j 0).isLt⟩ ⟨(j 1).val - 512, by have h1 : (j 1).val < 1024 := (j 1).isLt; show _ < 512; omega⟩) := by
  refine concatenate_apply_piece (t := S512x1024) 1 _ _ j 1 (by show 1 < 2; decide) S512x512 b rfl rfl 512 rfl _ ?_ ?_
  · intro q hq
    fin_cases q
    · rfl
    · exact absurd rfl hq
  · show 512 + ((j 1).val - 512) = (j 1).val
    omega

theorem cat_zero (z : F .f32) : (broadcast S512x1024 z : FVec F S512x1024 .f32) = cat (broadcast S512x512 z) (broadcast S512x512 z) := by
  funext j
  by_cases h : (j 1).val < 512
  · rw [cat_left _ _ j h]; rfl
  · rw [cat_right _ _ j h]; rfl

theorem cat_add (a b a' b' : FVec F S512x512 .f32) : addf (cat a b : FVec F S512x1024 .f32) (cat a' b') = cat (addf a a') (addf b b') := by
  funext j
  by_cases h : (j 1).val < 512
  · rw [cat_left _ _ j h]
    exact congrArg₂ (FloatOps.addf (F := F) (φ := .f32)) (cat_left a b j h) (cat_left a' b' j h)
  · rw [cat_right _ _ j h]
    exact congrArg₂ (FloatOps.addf (F := F) (φ := .f32)) (cat_right a b j h) (cat_right a' b' j h)

theorem cat_mul (w : FVec F S512x1 .f32) (a b : FVec F S512x512 .f32) :
    mulf (broadcastTo S512x1024 w Cert.CombineReference.Gen.broadcasts_S512x1_S512x1024 : FVec F S512x1024 .f32) (cat a b)
      = cat (mulf (broadcastTo S512x512 w Cert.Combine.Gen.broadcasts_S512x1_S512x512) a) (mulf (broadcastTo S512x512 w Cert.Combine.Gen.broadcasts_S512x1_S512x512) b) := by
  funext j
  by_cases h : (j 1).val < 512
  · rw [cat_left _ _ j h]
    refine congrArg₂ (FloatOps.mulf (F := F) (φ := .f32)) ?_ (cat_left a b j h)
    exact congrArg w (funext fun q => Fin.ext (by fin_cases q <;> rfl))
  · rw [cat_right _ _ j h]
    refine congrArg₂ (FloatOps.mulf (F := F) (φ := .f32)) ?_ (cat_right a b j h)
    exact congrArg w (funext fun q => Fin.ext (by fin_cases q <;> rfl))

/-- A tile's four rows of words, each from its four strided parts. -/
abbrev wide (v : Fin 4 → Vec F S512x128 .i32) : IVec S512x512 32 :=
  Cert.Combine.Gen.k0_pay2 (F := F) (v 0) (v 1) (v 2) (v 3)

/-- The kernel's stored tile, from its loads. -/
def kernelTile (w : Vec F S512x4 .f32) (a b e d : Fin 4 → Vec F S512x128 .i32) (gate : Vec F S1x1x1024 .f32) (x : Vec F S512x1024 .f32) (gain : Vec F S1x1024 .f32) : FVec F S512x1024 .f32 :=
  Cert.Combine.Gen.k0_pay1
    (Cert.Combine.Gen.k0_pay14 w (Cert.Combine.Gen.k0_pay4 w (a 0) (a 1) (a 2) (a 3)) (Cert.Combine.Gen.k0_pay9 w (b 0) (b 1) (b 2) (b 3))
      (e 0) (e 1) (e 2) (e 3) (d 0) (d 1) (d 2) (d 3))
    (Cert.Combine.Gen.k0_pay15 w (Cert.Combine.Gen.k0_pay5 w (a 0) (a 1) (a 2) (a 3)) (Cert.Combine.Gen.k0_pay7 (b 0) (b 1) (b 2) (b 3)) (Cert.Combine.Gen.k0_pay8 w)
      (e 0) (e 1) (e 2) (e 3) (d 0) (d 1) (d 2) (d 3))
    gate x gain

/-- The reference's stored tile, from its loads. -/
def referenceTile (w : Vec F S512x4 .f32) (a b e d : Vec F S512x512 .i32) (gate : Vec F S1x1x1024 .f32) (x : Vec F S512x1024 .f32) (gain : Vec F S1x1024 .f32) : FVec F S512x1024 .f32 :=
  Cert.CombineReference.Gen.k0_pay1 w
    (Cert.CombineReference.Gen.k0_pay5 w (Cert.CombineReference.Gen.k0_pay2 w a) (Cert.CombineReference.Gen.k0_pay3 (F := F) b) Cert.CombineReference.Gen.k0_pay4 e)
    (Cert.CombineReference.Gen.k0_pay6 (F := F) d) gate x gain

/-- The weighted sum of four rows, whole and by halves. -/
theorem moe_four (w : Vec F S512x4 .f32) (a b e d : Vec F S512x512 .i32) (a' b' e' d' : Fin 4 → Vec F S512x128 .i32)
    (ha : a = wide (F := F) a') (hb : b = wide (F := F) b') (he : e = wide (F := F) e') (hd : d = wide (F := F) d') :
    addf (Cert.CombineReference.Gen.k0_pay5 (F := F) w (Cert.CombineReference.Gen.k0_pay2 w a) (Cert.CombineReference.Gen.k0_pay3 (F := F) b) Cert.CombineReference.Gen.k0_pay4 e)
        (mulf (broadcastTo S512x1024 (extractStridedSlice S512x1 ![0, 3] w Cert.CombineReference.Gen.slices_S512x4_o0_3_S512x1 : FVec F S512x1 .f32) Cert.CombineReference.Gen.broadcasts_S512x1_S512x1024)
          (cat (bitcastToFloat .f32 (shli (Cert.CombineReference.Gen.k0_pay6 (F := F) d) (broadcast S512x512 16#32)))
            (bitcastToFloat .f32 (andi (Cert.CombineReference.Gen.k0_pay6 (F := F) d) (broadcast S512x512 4294901760#32)))))
      = cat (Cert.Combine.Gen.k0_pay14 w (Cert.Combine.Gen.k0_pay4 w (a' 0) (a' 1) (a' 2) (a' 3)) (Cert.Combine.Gen.k0_pay9 w (b' 0) (b' 1) (b' 2) (b' 3))
            (e' 0) (e' 1) (e' 2) (e' 3) (d' 0) (d' 1) (d' 2) (d' 3))
          (Cert.Combine.Gen.k0_pay15 w (Cert.Combine.Gen.k0_pay5 w (a' 0) (a' 1) (a' 2) (a' 3)) (Cert.Combine.Gen.k0_pay7 (b' 0) (b' 1) (b' 2) (b' 3)) (Cert.Combine.Gen.k0_pay8 w)
            (e' 0) (e' 1) (e' 2) (e' 3) (d' 0) (d' 1) (d' 2) (d' 3)) := by
  subst ha hb he hd
  unfold Cert.CombineReference.Gen.k0_pay5 Cert.CombineReference.Gen.k0_pay2 Cert.CombineReference.Gen.k0_pay3 Cert.CombineReference.Gen.k0_pay4 Cert.CombineReference.Gen.k0_pay6
  dsimp only
  rw [shapeCast_self, shapeCast_self, shapeCast_self, shapeCast_self]
  refine Eq.trans (congrArg₂ addf (congrArg₂ addf (congrArg₂ addf (congrArg₂ addf (cat_zero _) (cat_mul _ _ _)) (cat_mul _ _ _)) (cat_mul _ _ _)) (cat_mul _ _ _)) ?_
  rw [cat_add, cat_add, cat_add, cat_add]
  rfl

/-- The two stored tiles are one. -/
theorem tile_eq (w : Vec F S512x4 .f32) (a b e d : Vec F S512x512 .i32) (a' b' e' d' : Fin 4 → Vec F S512x128 .i32) (gate : Vec F S1x1x1024 .f32) (x : Vec F S512x1024 .f32)
    (gain : Vec F S1x1024 .f32) (ha : a = wide (F := F) a') (hb : b = wide (F := F) b') (he : e = wide (F := F) e') (hd : d = wide (F := F) d') :
    referenceTile w a b e d gate x gain = kernelTile w a' b' e' d' gate x gain := by
  unfold referenceTile kernelTile Cert.CombineReference.Gen.k0_pay1
  dsimp only
  rw [moe_four w a b e d a' b' e' d' ha hb he hd]
  rfl

end Cert.Proof.Combination

end
-- ==== Proof.Combination.Ref.lean ====
/-
  The combination's reference: its loop leaves a tile of tokens per trip.
-/
module

public import proofs.«01_k».proof.Proof.Combination.Pay
public import proofs.«01_k».proof.Proof.Gen.CombineReference.Frame
public import Idealize.ShloMosaic.Lib.WritesUnit
public import Idealize.ShloMosaic.Lib.VecWindow
public import Idealize.ShloMosaic.Lib.Pipeline.ValueKit.Geometry

@[expose] public section

noncomputable section

namespace Cert.Proof.CombinationR

open Cert.CombineReference Cert.CombineReference.Gen
open Cert.CombineReference.Facts₀ Cert.CombineReference.Facts
open Idealize.ShloMosaic Idealize.ShloMosaic.TcCoe
open Idealize.SL Idealize.SL.Sem
open Cert.Proof.Combination (referenceTile)

variable {F : FTy → Type} [FloatOps F]

/-- Reading whole contents through a rectangle. -/
theorem rd {sp : Space} {s : Shape} {e : EltTy} {M : Memref sig .tc sp s e} (hM : M.IsWhole) (x : Vec F s e) (B : LoadRect s) :
    M.view.readAt (Elt F) B (hM.unread x) = fun j => x (B.idx j) := by
  funext j
  rw [View.readAt_apply, hM.read_unread]

/-- The tile trip `k` stores. -/
def tile (x0 : Vec F S131072x512 .i32) (x1 : Vec F S32768x1024 .f32) (x2 : Vec F S32768x4 .f32) (x3 : Vec F S8x6x1024 .f32) (x4 : Vec F S1x1024 .f32) (k : Fin k0_t1_loop.trips) : FVec F S512x1024 .f32 :=
  referenceTile (fun j => x2 ((Rect.unit (s := S32768x4) (k0_off1 k) S512x4.size (Gen.k0_off1_inb k)).toLoadRect.idx j)) (fun j => x0 ((Rect.unit (s := S131072x512) (k0_off2 k 0#32) S512x512.size (Gen.k0_off2_inb k 0)).toLoadRect.idx j)) (fun j => x0 ((Rect.unit (s := S131072x512) (k0_off2 k 1#32) S512x512.size (Gen.k0_off2_inb k 1)).toLoadRect.idx j)) (fun j => x0 ((Rect.unit (s := S131072x512) (k0_off2 k 2#32) S512x512.size (Gen.k0_off2_inb k 2)).toLoadRect.idx j)) (fun j => x0 ((Rect.unit (s := S131072x512) (k0_off2 k 3#32) S512x512.size (Gen.k0_off2_inb k 3)).toLoadRect.idx j)) (fun j => x3 ((Rect.unit (s := S8x6x1024) (k0_off3 k) S1x1x1024.size (Gen.k0_off3_inb k)).toLoadRect.idx j)) (fun j => x1 ((Rect.unit (s := S32768x1024) (k0_off4 k) S512x1024.size (Gen.k0_off4_inb k)).toLoadRect.idx j)) (fun j => x4 ((Rect.unit (s := S1x1024) ![0, 0] S1x1024.size Gen.inb_S1x1024_S1x1024_0_0).toLoadRect.idx j))

theorem tile_congr {w w' : Vec F S512x4 .f32} {a b e d a' b' e' d' : Vec F S512x512 .i32} {g g' : Vec F S1x1x1024 .f32} {x x' : Vec F S512x1024 .f32} {n n' : Vec F S1x1024 .f32}
    (h1 : w = w') (h2 : a = a') (h3 : b = b') (h4 : e = e') (h5 : d = d') (h6 : g = g') (h7 : x = x') (h8 : n = n') :
    referenceTile w a b e d g x n = referenceTile w' a' b' e' d' g' x' n' := by
  subst h1 h2 h3 h4 h5 h6 h7 h8
  rfl

variable (c : Dev nD) (arg0 : Memref sig .tc .vmem S131072x512 .i32) (harg0 : arg0.IsWhole) (arg1 : Memref sig .tc .vmem S32768x1024 .f32) (harg1 : arg1.IsWhole) (arg2 : Memref sig .tc .vmem S32768x4 .f32) (harg2 : arg2.IsWhole) (arg3 : Memref sig .tc .vmem S8x6x1024 .f32) (harg3 : arg3.IsWhole) (arg4 : Memref sig .tc .vmem S1x1024 .f32) (harg4 : arg4.IsWhole) (arg5 : Memref sig .tc .vmem S32768x1024 .f32) (harg5 : arg5.IsWhole)
  (x0 : Vec F S131072x512 .i32) (x1 : Vec F S32768x1024 .f32) (x2 : Vec F S32768x4 .f32) (x3 : Vec F S8x6x1024 .f32) (x4 : Vec F S1x1024 .f32)

theorem trip_eq (k : Fin k0_t1_loop.trips) :
    tripL_k0_t1 (F := F) Variants.none c none arg0 harg0 arg1 harg1 arg2 harg2 arg3 harg3 arg4 harg4 arg5 harg5 (harg0.unread x0) (harg1.unread x1) (harg2.unread x2) (harg3.unread x3) (harg4.unread x4) k = [⟨(Rect.unit (s := S32768x1024) (k0_off4 k) S512x1024.size (Gen.k0_off4_inb k)), tile x0 x1 x2 x3 x4 k⟩] := by
  have hr : tripL_k0_t1 (F := F) Variants.none c none arg0 harg0 arg1 harg1 arg2 harg2 arg3 harg3 arg4 harg4 arg5 harg5 (harg0.unread x0) (harg1.unread x1) (harg2.unread x2) (harg3.unread x3) (harg4.unread x4) k
      = [⟨(Rect.unit (s := S32768x1024) (k0_off4 k) S512x1024.size (Gen.k0_off4_inb k)), referenceTile
          (arg2.view.readAt (Elt F) (Rect.unit (s := S32768x4) (k0_off1 k) S512x4.size (Gen.k0_off1_inb k)).toLoadRect (harg2.unread x2))
          (arg0.view.readAt (Elt F) (Rect.unit (s := S131072x512) (k0_off2 k 0#32) S512x512.size (Gen.k0_off2_inb k 0)).toLoadRect (harg0.unread x0))
          (arg0.view.readAt (Elt F) (Rect.unit (s := S131072x512) (k0_off2 k 1#32) S512x512.size (Gen.k0_off2_inb k 1)).toLoadRect (harg0.unread x0))
          (arg0.view.readAt (Elt F) (Rect.unit (s := S131072x512) (k0_off2 k 2#32) S512x512.size (Gen.k0_off2_inb k 2)).toLoadRect (harg0.unread x0))
          (arg0.view.readAt (Elt F) (Rect.unit (s := S131072x512) (k0_off2 k 3#32) S512x512.size (Gen.k0_off2_inb k 3)).toLoadRect (harg0.unread x0))
          (arg3.view.readAt (Elt F) (Rect.unit (s := S8x6x1024) (k0_off3 k) S1x1x1024.size (Gen.k0_off3_inb k)).toLoadRect (harg3.unread x3))
          (arg1.view.readAt (Elt F) (Rect.unit (s := S32768x1024) (k0_off4 k) S512x1024.size (Gen.k0_off4_inb k)).toLoadRect (harg1.unread x1))
          (arg4.view.readAt (Elt F) (Rect.unit (s := S1x1024) ![0, 0] S1x1024.size Gen.inb_S1x1024_S1x1024_0_0).toLoadRect (harg4.unread x4))⟩] := by
    unfold tripL_k0_t1 trip_k0_t1
    rfl
  rw [hr]
  unfold tile
  refine congrArg (fun w => [(⟨(Rect.unit (s := S32768x1024) (k0_off4 k) S512x1024.size (Gen.k0_off4_inb k)), w⟩ : (r : Rect S32768x1024) × (r.shape.Idx → Elt F .f32))]) ?_
  exact tile_congr (rd harg2 x2 _) (rd harg0 x0 _) (rd harg0 x0 _) (rd harg0 x0 _) (rd harg0 x0 _) (rd harg3 x3 _) (rd harg1 x1 _) (rd harg4 x4 _)

theorem run_pieces :
    (kernelRun0_A (F := F) c arg0 harg0 arg1 harg1 arg2 harg2 arg3 harg3 arg4 harg4 arg5 harg5 x0 x1 x2 x3 x4).1 = pb_k0_t1 (F := F) Variants.none c none arg0 harg0 arg1 harg1 arg2 harg2 arg3 harg3 arg4 harg4 arg5 harg5 (harg0.unread x0) (harg1.unread x1) (harg2.unread x2) (harg3.unread x3) (harg4.unread x4) k0_t1_loop.trips := by
  unfold kernelRun0_A
  rfl

section
variable {sp : Space} (v : View sig .tc sp S32768x1024 .f32) (f : v.ty.Contents (Elt F))

/-- A row of trip `k`'s tile. -/
theorem inside (n : ℕ) (hn : n ≤ k0_t1_loop.trips) (k : Fin k0_t1_loop.trips) (hk : k.val < n) (y : S32768x1024.Idx) (x : S512x1024.Idx)
    (h0 : (y 0).val = 512 * k.val + (x 0).val) (h1 : (y 1).val = (x 1).val) :
    v.read (Elt F) (v.writes (Elt F) f (pb_k0_t1 (F := F) Variants.none c none arg0 harg0 arg1 harg1 arg2 harg2 arg3 harg3 arg4 harg4 arg5 harg5 (harg0.unread x0) (harg1.unread x1) (harg2.unread x2) (harg3.unread x3) (harg4.unread x4) n)) y = tile x0 x1 x2 x3 x4 k x := by
  induction n with
  | zero => exact absurd hk (Nat.not_lt_zero _)
  | succ n ih =>
    have hx : (x 0).val < 512 := (x 0).isLt
    rw [pb_k0_t1_succ (F := F) Variants.none c none arg0 harg0 arg1 harg1 arg2 harg2 arg3 harg3 arg4 harg4 arg5 harg5 (harg0.unread x0) (harg1.unread x1) (harg2.unread x2) (harg3.unread x3) (harg4.unread x4) ⟨n, hn⟩, trip_eq]
    rcases Nat.lt_succ_iff_lt_or_eq.mp hk with hk' | hk'
    · refine Eq.trans ?_ (ih (Nat.le_of_succ_le hn) hk')
      exact View.read_writes_cons_rows_of_not_mem (d := ![32768, 1024]) (o := 512 * n) (W := 512) v f _ _ _ y (Gen.k0_off4_eq ⟨n, hn⟩) rfl (.inl (by omega))
    · obtain rfl : k = ⟨n, hn⟩ := Fin.ext hk'
      exact View.read_writes_cons_rows_of_mem (d := ![32768, 1024]) (o := 512 * n) v f _ _ _ y x (Gen.k0_off4_eq ⟨n, hn⟩) h0 h1
end

/-- What the run leaves in a row of trip `k`. -/
theorem out_tile (k : Fin k0_t1_loop.trips) (y : S32768x1024.Idx) (x : S512x1024.Idx) (h0 : (y 0).val = 512 * k.val + (x 0).val) (h1 : (y 1).val = (x 1).val) :
    out0_A_5 (F := F) c arg0 harg0 arg1 harg1 arg2 harg2 arg3 harg3 arg4 harg4 arg5 harg5 x0 x1 x2 x3 x4 y = tile x0 x1 x2 x3 x4 k x := by
  unfold out0_A_5
  rw [run_pieces]
  exact inside c arg0 harg0 arg1 harg1 arg2 harg2 arg3 harg3 arg4 harg4 arg5 harg5 x0 x1 x2 x3 x4 _ _ _ le_rfl k k.isLt y x h0 h1

/-! ## The result array -/

variable (m : (ℓ : Loc nD τ sig) → Buf (Elt F) ℓ)

/-- The one point of the grid. -/
abbrev t0 : Fin cfg0.N := ⟨0, by decide⟩

theorem in0 (t : Fin cfg0.N) : (iblk m c 0 t : Vec F S131072x512 .i32) = V m c main_v1 := by
  unfold iblk
  funext y
  rw [View.read_apply]
  exact congrArg (V m c main_v1) (funext fun a => Fin.ext (Pipeline.Window.rect_emb_val_of_index_zero win0_0 t a rfl y))

theorem in1 (t : Fin cfg0.N) : (iblk m c 1 t : Vec F S32768x1024 .f32) = V m c main_arg4 := by
  unfold iblk
  funext y
  rw [View.read_apply]
  exact congrArg (V m c main_arg4) (funext fun a => Fin.ext (Pipeline.Window.rect_emb_val_of_index_zero win0_1 t a rfl y))

theorem in2 (t : Fin cfg0.N) : (iblk m c 2 t : Vec F S32768x4 .f32) = V m c main_arg5 := by
  unfold iblk
  funext y
  rw [View.read_apply]
  exact congrArg (V m c main_arg5) (funext fun a => Fin.ext (Pipeline.Window.rect_emb_val_of_index_zero win0_2 t a rfl y))

theorem in3 (t : Fin cfg0.N) : (iblk m c 3 t : Vec F S8x6x1024 .f32) = V m c main_arg6 := by
  unfold iblk
  funext y
  rw [View.read_apply]
  exact congrArg (V m c main_arg6) (funext fun a => Fin.ext (Pipeline.Window.rect_emb_val_of_index_zero win0_3 t a rfl y))

theorem in4 (t : Fin cfg0.N) : (iblk m c 4 t : Vec F S1x1024 .f32) = V m c main_v2 := by
  unfold iblk
  funext y
  rw [View.read_apply]
  exact congrArg (V m c main_v2) (funext fun a => Fin.ext (Pipeline.Window.rect_emb_val_of_index_zero win0_4 t a rfl y))

/-- The four parts' words, one after the other. -/
abbrev all4 (a b e d : Vec F S131072x128 .i32) : Vec F S524288x128 .i32 :=
  concatenate S524288x128 0 [⟨S131072x128, a⟩, ⟨S131072x128, b⟩, ⟨S131072x128, e⟩, ⟨S131072x128, d⟩] Gen.concatenates_S131072x128_S131072x128_S131072x128_S131072x128_S524288x128_d0

/-- The words as the loop finds them: a token's row of an expert in one row. -/
theorem words_rows : (V m c main_v1 : Vec F S131072x512 .i32)
    = shapeCast S131072x512 (all4 (m ((c : Thread nD τ).loc main_arg0)) (m ((c : Thread nD τ).loc main_arg1)) (m ((c : Thread nD τ).loc main_arg2)) (m ((c : Thread nD τ).loc main_arg3))) Gen.shapeCasts_S524288x128_S131072x512 := by
  dsimp only [V, hostOps0]; after_results; rfl

/-- The gain as the loop finds it: the argument as one row. -/
theorem gain_row : (V m c main_v2 : Vec F S1x1024 .f32) = shapeCast S1x1024 (m ((c : Thread nD τ).loc main_arg7) : Vec F S1024 .f32) Gen.shapeCasts_S1024_S1x1024 := by
  dsimp only [V, hostOps0]; after_results; rfl

theorem arr5 : (dats m 0 c).arrAt 5 cfg0.N = outsAt0 m c t0 := by
  funext i
  refine (Pipeline.Dat.arrAt_emb_eq_after_last (dats m 0 c) 5 t0 (by decide +kernel) (i : S32768x1024.Idx)).trans ?_
  rw [after0_5]
  rfl

theorem final (r) (hr : Pipeline.FramePost cfgs (dats m) 0 (V m) r) : r.2.mem ((c : Thread nD τ).loc main_v3) = outsAt0 m c t0 :=
  ((hr c).1 5).trans (arr5 c m)

theorem tile_of {y0 : Vec F S131072x512 .i32} {y1 : Vec F S32768x1024 .f32} {y2 : Vec F S32768x4 .f32} {y3 : Vec F S8x6x1024 .f32} {y4 : Vec F S1x1024 .f32}
    (h0 : x0 = y0) (h1 : x1 = y1) (h2 : x2 = y2) (h3 : x3 = y3) (h4 : x4 = y4) (k : Fin k0_t1_loop.trips) : tile x0 x1 x2 x3 x4 k = tile y0 y1 y2 y3 y4 k := by
  subst h0 h1 h2 h3 h4
  rfl

/-- A row of trip `k`'s tile, in the result. -/
theorem outs_tile (k : Fin k0_t1_loop.trips) (y : S32768x1024.Idx) (x : S512x1024.Idx) (h0 : (y 0).val = 512 * k.val + (x 0).val) (h1 : (y 1).val = (x 1).val) :
    outsAt0 m c t0 y = tile (V m c main_v1 : Vec F S131072x512 .i32) (V m c main_arg4 : Vec F S32768x1024 .f32) (V m c main_arg5 : Vec F S32768x4 .f32)
      (V m c main_arg6 : Vec F S8x6x1024 .f32) (V m c main_v2 : Vec F S1x1024 .f32) k x := by
  unfold outsAt0
  rw [out_tile c _ _ _ _ _ _ _ _ _ _ _ _ _ _ _ _ _ k y x h0 h1]
  exact congrFun (tile_of _ _ _ _ _ (in0 c m t0) (in1 c m t0) (in2 c m t0) (in3 c m t0) (in4 c m t0) k) x

end Cert.Proof.CombinationR

end
-- ==== Proof.Combination.Run.lean ====
/-
  The combination calls: what the body leaves at a point, where its blocks lie, and the array each call ends with.
-/
module

public import proofs.«01_k».proof.Proof.Combination.Pay
public import proofs.«01_k».proof.Proof.Gen.Combine.Frame
public import Idealize.ShloMosaic.Lib.VecWindow

@[expose] public section

noncomputable section

namespace Cert.Proof.CombinationK

open Cert.Combine Cert.Combine.Gen
open Cert.Combine.Facts₀ Cert.Combine.Facts
open Idealize.ShloMosaic Idealize.ShloMosaic.TcCoe
open Idealize.SL Idealize.SL.Sem
open Cert.Proof.Combination (kernelTile)

variable {F : FTy → Type} [FloatOps F]

/-- Reading whole contents through a rectangle. -/
theorem rd {sp : Space} {s : Shape} {e : EltTy} {M : Memref sig .tc sp s e} (hM : M.IsWhole) (x : Vec F s e) (B : LoadRect s) :
    M.view.readAt (Elt F) B (hM.unread x) = fun j => x (B.idx j) := by
  funext j
  rw [View.readAt_apply, hM.read_unread]

/-- Every fourth row of a block of rows, from row `r` on. -/
abbrev part (r : Fin 4) : LoadRect S2048x128 := match r with
  | 0 => ⟨![0, 0], S512x128.size, ![4, 1], Gen.inb_S2048x128_S512x128_0_0_s_4_1⟩
  | 1 => ⟨![1, 0], S512x128.size, ![4, 1], Gen.inb_S2048x128_S512x128_1_0_s_4_1⟩
  | 2 => ⟨![2, 0], S512x128.size, ![4, 1], Gen.inb_S2048x128_S512x128_2_0_s_4_1⟩
  | 3 => ⟨![3, 0], S512x128.size, ![4, 1], Gen.inb_S2048x128_S512x128_3_0_s_4_1⟩

/-- A block of rows in its four strided parts. -/
def parts (x : Vec F S2048x128 .i32) (r : Fin 4) : Vec F S512x128 .i32 := match r with
  | 0 => fun j => x ((part 0).idx j)
  | 1 => fun j => x ((part 1).idx j)
  | 2 => fun j => x ((part 2).idx j)
  | 3 => fun j => x ((part 3).idx j)

/-- The gate's row of the modulation block. -/
abbrev gateR : Rect S1x6x1024 := Rect.unit (s := S1x6x1024) ![0, 5, 0] S1x1x1024.size Gen.inb_S1x6x1024_S1x1x1024_0_5_0

theorem tile_congr {w w' : Vec F S512x4 .f32} {a b e d a' b' e' d' : Fin 4 → Vec F S512x128 .i32} {g g' : Vec F S1x1x1024 .f32} {x x' : Vec F S512x1024 .f32} {n n' : Vec F S1x1024 .f32}
    (h1 : w = w') (h2 : a = a') (h3 : b = b') (h4 : e = e') (h5 : d = d') (h6 : g = g') (h7 : x = x') (h8 : n = n') :
    kernelTile w a b e d g x n = kernelTile w' a' b' e' d' g' x' n' := by
  subst h1 h2 h3 h4 h5 h6 h7 h8
  rfl

theorem same {s : Shape} {e : EltTy} (x : Vec F s e) {off : Fin s.rank → ℕ} (inb : ∀ a, off a + s.size a ≤ s.size a) :
    (fun j => x ((Rect.unit (s := s) off s.size inb).toLoadRect.idx j)) = x := by
  funext j
  refine congrArg x (funext fun a => Fin.ext ?_)
  have := inb a
  show off a + 1 * (j a).val = (j a).val
  omega

/-- The four strided loads of one block of rows. -/
def loads (M : Memref sig .tc .vmem S2048x128 .i32) (f : M.view.ty.Contents (Elt F)) (r : Fin 4) : Vec F S512x128 .i32 := match r with
  | 0 => M.view.readAt (Elt F) (part 0) f
  | 1 => M.view.readAt (Elt F) (part 1) f
  | 2 => M.view.readAt (Elt F) (part 2) f
  | 3 => M.view.readAt (Elt F) (part 3) f

theorem loads_eq (M : Memref sig .tc .vmem S2048x128 .i32) (hM : M.IsWhole) (x : Vec F S2048x128 .i32) : loads M (hM.unread x) = parts x := by
  funext r
  match r with
  | 0 => exact rd hM x _
  | 1 => exact rd hM x _
  | 2 => exact rd hM x _
  | 3 => exact rd hM x _

namespace Part0

section

variable (c : Dev nD) (i : grid0.Coords) (arg1 : Memref sig .tc .vmem S2048x128 .i32) (harg1 : arg1.IsWhole) (arg2 : Memref sig .tc .vmem S2048x128 .i32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S512x1024 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S512x1024 .f32) (harg9 : arg9.IsWhole)
  (x0 : Vec F S2048x128 .i32) (x1 : Vec F S2048x128 .i32) (x2 : Vec F S2048x128 .i32) (x3 : Vec F S2048x128 .i32) (x4 : Vec F S512x1024 .f32) (x5 : Vec F S512x4 .f32) (x6 : Vec F S1x6x1024 .f32) (x7 : Vec F S1x1024 .f32)

theorem run_pieces :
    (kernelRun0_A (F := F) c i arg1 harg1 arg2 harg2 arg3 harg3 arg4 harg4 arg5 harg5 arg6 harg6 arg7 harg7 arg8 harg8 arg9 harg9 x0 x1 x2 x3 x4 x5 x6 x7).1
      = [⟨(Rect.unit (s := S512x1024) ![0, 0] S512x1024.size Gen.inb_S512x1024_S512x1024_0_0), kernelTile (arg6.view.readAt (Elt F) (Rect.unit (s := S512x4) ![0, 0] S512x4.size Gen.inb_S512x4_S512x4_0_0).toLoadRect (harg6.unread x5)) (loads arg1 (harg1.unread x0)) (loads arg2 (harg2.unread x1)) (loads arg3 (harg3.unread x2)) (loads arg4 (harg4.unread x3))
          (arg7.view.readAt (Elt F) gateR.toLoadRect (harg7.unread x6)) (arg5.view.readAt (Elt F) (Rect.unit (s := S512x1024) ![0, 0] S512x1024.size Gen.inb_S512x1024_S512x1024_0_0).toLoadRect (harg5.unread x4)) (arg8.view.readAt (Elt F) (Rect.unit (s := S1x1024) ![0, 0] S1x1024.size Gen.inb_S1x1024_S1x1024_0_0).toLoadRect (harg8.unread x7))⟩] := by
  unfold kernelRun0_A
  rfl

/-- What the body leaves: its tile. -/
theorem out_eq :
    out0_A_8 (F := F) c i arg1 harg1 arg2 harg2 arg3 harg3 arg4 harg4 arg5 harg5 arg6 harg6 arg7 harg7 arg8 harg8 arg9 harg9 x0 x1 x2 x3 x4 x5 x6 x7
      = kernelTile x5 (parts x0) (parts x1) (parts x2) (parts x3) (fun j => x6 (gateR.toLoadRect.idx j)) x4 x7 := by
  unfold out0_A_8
  rw [run_pieces]
  refine (View.read_writes_full _ _ _ _ _).trans ?_
  exact tile_congr ((rd harg6 x5 _).trans (same x5 _)) (loads_eq _ harg1 x0) (loads_eq _ harg2 x1) (loads_eq _ harg3 x2) (loads_eq _ harg4 x3)
    (rd harg7 x6 _) ((rd harg5 x4 _).trans (same x4 _)) ((rd harg8 x7 _).trans (same x7 _))

/-! ## The windows' blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 16 + t.val ∧ win0_1.index t (1 : Fin 2) = 0 := (by decide +kernel : ∀ t : Fin grid0.N, _)
theorem idx2 : ∀ t : Fin cfg0.N, win0_2.index t (0 : Fin 2) = 32 + t.val ∧ win0_2.index t (1 : Fin 2) = 0 := (by decide +kernel : ∀ t : Fin grid0.N, _)
theorem idx3 : ∀ t : Fin cfg0.N, win0_3.index t (0 : Fin 2) = 48 + t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 3) = t.val / 8 ∧ win0_6.index t (1 : Fin 3) = 0 ∧ win0_6.index t (2 : Fin 3) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

theorem emb0 (t : Fin cfg0.N) (j : S2048x128.Idx) : ((((cfg0.win 0).blk t).view.emb j) 0).val = 2048 * t.val + (j 0).val ∧ ((((cfg0.win 0).blk t).view.emb j) 1).val = (j 1).val := by
  obtain ⟨e0, e1⟩ := idx0 t
  constructor
  · show win0_0.index t (0 : Fin 2) * 2048 + 1 * (j 0).val = _; omega
  · show win0_0.index t (1 : Fin 2) * 128 + 1 * (j 1).val = _; omega

theorem emb1 (t : Fin cfg0.N) (j : S2048x128.Idx) : ((((cfg0.win 1).blk t).view.emb j) 0).val = 32768 + 2048 * t.val + (j 0).val ∧ ((((cfg0.win 1).blk t).view.emb j) 1).val = (j 1).val := by
  obtain ⟨e0, e1⟩ := idx1 t
  constructor
  · show win0_1.index t (0 : Fin 2) * 2048 + 1 * (j 0).val = _; omega
  · show win0_1.index t (1 : Fin 2) * 128 + 1 * (j 1).val = _; omega

theorem emb2 (t : Fin cfg0.N) (j : S2048x128.Idx) : ((((cfg0.win 2).blk t).view.emb j) 0).val = 65536 + 2048 * t.val + (j 0).val ∧ ((((cfg0.win 2).blk t).view.emb j) 1).val = (j 1).val := by
  obtain ⟨e0, e1⟩ := idx2 t
  constructor
  · show win0_2.index t (0 : Fin 2) * 2048 + 1 * (j 0).val = _; omega
  · show win0_2.index t (1 : Fin 2) * 128 + 1 * (j 1).val = _; omega

theorem emb3 (t : Fin cfg0.N) (j : S2048x128.Idx) : ((((cfg0.win 3).blk t).view.emb j) 0).val = 98304 + 2048 * t.val + (j 0).val ∧ ((((cfg0.win 3).blk t).view.emb j) 1).val = (j 1).val := by
  obtain ⟨e0, e1⟩ := idx3 t
  constructor
  · show win0_3.index t (0 : Fin 2) * 2048 + 1 * (j 0).val = _; omega
  · show win0_3.index t (1 : Fin 2) * 128 + 1 * (j 1).val = _; omega

theorem emb4 (t : Fin cfg0.N) (j : S512x1024.Idx) : ((((cfg0.win 4).blk t).view.emb j) 0).val = 512 * t.val + (j 0).val ∧ ((((cfg0.win 4).blk t).view.emb j) 1).val = (j 1).val := by
  obtain ⟨e0, e1⟩ := idx4 t
  constructor
  · show win0_4.index t (0 : Fin 2) * 512 + 1 * (j 0).val = _; omega
  · show win0_4.index t (1 : Fin 2) * 1024 + 1 * (j 1).val = _; omega

theorem emb5 (t : Fin cfg0.N) (j : S512x4.Idx) : ((((cfg0.win 5).blk t).view.emb j) 0).val = 512 * t.val + (j 0).val ∧ ((((cfg0.win 5).blk t).view.emb j) 1).val = (j 1).val := by
  obtain ⟨e0, e1⟩ := idx5 t
  constructor
  · show win0_5.index t (0 : Fin 2) * 512 + 1 * (j 0).val = _; omega
  · show win0_5.index t (1 : Fin 2) * 4 + 1 * (j 1).val = _; omega

theorem emb6 (t : Fin cfg0.N) (j : S1x6x1024.Idx) : ((((cfg0.win 6).blk t).view.emb j) 0).val = t.val / 8 + (j 0).val ∧ ((((cfg0.win 6).blk t).view.emb j) 1).val = (j 1).val
    ∧ ((((cfg0.win 6).blk t).view.emb j) 2).val = (j 2).val := by
  obtain ⟨e0, e1, e2⟩ := idx6 t
  refine ⟨?_, ?_, ?_⟩
  · show win0_6.index t (0 : Fin 3) * 1 + 1 * (j 0).val = _; omega
  · show win0_6.index t (1 : Fin 3) * 6 + 1 * (j 1).val = _; omega
  · show win0_6.index t (2 : Fin 3) * 1024 + 1 * (j 2).val = _; omega

theorem emb7 (t : Fin cfg0.N) (j : S1x1024.Idx) : ((((cfg0.win 7).blk t).view.emb j) 0).val = (j 0).val ∧ ((((cfg0.win 7).blk t).view.emb j) 1).val = (j 1).val := by
  obtain ⟨e0, e1⟩ := idx7 t
  constructor
  · show win0_7.index t (0 : Fin 2) * 1 + 1 * (j 0).val = _; omega
  · show win0_7.index t (1 : Fin 2) * 1024 + 1 * (j 1).val = _; omega

theorem emb8 (t : Fin cfg0.N) (j : S512x1024.Idx) : ((((cfg0.win 8).blk t).view.emb j) 0).val = 512 * t.val + (j 0).val ∧ ((((cfg0.win 8).blk t).view.emb j) 1).val = (j 1).val := by
  obtain ⟨e0, e1⟩ := idx8 t
  constructor
  · show win0_8.index t (0 : Fin 2) * 512 + 1 * (j 0).val = _; omega
  · show win0_8.index t (1 : Fin 2) * 1024 + 1 * (j 1).val = _; omega

/-! ## The result array -/

variable (V : (c : Dev nD) → (b : Ref sig .tc) → Buf (Elt F) ((c : Thread nD τ).loc b))

theorem idx_inj : ∀ t t' : Fin cfg0.N, win0_8.index t = win0_8.index t' → t = t' :=
  (by decide +kernel : ∀ t t' : Fin grid0.N, win0_8.index t = win0_8.index t' → t = t')

theorem disjoint : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj t t' h)

theorem flushed_eq (t : Fin cfg0.N) :
    (dat0 V c).flushed 8 t = (cfg0.win 8).cut (grid0.coords t) (outsAt0 V c t) := by
  show (cfg0.win 8).cut (grid0.coords t) ((dat0 V c).after 8 t) = _
  rw [after0_8]

/-- A row of point `t`'s block ends as its tile. -/
theorem final_tile (t : Fin cfg0.N) (x : S512x1024.Idx) :
    (dat0 V c).arrAt 8 cfg0.N (((cfg0.win 8).blk t).view.emb x)
      = kernelTile (iblk0 V c 5 t) (parts (iblk0 V c 0 t)) (parts (iblk0 V c 1 t)) (parts (iblk0 V c 2 t)) (parts (iblk0 V c 3 t))
          (fun j => (iblk0 V c 6 t : Vec F S1x6x1024 .f32) (gateR.toLoadRect.idx j)) (iblk0 V c 4 t) (iblk0 V c 7 t) x := by
  have h := congrFun ((dat0 V c).read_blk_arrAt_eq_flushed 8 disjoint cfg0.N t t.isLt (flush0_8 t)) x
  rw [View.read_apply, flushed_eq, outsAt0, out_eq] at h
  exact h

/-- A row of the other parts ends as the call found it. -/
theorem final_rest (y : S32768x1024.Idx) (h : (y 0).val < 0 ∨ 8192 ≤ (y 0).val) :
    (dat0 V c).arrAt 8 cfg0.N y = V c main_v1 y := by
  rw [(dat0 V c).arrAt_apply_of_forall_not_mem 8 cfg0.N y (fun t _ _ hmem => ?_), A_eq0]
  · obtain ⟨x, -, hx⟩ := Finset.mem_map.mp hmem
    have hN : t.val < 16 := t.isLt.trans_eq N_0
    have hx0 : (x 0).val < 512 := (x 0).isLt
    have e := (emb8 t x).1
    rw [hx] at e
    omega

end

end Part0

namespace Part1

section

variable (c : Dev nD) (i : grid1.Coords) (arg1 : Memref sig .tc .vmem S2048x128 .i32) (harg1 : arg1.IsWhole) (arg2 : Memref sig .tc .vmem S2048x128 .i32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S512x1024 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S512x1024 .f32) (harg9 : arg9.IsWhole)
  (x0 : Vec F S2048x128 .i32) (x1 : Vec F S2048x128 .i32) (x2 : Vec F S2048x128 .i32) (x3 : Vec F S2048x128 .i32) (x4 : Vec F S512x1024 .f32) (x5 : Vec F S512x4 .f32) (x6 : Vec F S1x6x1024 .f32) (x7 : Vec F S1x1024 .f32)

theorem run_pieces :
    (kernelRun1_A (F := F) c i arg1 harg1 arg2 harg2 arg3 harg3 arg4 harg4 arg5 harg5 arg6 harg6 arg7 harg7 arg8 harg8 arg9 harg9 x0 x1 x2 x3 x4 x5 x6 x7).1
      = [⟨(Rect.unit (s := S512x1024) ![0, 0] S512x1024.size Gen.inb_S512x1024_S512x1024_0_0), kernelTile (arg6.view.readAt (Elt F) (Rect.unit (s := S512x4) ![0, 0] S512x4.size Gen.inb_S512x4_S512x4_0_0).toLoadRect (harg6.unread x5)) (loads arg1 (harg1.unread x0)) (loads arg2 (harg2.unread x1)) (loads arg3 (harg3.unread x2)) (loads arg4 (harg4.unread x3))
          (arg7.view.readAt (Elt F) gateR.toLoadRect (harg7.unread x6)) (arg5.view.readAt (Elt F) (Rect.unit (s := S512x1024) ![0, 0] S512x1024.size Gen.inb_S512x1024_S512x1024_0_0).toLoadRect (harg5.unread x4)) (arg8.view.readAt (Elt F) (Rect.unit (s := S1x1024) ![0, 0] S1x1024.size Gen.inb_S1x1024_S1x1024_0_0).toLoadRect (harg8.unread x7))⟩] := by
  unfold kernelRun1_A
  rfl

/-- What the body leaves: its tile. -/
theorem out_eq :
    out1_A_8 (F := F) c i arg1 harg1 arg2 harg2 arg3 harg3 arg4 harg4 arg5 harg5 arg6 harg6 arg7 harg7 arg8 harg8 arg9 harg9 x0 x1 x2 x3 x4 x5 x6 x7
      = kernelTile x5 (parts x0) (parts x1) (parts x2) (parts x3) (fun j => x6 (gateR.toLoadRect.idx j)) x4 x7 := by
  unfold out1_A_8
  rw [run_pieces]
  refine (View.read_writes_full _ _ _ _ _).trans ?_
  exact tile_congr ((rd harg6 x5 _).trans (same x5 _)) (loads_eq _ harg1 x0) (loads_eq _ harg2 x1) (loads_eq _ harg3 x2) (loads_eq _ harg4 x3)
    (rd harg7 x6 _) ((rd harg5 x4 _).trans (same x4 _)) ((rd harg8 x7 _).trans (same x7 _))

/-! ## The windows' blocks -/

theorem idx0 : ∀ t : Fin cfg1.N, win1_0.index t (0 : Fin 2) = t.val ∧ win1_0.index t (1 : Fin 2) = 0 := (by decide +kernel : ∀ t : Fin grid1.N, _)
theorem idx1 : ∀ t : Fin cfg1.N, win1_1.index t (0 : Fin 2) = 16 + t.val ∧ win1_1.index t (1 : Fin 2) = 0 := (by decide +kernel : ∀ t : Fin grid1.N, _)
theorem idx2 : ∀ t : Fin cfg1.N, win1_2.index t (0 : Fin 2) = 32 + t.val ∧ win1_2.index t (1 : Fin 2) = 0 := (by decide +kernel : ∀ t : Fin grid1.N, _)
theorem idx3 : ∀ t : Fin cfg1.N, win1_3.index t (0 : Fin 2) = 48 + t.val ∧ win1_3.index t (1 : Fin 2) = 0 := (by decide +kernel : ∀ t : Fin grid1.N, _)
theorem idx4 : ∀ t : Fin cfg1.N, win1_4.index t (0 : Fin 2) = 16 + t.val ∧ win1_4.index t (1 : Fin 2) = 0 := (by decide +kernel : ∀ t : Fin grid1.N, _)
theorem idx5 : ∀ t : Fin cfg1.N, win1_5.index t (0 : Fin 2) = 16 + t.val ∧ win1_5.index t (1 : Fin 2) = 0 := (by decide +kernel : ∀ t : Fin grid1.N, _)
theorem idx6 : ∀ t : Fin cfg1.N, win1_6.index t (0 : Fin 3) = 2 + t.val / 8 ∧ win1_6.index t (1 : Fin 3) = 0 ∧ win1_6.index t (2 : Fin 3) = 0 := (by decide +kernel : ∀ t : Fin grid1.N, _)
theorem idx7 : ∀ t : Fin cfg1.N, win1_7.index t (0 : Fin 2) = 0 ∧ win1_7.index t (1 : Fin 2) = 0 := (by decide +kernel : ∀ t : Fin grid1.N, _)
theorem idx8 : ∀ t : Fin cfg1.N, win1_8.index t (0 : Fin 2) = 16 + t.val ∧ win1_8.index t (1 : Fin 2) = 0 := (by decide +kernel : ∀ t : Fin grid1.N, _)

theorem emb0 (t : Fin cfg1.N) (j : S2048x128.Idx) : ((((cfg1.win 0).blk t).view.emb j) 0).val = 2048 * t.val + (j 0).val ∧ ((((cfg1.win 0).blk t).view.emb j) 1).val = (j 1).val := by
  obtain ⟨e0, e1⟩ := idx0 t
  constructor
  · show win1_0.index t (0 : Fin 2) * 2048 + 1 * (j 0).val = _; omega
  · show win1_0.index t (1 : Fin 2) * 128 + 1 * (j 1).val = _; omega

theorem emb1 (t : Fin cfg1.N) (j : S2048x128.Idx) : ((((cfg1.win 1).blk t).view.emb j) 0).val = 32768 + 2048 * t.val + (j 0).val ∧ ((((cfg1.win 1).blk t).view.emb j) 1).val = (j 1).val := by
  obtain ⟨e0, e1⟩ := idx1 t
  constructor
  · show win1_1.index t (0 : Fin 2) * 2048 + 1 * (j 0).val = _; omega
  · show win1_1.index t (1 : Fin 2) * 128 + 1 * (j 1).val = _; omega

theorem emb2 (t : Fin cfg1.N) (j : S2048x128.Idx) : ((((cfg1.win 2).blk t).view.emb j) 0).val = 65536 + 2048 * t.val + (j 0).val ∧ ((((cfg1.win 2).blk t).view.emb j) 1).val = (j 1).val := by
  obtain ⟨e0, e1⟩ := idx2 t
  constructor
  · show win1_2.index t (0 : Fin 2) * 2048 + 1 * (j 0).val = _; omega
  · show win1_2.index t (1 : Fin 2) * 128 + 1 * (j 1).val = _; omega

theorem emb3 (t : Fin cfg1.N) (j : S2048x128.Idx) : ((((cfg1.win 3).blk t).view.emb j) 0).val = 98304 + 2048 * t.val + (j 0).val ∧ ((((cfg1.win 3).blk t).view.emb j) 1).val = (j 1).val := by
  obtain ⟨e0, e1⟩ := idx3 t
  constructor
  · show win1_3.index t (0 : Fin 2) * 2048 + 1 * (j 0).val = _; omega
  · show win1_3.index t (1 : Fin 2) * 128 + 1 * (j 1).val = _; omega

theorem emb4 (t : Fin cfg1.N) (j : S512x1024.Idx) : ((((cfg1.win 4).blk t).view.emb j) 0).val = 8192 + 512 * t.val + (j 0).val ∧ ((((cfg1.win 4).blk t).view.emb j) 1).val = (j 1).val := by
  obtain ⟨e0, e1⟩ := idx4 t
  constructor
  · show win1_4.index t (0 : Fin 2) * 512 + 1 * (j 0).val = _; omega
  · show win1_4.index t (1 : Fin 2) * 1024 + 1 * (j 1).val = _; omega

theorem emb5 (t : Fin cfg1.N) (j : S512x4.Idx) : ((((cfg1.win 5).blk t).view.emb j) 0).val = 8192 + 512 * t.val + (j 0).val ∧ ((((cfg1.win 5).blk t).view.emb j) 1).val = (j 1).val := by
  obtain ⟨e0, e1⟩ := idx5 t
  constructor
  · show win1_5.index t (0 : Fin 2) * 512 + 1 * (j 0).val = _; omega
  · show win1_5.index t (1 : Fin 2) * 4 + 1 * (j 1).val = _; omega

theorem emb6 (t : Fin cfg1.N) (j : S1x6x1024.Idx) : ((((cfg1.win 6).blk t).view.emb j) 0).val = 2 + t.val / 8 + (j 0).val ∧ ((((cfg1.win 6).blk t).view.emb j) 1).val = (j 1).val
    ∧ ((((cfg1.win 6).blk t).view.emb j) 2).val = (j 2).val := by
  obtain ⟨e0, e1, e2⟩ := idx6 t
  refine ⟨?_, ?_, ?_⟩
  · show win1_6.index t (0 : Fin 3) * 1 + 1 * (j 0).val = _; omega
  · show win1_6.index t (1 : Fin 3) * 6 + 1 * (j 1).val = _; omega
  · show win1_6.index t (2 : Fin 3) * 1024 + 1 * (j 2).val = _; omega

theorem emb7 (t : Fin cfg1.N) (j : S1x1024.Idx) : ((((cfg1.win 7).blk t).view.emb j) 0).val = (j 0).val ∧ ((((cfg1.win 7).blk t).view.emb j) 1).val = (j 1).val := by
  obtain ⟨e0, e1⟩ := idx7 t
  constructor
  · show win1_7.index t (0 : Fin 2) * 1 + 1 * (j 0).val = _; omega
  · show win1_7.index t (1 : Fin 2) * 1024 + 1 * (j 1).val = _; omega

theorem emb8 (t : Fin cfg1.N) (j : S512x1024.Idx) : ((((cfg1.win 8).blk t).view.emb j) 0).val = 8192 + 512 * t.val + (j 0).val ∧ ((((cfg1.win 8).blk t).view.emb j) 1).val = (j 1).val := by
  obtain ⟨e0, e1⟩ := idx8 t
  constructor
  · show win1_8.index t (0 : Fin 2) * 512 + 1 * (j 0).val = _; omega
  · show win1_8.index t (1 : Fin 2) * 1024 + 1 * (j 1).val = _; omega

/-! ## The result array -/

variable (V : (c : Dev nD) → (b : Ref sig .tc) → Buf (Elt F) ((c : Thread nD τ).loc b))

theorem idx_inj : ∀ t t' : Fin cfg1.N, win1_8.index t = win1_8.index t' → t = t' :=
  (by decide +kernel : ∀ t t' : Fin grid1.N, win1_8.index t = win1_8.index t' → t = t')

theorem disjoint : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (idx_inj t t' h)

theorem flushed_eq (t : Fin cfg1.N) :
    (dat1 V c).flushed 8 t = (cfg1.win 8).cut (grid1.coords t) (outsAt1 V c t) := by
  show (cfg1.win 8).cut (grid1.coords t) ((dat1 V c).after 8 t) = _
  rw [after1_8]

/-- A row of point `t`'s block ends as its tile. -/
theorem final_tile (t : Fin cfg1.N) (x : S512x1024.Idx) :
    (dat1 V c).arrAt 8 cfg1.N (((cfg1.win 8).blk t).view.emb x)
      = kernelTile (iblk1 V c 5 t) (parts (iblk1 V c 0 t)) (parts (iblk1 V c 1 t)) (parts (iblk1 V c 2 t)) (parts (iblk1 V c 3 t))
          (fun j => (iblk1 V c 6 t : Vec F S1x6x1024 .f32) (gateR.toLoadRect.idx j)) (iblk1 V c 4 t) (iblk1 V c 7 t) x := by
  have h := congrFun ((dat1 V c).read_blk_arrAt_eq_flushed 8 disjoint cfg1.N t t.isLt (flush1_8 t)) x
  rw [View.read_apply, flushed_eq, outsAt1, out_eq] at h
  exact h

/-- A row of the other parts ends as the call found it. -/
theorem final_rest (y : S32768x1024.Idx) (h : (y 0).val < 8192 ∨ 16384 ≤ (y 0).val) :
    (dat1 V c).arrAt 8 cfg1.N y = V c main_v3 y := by
  rw [(dat1 V c).arrAt_apply_of_forall_not_mem 8 cfg1.N y (fun t _ _ hmem => ?_), A_eq1]
  · obtain ⟨x, -, hx⟩ := Finset.mem_map.mp hmem
    have hN : t.val < 16 := t.isLt.trans_eq N_1
    have hx0 : (x 0).val < 512 := (x 0).isLt
    have e := (emb8 t x).1
    rw [hx] at e
    omega

end

end Part1

namespace Part2

section

variable (c : Dev nD) (i : grid2.Coords) (arg1 : Memref sig .tc .vmem S2048x128 .i32) (harg1 : arg1.IsWhole) (arg2 : Memref sig .tc .vmem S2048x128 .i32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S512x1024 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S512x1024 .f32) (harg9 : arg9.IsWhole)
  (x0 : Vec F S2048x128 .i32) (x1 : Vec F S2048x128 .i32) (x2 : Vec F S2048x128 .i32) (x3 : Vec F S2048x128 .i32) (x4 : Vec F S512x1024 .f32) (x5 : Vec F S512x4 .f32) (x6 : Vec F S1x6x1024 .f32) (x7 : Vec F S1x1024 .f32)

theorem run_pieces :
    (kernelRun2_A (F := F) c i arg1 harg1 arg2 harg2 arg3 harg3 arg4 harg4 arg5 harg5 arg6 harg6 arg7 harg7 arg8 harg8 arg9 harg9 x0 x1 x2 x3 x4 x5 x6 x7).1
      = [⟨(Rect.unit (s := S512x1024) ![0, 0] S512x1024.size Gen.inb_S512x1024_S512x1024_0_0), kernelTile (arg6.view.readAt (Elt F) (Rect.unit (s := S512x4) ![0, 0] S512x4.size Gen.inb_S512x4_S512x4_0_0).toLoadRect (harg6.unread x5)) (loads arg1 (harg1.unread x0)) (loads arg2 (harg2.unread x1)) (loads arg3 (harg3.unread x2)) (loads arg4 (harg4.unread x3))
          (arg7.view.readAt (Elt F) gateR.toLoadRect (harg7.unread x6)) (arg5.view.readAt (Elt F) (Rect.unit (s := S512x1024) ![0, 0] S512x1024.size Gen.inb_S512x1024_S512x1024_0_0).toLoadRect (harg5.unread x4)) (arg8.view.readAt (Elt F) (Rect.unit (s := S1x1024) ![0, 0] S1x1024.size Gen.inb_S1x1024_S1x1024_0_0).toLoadRect (harg8.unread x7))⟩] := by
  unfold kernelRun2_A
  rfl

/-- What the body leaves: its tile. -/
theorem out_eq :
    out2_A_8 (F := F) c i arg1 harg1 arg2 harg2 arg3 harg3 arg4 harg4 arg5 harg5 arg6 harg6 arg7 harg7 arg8 harg8 arg9 harg9 x0 x1 x2 x3 x4 x5 x6 x7
      = kernelTile x5 (parts x0) (parts x1) (parts x2) (parts x3) (fun j => x6 (gateR.toLoadRect.idx j)) x4 x7 := by
  unfold out2_A_8
  rw [run_pieces]
  refine (View.read_writes_full _ _ _ _ _).trans ?_
  exact tile_congr ((rd harg6 x5 _).trans (same x5 _)) (loads_eq _ harg1 x0) (loads_eq _ harg2 x1) (loads_eq _ harg3 x2) (loads_eq _ harg4 x3)
    (rd harg7 x6 _) ((rd harg5 x4 _).trans (same x4 _)) ((rd harg8 x7 _).trans (same x7 _))

/-! ## The windows' blocks -/

theorem idx0 : ∀ t : Fin cfg2.N, win2_0.index t (0 : Fin 2) = t.val ∧ win2_0.index t (1 : Fin 2) = 0 := (by decide +kernel : ∀ t : Fin grid2.N, _)
theorem idx1 : ∀ t : Fin cfg2.N, win2_1.index t (0 : Fin 2) = 16 + t.val ∧ win2_1.index t (1 : Fin 2) = 0 := (by decide +kernel : ∀ t : Fin grid2.N, _)
theorem idx2 : ∀ t : Fin cfg2.N, win2_2.index t (0 : Fin 2) = 32 + t.val ∧ win2_2.index t (1 : Fin 2) = 0 := (by decide +kernel : ∀ t : Fin grid2.N, _)
theorem idx3 : ∀ t : Fin cfg2.N, win2_3.index t (0 : Fin 2) = 48 + t.val ∧ win2_3.index t (1 : Fin 2) = 0 := (by decide +kernel : ∀ t : Fin grid2.N, _)
theorem idx4 : ∀ t : Fin cfg2.N, win2_4.index t (0 : Fin 2) = 32 + t.val ∧ win2_4.index t (1 : Fin 2) = 0 := (by decide +kernel : ∀ t : Fin grid2.N, _)
theorem idx5 : ∀ t : Fin cfg2.N, win2_5.index t (0 : Fin 2) = 32 + t.val ∧ win2_5.index t (1 : Fin 2) = 0 := (by decide +kernel : ∀ t : Fin grid2.N, _)
theorem idx6 : ∀ t : Fin cfg2.N, win2_6.index t (0 : Fin 3) = 4 + t.val / 8 ∧ win2_6.index t (1 : Fin 3) = 0 ∧ win2_6.index t (2 : Fin 3) = 0 := (by decide +kernel : ∀ t : Fin grid2.N, _)
theorem idx7 : ∀ t : Fin cfg2.N, win2_7.index t (0 : Fin 2) = 0 ∧ win2_7.index t (1 : Fin 2) = 0 := (by decide +kernel : ∀ t : Fin grid2.N, _)
theorem idx8 : ∀ t : Fin cfg2.N, win2_8.index t (0 : Fin 2) = 32 + t.val ∧ win2_8.index t (1 : Fin 2) = 0 := (by decide +kernel : ∀ t : Fin grid2.N, _)

theorem emb0 (t : Fin cfg2.N) (j : S2048x128.Idx) : ((((cfg2.win 0).blk t).view.emb j) 0).val = 2048 * t.val + (j 0).val ∧ ((((cfg2.win 0).blk t).view.emb j) 1).val = (j 1).val := by
  obtain ⟨e0, e1⟩ := idx0 t
  constructor
  · show win2_0.index t (0 : Fin 2) * 2048 + 1 * (j 0).val = _; omega
  · show win2_0.index t (1 : Fin 2) * 128 + 1 * (j 1).val = _; omega

theorem emb1 (t : Fin cfg2.N) (j : S2048x128.Idx) : ((((cfg2.win 1).blk t).view.emb j) 0).val = 32768 + 2048 * t.val + (j 0).val ∧ ((((cfg2.win 1).blk t).view.emb j) 1).val = (j 1).val := by
  obtain ⟨e0, e1⟩ := idx1 t
  constructor
  · show win2_1.index t (0 : Fin 2) * 2048 + 1 * (j 0).val = _; omega
  · show win2_1.index t (1 : Fin 2) * 128 + 1 * (j 1).val = _; omega

theorem emb2 (t : Fin cfg2.N) (j : S2048x128.Idx) : ((((cfg2.win 2).blk t).view.emb j) 0).val = 65536 + 2048 * t.val + (j 0).val ∧ ((((cfg2.win 2).blk t).view.emb j) 1).val = (j 1).val := by
  obtain ⟨e0, e1⟩ := idx2 t
  constructor
  · show win2_2.index t (0 : Fin 2) * 2048 + 1 * (j 0).val = _; omega
  · show win2_2.index t (1 : Fin 2) * 128 + 1 * (j 1).val = _; omega

theorem emb3 (t : Fin cfg2.N) (j : S2048x128.Idx) : ((((cfg2.win 3).blk t).view.emb j) 0).val = 98304 + 2048 * t.val + (j 0).val ∧ ((((cfg2.win 3).blk t).view.emb j) 1).val = (j 1).val := by
  obtain ⟨e0, e1⟩ := idx3 t
  constructor
  · show win2_3.index t (0 : Fin 2) * 2048 + 1 * (j 0).val = _; omega
  · show win2_3.index t (1 : Fin 2) * 128 + 1 * (j 1).val = _; omega

theorem emb4 (t : Fin cfg2.N) (j : S512x1024.Idx) : ((((cfg2.win 4).blk t).view.emb j) 0).val = 16384 + 512 * t.val + (j 0).val ∧ ((((cfg2.win 4).blk t).view.emb j) 1).val = (j 1).val := by
  obtain ⟨e0, e1⟩ := idx4 t
  constructor
  · show win2_4.index t (0 : Fin 2) * 512 + 1 * (j 0).val = _; omega
  · show win2_4.index t (1 : Fin 2) * 1024 + 1 * (j 1).val = _; omega

theorem emb5 (t : Fin cfg2.N) (j : S512x4.Idx) : ((((cfg2.win 5).blk t).view.emb j) 0).val = 16384 + 512 * t.val + (j 0).val ∧ ((((cfg2.win 5).blk t).view.emb j) 1).val = (j 1).val := by
  obtain ⟨e0, e1⟩ := idx5 t
  constructor
  · show win2_5.index t (0 : Fin 2) * 512 + 1 * (j 0).val = _; omega
  · show win2_5.index t (1 : Fin 2) * 4 + 1 * (j 1).val = _; omega

theorem emb6 (t : Fin cfg2.N) (j : S1x6x1024.Idx) : ((((cfg2.win 6).blk t).view.emb j) 0).val = 4 + t.val / 8 + (j 0).val ∧ ((((cfg2.win 6).blk t).view.emb j) 1).val = (j 1).val
    ∧ ((((cfg2.win 6).blk t).view.emb j) 2).val = (j 2).val := by
  obtain ⟨e0, e1, e2⟩ := idx6 t
  refine ⟨?_, ?_, ?_⟩
  · show win2_6.index t (0 : Fin 3) * 1 + 1 * (j 0).val = _; omega
  · show win2_6.index t (1 : Fin 3) * 6 + 1 * (j 1).val = _; omega
  · show win2_6.index t (2 : Fin 3) * 1024 + 1 * (j 2).val = _; omega

theorem emb7 (t : Fin cfg2.N) (j : S1x1024.Idx) : ((((cfg2.win 7).blk t).view.emb j) 0).val = (j 0).val ∧ ((((cfg2.win 7).blk t).view.emb j) 1).val = (j 1).val := by
  obtain ⟨e0, e1⟩ := idx7 t
  constructor
  · show win2_7.index t (0 : Fin 2) * 1 + 1 * (j 0).val = _; omega
  · show win2_7.index t (1 : Fin 2) * 1024 + 1 * (j 1).val = _; omega

theorem emb8 (t : Fin cfg2.N) (j : S512x1024.Idx) : ((((cfg2.win 8).blk t).view.emb j) 0).val = 16384 + 512 * t.val + (j 0).val ∧ ((((cfg2.win 8).blk t).view.emb j) 1).val = (j 1).val := by
  obtain ⟨e0, e1⟩ := idx8 t
  constructor
  · show win2_8.index t (0 : Fin 2) * 512 + 1 * (j 0).val = _; omega
  · show win2_8.index t (1 : Fin 2) * 1024 + 1 * (j 1).val = _; omega

/-! ## The result array -/

variable (V : (c : Dev nD) → (b : Ref sig .tc) → Buf (Elt F) ((c : Thread nD τ).loc b))

theorem idx_inj : ∀ t t' : Fin cfg2.N, win2_8.index t = win2_8.index t' → t = t' :=
  (by decide +kernel : ∀ t t' : Fin grid2.N, win2_8.index t = win2_8.index t' → t = t')

theorem disjoint : ∀ t t' : Fin cfg2.N, (cfg2.win 8).flush t = true → (cfg2.win 8).flush t' = true → t ≠ t' →
    Disjoint ((cfg2.win 8).blk t).view.set ((cfg2.win 8).blk t').view.set :=
  fun t t' _ _ hne => (cfg2.win 8).disjoint_blk fun h => hne (idx_inj t t' h)

theorem flushed_eq (t : Fin cfg2.N) :
    (dat2 V c).flushed 8 t = (cfg2.win 8).cut (grid2.coords t) (outsAt2 V c t) := by
  show (cfg2.win 8).cut (grid2.coords t) ((dat2 V c).after 8 t) = _
  rw [after2_8]

/-- A row of point `t`'s block ends as its tile. -/
theorem final_tile (t : Fin cfg2.N) (x : S512x1024.Idx) :
    (dat2 V c).arrAt 8 cfg2.N (((cfg2.win 8).blk t).view.emb x)
      = kernelTile (iblk2 V c 5 t) (parts (iblk2 V c 0 t)) (parts (iblk2 V c 1 t)) (parts (iblk2 V c 2 t)) (parts (iblk2 V c 3 t))
          (fun j => (iblk2 V c 6 t : Vec F S1x6x1024 .f32) (gateR.toLoadRect.idx j)) (iblk2 V c 4 t) (iblk2 V c 7 t) x := by
  have h := congrFun ((dat2 V c).read_blk_arrAt_eq_flushed 8 disjoint cfg2.N t t.isLt (flush2_8 t)) x
  rw [View.read_apply, flushed_eq, outsAt2, out_eq] at h
  exact h

/-- A row of the other parts ends as the call found it. -/
theorem final_rest (y : S32768x1024.Idx) (h : (y 0).val < 16384 ∨ 24576 ≤ (y 0).val) :
    (dat2 V c).arrAt 8 cfg2.N y = V c main_v5 y := by
  rw [(dat2 V c).arrAt_apply_of_forall_not_mem 8 cfg2.N y (fun t _ _ hmem => ?_), A_eq2]
  · obtain ⟨x, -, hx⟩ := Finset.mem_map.mp hmem
    have hN : t.val < 16 := t.isLt.trans_eq N_2
    have hx0 : (x 0).val < 512 := (x 0).isLt
    have e := (emb8 t x).1
    rw [hx] at e
    omega

end

end Part2

namespace Part3

section

variable (c : Dev nD) (i : grid3.Coords) (arg1 : Memref sig .tc .vmem S2048x128 .i32) (harg1 : arg1.IsWhole) (arg2 : Memref sig .tc .vmem S2048x128 .i32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S512x1024 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S512x1024 .f32) (harg9 : arg9.IsWhole)
  (x0 : Vec F S2048x128 .i32) (x1 : Vec F S2048x128 .i32) (x2 : Vec F S2048x128 .i32) (x3 : Vec F S2048x128 .i32) (x4 : Vec F S512x1024 .f32) (x5 : Vec F S512x4 .f32) (x6 : Vec F S1x6x1024 .f32) (x7 : Vec F S1x1024 .f32)

theorem run_pieces :
    (kernelRun3_A (F := F) c i arg1 harg1 arg2 harg2 arg3 harg3 arg4 harg4 arg5 harg5 arg6 harg6 arg7 harg7 arg8 harg8 arg9 harg9 x0 x1 x2 x3 x4 x5 x6 x7).1
      = [⟨(Rect.unit (s := S512x1024) ![0, 0] S512x1024.size Gen.inb_S512x1024_S512x1024_0_0), kernelTile (arg6.view.readAt (Elt F) (Rect.unit (s := S512x4) ![0, 0] S512x4.size Gen.inb_S512x4_S512x4_0_0).toLoadRect (harg6.unread x5)) (loads arg1 (harg1.unread x0)) (loads arg2 (harg2.unread x1)) (loads arg3 (harg3.unread x2)) (loads arg4 (harg4.unread x3))
          (arg7.view.readAt (Elt F) gateR.toLoadRect (harg7.unread x6)) (arg5.view.readAt (Elt F) (Rect.unit (s := S512x1024) ![0, 0] S512x1024.size Gen.inb_S512x1024_S512x1024_0_0).toLoadRect (harg5.unread x4)) (arg8.view.readAt (Elt F) (Rect.unit (s := S1x1024) ![0, 0] S1x1024.size Gen.inb_S1x1024_S1x1024_0_0).toLoadRect (harg8.unread x7))⟩] := by
  unfold kernelRun3_A
  rfl

/-- What the body leaves: its tile. -/
theorem out_eq :
    out3_A_8 (F := F) c i arg1 harg1 arg2 harg2 arg3 harg3 arg4 harg4 arg5 harg5 arg6 harg6 arg7 harg7 arg8 harg8 arg9 harg9 x0 x1 x2 x3 x4 x5 x6 x7
      = kernelTile x5 (parts x0) (parts x1) (parts x2) (parts x3) (fun j => x6 (gateR.toLoadRect.idx j)) x4 x7 := by
  unfold out3_A_8
  rw [run_pieces]
  refine (View.read_writes_full _ _ _ _ _).trans ?_
  exact tile_congr ((rd harg6 x5 _).trans (same x5 _)) (loads_eq _ harg1 x0) (loads_eq _ harg2 x1) (loads_eq _ harg3 x2) (loads_eq _ harg4 x3)
    (rd harg7 x6 _) ((rd harg5 x4 _).trans (same x4 _)) ((rd harg8 x7 _).trans (same x7 _))

/-! ## The windows' blocks -/

theorem idx0 : ∀ t : Fin cfg3.N, win3_0.index t (0 : Fin 2) = t.val ∧ win3_0.index t (1 : Fin 2) = 0 := (by decide +kernel : ∀ t : Fin grid3.N, _)
theorem idx1 : ∀ t : Fin cfg3.N, win3_1.index t (0 : Fin 2) = 16 + t.val ∧ win3_1.index t (1 : Fin 2) = 0 := (by decide +kernel : ∀ t : Fin grid3.N, _)
theorem idx2 : ∀ t : Fin cfg3.N, win3_2.index t (0 : Fin 2) = 32 + t.val ∧ win3_2.index t (1 : Fin 2) = 0 := (by decide +kernel : ∀ t : Fin grid3.N, _)
theorem idx3 : ∀ t : Fin cfg3.N, win3_3.index t (0 : Fin 2) = 48 + t.val ∧ win3_3.index t (1 : Fin 2) = 0 := (by decide +kernel : ∀ t : Fin grid3.N, _)
theorem idx4 : ∀ t : Fin cfg3.N, win3_4.index t (0 : Fin 2) = 48 + t.val ∧ win3_4.index t (1 : Fin 2) = 0 := (by decide +kernel : ∀ t : Fin grid3.N, _)
theorem idx5 : ∀ t : Fin cfg3.N, win3_5.index t (0 : Fin 2) = 48 + t.val ∧ win3_5.index t (1 : Fin 2) = 0 := (by decide +kernel : ∀ t : Fin grid3.N, _)
theorem idx6 : ∀ t : Fin cfg3.N, win3_6.index t (0 : Fin 3) = 6 + t.val / 8 ∧ win3_6.index t (1 : Fin 3) = 0 ∧ win3_6.index t (2 : Fin 3) = 0 := (by decide +kernel : ∀ t : Fin grid3.N, _)
theorem idx7 : ∀ t : Fin cfg3.N, win3_7.index t (0 : Fin 2) = 0 ∧ win3_7.index t (1 : Fin 2) = 0 := (by decide +kernel : ∀ t : Fin grid3.N, _)
theorem idx8 : ∀ t : Fin cfg3.N, win3_8.index t (0 : Fin 2) = 48 + t.val ∧ win3_8.index t (1 : Fin 2) = 0 := (by decide +kernel : ∀ t : Fin grid3.N, _)

theorem emb0 (t : Fin cfg3.N) (j : S2048x128.Idx) : ((((cfg3.win 0).blk t).view.emb j) 0).val = 2048 * t.val + (j 0).val ∧ ((((cfg3.win 0).blk t).view.emb j) 1).val = (j 1).val := by
  obtain ⟨e0, e1⟩ := idx0 t
  constructor
  · show win3_0.index t (0 : Fin 2) * 2048 + 1 * (j 0).val = _; omega
  · show win3_0.index t (1 : Fin 2) * 128 + 1 * (j 1).val = _; omega

theorem emb1 (t : Fin cfg3.N) (j : S2048x128.Idx) : ((((cfg3.win 1).blk t).view.emb j) 0).val = 32768 + 2048 * t.val + (j 0).val ∧ ((((cfg3.win 1).blk t).view.emb j) 1).val = (j 1).val := by
  obtain ⟨e0, e1⟩ := idx1 t
  constructor
  · show win3_1.index t (0 : Fin 2) * 2048 + 1 * (j 0).val = _; omega
  · show win3_1.index t (1 : Fin 2) * 128 + 1 * (j 1).val = _; omega

theorem emb2 (t : Fin cfg3.N) (j : S2048x128.Idx) : ((((cfg3.win 2).blk t).view.emb j) 0).val = 65536 + 2048 * t.val + (j 0).val ∧ ((((cfg3.win 2).blk t).view.emb j) 1).val = (j 1).val := by
  obtain ⟨e0, e1⟩ := idx2 t
  constructor
  · show win3_2.index t (0 : Fin 2) * 2048 + 1 * (j 0).val = _; omega
  · show win3_2.index t (1 : Fin 2) * 128 + 1 * (j 1).val = _; omega

theorem emb3 (t : Fin cfg3.N) (j : S2048x128.Idx) : ((((cfg3.win 3).blk t).view.emb j) 0).val = 98304 + 2048 * t.val + (j 0).val ∧ ((((cfg3.win 3).blk t).view.emb j) 1).val = (j 1).val := by
  obtain ⟨e0, e1⟩ := idx3 t
  constructor
  · show win3_3.index t (0 : Fin 2) * 2048 + 1 * (j 0).val = _; omega
  · show win3_3.index t (1 : Fin 2) * 128 + 1 * (j 1).val = _; omega

theorem emb4 (t : Fin cfg3.N) (j : S512x1024.Idx) : ((((cfg3.win 4).blk t).view.emb j) 0).val = 24576 + 512 * t.val + (j 0).val ∧ ((((cfg3.win 4).blk t).view.emb j) 1).val = (j 1).val := by
  obtain ⟨e0, e1⟩ := idx4 t
  constructor
  · show win3_4.index t (0 : Fin 2) * 512 + 1 * (j 0).val = _; omega
  · show win3_4.index t (1 : Fin 2) * 1024 + 1 * (j 1).val = _; omega

theorem emb5 (t : Fin cfg3.N) (j : S512x4.Idx) : ((((cfg3.win 5).blk t).view.emb j) 0).val = 24576 + 512 * t.val + (j 0).val ∧ ((((cfg3.win 5).blk t).view.emb j) 1).val = (j 1).val := by
  obtain ⟨e0, e1⟩ := idx5 t
  constructor
  · show win3_5.index t (0 : Fin 2) * 512 + 1 * (j 0).val = _; omega
  · show win3_5.index t (1 : Fin 2) * 4 + 1 * (j 1).val = _; omega

theorem emb6 (t : Fin cfg3.N) (j : S1x6x1024.Idx) : ((((cfg3.win 6).blk t).view.emb j) 0).val = 6 + t.val / 8 + (j 0).val ∧ ((((cfg3.win 6).blk t).view.emb j) 1).val = (j 1).val
    ∧ ((((cfg3.win 6).blk t).view.emb j) 2).val = (j 2).val := by
  obtain ⟨e0, e1, e2⟩ := idx6 t
  refine ⟨?_, ?_, ?_⟩
  · show win3_6.index t (0 : Fin 3) * 1 + 1 * (j 0).val = _; omega
  · show win3_6.index t (1 : Fin 3) * 6 + 1 * (j 1).val = _; omega
  · show win3_6.index t (2 : Fin 3) * 1024 + 1 * (j 2).val = _; omega

theorem emb7 (t : Fin cfg3.N) (j : S1x1024.Idx) : ((((cfg3.win 7).blk t).view.emb j) 0).val = (j 0).val ∧ ((((cfg3.win 7).blk t).view.emb j) 1).val = (j 1).val := by
  obtain ⟨e0, e1⟩ := idx7 t
  constructor
  · show win3_7.index t (0 : Fin 2) * 1 + 1 * (j 0).val = _; omega
  · show win3_7.index t (1 : Fin 2) * 1024 + 1 * (j 1).val = _; omega

theorem emb8 (t : Fin cfg3.N) (j : S512x1024.Idx) : ((((cfg3.win 8).blk t).view.emb j) 0).val = 24576 + 512 * t.val + (j 0).val ∧ ((((cfg3.win 8).blk t).view.emb j) 1).val = (j 1).val := by
  obtain ⟨e0, e1⟩ := idx8 t
  constructor
  · show win3_8.index t (0 : Fin 2) * 512 + 1 * (j 0).val = _; omega
  · show win3_8.index t (1 : Fin 2) * 1024 + 1 * (j 1).val = _; omega

/-! ## The result array -/

variable (V : (c : Dev nD) → (b : Ref sig .tc) → Buf (Elt F) ((c : Thread nD τ).loc b))

theorem idx_inj : ∀ t t' : Fin cfg3.N, win3_8.index t = win3_8.index t' → t = t' :=
  (by decide +kernel : ∀ t t' : Fin grid3.N, win3_8.index t = win3_8.index t' → t = t')

theorem disjoint : ∀ t t' : Fin cfg3.N, (cfg3.win 8).flush t = true → (cfg3.win 8).flush t' = true → t ≠ t' →
    Disjoint ((cfg3.win 8).blk t).view.set ((cfg3.win 8).blk t').view.set :=
  fun t t' _ _ hne => (cfg3.win 8).disjoint_blk fun h => hne (idx_inj t t' h)

theorem flushed_eq (t : Fin cfg3.N) :
    (dat3 V c).flushed 8 t = (cfg3.win 8).cut (grid3.coords t) (outsAt3 V c t) := by
  show (cfg3.win 8).cut (grid3.coords t) ((dat3 V c).after 8 t) = _
  rw [after3_8]

/-- A row of point `t`'s block ends as its tile. -/
theorem final_tile (t : Fin cfg3.N) (x : S512x1024.Idx) :
    (dat3 V c).arrAt 8 cfg3.N (((cfg3.win 8).blk t).view.emb x)
      = kernelTile (iblk3 V c 5 t) (parts (iblk3 V c 0 t)) (parts (iblk3 V c 1 t)) (parts (iblk3 V c 2 t)) (parts (iblk3 V c 3 t))
          (fun j => (iblk3 V c 6 t : Vec F S1x6x1024 .f32) (gateR.toLoadRect.idx j)) (iblk3 V c 4 t) (iblk3 V c 7 t) x := by
  have h := congrFun ((dat3 V c).read_blk_arrAt_eq_flushed 8 disjoint cfg3.N t t.isLt (flush3_8 t)) x
  rw [View.read_apply, flushed_eq, outsAt3, out_eq] at h
  exact h

/-- A row of the other parts ends as the call found it. -/
theorem final_rest (y : S32768x1024.Idx) (h : (y 0).val < 24576 ∨ 32768 ≤ (y 0).val) :
    (dat3 V c).arrAt 8 cfg3.N y = V c main_v7 y := by
  rw [(dat3 V c).arrAt_apply_of_forall_not_mem 8 cfg3.N y (fun t _ _ hmem => ?_), A_eq3]
  · obtain ⟨x, -, hx⟩ := Finset.mem_map.mp hmem
    have hN : t.val < 16 := t.isLt.trans_eq N_3
    have hx0 : (x 0).val < 512 := (x 0).isLt
    have e := (emb8 t x).1
    rw [hx] at e
    omega

end

end Part3

end Cert.Proof.CombinationK

end
-- ==== Proof.Combination.Whole.lean ====
/-
  The four combination calls one after the other: what each finds, and the array the last leaves.
-/
module

public import proofs.«01_k».proof.Proof.Combination.Run

@[expose] public section

noncomputable section

namespace Cert.Proof.CombinationW

open Cert.Combine Cert.Combine.Gen
open Cert.Combine.Facts₀ Cert.Combine.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The gain as call 0 finds it: the argument as one row. -/
theorem gain0 : (V1 m ρ c main_v0 : Vec F S1x1024 .f32) = shapeCast S1x1024 (m ((c : Thread nD τ).loc main_arg7) : Vec F S1024 .f32) Gen.shapeCasts_S1024_S1x1024 := by
  have h : (V1 m ρ c main_v0 : Vec F S1x1024 .f32) = shapeCast S1x1024 (W0 m ρ c (Proc.devRef .tc main_arg7) : Vec F S1024 .f32) Gen.shapeCasts_S1024_S1x1024 := by
    dsimp only [V1, W1, hostOps0]; after_results; rfl
  exact h.trans (congrArg (fun A => shapeCast S1x1024 A Gen.shapeCasts_S1024_S1x1024) (W0_args m ρ c main_arg7 (by decide)))

/-- Call 0's result starts as a copy of the residual. -/
theorem copied0 : (V1 m ρ c main_v1 : Vec F S32768x1024 .f32) = W0 m ρ c (Proc.devRef .tc main_arg4) := by
  dsimp only [V1, W1, hostOps0]; after_results; rfl

/-- After call 0 the later tokens' rows are the residual's still. -/
theorem later0 (y : S32768x1024.Idx) (h : 8192 ≤ (y 0).val) : (dat0 (V1 m ρ) c).arrAt 8 cfg0.N y = m ((c : Thread nD τ).loc main_arg4) y :=
  (CombinationK.Part0.final_rest c (V1 m ρ) y (.inr h)).trans
    (congrFun (copied0 m ρ c) y)

/-- The gain as call 1 finds it: the argument as one row. -/
theorem gain1 : (V3 m ρ c main_v2 : Vec F S1x1024 .f32) = shapeCast S1x1024 (m ((c : Thread nD τ).loc main_arg7) : Vec F S1024 .f32) Gen.shapeCasts_S1024_S1x1024 := by
  have h : (V3 m ρ c main_v2 : Vec F S1x1024 .f32) = shapeCast S1x1024 (W2 m ρ c (Proc.devRef .tc main_arg7) : Vec F S1024 .f32) Gen.shapeCasts_S1024_S1x1024 := by
    dsimp only [V3, W3, hostOps1]; after_results; rfl
  exact h.trans (congrArg (fun A => shapeCast S1x1024 A Gen.shapeCasts_S1024_S1x1024) (W2_args m ρ c main_arg7 (by decide)))

/-- Call 1's result starts as a copy of the call before's. -/
theorem copied1 : (V3 m ρ c main_v3 : Vec F S32768x1024 .f32) = W2 m ρ c (Proc.devRef .tc main_v1) := by
  dsimp only [V3, W3, hostOps1]; after_results; rfl

/-- Call 1 finds the call before's result. -/
theorem found1 : (V3 m ρ c main_v1 : Vec F S32768x1024 .f32) = (dat0 (V1 m ρ) c).arrAt 8 cfg0.N :=
  (W3_of m ρ c main_v1 (by decide)).trans (W2_arr m ρ c 8)

theorem start1 : (V3 m ρ c main_v3 : Vec F S32768x1024 .f32) = (dat0 (V1 m ρ) c).arrAt 8 cfg0.N :=
  (copied1 m ρ c).trans (W2_arr m ρ c 8)

/-- After call 1 the later tokens' rows are the residual's still. -/
theorem later1 (y : S32768x1024.Idx) (h : 16384 ≤ (y 0).val) : (dat1 (V3 m ρ) c).arrAt 8 cfg1.N y = m ((c : Thread nD τ).loc main_arg4) y :=
  (CombinationK.Part1.final_rest c (V3 m ρ) y (.inr h)).trans
    ((congrFun (start1 m ρ c) y).trans (later0 m ρ c y (by omega)))

/-- The gain as call 2 finds it: the argument as one row. -/
theorem gain2 : (V5 m ρ c main_v4 : Vec F S1x1024 .f32) = shapeCast S1x1024 (m ((c : Thread nD τ).loc main_arg7) : Vec F S1024 .f32) Gen.shapeCasts_S1024_S1x1024 := by
  have h : (V5 m ρ c main_v4 : Vec F S1x1024 .f32) = shapeCast S1x1024 (W4 m ρ c (Proc.devRef .tc main_arg7) : Vec F S1024 .f32) Gen.shapeCasts_S1024_S1x1024 := by
    dsimp only [V5, W5, hostOps2]; after_results; rfl
  exact h.trans (congrArg (fun A => shapeCast S1x1024 A Gen.shapeCasts_S1024_S1x1024) (W4_args m ρ c main_arg7 (by decide)))

/-- Call 2's result starts as a copy of the call before's. -/
theorem copied2 : (V5 m ρ c main_v5 : Vec F S32768x1024 .f32) = W4 m ρ c (Proc.devRef .tc main_v3) := by
  dsimp only [V5, W5, hostOps2]; after_results; rfl

/-- Call 2 finds the call before's result. -/
theorem found2 : (V5 m ρ c main_v3 : Vec F S32768x1024 .f32) = (dat1 (V3 m ρ) c).arrAt 8 cfg1.N :=
  (W5_of m ρ c main_v3 (by decide)).trans (W4_arr m ρ c 8)

theorem start2 : (V5 m ρ c main_v5 : Vec F S32768x1024 .f32) = (dat1 (V3 m ρ) c).arrAt 8 cfg1.N :=
  (copied2 m ρ c).trans (W4_arr m ρ c 8)

/-- After call 2 the later tokens' rows are the residual's still. -/
theorem later2 (y : S32768x1024.Idx) (h : 24576 ≤ (y 0).val) : (dat2 (V5 m ρ) c).arrAt 8 cfg2.N y = m ((c : Thread nD τ).loc main_arg4) y :=
  (CombinationK.Part2.final_rest c (V5 m ρ) y (.inr h)).trans
    ((congrFun (start2 m ρ c) y).trans (later1 m ρ c y (by omega)))

/-- The gain as call 3 finds it: the argument as one row. -/
theorem gain3 : (V7 m ρ c main_v6 : Vec F S1x1024 .f32) = shapeCast S1x1024 (m ((c : Thread nD τ).loc main_arg7) : Vec F S1024 .f32) Gen.shapeCasts_S1024_S1x1024 := by
  have h : (V7 m ρ c main_v6 : Vec F S1x1024 .f32) = shapeCast S1x1024 (W6 m ρ c (Proc.devRef .tc main_arg7) : Vec F S1024 .f32) Gen.shapeCasts_S1024_S1x1024 := by
    dsimp only [V7, W7, hostOps3]; after_results; rfl
  exact h.trans (congrArg (fun A => shapeCast S1x1024 A Gen.shapeCasts_S1024_S1x1024) (W6_args m ρ c main_arg7 (by decide)))

/-- Call 3's result starts as a copy of the call before's. -/
theorem copied3 : (V7 m ρ c main_v7 : Vec F S32768x1024 .f32) = W6 m ρ c (Proc.devRef .tc main_v5) := by
  dsimp only [V7, W7, hostOps3]; after_results; rfl

/-- Call 3 finds the call before's result. -/
theorem found3 : (V7 m ρ c main_v5 : Vec F S32768x1024 .f32) = (dat2 (V5 m ρ) c).arrAt 8 cfg2.N :=
  (W7_of m ρ c main_v5 (by decide)).trans (W6_arr m ρ c 8)

theorem start3 : (V7 m ρ c main_v7 : Vec F S32768x1024 .f32) = (dat2 (V5 m ρ) c).arrAt 8 cfg2.N :=
  (copied3 m ρ c).trans (W6_arr m ρ c 8)

/-- After call 3 the later tokens' rows are the residual's still. -/
theorem later3 (y : S32768x1024.Idx) (h : 32768 ≤ (y 0).val) : (dat3 (V7 m ρ) c).arrAt 8 cfg3.N y = m ((c : Thread nD τ).loc main_arg4) y :=
  (CombinationK.Part3.final_rest c (V7 m ρ) y (.inr h)).trans
    ((congrFun (start3 m ρ c) y).trans (later2 m ρ c y (by omega)))

/-- What the last call leaves. -/
abbrev result : Vec F S32768x1024 .f32 := (dat3 (V7 m ρ) c).arrAt 8 cfg3.N

theorem on3 (y : S32768x1024.Idx) : result m ρ c y = (dat3 (V7 m ρ) c).arrAt 8 cfg3.N y := rfl
theorem on2 (y : S32768x1024.Idx) (h : (y 0).val < 24576) : result m ρ c y = (dat2 (V5 m ρ) c).arrAt 8 cfg2.N y :=
  (CombinationK.Part3.final_rest c (V7 m ρ) y (.inl h)).trans (congrFun (start3 m ρ c) y)
theorem on1 (y : S32768x1024.Idx) (h : (y 0).val < 16384) : result m ρ c y = (dat1 (V3 m ρ) c).arrAt 8 cfg1.N y :=
  (on2 m ρ c y (by omega)).trans ((CombinationK.Part2.final_rest c (V5 m ρ) y (.inl h)).trans (congrFun (start2 m ρ c) y))
theorem on0 (y : S32768x1024.Idx) (h : (y 0).val < 8192) : result m ρ c y = (dat0 (V1 m ρ) c).arrAt 8 cfg0.N y :=
  (on1 m ρ c y (by omega)).trans ((CombinationK.Part1.final_rest c (V3 m ρ) y (.inl h)).trans (congrFun (start1 m ρ c) y))

/-- Every run ends with the last call's result and the arguments as they were. -/
theorem run : θ_run defs (onTc (τ := τ) (main (F := F))) ⟨m, fun _ => 0, ρ⟩ (fun r => ∀ c : Dev nD,
      r.2.mem ((c.tc : Thread nD τ).loc main_v7) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v7 (by decide))).trans (W8_arr m ρ c 8),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Proof.CombinationW

end
-- ==== Proof.Combination.Equal.lean ====
/-
  The combination calls and their reference end with the same array.
-/
module

public import proofs.«01_k».proof.Proof.Combination.Ref
public import proofs.«01_k».proof.Proof.Combination.Whole

@[expose] public section

noncomputable section

namespace Cert.Proof.Combination

open Idealize.ShloMosaic Idealize.ShloMosaic.TcCoe

variable {F : FTy → Type} [FloatOps F]

/-- A tile's rows, whole in the reference and in four strided parts in the kernel. -/
theorem rows_eq (X : Cert.CombineReference.S524288x128.Idx → Elt F .i32) (x : Vec F Cert.Combine.S2048x128 .i32) (E : Cert.Combine.S2048x128.Idx → Cert.CombineReference.S524288x128.Idx)
    (hx : ∀ j, x j = X (E j)) (o : ℕ) (ho : o + 512 ≤ 131072) (hE : ∀ j, (E j 0).val = 4 * o + (j 0).val ∧ (E j 1).val = (j 1).val)
    (off : Fin 2 → ℕ) (hoff : off = ![o, 0]) (inb) :
    (fun j => (shapeCast Cert.CombineReference.S131072x512 X Cert.CombineReference.Gen.shapeCasts_S524288x128_S131072x512)
        ((Rect.unit (s := Cert.CombineReference.S131072x512) off Cert.CombineReference.S512x512.size inb).toLoadRect.idx j))
      = wide (F := F) (CombinationK.parts x) := by
  subst hoff
  refine funext fun (j : Cert.CombineReference.S512x512.Idx) => ?_
  have hj0 : (j 0).val < 512 := (j 0).isLt
  have hj1 : (j 1).val < 512 := (j 1).isLt
  have hl : shapeCast Cert.CombineReference.S131072x512 X Cert.CombineReference.Gen.shapeCasts_S524288x128_S131072x512
        ((Rect.unit (s := Cert.CombineReference.S131072x512) ![o, 0] Cert.CombineReference.S512x512.size inb).toLoadRect.idx j)
      = X (Shape.pair (d := ![524288, 128]) ⟨4 * (o + (j 0).val) + (j 1).val / 128, by show _ < 524288; omega⟩ ⟨(j 1).val % 128, Nat.mod_lt _ (by decide)⟩) := by
    apply shapeCast_apply
    rw [Shape.rowMajor_val_two, Shape.rowMajor_val_two]
    have g : (4 * (o + (j 0).val) + (j 1).val / 128) * 128 + (j 1).val % 128 = (o + 1 * (j 0).val) * 512 + (0 + 1 * (j 1).val) := by omega
    exact g
  refine Eq.trans hl ?_
  symm
  have c4 : (j 1).val / 128 = 0 ∨ (j 1).val / 128 = 1 ∨ (j 1).val / 128 = 2 ∨ (j 1).val / 128 = 3 := by omega
  show Cert.Combine.Gen.k0_pay2 (F := F) _ _ _ _ j = _
  unfold Cert.Combine.Gen.k0_pay2
  rcases c4 with h | h | h | h
  · have hi : (j 1).val - 0 < 128 := by omega
    refine (concatenate_apply_piece (t := Cert.Combine.S512x512) 1 _ _ j 0 (by show 0 < 4; decide) Cert.Combine.S512x128 (CombinationK.parts x 0) rfl rfl 0 rfl
      (Shape.pair (d := ![512, 128]) ⟨(j 0).val, hj0⟩ ⟨(j 1).val - 0, hi⟩) ?_ ?_).trans ?_
    · intro b hb
      fin_cases b
      · rfl
      · exact absurd rfl hb
    · show 0 + ((j 1).val - 0) = (j 1).val
      omega
    · refine (hx ((CombinationK.part 0).idx (Shape.pair (d := ![512, 128]) ⟨(j 0).val, hj0⟩ ⟨(j 1).val - 0, hi⟩))).trans ?_
      refine congrArg X (funext fun a => Fin.ext ?_)
      have hE' := hE ((CombinationK.part 0).idx (Shape.pair (d := ![512, 128]) ⟨(j 0).val, hj0⟩ ⟨(j 1).val - 0, hi⟩))
      fin_cases a
      · refine hE'.1.trans ?_
        show 4 * o + (0 + 4 * (j 0).val) = 4 * (o + (j 0).val) + (j 1).val / 128
        omega
      · refine hE'.2.trans ?_
        show 0 + 1 * ((j 1).val - 0) = (j 1).val % 128
        omega
  · have hi : (j 1).val - 128 < 128 := by omega
    refine (concatenate_apply_piece (t := Cert.Combine.S512x512) 1 _ _ j 1 (by show 1 < 4; decide) Cert.Combine.S512x128 (CombinationK.parts x 1) rfl rfl 128 rfl
      (Shape.pair (d := ![512, 128]) ⟨(j 0).val, hj0⟩ ⟨(j 1).val - 128, hi⟩) ?_ ?_).trans ?_
    · intro b hb
      fin_cases b
      · rfl
      · exact absurd rfl hb
    · show 128 + ((j 1).val - 128) = (j 1).val
      omega
    · refine (hx ((CombinationK.part 1).idx (Shape.pair (d := ![512, 128]) ⟨(j 0).val, hj0⟩ ⟨(j 1).val - 128, hi⟩))).trans ?_
      refine congrArg X (funext fun a => Fin.ext ?_)
      have hE' := hE ((CombinationK.part 1).idx (Shape.pair (d := ![512, 128]) ⟨(j 0).val, hj0⟩ ⟨(j 1).val - 128, hi⟩))
      fin_cases a
      · refine hE'.1.trans ?_
        show 4 * o + (1 + 4 * (j 0).val) = 4 * (o + (j 0).val) + (j 1).val / 128
        omega
      · refine hE'.2.trans ?_
        show 0 + 1 * ((j 1).val - 128) = (j 1).val % 128
        omega
  · have hi : (j 1).val - 256 < 128 := by omega
    refine (concatenate_apply_piece (t := Cert.Combine.S512x512) 1 _ _ j 2 (by show 2 < 4; decide) Cert.Combine.S512x128 (CombinationK.parts x 2) rfl rfl 256 rfl
      (Shape.pair (d := ![512, 128]) ⟨(j 0).val, hj0⟩ ⟨(j 1).val - 256, hi⟩) ?_ ?_).trans ?_
    · intro b hb
      fin_cases b
      · rfl
      · exact absurd rfl hb
    · show 256 + ((j 1).val - 256) = (j 1).val
      omega
    · refine (hx ((CombinationK.part 2).idx (Shape.pair (d := ![512, 128]) ⟨(j 0).val, hj0⟩ ⟨(j 1).val - 256, hi⟩))).trans ?_
      refine congrArg X (funext fun a => Fin.ext ?_)
      have hE' := hE ((CombinationK.part 2).idx (Shape.pair (d := ![512, 128]) ⟨(j 0).val, hj0⟩ ⟨(j 1).val - 256, hi⟩))
      fin_cases a
      · refine hE'.1.trans ?_
        show 4 * o + (2 + 4 * (j 0).val) = 4 * (o + (j 0).val) + (j 1).val / 128
        omega
      · refine hE'.2.trans ?_
        show 0 + 1 * ((j 1).val - 256) = (j 1).val % 128
        omega
  · have hi : (j 1).val - 384 < 128 := by omega
    refine (concatenate_apply_piece (t := Cert.Combine.S512x512) 1 _ _ j 3 (by show 3 < 4; decide) Cert.Combine.S512x128 (CombinationK.parts x 3) rfl rfl 384 rfl
      (Shape.pair (d := ![512, 128]) ⟨(j 0).val, hj0⟩ ⟨(j 1).val - 384, hi⟩) ?_ ?_).trans ?_
    · intro b hb
      fin_cases b
      · rfl
      · exact absurd rfl hb
    · show 384 + ((j 1).val - 384) = (j 1).val
      omega
    · refine (hx ((CombinationK.part 3).idx (Shape.pair (d := ![512, 128]) ⟨(j 0).val, hj0⟩ ⟨(j 1).val - 384, hi⟩))).trans ?_
      refine congrArg X (funext fun a => Fin.ext ?_)
      have hE' := hE ((CombinationK.part 3).idx (Shape.pair (d := ![512, 128]) ⟨(j 0).val, hj0⟩ ⟨(j 1).val - 384, hi⟩))
      fin_cases a
      · refine hE'.1.trans ?_
        show 4 * o + (3 + 4 * (j 0).val) = 4 * (o + (j 0).val) + (j 1).val / 128
        omega
      · refine hE'.2.trans ?_
        show 0 + 1 * ((j 1).val - 384) = (j 1).val % 128
        omega

theorem all4_congr {a b e d a' b' e' d' : Vec F Cert.Combine.S131072x128 .i32} (ha : a = a') (hb : b = b') (he : e = e') (hd : d = d') :
    CombinationR.all4 a b e d = CombinationR.all4 a' b' e' d' := by
  subst ha hb he hd
  rfl

/-- Part 0's words among the four parts'. -/
theorem all4_0 (a b e d : Vec F Cert.Combine.S131072x128 .i32) (i : Cert.Combine.S131072x128.Idx) (y : Cert.CombineReference.S524288x128.Idx)
    (h0 : (y 0).val = 0 + (i 0).val) (h1 : (y 1).val = (i 1).val) : CombinationR.all4 a b e d y = a i := by
  refine concatenate_apply_piece (t := Cert.CombineReference.S524288x128) 0 _ _ y 0 (by show 0 < 4; decide) Cert.Combine.S131072x128 a rfl rfl 0 ?_ i ?_ ?_
  · refine Eq.trans (b := ([] : List ℕ).sum) (congrArg List.sum ?_) (by simp)
    rfl
  · intro q hq
    fin_cases q
    · exact absurd rfl hq
    · exact h1.symm
  · exact h0.symm

/-- Part 1's words among the four parts'. -/
theorem all4_1 (a b e d : Vec F Cert.Combine.S131072x128 .i32) (i : Cert.Combine.S131072x128.Idx) (y : Cert.CombineReference.S524288x128.Idx)
    (h0 : (y 0).val = 131072 + (i 0).val) (h1 : (y 1).val = (i 1).val) : CombinationR.all4 a b e d y = b i := by
  refine concatenate_apply_piece (t := Cert.CombineReference.S524288x128) 0 _ _ y 1 (by show 1 < 4; decide) Cert.Combine.S131072x128 b rfl rfl 131072 ?_ i ?_ ?_
  · refine Eq.trans (b := ([131072] : List ℕ).sum) (congrArg List.sum ?_) (by simp)
    rfl
  · intro q hq
    fin_cases q
    · exact absurd rfl hq
    · exact h1.symm
  · exact h0.symm

/-- Part 2's words among the four parts'. -/
theorem all4_2 (a b e d : Vec F Cert.Combine.S131072x128 .i32) (i : Cert.Combine.S131072x128.Idx) (y : Cert.CombineReference.S524288x128.Idx)
    (h0 : (y 0).val = 262144 + (i 0).val) (h1 : (y 1).val = (i 1).val) : CombinationR.all4 a b e d y = e i := by
  refine concatenate_apply_piece (t := Cert.CombineReference.S524288x128) 0 _ _ y 2 (by show 2 < 4; decide) Cert.Combine.S131072x128 e rfl rfl 262144 ?_ i ?_ ?_
  · refine Eq.trans (b := ([131072, 131072] : List ℕ).sum) (congrArg List.sum ?_) (by simp)
    rfl
  · intro q hq
    fin_cases q
    · exact absurd rfl hq
    · exact h1.symm
  · exact h0.symm

/-- Part 3's words among the four parts'. -/
theorem all4_3 (a b e d : Vec F Cert.Combine.S131072x128 .i32) (i : Cert.Combine.S131072x128.Idx) (y : Cert.CombineReference.S524288x128.Idx)
    (h0 : (y 0).val = 393216 + (i 0).val) (h1 : (y 1).val = (i 1).val) : CombinationR.all4 a b e d y = d i := by
  refine concatenate_apply_piece (t := Cert.CombineReference.S524288x128) 0 _ _ y 3 (by show 3 < 4; decide) Cert.Combine.S131072x128 d rfl rfl 393216 ?_ i ?_ ?_
  · refine Eq.trans (b := ([131072, 131072, 131072] : List ℕ).sum) (congrArg List.sum ?_) (by simp)
    rfl
  · intro q hq
    fin_cases q
    · exact absurd rfl hq
    · exact h1.symm
  · exact h0.symm

variable (m : (ℓ : Loc Cert.Combine.nD Cert.Combine.τ Cert.Combine.sig) → Buf (Elt F) ℓ) (ρ : Dev Cert.Combine.nD → PrngReg)
  (m' : (ℓ : Loc Cert.CombineReference.nD Cert.CombineReference.τ Cert.CombineReference.sig) → Buf (Elt F) ℓ) (c : Dev Cert.Combine.nD)

namespace Part0

theorem words0 (t : Fin Cert.Combine.cfg0.N) (k : Fin Cert.CombineReference.k0_t1_loop.trips) (hk : k.val = 0 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 0#32) Cert.CombineReference.S512x512.size (Cert.CombineReference.Gen.k0_off2_inb k 0)).toLoadRect.idx j))
      = wide (F := F) (CombinationK.parts (Cert.Combine.Gen.iblk0 (Cert.Combine.Gen.V1 m ρ) c 0 t)) := by
  have hN : t.val < 16 := t.isLt.trans_eq Cert.Combine.Gen.N_0
  have hb : ∀ j : Cert.Combine.S2048x128.Idx, 0 + ((((Cert.Combine.cfg0.win 0).blk t).view.emb j) 0).val < 524288 := fun j => by
    have e := CombinationK.Part0.emb0 t j
    have h : (j 0).val < 2048 := (j 0).isLt
    omega
  have hb' : ∀ j : Cert.Combine.S2048x128.Idx, ((((Cert.Combine.cfg0.win 0).blk t).view.emb j) 1).val < 128 := fun j => ((((Cert.Combine.cfg0.win 0).blk t).view.emb j) 1).isLt
  refine rows_eq (F := F) _ _ (fun j => Shape.pair (d := ![524288, 128]) ⟨_, hb j⟩ ⟨_, hb' j⟩) (fun j => ?_)
    (32768 * (k.val / 16) + 8192 * 0 + 512 * (k.val % 16)) (by omega) (fun j => ?_) _ (Cert.CombineReference.Gen.k0_off2_eq k 0) _
  · exact (congrFun (Cert.Combine.Gen.W1_args m ρ c Cert.Combine.main_arg0 (by decide)) _).trans (all4_0 _ _ _ _ _ _ rfl rfl).symm
  · have e := CombinationK.Part0.emb0 t j
    constructor
    · show 0 + ((((Cert.Combine.cfg0.win 0).blk t).view.emb j) 0).val = _
      omega
    · exact e.2

theorem words1 (t : Fin Cert.Combine.cfg0.N) (k : Fin Cert.CombineReference.k0_t1_loop.trips) (hk : k.val = 0 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 1#32) Cert.CombineReference.S512x512.size (Cert.CombineReference.Gen.k0_off2_inb k 1)).toLoadRect.idx j))
      = wide (F := F) (CombinationK.parts (Cert.Combine.Gen.iblk0 (Cert.Combine.Gen.V1 m ρ) c 1 t)) := by
  have hN : t.val < 16 := t.isLt.trans_eq Cert.Combine.Gen.N_0
  have hb : ∀ j : Cert.Combine.S2048x128.Idx, 0 + ((((Cert.Combine.cfg0.win 1).blk t).view.emb j) 0).val < 524288 := fun j => by
    have e := CombinationK.Part0.emb1 t j
    have h : (j 0).val < 2048 := (j 0).isLt
    omega
  have hb' : ∀ j : Cert.Combine.S2048x128.Idx, ((((Cert.Combine.cfg0.win 1).blk t).view.emb j) 1).val < 128 := fun j => ((((Cert.Combine.cfg0.win 1).blk t).view.emb j) 1).isLt
  refine rows_eq (F := F) _ _ (fun j => Shape.pair (d := ![524288, 128]) ⟨_, hb j⟩ ⟨_, hb' j⟩) (fun j => ?_)
    (32768 * (k.val / 16) + 8192 * 1 + 512 * (k.val % 16)) (by omega) (fun j => ?_) _ (Cert.CombineReference.Gen.k0_off2_eq k 1) _
  · exact (congrFun (Cert.Combine.Gen.W1_args m ρ c Cert.Combine.main_arg0 (by decide)) _).trans (all4_0 _ _ _ _ _ _ rfl rfl).symm
  · have e := CombinationK.Part0.emb1 t j
    constructor
    · show 0 + ((((Cert.Combine.cfg0.win 1).blk t).view.emb j) 0).val = _
      omega
    · exact e.2

theorem words2 (t : Fin Cert.Combine.cfg0.N) (k : Fin Cert.CombineReference.k0_t1_loop.trips) (hk : k.val = 0 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 2#32) Cert.CombineReference.S512x512.size (Cert.CombineReference.Gen.k0_off2_inb k 2)).toLoadRect.idx j))
      = wide (F := F) (CombinationK.parts (Cert.Combine.Gen.iblk0 (Cert.Combine.Gen.V1 m ρ) c 2 t)) := by
  have hN : t.val < 16 := t.isLt.trans_eq Cert.Combine.Gen.N_0
  have hb : ∀ j : Cert.Combine.S2048x128.Idx, 0 + ((((Cert.Combine.cfg0.win 2).blk t).view.emb j) 0).val < 524288 := fun j => by
    have e := CombinationK.Part0.emb2 t j
    have h : (j 0).val < 2048 := (j 0).isLt
    omega
  have hb' : ∀ j : Cert.Combine.S2048x128.Idx, ((((Cert.Combine.cfg0.win 2).blk t).view.emb j) 1).val < 128 := fun j => ((((Cert.Combine.cfg0.win 2).blk t).view.emb j) 1).isLt
  refine rows_eq (F := F) _ _ (fun j => Shape.pair (d := ![524288, 128]) ⟨_, hb j⟩ ⟨_, hb' j⟩) (fun j => ?_)
    (32768 * (k.val / 16) + 8192 * 2 + 512 * (k.val % 16)) (by omega) (fun j => ?_) _ (Cert.CombineReference.Gen.k0_off2_eq k 2) _
  · exact (congrFun (Cert.Combine.Gen.W1_args m ρ c Cert.Combine.main_arg0 (by decide)) _).trans (all4_0 _ _ _ _ _ _ rfl rfl).symm
  · have e := CombinationK.Part0.emb2 t j
    constructor
    · show 0 + ((((Cert.Combine.cfg0.win 2).blk t).view.emb j) 0).val = _
      omega
    · exact e.2

theorem words3 (t : Fin Cert.Combine.cfg0.N) (k : Fin Cert.CombineReference.k0_t1_loop.trips) (hk : k.val = 0 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 3#32) Cert.CombineReference.S512x512.size (Cert.CombineReference.Gen.k0_off2_inb k 3)).toLoadRect.idx j))
      = wide (F := F) (CombinationK.parts (Cert.Combine.Gen.iblk0 (Cert.Combine.Gen.V1 m ρ) c 3 t)) := by
  have hN : t.val < 16 := t.isLt.trans_eq Cert.Combine.Gen.N_0
  have hb : ∀ j : Cert.Combine.S2048x128.Idx, 0 + ((((Cert.Combine.cfg0.win 3).blk t).view.emb j) 0).val < 524288 := fun j => by
    have e := CombinationK.Part0.emb3 t j
    have h : (j 0).val < 2048 := (j 0).isLt
    omega
  have hb' : ∀ j : Cert.Combine.S2048x128.Idx, ((((Cert.Combine.cfg0.win 3).blk t).view.emb j) 1).val < 128 := fun j => ((((Cert.Combine.cfg0.win 3).blk t).view.emb j) 1).isLt
  refine rows_eq (F := F) _ _ (fun j => Shape.pair (d := ![524288, 128]) ⟨_, hb j⟩ ⟨_, hb' j⟩) (fun j => ?_)
    (32768 * (k.val / 16) + 8192 * 3 + 512 * (k.val % 16)) (by omega) (fun j => ?_) _ (Cert.CombineReference.Gen.k0_off2_eq k 3) _
  · exact (congrFun (Cert.Combine.Gen.W1_args m ρ c Cert.Combine.main_arg0 (by decide)) _).trans (all4_0 _ _ _ _ _ _ rfl rfl).symm
  · have e := CombinationK.Part0.emb3 t j
    constructor
    · show 0 + ((((Cert.Combine.cfg0.win 3).blk t).view.emb j) 0).val = _
      omega
    · exact e.2

/-- Trip `0 + t` of the reference stores the tile of point `t`. -/
theorem tiles
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 0 ≤ (y 0).val → ((Cert.Combine.Gen.V1 m ρ) c Cert.Combine.main_arg4 : Vec F Cert.Combine.S32768x1024 .f32) y = m ((c : Thread Cert.Combine.nD Cert.Combine.τ).loc Cert.Combine.main_arg4) y)
    (t : Fin Cert.Combine.cfg0.N) (k : Fin Cert.CombineReference.k0_t1_loop.trips) (hk : k.val = 0 + t.val) :
    CombinationR.tile (Cert.CombineReference.Gen.V m' c Cert.CombineReference.main_v1 : Vec F Cert.CombineReference.S131072x512 .i32) (Cert.CombineReference.Gen.V m' c Cert.CombineReference.main_arg4 : Vec F Cert.CombineReference.S32768x1024 .f32)
        (Cert.CombineReference.Gen.V m' c Cert.CombineReference.main_arg5 : Vec F Cert.CombineReference.S32768x4 .f32) (Cert.CombineReference.Gen.V m' c Cert.CombineReference.main_arg6 : Vec F Cert.CombineReference.S8x6x1024 .f32)
        (Cert.CombineReference.Gen.V m' c Cert.CombineReference.main_v2 : Vec F Cert.CombineReference.S1x1024 .f32) k
      = kernelTile (Cert.Combine.Gen.iblk0 (Cert.Combine.Gen.V1 m ρ) c 5 t) (CombinationK.parts (Cert.Combine.Gen.iblk0 (Cert.Combine.Gen.V1 m ρ) c 0 t)) (CombinationK.parts (Cert.Combine.Gen.iblk0 (Cert.Combine.Gen.V1 m ρ) c 1 t))
          (CombinationK.parts (Cert.Combine.Gen.iblk0 (Cert.Combine.Gen.V1 m ρ) c 2 t)) (CombinationK.parts (Cert.Combine.Gen.iblk0 (Cert.Combine.Gen.V1 m ρ) c 3 t))
          (fun j => (Cert.Combine.Gen.iblk0 (Cert.Combine.Gen.V1 m ρ) c 6 t : Vec F Cert.Combine.S1x6x1024 .f32) (CombinationK.gateR.toLoadRect.idx j)) (Cert.Combine.Gen.iblk0 (Cert.Combine.Gen.V1 m ρ) c 4 t) (Cert.Combine.Gen.iblk0 (Cert.Combine.Gen.V1 m ρ) c 7 t) := by
  have hW : (Cert.CombineReference.Gen.V m' c Cert.CombineReference.main_v1 : Vec F Cert.CombineReference.S131072x512 .i32)
      = shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512 :=
    (CombinationR.words_rows c m').trans (congrArg (fun A => shapeCast Cert.CombineReference.S131072x512 A Cert.CombineReference.Gen.shapeCasts_S524288x128_S131072x512) (all4_congr a0 a1 a2 a3))
  have t4 : (Cert.CombineReference.Gen.V m' c Cert.CombineReference.main_arg4 : Vec F Cert.Combine.S32768x1024 .f32) = m ((c : Thread Cert.Combine.nD Cert.Combine.τ).loc Cert.Combine.main_arg4) := (Cert.CombineReference.Gen.V_main_arg4 m' c).trans a4
  have t5 : (Cert.CombineReference.Gen.V m' c Cert.CombineReference.main_arg5 : Vec F Cert.Combine.S32768x4 .f32) = (Cert.Combine.Gen.V1 m ρ) c Cert.Combine.main_arg5 :=
    (Cert.CombineReference.Gen.V_main_arg5 m' c).trans (a5.trans (Cert.Combine.Gen.W1_args m ρ c Cert.Combine.main_arg5 (by decide)).symm)
  have t6 : (Cert.CombineReference.Gen.V m' c Cert.CombineReference.main_arg6 : Vec F Cert.Combine.S8x6x1024 .f32) = (Cert.Combine.Gen.V1 m ρ) c Cert.Combine.main_arg6 :=
    (Cert.CombineReference.Gen.V_main_arg6 m' c).trans (a6.trans (Cert.Combine.Gen.W1_args m ρ c Cert.Combine.main_arg6 (by decide)).symm)
  have t7 : (Cert.CombineReference.Gen.V m' c Cert.CombineReference.main_v2 : Vec F Cert.Combine.S1x1024 .f32) = (Cert.Combine.Gen.V1 m ρ) c Cert.Combine.main_v0 :=
    (CombinationR.gain_row c m').trans ((congrArg (fun A => shapeCast Cert.CombineReference.S1x1024 A Cert.CombineReference.Gen.shapeCasts_S1024_S1x1024) a7).trans (CombinationW.gain0 m ρ c).symm)
  refine Eq.trans ?_ (tile_eq (F := F) _ _ _ _ _ _ _ _ _ _ _ _ (words0 m ρ c t k hk) (words1 m ρ c t k hk) (words2 m ρ c t k hk) (words3 m ρ c t k hk))
  unfold CombinationR.tile
  rw [hW]
  refine CombinationR.tile_congr ?_ rfl rfl rfl rfl ?_ ?_ ?_
  · refine funext fun (j : Cert.Combine.S512x4.Idx) => ?_
    refine (congrFun t5 _).trans (congrArg ((Cert.Combine.Gen.V1 m ρ) c Cert.Combine.main_arg5) (funext fun a => Fin.ext ?_))
    have e := CombinationK.Part0.emb5 t j
    have o := congrFun (Cert.CombineReference.Gen.k0_off1_eq k)
    fin_cases a
    · refine Eq.trans ?_ e.1.symm
      show Cert.CombineReference.k0_off1 k 0 + 1 * (j 0).val = _
      have o0 : Cert.CombineReference.k0_off1 k 0 = 512 * k.val := o 0
      omega
    · refine Eq.trans ?_ e.2.symm
      show Cert.CombineReference.k0_off1 k 1 + 1 * (j 1).val = _
      have o1 : Cert.CombineReference.k0_off1 k 1 = 0 := o 1
      omega
  · refine funext fun (j : Cert.Combine.S1x1x1024.Idx) => ?_
    refine (congrFun t6 _).trans (congrArg ((Cert.Combine.Gen.V1 m ρ) c Cert.Combine.main_arg6) (funext fun a => Fin.ext ?_))
    have e := CombinationK.Part0.emb6 t (CombinationK.gateR.toLoadRect.idx j)
    have o := congrFun (Cert.CombineReference.Gen.k0_off3_eq k)
    fin_cases a
    · refine Eq.trans ?_ e.1.symm
      show Cert.CombineReference.k0_off3 k 0 + 1 * (j 0).val = t.val / 8 + (0 + 1 * (j 0).val)
      have o0 : Cert.CombineReference.k0_off3 k 0 = k.val / 8 := o 0
      omega
    · refine Eq.trans ?_ e.2.1.symm
      show Cert.CombineReference.k0_off3 k 1 + 1 * (j 1).val = 5 + 1 * (j 1).val
      rw [o 1]; rfl
    · refine Eq.trans ?_ e.2.2.symm
      show Cert.CombineReference.k0_off3 k 2 + 1 * (j 2).val = 0 + 1 * (j 2).val
      rw [o 2]; rfl
  · refine funext fun (j : Cert.Combine.S512x1024.Idx) => ?_
    have e := CombinationK.Part0.emb4 t j
    refine (congrFun t4 _).trans (Eq.trans ?_ (hx (((Cert.Combine.cfg0.win 4).blk t).view.emb j) (by omega)).symm)
    refine congrArg (m ((c : Thread Cert.Combine.nD Cert.Combine.τ).loc Cert.Combine.main_arg4)) (funext fun a => Fin.ext ?_)
    have o := congrFun (Cert.CombineReference.Gen.k0_off4_eq k)
    fin_cases a
    · refine Eq.trans ?_ e.1.symm
      show Cert.CombineReference.k0_off4 k 0 + 1 * (j 0).val = _
      have o0 : Cert.CombineReference.k0_off4 k 0 = 512 * k.val := o 0
      omega
    · refine Eq.trans ?_ e.2.symm
      show Cert.CombineReference.k0_off4 k 1 + 1 * (j 1).val = _
      have o1 : Cert.CombineReference.k0_off4 k 1 = 0 := o 1
      omega
  · refine funext fun (j : Cert.Combine.S1x1024.Idx) => ?_
    refine (congrFun t7 _).trans (congrArg ((Cert.Combine.Gen.V1 m ρ) c Cert.Combine.main_v0) (funext fun a => Fin.ext ?_))
    have e := CombinationK.Part0.emb7 t j
    fin_cases a
    · refine Eq.trans ?_ e.1.symm
      show 0 + 1 * (j 0).val = _
      omega
    · refine Eq.trans ?_ e.2.symm
      show 0 + 1 * (j 1).val = _
      omega

/-- The reference's result on this part's tokens is what the call leaves there. -/
theorem here
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 0 ≤ (y 0).val → ((Cert.Combine.Gen.V1 m ρ) c Cert.Combine.main_arg4 : Vec F Cert.Combine.S32768x1024 .f32) y = m ((c : Thread Cert.Combine.nD Cert.Combine.τ).loc Cert.Combine.main_arg4) y)
    (y : Cert.Combine.S32768x1024.Idx) (hl : 0 ≤ (y 0).val) (hh : (y 0).val < 8192) :
    (Cert.CombineReference.Gen.outsAt0 m' c CombinationR.t0 : Vec F Cert.Combine.S32768x1024 .f32) y = (Cert.Combine.Gen.dat0 (Cert.Combine.Gen.V1 m ρ) c).arrAt 8 Cert.Combine.cfg0.N y := by
  have hN : Cert.Combine.cfg0.N = 16 := Cert.Combine.Gen.N_0
  have hT : Cert.CombineReference.k0_t1_loop.trips = 64 := by decide
  have hy1 : (y 1).val < 1024 := (y 1).isLt
  let t : Fin Cert.Combine.cfg0.N := ⟨(y 0).val / 512 - 0, by omega⟩
  let k : Fin Cert.CombineReference.k0_t1_loop.trips := ⟨(y 0).val / 512, by omega⟩
  let x : Cert.Combine.S512x1024.Idx := Shape.pair (d := ![512, 1024]) ⟨(y 0).val % 512, Nat.mod_lt _ (by decide)⟩ ⟨(y 1).val, hy1⟩
  have hk : k.val = 0 + t.val := by
    show (y 0).val / 512 = 0 + ((y 0).val / 512 - 0)
    omega
  have h0 : (y 0).val = 512 * ((y 0).val / 512) + (y 0).val % 512 := by omega
  have hy : ((Cert.Combine.cfg0.win 8).blk t).view.emb x = y := by
    have e := CombinationK.Part0.emb8 t x
    funext a
    apply Fin.ext
    fin_cases a
    · refine e.1.trans ?_
      show 512 * ((y 0).val / 512 - 0) + (y 0).val % 512 = (y 0).val
      omega
    · exact e.2
  refine (CombinationR.outs_tile c m' k y x h0 rfl).trans ?_
  refine (congrFun (tiles m ρ m' c a0 a1 a2 a3 a4 a5 a6 a7 hx t k hk) x).trans ?_
  exact (CombinationK.Part0.final_tile c (Cert.Combine.Gen.V1 m ρ) t x).symm.trans (congrArg ((Cert.Combine.Gen.dat0 (Cert.Combine.Gen.V1 m ρ) c).arrAt 8 Cert.Combine.cfg0.N) hy)

end Part0

namespace Part1

theorem words0 (t : Fin Cert.Combine.cfg1.N) (k : Fin Cert.CombineReference.k0_t1_loop.trips) (hk : k.val = 16 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 0#32) Cert.CombineReference.S512x512.size (Cert.CombineReference.Gen.k0_off2_inb k 0)).toLoadRect.idx j))
      = wide (F := F) (CombinationK.parts (Cert.Combine.Gen.iblk1 (Cert.Combine.Gen.V3 m ρ) c 0 t)) := by
  have hN : t.val < 16 := t.isLt.trans_eq Cert.Combine.Gen.N_1
  have hb : ∀ j : Cert.Combine.S2048x128.Idx, 131072 + ((((Cert.Combine.cfg1.win 0).blk t).view.emb j) 0).val < 524288 := fun j => by
    have e := CombinationK.Part1.emb0 t j
    have h : (j 0).val < 2048 := (j 0).isLt
    omega
  have hb' : ∀ j : Cert.Combine.S2048x128.Idx, ((((Cert.Combine.cfg1.win 0).blk t).view.emb j) 1).val < 128 := fun j => ((((Cert.Combine.cfg1.win 0).blk t).view.emb j) 1).isLt
  refine rows_eq (F := F) _ _ (fun j => Shape.pair (d := ![524288, 128]) ⟨_, hb j⟩ ⟨_, hb' j⟩) (fun j => ?_)
    (32768 * (k.val / 16) + 8192 * 0 + 512 * (k.val % 16)) (by omega) (fun j => ?_) _ (Cert.CombineReference.Gen.k0_off2_eq k 0) _
  · exact (congrFun (Cert.Combine.Gen.W3_args m ρ c Cert.Combine.main_arg1 (by decide)) _).trans (all4_1 _ _ _ _ _ _ rfl rfl).symm
  · have e := CombinationK.Part1.emb0 t j
    constructor
    · show 131072 + ((((Cert.Combine.cfg1.win 0).blk t).view.emb j) 0).val = _
      omega
    · exact e.2

theorem words1 (t : Fin Cert.Combine.cfg1.N) (k : Fin Cert.CombineReference.k0_t1_loop.trips) (hk : k.val = 16 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 1#32) Cert.CombineReference.S512x512.size (Cert.CombineReference.Gen.k0_off2_inb k 1)).toLoadRect.idx j))
      = wide (F := F) (CombinationK.parts (Cert.Combine.Gen.iblk1 (Cert.Combine.Gen.V3 m ρ) c 1 t)) := by
  have hN : t.val < 16 := t.isLt.trans_eq Cert.Combine.Gen.N_1
  have hb : ∀ j : Cert.Combine.S2048x128.Idx, 131072 + ((((Cert.Combine.cfg1.win 1).blk t).view.emb j) 0).val < 524288 := fun j => by
    have e := CombinationK.Part1.emb1 t j
    have h : (j 0).val < 2048 := (j 0).isLt
    omega
  have hb' : ∀ j : Cert.Combine.S2048x128.Idx, ((((Cert.Combine.cfg1.win 1).blk t).view.emb j) 1).val < 128 := fun j => ((((Cert.Combine.cfg1.win 1).blk t).view.emb j) 1).isLt
  refine rows_eq (F := F) _ _ (fun j => Shape.pair (d := ![524288, 128]) ⟨_, hb j⟩ ⟨_, hb' j⟩) (fun j => ?_)
    (32768 * (k.val / 16) + 8192 * 1 + 512 * (k.val % 16)) (by omega) (fun j => ?_) _ (Cert.CombineReference.Gen.k0_off2_eq k 1) _
  · exact (congrFun (Cert.Combine.Gen.W3_args m ρ c Cert.Combine.main_arg1 (by decide)) _).trans (all4_1 _ _ _ _ _ _ rfl rfl).symm
  · have e := CombinationK.Part1.emb1 t j
    constructor
    · show 131072 + ((((Cert.Combine.cfg1.win 1).blk t).view.emb j) 0).val = _
      omega
    · exact e.2

theorem words2 (t : Fin Cert.Combine.cfg1.N) (k : Fin Cert.CombineReference.k0_t1_loop.trips) (hk : k.val = 16 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 2#32) Cert.CombineReference.S512x512.size (Cert.CombineReference.Gen.k0_off2_inb k 2)).toLoadRect.idx j))
      = wide (F := F) (CombinationK.parts (Cert.Combine.Gen.iblk1 (Cert.Combine.Gen.V3 m ρ) c 2 t)) := by
  have hN : t.val < 16 := t.isLt.trans_eq Cert.Combine.Gen.N_1
  have hb : ∀ j : Cert.Combine.S2048x128.Idx, 131072 + ((((Cert.Combine.cfg1.win 2).blk t).view.emb j) 0).val < 524288 := fun j => by
    have e := CombinationK.Part1.emb2 t j
    have h : (j 0).val < 2048 := (j 0).isLt
    omega
  have hb' : ∀ j : Cert.Combine.S2048x128.Idx, ((((Cert.Combine.cfg1.win 2).blk t).view.emb j) 1).val < 128 := fun j => ((((Cert.Combine.cfg1.win 2).blk t).view.emb j) 1).isLt
  refine rows_eq (F := F) _ _ (fun j => Shape.pair (d := ![524288, 128]) ⟨_, hb j⟩ ⟨_, hb' j⟩) (fun j => ?_)
    (32768 * (k.val / 16) + 8192 * 2 + 512 * (k.val % 16)) (by omega) (fun j => ?_) _ (Cert.CombineReference.Gen.k0_off2_eq k 2) _
  · exact (congrFun (Cert.Combine.Gen.W3_args m ρ c Cert.Combine.main_arg1 (by decide)) _).trans (all4_1 _ _ _ _ _ _ rfl rfl).symm
  · have e := CombinationK.Part1.emb2 t j
    constructor
    · show 131072 + ((((Cert.Combine.cfg1.win 2).blk t).view.emb j) 0).val = _
      omega
    · exact e.2

theorem words3 (t : Fin Cert.Combine.cfg1.N) (k : Fin Cert.CombineReference.k0_t1_loop.trips) (hk : k.val = 16 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 3#32) Cert.CombineReference.S512x512.size (Cert.CombineReference.Gen.k0_off2_inb k 3)).toLoadRect.idx j))
      = wide (F := F) (CombinationK.parts (Cert.Combine.Gen.iblk1 (Cert.Combine.Gen.V3 m ρ) c 3 t)) := by
  have hN : t.val < 16 := t.isLt.trans_eq Cert.Combine.Gen.N_1
  have hb : ∀ j : Cert.Combine.S2048x128.Idx, 131072 + ((((Cert.Combine.cfg1.win 3).blk t).view.emb j) 0).val < 524288 := fun j => by
    have e := CombinationK.Part1.emb3 t j
    have h : (j 0).val < 2048 := (j 0).isLt
    omega
  have hb' : ∀ j : Cert.Combine.S2048x128.Idx, ((((Cert.Combine.cfg1.win 3).blk t).view.emb j) 1).val < 128 := fun j => ((((Cert.Combine.cfg1.win 3).blk t).view.emb j) 1).isLt
  refine rows_eq (F := F) _ _ (fun j => Shape.pair (d := ![524288, 128]) ⟨_, hb j⟩ ⟨_, hb' j⟩) (fun j => ?_)
    (32768 * (k.val / 16) + 8192 * 3 + 512 * (k.val % 16)) (by omega) (fun j => ?_) _ (Cert.CombineReference.Gen.k0_off2_eq k 3) _
  · exact (congrFun (Cert.Combine.Gen.W3_args m ρ c Cert.Combine.main_arg1 (by decide)) _).trans (all4_1 _ _ _ _ _ _ rfl rfl).symm
  · have e := CombinationK.Part1.emb3 t j
    constructor
    · show 131072 + ((((Cert.Combine.cfg1.win 3).blk t).view.emb j) 0).val = _
      omega
    · exact e.2

/-- Trip `16 + t` of the reference stores the tile of point `t`. -/
theorem tiles
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 8192 ≤ (y 0).val → ((Cert.Combine.Gen.V3 m ρ) c Cert.Combine.main_v1 : Vec F Cert.Combine.S32768x1024 .f32) y = m ((c : Thread Cert.Combine.nD Cert.Combine.τ).loc Cert.Combine.main_arg4) y)
    (t : Fin Cert.Combine.cfg1.N) (k : Fin Cert.CombineReference.k0_t1_loop.trips) (hk : k.val = 16 + t.val) :
    CombinationR.tile (Cert.CombineReference.Gen.V m' c Cert.CombineReference.main_v1 : Vec F Cert.CombineReference.S131072x512 .i32) (Cert.CombineReference.Gen.V m' c Cert.CombineReference.main_arg4 : Vec F Cert.CombineReference.S32768x1024 .f32)
        (Cert.CombineReference.Gen.V m' c Cert.CombineReference.main_arg5 : Vec F Cert.CombineReference.S32768x4 .f32) (Cert.CombineReference.Gen.V m' c Cert.CombineReference.main_arg6 : Vec F Cert.CombineReference.S8x6x1024 .f32)
        (Cert.CombineReference.Gen.V m' c Cert.CombineReference.main_v2 : Vec F Cert.CombineReference.S1x1024 .f32) k
      = kernelTile (Cert.Combine.Gen.iblk1 (Cert.Combine.Gen.V3 m ρ) c 5 t) (CombinationK.parts (Cert.Combine.Gen.iblk1 (Cert.Combine.Gen.V3 m ρ) c 0 t)) (CombinationK.parts (Cert.Combine.Gen.iblk1 (Cert.Combine.Gen.V3 m ρ) c 1 t))
          (CombinationK.parts (Cert.Combine.Gen.iblk1 (Cert.Combine.Gen.V3 m ρ) c 2 t)) (CombinationK.parts (Cert.Combine.Gen.iblk1 (Cert.Combine.Gen.V3 m ρ) c 3 t))
          (fun j => (Cert.Combine.Gen.iblk1 (Cert.Combine.Gen.V3 m ρ) c 6 t : Vec F Cert.Combine.S1x6x1024 .f32) (CombinationK.gateR.toLoadRect.idx j)) (Cert.Combine.Gen.iblk1 (Cert.Combine.Gen.V3 m ρ) c 4 t) (Cert.Combine.Gen.iblk1 (Cert.Combine.Gen.V3 m ρ) c 7 t) := by
  have hW : (Cert.CombineReference.Gen.V m' c Cert.CombineReference.main_v1 : Vec F Cert.CombineReference.S131072x512 .i32)
      = shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512 :=
    (CombinationR.words_rows c m').trans (congrArg (fun A => shapeCast Cert.CombineReference.S131072x512 A Cert.CombineReference.Gen.shapeCasts_S524288x128_S131072x512) (all4_congr a0 a1 a2 a3))
  have t4 : (Cert.CombineReference.Gen.V m' c Cert.CombineReference.main_arg4 : Vec F Cert.Combine.S32768x1024 .f32) = m ((c : Thread Cert.Combine.nD Cert.Combine.τ).loc Cert.Combine.main_arg4) := (Cert.CombineReference.Gen.V_main_arg4 m' c).trans a4
  have t5 : (Cert.CombineReference.Gen.V m' c Cert.CombineReference.main_arg5 : Vec F Cert.Combine.S32768x4 .f32) = (Cert.Combine.Gen.V3 m ρ) c Cert.Combine.main_arg5 :=
    (Cert.CombineReference.Gen.V_main_arg5 m' c).trans (a5.trans (Cert.Combine.Gen.W3_args m ρ c Cert.Combine.main_arg5 (by decide)).symm)
  have t6 : (Cert.CombineReference.Gen.V m' c Cert.CombineReference.main_arg6 : Vec F Cert.Combine.S8x6x1024 .f32) = (Cert.Combine.Gen.V3 m ρ) c Cert.Combine.main_arg6 :=
    (Cert.CombineReference.Gen.V_main_arg6 m' c).trans (a6.trans (Cert.Combine.Gen.W3_args m ρ c Cert.Combine.main_arg6 (by decide)).symm)
  have t7 : (Cert.CombineReference.Gen.V m' c Cert.CombineReference.main_v2 : Vec F Cert.Combine.S1x1024 .f32) = (Cert.Combine.Gen.V3 m ρ) c Cert.Combine.main_v2 :=
    (CombinationR.gain_row c m').trans ((congrArg (fun A => shapeCast Cert.CombineReference.S1x1024 A Cert.CombineReference.Gen.shapeCasts_S1024_S1x1024) a7).trans (CombinationW.gain1 m ρ c).symm)
  refine Eq.trans ?_ (tile_eq (F := F) _ _ _ _ _ _ _ _ _ _ _ _ (words0 m ρ c t k hk) (words1 m ρ c t k hk) (words2 m ρ c t k hk) (words3 m ρ c t k hk))
  unfold CombinationR.tile
  rw [hW]
  refine CombinationR.tile_congr ?_ rfl rfl rfl rfl ?_ ?_ ?_
  · refine funext fun (j : Cert.Combine.S512x4.Idx) => ?_
    refine (congrFun t5 _).trans (congrArg ((Cert.Combine.Gen.V3 m ρ) c Cert.Combine.main_arg5) (funext fun a => Fin.ext ?_))
    have e := CombinationK.Part1.emb5 t j
    have o := congrFun (Cert.CombineReference.Gen.k0_off1_eq k)
    fin_cases a
    · refine Eq.trans ?_ e.1.symm
      show Cert.CombineReference.k0_off1 k 0 + 1 * (j 0).val = _
      have o0 : Cert.CombineReference.k0_off1 k 0 = 512 * k.val := o 0
      omega
    · refine Eq.trans ?_ e.2.symm
      show Cert.CombineReference.k0_off1 k 1 + 1 * (j 1).val = _
      have o1 : Cert.CombineReference.k0_off1 k 1 = 0 := o 1
      omega
  · refine funext fun (j : Cert.Combine.S1x1x1024.Idx) => ?_
    refine (congrFun t6 _).trans (congrArg ((Cert.Combine.Gen.V3 m ρ) c Cert.Combine.main_arg6) (funext fun a => Fin.ext ?_))
    have e := CombinationK.Part1.emb6 t (CombinationK.gateR.toLoadRect.idx j)
    have o := congrFun (Cert.CombineReference.Gen.k0_off3_eq k)
    fin_cases a
    · refine Eq.trans ?_ e.1.symm
      show Cert.CombineReference.k0_off3 k 0 + 1 * (j 0).val = 2 + t.val / 8 + (0 + 1 * (j 0).val)
      have o0 : Cert.CombineReference.k0_off3 k 0 = k.val / 8 := o 0
      omega
    · refine Eq.trans ?_ e.2.1.symm
      show Cert.CombineReference.k0_off3 k 1 + 1 * (j 1).val = 5 + 1 * (j 1).val
      rw [o 1]; rfl
    · refine Eq.trans ?_ e.2.2.symm
      show Cert.CombineReference.k0_off3 k 2 + 1 * (j 2).val = 0 + 1 * (j 2).val
      rw [o 2]; rfl
  · refine funext fun (j : Cert.Combine.S512x1024.Idx) => ?_
    have e := CombinationK.Part1.emb4 t j
    refine (congrFun t4 _).trans (Eq.trans ?_ (hx (((Cert.Combine.cfg1.win 4).blk t).view.emb j) (by omega)).symm)
    refine congrArg (m ((c : Thread Cert.Combine.nD Cert.Combine.τ).loc Cert.Combine.main_arg4)) (funext fun a => Fin.ext ?_)
    have o := congrFun (Cert.CombineReference.Gen.k0_off4_eq k)
    fin_cases a
    · refine Eq.trans ?_ e.1.symm
      show Cert.CombineReference.k0_off4 k 0 + 1 * (j 0).val = _
      have o0 : Cert.CombineReference.k0_off4 k 0 = 512 * k.val := o 0
      omega
    · refine Eq.trans ?_ e.2.symm
      show Cert.CombineReference.k0_off4 k 1 + 1 * (j 1).val = _
      have o1 : Cert.CombineReference.k0_off4 k 1 = 0 := o 1
      omega
  · refine funext fun (j : Cert.Combine.S1x1024.Idx) => ?_
    refine (congrFun t7 _).trans (congrArg ((Cert.Combine.Gen.V3 m ρ) c Cert.Combine.main_v2) (funext fun a => Fin.ext ?_))
    have e := CombinationK.Part1.emb7 t j
    fin_cases a
    · refine Eq.trans ?_ e.1.symm
      show 0 + 1 * (j 0).val = _
      omega
    · refine Eq.trans ?_ e.2.symm
      show 0 + 1 * (j 1).val = _
      omega

/-- The reference's result on this part's tokens is what the call leaves there. -/
theorem here
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 8192 ≤ (y 0).val → ((Cert.Combine.Gen.V3 m ρ) c Cert.Combine.main_v1 : Vec F Cert.Combine.S32768x1024 .f32) y = m ((c : Thread Cert.Combine.nD Cert.Combine.τ).loc Cert.Combine.main_arg4) y)
    (y : Cert.Combine.S32768x1024.Idx) (hl : 8192 ≤ (y 0).val) (hh : (y 0).val < 16384) :
    (Cert.CombineReference.Gen.outsAt0 m' c CombinationR.t0 : Vec F Cert.Combine.S32768x1024 .f32) y = (Cert.Combine.Gen.dat1 (Cert.Combine.Gen.V3 m ρ) c).arrAt 8 Cert.Combine.cfg1.N y := by
  have hN : Cert.Combine.cfg1.N = 16 := Cert.Combine.Gen.N_1
  have hT : Cert.CombineReference.k0_t1_loop.trips = 64 := by decide
  have hy1 : (y 1).val < 1024 := (y 1).isLt
  let t : Fin Cert.Combine.cfg1.N := ⟨(y 0).val / 512 - 16, by omega⟩
  let k : Fin Cert.CombineReference.k0_t1_loop.trips := ⟨(y 0).val / 512, by omega⟩
  let x : Cert.Combine.S512x1024.Idx := Shape.pair (d := ![512, 1024]) ⟨(y 0).val % 512, Nat.mod_lt _ (by decide)⟩ ⟨(y 1).val, hy1⟩
  have hk : k.val = 16 + t.val := by
    show (y 0).val / 512 = 16 + ((y 0).val / 512 - 16)
    omega
  have h0 : (y 0).val = 512 * ((y 0).val / 512) + (y 0).val % 512 := by omega
  have hy : ((Cert.Combine.cfg1.win 8).blk t).view.emb x = y := by
    have e := CombinationK.Part1.emb8 t x
    funext a
    apply Fin.ext
    fin_cases a
    · refine e.1.trans ?_
      show 8192 + 512 * ((y 0).val / 512 - 16) + (y 0).val % 512 = (y 0).val
      omega
    · exact e.2
  refine (CombinationR.outs_tile c m' k y x h0 rfl).trans ?_
  refine (congrFun (tiles m ρ m' c a0 a1 a2 a3 a4 a5 a6 a7 hx t k hk) x).trans ?_
  exact (CombinationK.Part1.final_tile c (Cert.Combine.Gen.V3 m ρ) t x).symm.trans (congrArg ((Cert.Combine.Gen.dat1 (Cert.Combine.Gen.V3 m ρ) c).arrAt 8 Cert.Combine.cfg1.N) hy)

end Part1

namespace Part2

theorem words0 (t : Fin Cert.Combine.cfg2.N) (k : Fin Cert.CombineReference.k0_t1_loop.trips) (hk : k.val = 32 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 0#32) Cert.CombineReference.S512x512.size (Cert.CombineReference.Gen.k0_off2_inb k 0)).toLoadRect.idx j))
      = wide (F := F) (CombinationK.parts (Cert.Combine.Gen.iblk2 (Cert.Combine.Gen.V5 m ρ) c 0 t)) := by
  have hN : t.val < 16 := t.isLt.trans_eq Cert.Combine.Gen.N_2
  have hb : ∀ j : Cert.Combine.S2048x128.Idx, 262144 + ((((Cert.Combine.cfg2.win 0).blk t).view.emb j) 0).val < 524288 := fun j => by
    have e := CombinationK.Part2.emb0 t j
    have h : (j 0).val < 2048 := (j 0).isLt
    omega
  have hb' : ∀ j : Cert.Combine.S2048x128.Idx, ((((Cert.Combine.cfg2.win 0).blk t).view.emb j) 1).val < 128 := fun j => ((((Cert.Combine.cfg2.win 0).blk t).view.emb j) 1).isLt
  refine rows_eq (F := F) _ _ (fun j => Shape.pair (d := ![524288, 128]) ⟨_, hb j⟩ ⟨_, hb' j⟩) (fun j => ?_)
    (32768 * (k.val / 16) + 8192 * 0 + 512 * (k.val % 16)) (by omega) (fun j => ?_) _ (Cert.CombineReference.Gen.k0_off2_eq k 0) _
  · exact (congrFun (Cert.Combine.Gen.W5_args m ρ c Cert.Combine.main_arg2 (by decide)) _).trans (all4_2 _ _ _ _ _ _ rfl rfl).symm
  · have e := CombinationK.Part2.emb0 t j
    constructor
    · show 262144 + ((((Cert.Combine.cfg2.win 0).blk t).view.emb j) 0).val = _
      omega
    · exact e.2

theorem words1 (t : Fin Cert.Combine.cfg2.N) (k : Fin Cert.CombineReference.k0_t1_loop.trips) (hk : k.val = 32 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 1#32) Cert.CombineReference.S512x512.size (Cert.CombineReference.Gen.k0_off2_inb k 1)).toLoadRect.idx j))
      = wide (F := F) (CombinationK.parts (Cert.Combine.Gen.iblk2 (Cert.Combine.Gen.V5 m ρ) c 1 t)) := by
  have hN : t.val < 16 := t.isLt.trans_eq Cert.Combine.Gen.N_2
  have hb : ∀ j : Cert.Combine.S2048x128.Idx, 262144 + ((((Cert.Combine.cfg2.win 1).blk t).view.emb j) 0).val < 524288 := fun j => by
    have e := CombinationK.Part2.emb1 t j
    have h : (j 0).val < 2048 := (j 0).isLt
    omega
  have hb' : ∀ j : Cert.Combine.S2048x128.Idx, ((((Cert.Combine.cfg2.win 1).blk t).view.emb j) 1).val < 128 := fun j => ((((Cert.Combine.cfg2.win 1).blk t).view.emb j) 1).isLt
  refine rows_eq (F := F) _ _ (fun j => Shape.pair (d := ![524288, 128]) ⟨_, hb j⟩ ⟨_, hb' j⟩) (fun j => ?_)
    (32768 * (k.val / 16) + 8192 * 1 + 512 * (k.val % 16)) (by omega) (fun j => ?_) _ (Cert.CombineReference.Gen.k0_off2_eq k 1) _
  · exact (congrFun (Cert.Combine.Gen.W5_args m ρ c Cert.Combine.main_arg2 (by decide)) _).trans (all4_2 _ _ _ _ _ _ rfl rfl).symm
  · have e := CombinationK.Part2.emb1 t j
    constructor
    · show 262144 + ((((Cert.Combine.cfg2.win 1).blk t).view.emb j) 0).val = _
      omega
    · exact e.2

theorem words2 (t : Fin Cert.Combine.cfg2.N) (k : Fin Cert.CombineReference.k0_t1_loop.trips) (hk : k.val = 32 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 2#32) Cert.CombineReference.S512x512.size (Cert.CombineReference.Gen.k0_off2_inb k 2)).toLoadRect.idx j))
      = wide (F := F) (CombinationK.parts (Cert.Combine.Gen.iblk2 (Cert.Combine.Gen.V5 m ρ) c 2 t)) := by
  have hN : t.val < 16 := t.isLt.trans_eq Cert.Combine.Gen.N_2
  have hb : ∀ j : Cert.Combine.S2048x128.Idx, 262144 + ((((Cert.Combine.cfg2.win 2).blk t).view.emb j) 0).val < 524288 := fun j => by
    have e := CombinationK.Part2.emb2 t j
    have h : (j 0).val < 2048 := (j 0).isLt
    omega
  have hb' : ∀ j : Cert.Combine.S2048x128.Idx, ((((Cert.Combine.cfg2.win 2).blk t).view.emb j) 1).val < 128 := fun j => ((((Cert.Combine.cfg2.win 2).blk t).view.emb j) 1).isLt
  refine rows_eq (F := F) _ _ (fun j => Shape.pair (d := ![524288, 128]) ⟨_, hb j⟩ ⟨_, hb' j⟩) (fun j => ?_)
    (32768 * (k.val / 16) + 8192 * 2 + 512 * (k.val % 16)) (by omega) (fun j => ?_) _ (Cert.CombineReference.Gen.k0_off2_eq k 2) _
  · exact (congrFun (Cert.Combine.Gen.W5_args m ρ c Cert.Combine.main_arg2 (by decide)) _).trans (all4_2 _ _ _ _ _ _ rfl rfl).symm
  · have e := CombinationK.Part2.emb2 t j
    constructor
    · show 262144 + ((((Cert.Combine.cfg2.win 2).blk t).view.emb j) 0).val = _
      omega
    · exact e.2

theorem words3 (t : Fin Cert.Combine.cfg2.N) (k : Fin Cert.CombineReference.k0_t1_loop.trips) (hk : k.val = 32 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 3#32) Cert.CombineReference.S512x512.size (Cert.CombineReference.Gen.k0_off2_inb k 3)).toLoadRect.idx j))
      = wide (F := F) (CombinationK.parts (Cert.Combine.Gen.iblk2 (Cert.Combine.Gen.V5 m ρ) c 3 t)) := by
  have hN : t.val < 16 := t.isLt.trans_eq Cert.Combine.Gen.N_2
  have hb : ∀ j : Cert.Combine.S2048x128.Idx, 262144 + ((((Cert.Combine.cfg2.win 3).blk t).view.emb j) 0).val < 524288 := fun j => by
    have e := CombinationK.Part2.emb3 t j
    have h : (j 0).val < 2048 := (j 0).isLt
    omega
  have hb' : ∀ j : Cert.Combine.S2048x128.Idx, ((((Cert.Combine.cfg2.win 3).blk t).view.emb j) 1).val < 128 := fun j => ((((Cert.Combine.cfg2.win 3).blk t).view.emb j) 1).isLt
  refine rows_eq (F := F) _ _ (fun j => Shape.pair (d := ![524288, 128]) ⟨_, hb j⟩ ⟨_, hb' j⟩) (fun j => ?_)
    (32768 * (k.val / 16) + 8192 * 3 + 512 * (k.val % 16)) (by omega) (fun j => ?_) _ (Cert.CombineReference.Gen.k0_off2_eq k 3) _
  · exact (congrFun (Cert.Combine.Gen.W5_args m ρ c Cert.Combine.main_arg2 (by decide)) _).trans (all4_2 _ _ _ _ _ _ rfl rfl).symm
  · have e := CombinationK.Part2.emb3 t j
    constructor
    · show 262144 + ((((Cert.Combine.cfg2.win 3).blk t).view.emb j) 0).val = _
      omega
    · exact e.2

/-- Trip `32 + t` of the reference stores the tile of point `t`. -/
theorem tiles
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 16384 ≤ (y 0).val → ((Cert.Combine.Gen.V5 m ρ) c Cert.Combine.main_v3 : Vec F Cert.Combine.S32768x1024 .f32) y = m ((c : Thread Cert.Combine.nD Cert.Combine.τ).loc Cert.Combine.main_arg4) y)
    (t : Fin Cert.Combine.cfg2.N) (k : Fin Cert.CombineReference.k0_t1_loop.trips) (hk : k.val = 32 + t.val) :
    CombinationR.tile (Cert.CombineReference.Gen.V m' c Cert.CombineReference.main_v1 : Vec F Cert.CombineReference.S131072x512 .i32) (Cert.CombineReference.Gen.V m' c Cert.CombineReference.main_arg4 : Vec F Cert.CombineReference.S32768x1024 .f32)
        (Cert.CombineReference.Gen.V m' c Cert.CombineReference.main_arg5 : Vec F Cert.CombineReference.S32768x4 .f32) (Cert.CombineReference.Gen.V m' c Cert.CombineReference.main_arg6 : Vec F Cert.CombineReference.S8x6x1024 .f32)
        (Cert.CombineReference.Gen.V m' c Cert.CombineReference.main_v2 : Vec F Cert.CombineReference.S1x1024 .f32) k
      = kernelTile (Cert.Combine.Gen.iblk2 (Cert.Combine.Gen.V5 m ρ) c 5 t) (CombinationK.parts (Cert.Combine.Gen.iblk2 (Cert.Combine.Gen.V5 m ρ) c 0 t)) (CombinationK.parts (Cert.Combine.Gen.iblk2 (Cert.Combine.Gen.V5 m ρ) c 1 t))
          (CombinationK.parts (Cert.Combine.Gen.iblk2 (Cert.Combine.Gen.V5 m ρ) c 2 t)) (CombinationK.parts (Cert.Combine.Gen.iblk2 (Cert.Combine.Gen.V5 m ρ) c 3 t))
          (fun j => (Cert.Combine.Gen.iblk2 (Cert.Combine.Gen.V5 m ρ) c 6 t : Vec F Cert.Combine.S1x6x1024 .f32) (CombinationK.gateR.toLoadRect.idx j)) (Cert.Combine.Gen.iblk2 (Cert.Combine.Gen.V5 m ρ) c 4 t) (Cert.Combine.Gen.iblk2 (Cert.Combine.Gen.V5 m ρ) c 7 t) := by
  have hW : (Cert.CombineReference.Gen.V m' c Cert.CombineReference.main_v1 : Vec F Cert.CombineReference.S131072x512 .i32)
      = shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512 :=
    (CombinationR.words_rows c m').trans (congrArg (fun A => shapeCast Cert.CombineReference.S131072x512 A Cert.CombineReference.Gen.shapeCasts_S524288x128_S131072x512) (all4_congr a0 a1 a2 a3))
  have t4 : (Cert.CombineReference.Gen.V m' c Cert.CombineReference.main_arg4 : Vec F Cert.Combine.S32768x1024 .f32) = m ((c : Thread Cert.Combine.nD Cert.Combine.τ).loc Cert.Combine.main_arg4) := (Cert.CombineReference.Gen.V_main_arg4 m' c).trans a4
  have t5 : (Cert.CombineReference.Gen.V m' c Cert.CombineReference.main_arg5 : Vec F Cert.Combine.S32768x4 .f32) = (Cert.Combine.Gen.V5 m ρ) c Cert.Combine.main_arg5 :=
    (Cert.CombineReference.Gen.V_main_arg5 m' c).trans (a5.trans (Cert.Combine.Gen.W5_args m ρ c Cert.Combine.main_arg5 (by decide)).symm)
  have t6 : (Cert.CombineReference.Gen.V m' c Cert.CombineReference.main_arg6 : Vec F Cert.Combine.S8x6x1024 .f32) = (Cert.Combine.Gen.V5 m ρ) c Cert.Combine.main_arg6 :=
    (Cert.CombineReference.Gen.V_main_arg6 m' c).trans (a6.trans (Cert.Combine.Gen.W5_args m ρ c Cert.Combine.main_arg6 (by decide)).symm)
  have t7 : (Cert.CombineReference.Gen.V m' c Cert.CombineReference.main_v2 : Vec F Cert.Combine.S1x1024 .f32) = (Cert.Combine.Gen.V5 m ρ) c Cert.Combine.main_v4 :=
    (CombinationR.gain_row c m').trans ((congrArg (fun A => shapeCast Cert.CombineReference.S1x1024 A Cert.CombineReference.Gen.shapeCasts_S1024_S1x1024) a7).trans (CombinationW.gain2 m ρ c).symm)
  refine Eq.trans ?_ (tile_eq (F := F) _ _ _ _ _ _ _ _ _ _ _ _ (words0 m ρ c t k hk) (words1 m ρ c t k hk) (words2 m ρ c t k hk) (words3 m ρ c t k hk))
  unfold CombinationR.tile
  rw [hW]
  refine CombinationR.tile_congr ?_ rfl rfl rfl rfl ?_ ?_ ?_
  · refine funext fun (j : Cert.Combine.S512x4.Idx) => ?_
    refine (congrFun t5 _).trans (congrArg ((Cert.Combine.Gen.V5 m ρ) c Cert.Combine.main_arg5) (funext fun a => Fin.ext ?_))
    have e := CombinationK.Part2.emb5 t j
    have o := congrFun (Cert.CombineReference.Gen.k0_off1_eq k)
    fin_cases a
    · refine Eq.trans ?_ e.1.symm
      show Cert.CombineReference.k0_off1 k 0 + 1 * (j 0).val = _
      have o0 : Cert.CombineReference.k0_off1 k 0 = 512 * k.val := o 0
      omega
    · refine Eq.trans ?_ e.2.symm
      show Cert.CombineReference.k0_off1 k 1 + 1 * (j 1).val = _
      have o1 : Cert.CombineReference.k0_off1 k 1 = 0 := o 1
      omega
  · refine funext fun (j : Cert.Combine.S1x1x1024.Idx) => ?_
    refine (congrFun t6 _).trans (congrArg ((Cert.Combine.Gen.V5 m ρ) c Cert.Combine.main_arg6) (funext fun a => Fin.ext ?_))
    have e := CombinationK.Part2.emb6 t (CombinationK.gateR.toLoadRect.idx j)
    have o := congrFun (Cert.CombineReference.Gen.k0_off3_eq k)
    fin_cases a
    · refine Eq.trans ?_ e.1.symm
      show Cert.CombineReference.k0_off3 k 0 + 1 * (j 0).val = 4 + t.val / 8 + (0 + 1 * (j 0).val)
      have o0 : Cert.CombineReference.k0_off3 k 0 = k.val / 8 := o 0
      omega
    · refine Eq.trans ?_ e.2.1.symm
      show Cert.CombineReference.k0_off3 k 1 + 1 * (j 1).val = 5 + 1 * (j 1).val
      rw [o 1]; rfl
    · refine Eq.trans ?_ e.2.2.symm
      show Cert.CombineReference.k0_off3 k 2 + 1 * (j 2).val = 0 + 1 * (j 2).val
      rw [o 2]; rfl
  · refine funext fun (j : Cert.Combine.S512x1024.Idx) => ?_
    have e := CombinationK.Part2.emb4 t j
    refine (congrFun t4 _).trans (Eq.trans ?_ (hx (((Cert.Combine.cfg2.win 4).blk t).view.emb j) (by omega)).symm)
    refine congrArg (m ((c : Thread Cert.Combine.nD Cert.Combine.τ).loc Cert.Combine.main_arg4)) (funext fun a => Fin.ext ?_)
    have o := congrFun (Cert.CombineReference.Gen.k0_off4_eq k)
    fin_cases a
    · refine Eq.trans ?_ e.1.symm
      show Cert.CombineReference.k0_off4 k 0 + 1 * (j 0).val = _
      have o0 : Cert.CombineReference.k0_off4 k 0 = 512 * k.val := o 0
      omega
    · refine Eq.trans ?_ e.2.symm
      show Cert.CombineReference.k0_off4 k 1 + 1 * (j 1).val = _
      have o1 : Cert.CombineReference.k0_off4 k 1 = 0 := o 1
      omega
  · refine funext fun (j : Cert.Combine.S1x1024.Idx) => ?_
    refine (congrFun t7 _).trans (congrArg ((Cert.Combine.Gen.V5 m ρ) c Cert.Combine.main_v4) (funext fun a => Fin.ext ?_))
    have e := CombinationK.Part2.emb7 t j
    fin_cases a
    · refine Eq.trans ?_ e.1.symm
      show 0 + 1 * (j 0).val = _
      omega
    · refine Eq.trans ?_ e.2.symm
      show 0 + 1 * (j 1).val = _
      omega

/-- The reference's result on this part's tokens is what the call leaves there. -/
theorem here
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 16384 ≤ (y 0).val → ((Cert.Combine.Gen.V5 m ρ) c Cert.Combine.main_v3 : Vec F Cert.Combine.S32768x1024 .f32) y = m ((c : Thread Cert.Combine.nD Cert.Combine.τ).loc Cert.Combine.main_arg4) y)
    (y : Cert.Combine.S32768x1024.Idx) (hl : 16384 ≤ (y 0).val) (hh : (y 0).val < 24576) :
    (Cert.CombineReference.Gen.outsAt0 m' c CombinationR.t0 : Vec F Cert.Combine.S32768x1024 .f32) y = (Cert.Combine.Gen.dat2 (Cert.Combine.Gen.V5 m ρ) c).arrAt 8 Cert.Combine.cfg2.N y := by
  have hN : Cert.Combine.cfg2.N = 16 := Cert.Combine.Gen.N_2
  have hT : Cert.CombineReference.k0_t1_loop.trips = 64 := by decide
  have hy1 : (y 1).val < 1024 := (y 1).isLt
  let t : Fin Cert.Combine.cfg2.N := ⟨(y 0).val / 512 - 32, by omega⟩
  let k : Fin Cert.CombineReference.k0_t1_loop.trips := ⟨(y 0).val / 512, by omega⟩
  let x : Cert.Combine.S512x1024.Idx := Shape.pair (d := ![512, 1024]) ⟨(y 0).val % 512, Nat.mod_lt _ (by decide)⟩ ⟨(y 1).val, hy1⟩
  have hk : k.val = 32 + t.val := by
    show (y 0).val / 512 = 32 + ((y 0).val / 512 - 32)
    omega
  have h0 : (y 0).val = 512 * ((y 0).val / 512) + (y 0).val % 512 := by omega
  have hy : ((Cert.Combine.cfg2.win 8).blk t).view.emb x = y := by
    have e := CombinationK.Part2.emb8 t x
    funext a
    apply Fin.ext
    fin_cases a
    · refine e.1.trans ?_
      show 16384 + 512 * ((y 0).val / 512 - 32) + (y 0).val % 512 = (y 0).val
      omega
    · exact e.2
  refine (CombinationR.outs_tile c m' k y x h0 rfl).trans ?_
  refine (congrFun (tiles m ρ m' c a0 a1 a2 a3 a4 a5 a6 a7 hx t k hk) x).trans ?_
  exact (CombinationK.Part2.final_tile c (Cert.Combine.Gen.V5 m ρ) t x).symm.trans (congrArg ((Cert.Combine.Gen.dat2 (Cert.Combine.Gen.V5 m ρ) c).arrAt 8 Cert.Combine.cfg2.N) hy)

end Part2

namespace Part3

theorem words0 (t : Fin Cert.Combine.cfg3.N) (k : Fin Cert.CombineReference.k0_t1_loop.trips) (hk : k.val = 48 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 0#32) Cert.CombineReference.S512x512.size (Cert.CombineReference.Gen.k0_off2_inb k 0)).toLoadRect.idx j))
      = wide (F := F) (CombinationK.parts (Cert.Combine.Gen.iblk3 (Cert.Combine.Gen.V7 m ρ) c 0 t)) := by
  have hN : t.val < 16 := t.isLt.trans_eq Cert.Combine.Gen.N_3
  have hb : ∀ j : Cert.Combine.S2048x128.Idx, 393216 + ((((Cert.Combine.cfg3.win 0).blk t).view.emb j) 0).val < 524288 := fun j => by
    have e := CombinationK.Part3.emb0 t j
    have h : (j 0).val < 2048 := (j 0).isLt
    omega
  have hb' : ∀ j : Cert.Combine.S2048x128.Idx, ((((Cert.Combine.cfg3.win 0).blk t).view.emb j) 1).val < 128 := fun j => ((((Cert.Combine.cfg3.win 0).blk t).view.emb j) 1).isLt
  refine rows_eq (F := F) _ _ (fun j => Shape.pair (d := ![524288, 128]) ⟨_, hb j⟩ ⟨_, hb' j⟩) (fun j => ?_)
    (32768 * (k.val / 16) + 8192 * 0 + 512 * (k.val % 16)) (by omega) (fun j => ?_) _ (Cert.CombineReference.Gen.k0_off2_eq k 0) _
  · exact (congrFun (Cert.Combine.Gen.W7_args m ρ c Cert.Combine.main_arg3 (by decide)) _).trans (all4_3 _ _ _ _ _ _ rfl rfl).symm
  · have e := CombinationK.Part3.emb0 t j
    constructor
    · show 393216 + ((((Cert.Combine.cfg3.win 0).blk t).view.emb j) 0).val = _
      omega
    · exact e.2

theorem words1 (t : Fin Cert.Combine.cfg3.N) (k : Fin Cert.CombineReference.k0_t1_loop.trips) (hk : k.val = 48 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 1#32) Cert.CombineReference.S512x512.size (Cert.CombineReference.Gen.k0_off2_inb k 1)).toLoadRect.idx j))
      = wide (F := F) (CombinationK.parts (Cert.Combine.Gen.iblk3 (Cert.Combine.Gen.V7 m ρ) c 1 t)) := by
  have hN : t.val < 16 := t.isLt.trans_eq Cert.Combine.Gen.N_3
  have hb : ∀ j : Cert.Combine.S2048x128.Idx, 393216 + ((((Cert.Combine.cfg3.win 1).blk t).view.emb j) 0).val < 524288 := fun j => by
    have e := CombinationK.Part3.emb1 t j
    have h : (j 0).val < 2048 := (j 0).isLt
    omega
  have hb' : ∀ j : Cert.Combine.S2048x128.Idx, ((((Cert.Combine.cfg3.win 1).blk t).view.emb j) 1).val < 128 := fun j => ((((Cert.Combine.cfg3.win 1).blk t).view.emb j) 1).isLt
  refine rows_eq (F := F) _ _ (fun j => Shape.pair (d := ![524288, 128]) ⟨_, hb j⟩ ⟨_, hb' j⟩) (fun j => ?_)
    (32768 * (k.val / 16) + 8192 * 1 + 512 * (k.val % 16)) (by omega) (fun j => ?_) _ (Cert.CombineReference.Gen.k0_off2_eq k 1) _
  · exact (congrFun (Cert.Combine.Gen.W7_args m ρ c Cert.Combine.main_arg3 (by decide)) _).trans (all4_3 _ _ _ _ _ _ rfl rfl).symm
  · have e := CombinationK.Part3.emb1 t j
    constructor
    · show 393216 + ((((Cert.Combine.cfg3.win 1).blk t).view.emb j) 0).val = _
      omega
    · exact e.2

theorem words2 (t : Fin Cert.Combine.cfg3.N) (k : Fin Cert.CombineReference.k0_t1_loop.trips) (hk : k.val = 48 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 2#32) Cert.CombineReference.S512x512.size (Cert.CombineReference.Gen.k0_off2_inb k 2)).toLoadRect.idx j))
      = wide (F := F) (CombinationK.parts (Cert.Combine.Gen.iblk3 (Cert.Combine.Gen.V7 m ρ) c 2 t)) := by
  have hN : t.val < 16 := t.isLt.trans_eq Cert.Combine.Gen.N_3
  have hb : ∀ j : Cert.Combine.S2048x128.Idx, 393216 + ((((Cert.Combine.cfg3.win 2).blk t).view.emb j) 0).val < 524288 := fun j => by
    have e := CombinationK.Part3.emb2 t j
    have h : (j 0).val < 2048 := (j 0).isLt
    omega
  have hb' : ∀ j : Cert.Combine.S2048x128.Idx, ((((Cert.Combine.cfg3.win 2).blk t).view.emb j) 1).val < 128 := fun j => ((((Cert.Combine.cfg3.win 2).blk t).view.emb j) 1).isLt
  refine rows_eq (F := F) _ _ (fun j => Shape.pair (d := ![524288, 128]) ⟨_, hb j⟩ ⟨_, hb' j⟩) (fun j => ?_)
    (32768 * (k.val / 16) + 8192 * 2 + 512 * (k.val % 16)) (by omega) (fun j => ?_) _ (Cert.CombineReference.Gen.k0_off2_eq k 2) _
  · exact (congrFun (Cert.Combine.Gen.W7_args m ρ c Cert.Combine.main_arg3 (by decide)) _).trans (all4_3 _ _ _ _ _ _ rfl rfl).symm
  · have e := CombinationK.Part3.emb2 t j
    constructor
    · show 393216 + ((((Cert.Combine.cfg3.win 2).blk t).view.emb j) 0).val = _
      omega
    · exact e.2

theorem words3 (t : Fin Cert.Combine.cfg3.N) (k : Fin Cert.CombineReference.k0_t1_loop.trips) (hk : k.val = 48 + t.val) :
    (fun j => (shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512)
        ((Rect.unit (s := Cert.CombineReference.S131072x512) (Cert.CombineReference.k0_off2 k 3#32) Cert.CombineReference.S512x512.size (Cert.CombineReference.Gen.k0_off2_inb k 3)).toLoadRect.idx j))
      = wide (F := F) (CombinationK.parts (Cert.Combine.Gen.iblk3 (Cert.Combine.Gen.V7 m ρ) c 3 t)) := by
  have hN : t.val < 16 := t.isLt.trans_eq Cert.Combine.Gen.N_3
  have hb : ∀ j : Cert.Combine.S2048x128.Idx, 393216 + ((((Cert.Combine.cfg3.win 3).blk t).view.emb j) 0).val < 524288 := fun j => by
    have e := CombinationK.Part3.emb3 t j
    have h : (j 0).val < 2048 := (j 0).isLt
    omega
  have hb' : ∀ j : Cert.Combine.S2048x128.Idx, ((((Cert.Combine.cfg3.win 3).blk t).view.emb j) 1).val < 128 := fun j => ((((Cert.Combine.cfg3.win 3).blk t).view.emb j) 1).isLt
  refine rows_eq (F := F) _ _ (fun j => Shape.pair (d := ![524288, 128]) ⟨_, hb j⟩ ⟨_, hb' j⟩) (fun j => ?_)
    (32768 * (k.val / 16) + 8192 * 3 + 512 * (k.val % 16)) (by omega) (fun j => ?_) _ (Cert.CombineReference.Gen.k0_off2_eq k 3) _
  · exact (congrFun (Cert.Combine.Gen.W7_args m ρ c Cert.Combine.main_arg3 (by decide)) _).trans (all4_3 _ _ _ _ _ _ rfl rfl).symm
  · have e := CombinationK.Part3.emb3 t j
    constructor
    · show 393216 + ((((Cert.Combine.cfg3.win 3).blk t).view.emb j) 0).val = _
      omega
    · exact e.2

/-- Trip `48 + t` of the reference stores the tile of point `t`. -/
theorem tiles
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 24576 ≤ (y 0).val → ((Cert.Combine.Gen.V7 m ρ) c Cert.Combine.main_v5 : Vec F Cert.Combine.S32768x1024 .f32) y = m ((c : Thread Cert.Combine.nD Cert.Combine.τ).loc Cert.Combine.main_arg4) y)
    (t : Fin Cert.Combine.cfg3.N) (k : Fin Cert.CombineReference.k0_t1_loop.trips) (hk : k.val = 48 + t.val) :
    CombinationR.tile (Cert.CombineReference.Gen.V m' c Cert.CombineReference.main_v1 : Vec F Cert.CombineReference.S131072x512 .i32) (Cert.CombineReference.Gen.V m' c Cert.CombineReference.main_arg4 : Vec F Cert.CombineReference.S32768x1024 .f32)
        (Cert.CombineReference.Gen.V m' c Cert.CombineReference.main_arg5 : Vec F Cert.CombineReference.S32768x4 .f32) (Cert.CombineReference.Gen.V m' c Cert.CombineReference.main_arg6 : Vec F Cert.CombineReference.S8x6x1024 .f32)
        (Cert.CombineReference.Gen.V m' c Cert.CombineReference.main_v2 : Vec F Cert.CombineReference.S1x1024 .f32) k
      = kernelTile (Cert.Combine.Gen.iblk3 (Cert.Combine.Gen.V7 m ρ) c 5 t) (CombinationK.parts (Cert.Combine.Gen.iblk3 (Cert.Combine.Gen.V7 m ρ) c 0 t)) (CombinationK.parts (Cert.Combine.Gen.iblk3 (Cert.Combine.Gen.V7 m ρ) c 1 t))
          (CombinationK.parts (Cert.Combine.Gen.iblk3 (Cert.Combine.Gen.V7 m ρ) c 2 t)) (CombinationK.parts (Cert.Combine.Gen.iblk3 (Cert.Combine.Gen.V7 m ρ) c 3 t))
          (fun j => (Cert.Combine.Gen.iblk3 (Cert.Combine.Gen.V7 m ρ) c 6 t : Vec F Cert.Combine.S1x6x1024 .f32) (CombinationK.gateR.toLoadRect.idx j)) (Cert.Combine.Gen.iblk3 (Cert.Combine.Gen.V7 m ρ) c 4 t) (Cert.Combine.Gen.iblk3 (Cert.Combine.Gen.V7 m ρ) c 7 t) := by
  have hW : (Cert.CombineReference.Gen.V m' c Cert.CombineReference.main_v1 : Vec F Cert.CombineReference.S131072x512 .i32)
      = shapeCast Cert.CombineReference.S131072x512 (CombinationR.all4 (F := F) (m ((c : Thread Cert.Combine.nD Cert.Combine.τ).loc Cert.Combine.main_arg0)) (m ((c : Thread Cert.Combine.nD Cert.Combine.τ).loc Cert.Combine.main_arg1)) (m ((c : Thread Cert.Combine.nD Cert.Combine.τ).loc Cert.Combine.main_arg2)) (m ((c : Thread Cert.Combine.nD Cert.Combine.τ).loc Cert.Combine.main_arg3))) Cert.CombineReference.Gen.shapeCasts_S524288x128_S131072x512 :=
    (CombinationR.words_rows c m').trans (congrArg (fun A => shapeCast Cert.CombineReference.S131072x512 A Cert.CombineReference.Gen.shapeCasts_S524288x128_S131072x512) (all4_congr a0 a1 a2 a3))
  have t4 : (Cert.CombineReference.Gen.V m' c Cert.CombineReference.main_arg4 : Vec F Cert.Combine.S32768x1024 .f32) = m ((c : Thread Cert.Combine.nD Cert.Combine.τ).loc Cert.Combine.main_arg4) := (Cert.CombineReference.Gen.V_main_arg4 m' c).trans a4
  have t5 : (Cert.CombineReference.Gen.V m' c Cert.CombineReference.main_arg5 : Vec F Cert.Combine.S32768x4 .f32) = (Cert.Combine.Gen.V7 m ρ) c Cert.Combine.main_arg5 :=
    (Cert.CombineReference.Gen.V_main_arg5 m' c).trans (a5.trans (Cert.Combine.Gen.W7_args m ρ c Cert.Combine.main_arg5 (by decide)).symm)
  have t6 : (Cert.CombineReference.Gen.V m' c Cert.CombineReference.main_arg6 : Vec F Cert.Combine.S8x6x1024 .f32) = (Cert.Combine.Gen.V7 m ρ) c Cert.Combine.main_arg6 :=
    (Cert.CombineReference.Gen.V_main_arg6 m' c).trans (a6.trans (Cert.Combine.Gen.W7_args m ρ c Cert.Combine.main_arg6 (by decide)).symm)
  have t7 : (Cert.CombineReference.Gen.V m' c Cert.CombineReference.main_v2 : Vec F Cert.Combine.S1x1024 .f32) = (Cert.Combine.Gen.V7 m ρ) c Cert.Combine.main_v6 :=
    (CombinationR.gain_row c m').trans ((congrArg (fun A => shapeCast Cert.CombineReference.S1x1024 A Cert.CombineReference.Gen.shapeCasts_S1024_S1x1024) a7).trans (CombinationW.gain3 m ρ c).symm)
  refine Eq.trans ?_ (tile_eq (F := F) _ _ _ _ _ _ _ _ _ _ _ _ (words0 m ρ c t k hk) (words1 m ρ c t k hk) (words2 m ρ c t k hk) (words3 m ρ c t k hk))
  unfold CombinationR.tile
  rw [hW]
  refine CombinationR.tile_congr ?_ rfl rfl rfl rfl ?_ ?_ ?_
  · refine funext fun (j : Cert.Combine.S512x4.Idx) => ?_
    refine (congrFun t5 _).trans (congrArg ((Cert.Combine.Gen.V7 m ρ) c Cert.Combine.main_arg5) (funext fun a => Fin.ext ?_))
    have e := CombinationK.Part3.emb5 t j
    have o := congrFun (Cert.CombineReference.Gen.k0_off1_eq k)
    fin_cases a
    · refine Eq.trans ?_ e.1.symm
      show Cert.CombineReference.k0_off1 k 0 + 1 * (j 0).val = _
      have o0 : Cert.CombineReference.k0_off1 k 0 = 512 * k.val := o 0
      omega
    · refine Eq.trans ?_ e.2.symm
      show Cert.CombineReference.k0_off1 k 1 + 1 * (j 1).val = _
      have o1 : Cert.CombineReference.k0_off1 k 1 = 0 := o 1
      omega
  · refine funext fun (j : Cert.Combine.S1x1x1024.Idx) => ?_
    refine (congrFun t6 _).trans (congrArg ((Cert.Combine.Gen.V7 m ρ) c Cert.Combine.main_arg6) (funext fun a => Fin.ext ?_))
    have e := CombinationK.Part3.emb6 t (CombinationK.gateR.toLoadRect.idx j)
    have o := congrFun (Cert.CombineReference.Gen.k0_off3_eq k)
    fin_cases a
    · refine Eq.trans ?_ e.1.symm
      show Cert.CombineReference.k0_off3 k 0 + 1 * (j 0).val = 6 + t.val / 8 + (0 + 1 * (j 0).val)
      have o0 : Cert.CombineReference.k0_off3 k 0 = k.val / 8 := o 0
      omega
    · refine Eq.trans ?_ e.2.1.symm
      show Cert.CombineReference.k0_off3 k 1 + 1 * (j 1).val = 5 + 1 * (j 1).val
      rw [o 1]; rfl
    · refine Eq.trans ?_ e.2.2.symm
      show Cert.CombineReference.k0_off3 k 2 + 1 * (j 2).val = 0 + 1 * (j 2).val
      rw [o 2]; rfl
  · refine funext fun (j : Cert.Combine.S512x1024.Idx) => ?_
    have e := CombinationK.Part3.emb4 t j
    refine (congrFun t4 _).trans (Eq.trans ?_ (hx (((Cert.Combine.cfg3.win 4).blk t).view.emb j) (by omega)).symm)
    refine congrArg (m ((c : Thread Cert.Combine.nD Cert.Combine.τ).loc Cert.Combine.main_arg4)) (funext fun a => Fin.ext ?_)
    have o := congrFun (Cert.CombineReference.Gen.k0_off4_eq k)
    fin_cases a
    · refine Eq.trans ?_ e.1.symm
      show Cert.CombineReference.k0_off4 k 0 + 1 * (j 0).val = _
      have o0 : Cert.CombineReference.k0_off4 k 0 = 512 * k.val := o 0
      omega
    · refine Eq.trans ?_ e.2.symm
      show Cert.CombineReference.k0_off4 k 1 + 1 * (j 1).val = _
      have o1 : Cert.CombineReference.k0_off4 k 1 = 0 := o 1
      omega
  · refine funext fun (j : Cert.Combine.S1x1024.Idx) => ?_
    refine (congrFun t7 _).trans (congrArg ((Cert.Combine.Gen.V7 m ρ) c Cert.Combine.main_v6) (funext fun a => Fin.ext ?_))
    have e := CombinationK.Part3.emb7 t j
    fin_cases a
    · refine Eq.trans ?_ e.1.symm
      show 0 + 1 * (j 0).val = _
      omega
    · refine Eq.trans ?_ e.2.symm
      show 0 + 1 * (j 1).val = _
      omega

/-- The reference's result on this part's tokens is what the call leaves there. -/
theorem here
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7))
    (hx : ∀ y : Cert.Combine.S32768x1024.Idx, 24576 ≤ (y 0).val → ((Cert.Combine.Gen.V7 m ρ) c Cert.Combine.main_v5 : Vec F Cert.Combine.S32768x1024 .f32) y = m ((c : Thread Cert.Combine.nD Cert.Combine.τ).loc Cert.Combine.main_arg4) y)
    (y : Cert.Combine.S32768x1024.Idx) (hl : 24576 ≤ (y 0).val) (hh : (y 0).val < 32768) :
    (Cert.CombineReference.Gen.outsAt0 m' c CombinationR.t0 : Vec F Cert.Combine.S32768x1024 .f32) y = (Cert.Combine.Gen.dat3 (Cert.Combine.Gen.V7 m ρ) c).arrAt 8 Cert.Combine.cfg3.N y := by
  have hN : Cert.Combine.cfg3.N = 16 := Cert.Combine.Gen.N_3
  have hT : Cert.CombineReference.k0_t1_loop.trips = 64 := by decide
  have hy1 : (y 1).val < 1024 := (y 1).isLt
  let t : Fin Cert.Combine.cfg3.N := ⟨(y 0).val / 512 - 48, by omega⟩
  let k : Fin Cert.CombineReference.k0_t1_loop.trips := ⟨(y 0).val / 512, by omega⟩
  let x : Cert.Combine.S512x1024.Idx := Shape.pair (d := ![512, 1024]) ⟨(y 0).val % 512, Nat.mod_lt _ (by decide)⟩ ⟨(y 1).val, hy1⟩
  have hk : k.val = 48 + t.val := by
    show (y 0).val / 512 = 48 + ((y 0).val / 512 - 48)
    omega
  have h0 : (y 0).val = 512 * ((y 0).val / 512) + (y 0).val % 512 := by omega
  have hy : ((Cert.Combine.cfg3.win 8).blk t).view.emb x = y := by
    have e := CombinationK.Part3.emb8 t x
    funext a
    apply Fin.ext
    fin_cases a
    · refine e.1.trans ?_
      show 24576 + 512 * ((y 0).val / 512 - 48) + (y 0).val % 512 = (y 0).val
      omega
    · exact e.2
  refine (CombinationR.outs_tile c m' k y x h0 rfl).trans ?_
  refine (congrFun (tiles m ρ m' c a0 a1 a2 a3 a4 a5 a6 a7 hx t k hk) x).trans ?_
  exact (CombinationK.Part3.final_tile c (Cert.Combine.Gen.V7 m ρ) t x).symm.trans (congrArg ((Cert.Combine.Gen.dat3 (Cert.Combine.Gen.V7 m ρ) c).arrAt 8 Cert.Combine.cfg3.N) hy)

end Part3

/-- The two results agree, from memories agreeing on the arguments. -/
theorem result_eq
    (a0 : m' ((c : Thread Cert.CombineReference.nD Cert.CombineReference.τ).loc Cert.CombineReference.main_arg0) = m ((c : Thread Cert.Combine.nD Cert.Combine.τ).loc Cert.Combine.main_arg0))
    (a1 : m' ((c : Thread Cert.CombineReference.nD Cert.CombineReference.τ).loc Cert.CombineReference.main_arg1) = m ((c : Thread Cert.Combine.nD Cert.Combine.τ).loc Cert.Combine.main_arg1))
    (a2 : m' ((c : Thread Cert.CombineReference.nD Cert.CombineReference.τ).loc Cert.CombineReference.main_arg2) = m ((c : Thread Cert.Combine.nD Cert.Combine.τ).loc Cert.Combine.main_arg2))
    (a3 : m' ((c : Thread Cert.CombineReference.nD Cert.CombineReference.τ).loc Cert.CombineReference.main_arg3) = m ((c : Thread Cert.Combine.nD Cert.Combine.τ).loc Cert.Combine.main_arg3))
    (a4 : m' ((c : Thread Cert.CombineReference.nD Cert.CombineReference.τ).loc Cert.CombineReference.main_arg4) = m ((c : Thread Cert.Combine.nD Cert.Combine.τ).loc Cert.Combine.main_arg4))
    (a5 : m' ((c : Thread Cert.CombineReference.nD Cert.CombineReference.τ).loc Cert.CombineReference.main_arg5) = m ((c : Thread Cert.Combine.nD Cert.Combine.τ).loc Cert.Combine.main_arg5))
    (a6 : m' ((c : Thread Cert.CombineReference.nD Cert.CombineReference.τ).loc Cert.CombineReference.main_arg6) = m ((c : Thread Cert.Combine.nD Cert.Combine.τ).loc Cert.Combine.main_arg6))
    (a7 : m' ((c : Thread Cert.CombineReference.nD Cert.CombineReference.τ).loc Cert.CombineReference.main_arg7) = m ((c : Thread Cert.Combine.nD Cert.Combine.τ).loc Cert.Combine.main_arg7)) :
    (Cert.CombineReference.Gen.outsAt0 m' c CombinationR.t0 : Vec F Cert.Combine.S32768x1024 .f32) = CombinationW.result m ρ c := by
  refine funext fun (y : Cert.Combine.S32768x1024.Idx) => ?_
  have hy : (y 0).val < 32768 := (y 0).isLt
  by_cases h0 : (y 0).val < 8192
  · exact (Part0.here m ρ m' c a0 a1 a2 a3 a4 a5 a6 a7 (fun y _ => congrFun (Cert.Combine.Gen.W1_args m ρ c Cert.Combine.main_arg4 (by decide)) y) y (Nat.zero_le _) h0).trans
      (CombinationW.on0 m ρ c y h0).symm
  by_cases h1 : (y 0).val < 16384
  · exact (Part1.here m ρ m' c a0 a1 a2 a3 a4 a5 a6 a7 (fun y h => (congrFun (CombinationW.found1 m ρ c) y).trans (CombinationW.later0 m ρ c y h)) y (by omega) h1).trans
      (CombinationW.on1 m ρ c y h1).symm
  by_cases h2 : (y 0).val < 24576
  · exact (Part2.here m ρ m' c a0 a1 a2 a3 a4 a5 a6 a7 (fun y h => (congrFun (CombinationW.found2 m ρ c) y).trans (CombinationW.later1 m ρ c y h)) y (by omega) h2).trans
      (CombinationW.on2 m ρ c y h2).symm
  · exact (Part3.here m ρ m' c a0 a1 a2 a3 a4 a5 a6 a7 (fun y h => (congrFun (CombinationW.found3 m ρ c) y).trans (CombinationW.later2 m ρ c y h)) y (by omega) (by omega)).trans
      (CombinationW.on3 m ρ c y).symm

end Cert.Proof.Combination

end
-- ==== Proof.lean ====
/-
  The proof of `Cert.Claim`: the kernel's run and the reference's, and what each leaves.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Pre_experts_fit
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.Combine
public import proofs.«01_k».proof.Proof.Gen.Combine.Frame
public import proofs.«01_k».proof.Proof.Gen.CombineReference
public import proofs.«01_k».proof.Proof.Gen.CombineReference.Frame
public import Idealize.ShloMosaic.Adequacy
public import Idealize.ShloMosaic.Init
public import proofs.«01_k».proof.Proof.Experts.Run
public import proofs.«01_k».proof.Proof.Experts.Pre
public import proofs.«01_k».proof.Proof.Experts.Ref
public import proofs.«01_k».proof.Proof.Experts.Equal
public import proofs.«01_k».proof.Proof.Modulation.Value
public import proofs.«01_k».proof.Proof.Combination.Equal
public import Idealize.ShloMosaic.Lib.Quiescent

@[expose] public section

noncomputable section

namespace Cert.Proof

open Idealize.ShloMosaic Idealize.ShloMosaic.TcCoe

/-- The instances of the stated facts. -/
abbrev fK : Cert.Kernel.Facts := Cert.Kernel.Gen.facts
abbrev fR : Cert.Reference.Facts := Cert.Reference.Gen.facts
abbrev fP : Cert.Pre_experts_fit.Facts := Cert.Pre_experts_fit.Gen.facts

theorem kernel_ok (m : (ℓ : Loc Cert.Kernel.nD Cert.Kernel.τ Cert.Kernel.sig) → Buf (Elt Bits) ℓ) (h : Cert.Pre_Kernel m) : Experts.PreOK (F := Bits) m where
  e c := (Experts.of_fit _ _ _ _ _ _ _ _ (fun a => a.elim0) (congrFun (h c) _)).1
  u c := (Experts.of_fit _ _ _ _ _ _ _ _ (fun a => a.elim0) (congrFun (h c) _)).2

theorem reference_ok (m : (ℓ : Loc Cert.Reference.nD Cert.Reference.τ Cert.Reference.sig) → Buf (Elt Bits) ℓ) (h : Cert.Pre_Reference m) : Cert.Reference.Gen.Hyps (F := Bits) m :=
  ExpertsR.hyps_of m fun c => (Experts.of_fit _ _ _ _ _ _ _ _ (fun a => a.elim0) (congrFun (h c) _)).1

theorem kernel_frame : Cert.quiescent_Kernel := fun m ρ h =>
  (θ_run Cert.Kernel.defs _ _).mono (fun _ hh => ⟨fun c => hh.1.kept m c, hh.2⟩) (Experts.run_main (F := Bits) m ρ (kernel_ok m h))

theorem reference_frame : Cert.quiescent_Reference := fun m ρ h => Cert.Reference.Gen.frame m ρ (reference_ok m h)

/-- The kernel and the reference end with the same words. -/
theorem equal : Cert.bitexact_Kernel_Reference := by
  intro m g m' g' hpre hargs
  have hH : Cert.Reference.Gen.Hyps (F := Bits) m' := ExpertsR.hyps_of m' fun c => by
    rw [(hargs c).2.1]
    exact (kernel_ok m hpre).e c
  refine ⟨fun c => Experts.G0 c m (kernel_ok m hpre), ?_, ?_⟩
  · exact (θ_run Cert.Kernel.defs _ _).mono (fun _ hh c => ⟨(hh.1 c).2.v2, hh.1.kept m c⟩) (Experts.run_main (F := Bits) m g (kernel_ok m hpre))
  · refine (θ_run Cert.Reference.defs _ _).mono (fun r hh c => ⟨?_, hh.2 c⟩) (θ_run_and (Cert.Reference.Gen.run_main m' g' hH) (Cert.Reference.Gen.unchanged m' g' hH))
    obtain ⟨a0, a1, a2, a3, a4, a5, a6, a7⟩ := hargs c
    exact (ExpertsR.final m' hH c r hh.1).trans (Same.result_eq m m' (kernel_ok m hpre) hH c a0 a1 a2 a3 a4 a5 a6 a7)

theorem modulation_reference_frame : Cert.quiescent_ModReferenceIdeal := fun m ρ _ =>
  (θ_run Cert.ModReferenceIdeal.defs _ _).mono (fun r h => ⟨fun c => (h c).2, sem_eq_zero_of_no_sems (by decide) r.2⟩)
    (Cert.ModReferenceIdeal.Value.run (F := Ideal) m ρ)

/-- Over the extended reals the modulation and its reference end with the same result. -/
theorem modulation_equal : Cert.algebraic_ModIdeal_ModReferenceIdeal := by
  intro m g m' g' _ hargs
  refine ⟨fun c => Modulation.G (m (c.tc.loc Cert.ModIdeal.main_arg0)) (m (c.tc.loc Cert.ModIdeal.main_arg1)) (m (c.tc.loc Cert.ModIdeal.main_arg2)),
    Modulation.run m g, (θ_run Cert.ModReferenceIdeal.defs _ _).mono (fun r h c => ⟨?_, (h c).2⟩) (Cert.ModReferenceIdeal.Value.run m' g')⟩
  obtain ⟨a0, a1, a2⟩ := hargs c
  rw [(h c).1, Cert.ModReferenceIdeal.Read.val_main_v4_eq, Modulation.reference_eq, a0, a1, a2]

/-- The four combination calls and their reference end with the same array. -/
theorem combination_equal : Cert.bitexact_Combine_CombineReference := by
  intro m g m' g' _ hargs
  refine ⟨fun c => CombinationW.result m g c, CombinationW.run m g,
    (θ_run Cert.CombineReference.defs _ _).mono (fun r hh c => ⟨?_, hh.2 c⟩) (θ_run_and (Cert.CombineReference.Gen.run_main m' g') (Cert.CombineReference.Gen.unchanged m' g'))⟩
  obtain ⟨a0, a1, a2, a3, a4, a5, a6, a7⟩ := hargs c
  exact (CombinationR.final c m' r hh.1).trans (Combination.result_eq m g m' c a0 a1 a2 a3 a4 a5 a6 a7)

theorem claim : Cert.Claim :=
  ⟨fK, fR, Cert.Mod.Gen.facts, Cert.ModIdeal.Gen.facts, Cert.ModReferenceIdeal.Gen.facts, Cert.Combine.Gen.facts, Cert.CombineReference.Gen.facts, fP,
    kernel_frame, reference_frame, fun m ρ _ => Cert.Mod.Gen.frame m ρ, fun m ρ _ => Cert.ModIdeal.Gen.frame m ρ, modulation_reference_frame,
    fun m ρ _ => Cert.Combine.Gen.frame m ρ, fun m ρ _ => Cert.CombineReference.Gen.frame m ρ, equal, trivial, modulation_equal, combination_equal⟩

end Cert.Proof

end
